-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  IdealRules.named_const.Statement Cert.KernelIdeal.κ "scale" .f32 0x3D93CD3A#32 (((Real.sqrt 192)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)) (v2 : (c : Dev Cert.KernelIdeal.nD) → Buf (Elt Ideal) ((c.tc : Thread Cert.KernelIdeal.nD Cert.KernelIdeal.τ).loc Cert.KernelIdeal.main_v73_2)) (v3 : (c : Dev Cert.KernelIdeal.nD) → Buf (Elt Ideal) ((c.tc : Thread Cert.KernelIdeal.nD Cert.KernelIdeal.τ).loc Cert.KernelIdeal.main_v73_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_v73_2) = v2 c
          ∧ r.2.mem ((c.tc : Thread Cert.KernelIdeal.nD Cert.KernelIdeal.τ).loc Cert.KernelIdeal.main_v73_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v126) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "ilog2" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x8x192 : Shape := ⟨3, ![4096, 8, 192]⟩
abbrev S4096x8x256 : Shape := ⟨3, ![4096, 8, 256]⟩
abbrev S4096x8x64 : Shape := ⟨3, ![4096, 8, 64]⟩
abbrev S4096 : Shape := ⟨1, ![4096]⟩
abbrev S4096x1024 : Shape := ⟨2, ![4096, 1024]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x256 : S_.BroadcastsInDim S4096x8x256 (![] : Fin 0 → Fin S4096x8x256.rank)
  reducesTo_S4096x8x256_S_d0_1_2 : S4096x8x256.ReducesTo [0, 1, 2] S_
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg2 : FVec F S4096x8x64 .f32) (main_arg4 : FVec F S4096x1024 .f32) (main_v6 : IVec S_ 1) (main_v13 : IVec S_ 1) (main_v15 : IVec S4096x8x64 1) (main_cst_5 : FVec F S_ .f32) : IVec S_ 1 × IVec S_ 1 × IVec S_ 1 × IVec S_ 1 :=
  let main_v16 : FVec F S_ .f32 := Host.negf main_cst_5
  let main_v17 : FVec F S4096x8x64 .f32 := broadcastInDim S4096x8x64 ![] bcast_S_S4096x8x64 main_v16
  let main_v18 : IVec S4096x8x64 1 := cmpf .ogt main_arg2 main_v17
  let main_v19 : IVec S4096x8x64 1 := andi main_v15 main_v18
  let main_c_6 : IVec S_ 1 := constantI S_ 1 1#1
  let main_v20 : IVec S_ 1 := (fun x v => Host.reduce IntOp.andi x v reducesTo_S4096x8x64_S_d0_1_2 h_S_) main_v19 main_c_6
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_arg4 main_v21
  let main_cst_8 : FVec F S_ .f32 := constant S_ .f32 0x7F800000#32
  let main_v23 : FVec F S_ .f32 := Host.negf main_cst_8
  let main_v24 : FVec F S4096x1024 .f32 := broadcastInDim S4096x1024 ![] bcast_S_S4096x1024 main_v23
  let main_v25 : IVec S4096x1024 1 := cmpf .ogt main_arg4 main_v24
  let main_v26 : IVec S4096x1024 1 := andi main_v22 main_v25
  let main_c_9 : IVec S_ 1 := constantI S_ 1 1#1
  let main_v27 : IVec S_ 1 := (fun x v => Host.reduce IntOp.andi x v reducesTo_S4096x1024_S_d0_1 h_S_) main_v26 main_c_9
  (main_v6, main_v13, main_v20, main_v27)

def fn {F : FTy → Type} [FloatOps F] (main_arg0 : FVec F S4096x8x192 .f32) (main_arg1 : FVec F S4096x8x256 .f32) (main_arg2 : FVec F S4096x8x64 .f32) (main_arg3 : IVec S4096 32) (main_arg4 : FVec F S4096x1024 .f32) : IVec S_ 1 × IVec S_ 1 × IVec S_ 1 × IVec S_ 1 :=
  let main_cst : FVec F S_ .f32 := constant S_ .f32 0x7F800000#32
  let main_v0 : FVec F S4096x8x192 .f32 := broadcastInDim S4096x8x192 ![] bcast_S_S4096x8x192 main_cst
  let main_v1 : IVec S4096x8x192 1 := cmpf .olt main_arg0 main_v0
  let main_cst_0 : FVec F S_ .f32 := constant S_ .f32 0x7F800000#32
  let main_v2 : FVec F S_ .f32 := Host.negf main_cst_0
  let main_v3 : FVec F S4096x8x192 .f32 := broadcastInDim S4096x8x192 ![] bcast_S_S4096x8x192 main_v2
  let main_v4 : IVec S4096x8x192 1 := cmpf .ogt main_arg0 main_v3
  let main_v5 : IVec S4096x8x192 1 := andi main_v1 main_v4
  let main_c : IVec S_ 1 := constantI S_ 1 1#1
  let main_v6 : IVec S_ 1 := (fun x v => Host.reduce IntOp.andi x v reducesTo_S4096x8x192_S_d0_1_2 h_S_) main_v5 main_c
  let main_cst_1 : FVec F S_ .f32 := constant S_ .f32 0x7F800000#32
  let main_v7 : FVec F S4096x8x256 .f32 := broadcastInDim S4096x8x256 ![] bcast_S_S4096x8x256 main_cst_1
  let main_v8 : IVec S4096x8x256 1 := cmpf .olt main_arg1 main_v7
  let main_cst_2 : FVec F S_ .f32 := constant S_ .f32 0x7F800000#32
  let main_v9 : FVec F S_ .f32 := Host.negf main_cst_2
  let main_v10 : FVec F S4096x8x256 .f32 := broadcastInDim S4096x8x256 ![] bcast_S_S4096x8x256 main_v9
  let main_v11 : IVec S4096x8x256 1 := cmpf .ogt main_arg1 main_v10
  let main_v12 : IVec S4096x8x256 1 := andi main_v8 main_v11
  let main_c_3 : IVec S_ 1 := constantI S_ 1 1#1
  let main_v13 : IVec S_ 1 := (fun x v => Host.reduce IntOp.andi x v reducesTo_S4096x8x256_S_d0_1_2 h_S_) main_v12 main_c_3
  let main_cst_4 : FVec F S_ .f32 := constant S_ .f32 0x7F800000#32
  let main_v14 : FVec F S4096x8x64 .f32 := broadcastInDim S4096x8x64 ![] bcast_S_S4096x8x64 main_cst_4
  let main_v15 : IVec S4096x8x64 1 := cmpf .olt main_arg2 main_v14
  let main_cst_5 : FVec F S_ .f32 := constant S_ .f32 0x7F800000#32
  fn_part1 (F := F) main_arg2 main_arg4 main_v6 main_v13 main_v15 main_cst_5
-- ==== Pre_finite2.lean ====
abbrev S4096x8x192 : Shape := ⟨3, ![4096, 8, 192]⟩
abbrev S4096x8x256 : Shape := ⟨3, ![4096, 8, 256]⟩
abbrev S4096x8x64 : Shape := ⟨3, ![4096, 8, 64]⟩
abbrev S4096 : Shape := ⟨1, ![4096]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x256 : S_.BroadcastsInDim S4096x8x256 (![] : Fin 0 → Fin S4096x8x256.rank)
  reducesTo_S4096x8x256_S_d0_1_2 : S4096x8x256.ReducesTo [0, 1, 2] S_
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part1 {F : FTy → Type} [FloatOps F] (main_arg2 : FVec F S4096x8x64 .f32) (main_v6 : IVec S_ 1) (main_v13 : IVec S_ 1) (main_v15 : IVec S4096x8x64 1) (main_cst_5 : FVec F S_ .f32) : IVec S_ 1 × IVec S_ 1 × IVec S_ 1 :=
  let main_v16 : FVec F S_ .f32 := Host.negf main_cst_5
  let main_v17 : FVec F S4096x8x64 .f32 := broadcastInDim S4096x8x64 ![] bcast_S_S4096x8x64 main_v16
  let main_v18 : IVec S4096x8x64 1 := cmpf .ogt main_arg2 main_v17
  let main_v19 : IVec S4096x8x64 1 := andi main_v15 main_v18
  let main_c_6 : IVec S_ 1 := constantI S_ 1 1#1
  let main_v20 : IVec S_ 1 := (fun x v => Host.reduce IntOp.andi x v reducesTo_S4096x8x64_S_d0_1_2 h_S_) main_v19 main_c_6
  (main_v6, main_v13, main_v20)

def fn {F : FTy → Type} [FloatOps F] (main_arg0 : FVec F S4096x8x192 .f32) (main_arg1 : FVec F S4096x8x256 .f32) (main_arg2 : FVec F S4096x8x64 .f32) (main_arg3 : IVec S4096 32) : IVec S_ 1 × IVec S_ 1 × IVec S_ 1 :=
  let main_cst : FVec F S_ .f32 := constant S_ .f32 0x7F800000#32
  let main_v0 : FVec F S4096x8x192 .f32 := broadcastInDim S4096x8x192 ![] bcast_S_S4096x8x192 main_cst
  let main_v1 : IVec S4096x8x192 1 := cmpf .olt main_arg0 main_v0
  let main_cst_0 : FVec F S_ .f32 := constant S_ .f32 0x7F800000#32
  let main_v2 : FVec F S_ .f32 := Host.negf main_cst_0
  let main_v3 : FVec F S4096x8x192 .f32 := broadcastInDim S4096x8x192 ![] bcast_S_S4096x8x192 main_v2
  let main_v4 : IVec S4096x8x192 1 := cmpf .ogt main_arg0 main_v3
  let main_v5 : IVec S4096x8x192 1 := andi main_v1 main_v4
  let main_c : IVec S_ 1 := constantI S_ 1 1#1
  let main_v6 : IVec S_ 1 := (fun x v => Host.reduce IntOp.andi x v reducesTo_S4096x8x192_S_d0_1_2 h_S_) main_v5 main_c
  let main_cst_1 : FVec F S_ .f32 := constant S_ .f32 0x7F800000#32
  let main_v7 : FVec F S4096x8x256 .f32 := broadcastInDim S4096x8x256 ![] bcast_S_S4096x8x256 main_cst_1
  let main_v8 : IVec S4096x8x256 1 := cmpf .olt main_arg1 main_v7
  let main_cst_2 : FVec F S_ .f32 := constant S_ .f32 0x7F800000#32
  let main_v9 : FVec F S_ .f32 := Host.negf main_cst_2
  let main_v10 : FVec F S4096x8x256 .f32 := broadcastInDim S4096x8x256 ![] bcast_S_S4096x8x256 main_v9
  let main_v11 : IVec S4096x8x256 1 := cmpf .ogt main_arg1 main_v10
  let main_v12 : IVec S4096x8x256 1 := andi main_v8 main_v11
  let main_c_3 : IVec S_ 1 := constantI S_ 1 1#1
  let main_v13 : IVec S_ 1 := (fun x v => Host.reduce IntOp.andi x v reducesTo_S4096x8x256_S_d0_1_2 h_S_) main_v12 main_c_3
  let main_cst_4 : FVec F S_ .f32 := constant S_ .f32 0x7F800000#32
  let main_v14 : FVec F S4096x8x64 .f32 := broadcastInDim S4096x8x64 ![] bcast_S_S4096x8x64 main_cst_4
  let main_v15 : IVec S4096x8x64 1 := cmpf .olt main_arg2 main_v14
  let main_cst_5 : FVec F S_ .f32 := constant S_ .f32 0x7F800000#32
  fn_part1 (F := F) main_arg2 main_v6 main_v13 main_v15 main_cst_5
-- ==== Kernel.lean ====
abbrev S4096x8x192 : Shape := ⟨3, ![4096, 8, 192]⟩
abbrev S4096x8x256 : Shape := ⟨3, ![4096, 8, 256]⟩
abbrev S4096x8x64 : Shape := ⟨3, ![4096, 8, 64]⟩
abbrev S4096 : Shape := ⟨1, ![4096]⟩
abbrev S4096x1024 : Shape := ⟨2, ![4096, 1024]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x8x32 : Shape := ⟨3, ![4096, 8, 32]⟩
abbrev S4096x1x32 : Shape := ⟨3, ![4096, 1, 32]⟩
abbrev S4096x8x128 : Shape := ⟨3, ![4096, 8, 128]⟩
abbrev S8x4096x256 : Shape := ⟨3, ![8, 4096, 256]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x2048 : Shape := ⟨2, ![4096, 2048]⟩
abbrev S8x4096x64 : Shape := ⟨3, ![8, 4096, 64]⟩
abbrev S1x1024x256 : Shape := ⟨3, ![1, 1024, 256]⟩
abbrev S1x4096x256 : Shape := ⟨3, ![1, 4096, 256]⟩
abbrev S1024x128 : Shape := ⟨2, ![1024, 128]⟩
abbrev S1x1024x1 : Shape := ⟨3, ![1, 1024, 1]⟩
abbrev S4096x256 : Shape := ⟨2, ![4096, 256]⟩
abbrev S1x4096x64 : Shape := ⟨3, ![1, 4096, 64]⟩
abbrev S1x4096x128 : Shape := ⟨3, ![1, 4096, 128]⟩
abbrev S1024x256 : Shape := ⟨2, ![1024, 256]⟩
abbrev S1024x1 : Shape := ⟨2, ![1024, 1]⟩
abbrev S1024 : Shape := ⟨1, ![1024]⟩
abbrev S1024x1024 : Shape := ⟨2, ![1024, 1024]⟩
abbrev S1x1024x128 : Shape := ⟨3, ![1, 1024, 128]⟩

abbrev nBuf : Space → Nat
  | .hbm => 91
  | .vmem => 26
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x8x64, .f32⟩
  | .hbm, ⟨3, _⟩ => ⟨S4096, .i32⟩
  | .hbm, ⟨4, _⟩ => ⟨S4096x1024, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S_, .f32⟩
  | .hbm, ⟨22, _⟩ => ⟨S4096x64, .f32⟩
  | .hbm, ⟨23, _⟩ => ⟨S4096x128, .f32⟩
  | .hbm, ⟨24, _⟩ => ⟨S4096x32, .f32⟩
  | .hbm, ⟨25, _⟩ => ⟨S4096x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x8x192, .f32⟩
  | .hbm, ⟨34, _⟩ => ⟨S4096x8x192, .f32⟩
  | .hbm, ⟨35, _⟩ => ⟨S4096x8x32, .f32⟩
  | .hbm, ⟨36, _⟩ => ⟨S4096x8x32, .f32⟩
  | .hbm, ⟨37, _⟩ => ⟨S4096x1x32, .f32⟩
  | .hbm, ⟨38, _⟩ => ⟨S4096x1x32, .f32⟩
  | .hbm, ⟨39, _⟩ => ⟨S_, .f32⟩
  | .hbm, ⟨40, _⟩ => ⟨S4096x8x64, .f32⟩
  | .hbm, ⟨41, _⟩ => ⟨S4096x8x128, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x32, .f32⟩
  | .hbm, ⟨50, _⟩ => ⟨S4096x8x32, .f32⟩
  | .hbm, ⟨51, _⟩ => ⟨S4096x8x32, .f32⟩
  | .hbm, ⟨52, _⟩ => ⟨S4096x8x256, .f32⟩
  | .hbm, ⟨53, _⟩ => ⟨S8x4096x256, .f32⟩
  | .hbm, ⟨54, _⟩ => ⟨S8x4096x256, .bf16⟩
  | .hbm, ⟨55, _⟩ => ⟨S4096x8x128, .f32⟩
  | .hbm, ⟨56, _⟩ => ⟨S4096x8x256, .f32⟩
  | .hbm, ⟨57, _⟩ => ⟨S8x4096x256, .f32⟩
  | .hbm, ⟨58, _⟩ => ⟨S8x4096x256, .bf16⟩
  | .hbm, ⟨59, _⟩ => ⟨S8x4096x256, .f32⟩
  | .hbm, ⟨60, _⟩ => ⟨S8x4096x256, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1, .f32⟩
  | .hbm, ⟨77, _⟩ => ⟨S8x4096x4096, .f32⟩
  | .hbm, ⟨78, _⟩ => ⟨S8x4096x4096, .f32⟩
  | .hbm, ⟨79, _⟩ => ⟨S4096x8x128, .f32⟩
  | .hbm, ⟨80, _⟩ => ⟨S8x128x4096, .f32⟩
  | .hbm, ⟨81, _⟩ => ⟨S4096x8x128, .f32⟩
  | .hbm, ⟨82, _⟩ => ⟨S4096x1024, .f32⟩
  | .hbm, ⟨83, _⟩ => ⟨S4096x2048, .f32⟩
  | .hbm, ⟨84, _⟩ => ⟨S4096x2048, .bf16⟩
  | .hbm, ⟨85, _⟩ => ⟨S4096x1024, .bf16⟩
  | .hbm, ⟨86, _⟩ => ⟨S4096x1024, .bf16⟩
  | .hbm, ⟨87, _⟩ => ⟨S4096x1024, .bf16⟩
  | .hbm, ⟨88, _⟩ => ⟨S4096x1024, .bf16⟩
  | .hbm, ⟨89, _⟩ => ⟨S4096x2048, .bf16⟩
  | .hbm, ⟨90, _⟩ => ⟨S8x4096x64, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S4096x256, .bf16⟩
  | .local _ .vmem, ⟨21, _⟩ => ⟨S4096x256, .bf16⟩
  | .local _ .vmem, ⟨22, _⟩ => ⟨S1x4096x64, .bf16⟩
  | .local _ .vmem, ⟨23, _⟩ => ⟨S1x4096x64, .bf16⟩
  | .local _ .vmem, ⟨24, _⟩ => ⟨S1x4096x256, .f32⟩
  | .local _ .vmem, ⟨25, _⟩ => ⟨S1x4096x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73_0 : Ref sig .tc := ⟨.hbm, 87, rfl⟩
abbrev main_v73_1 : Ref sig .tc := ⟨.hbm, 88, rfl⟩
abbrev main_v73_2 : Ref sig .tc := ⟨.hbm, 89, rfl⟩
abbrev main_v73_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v158 : BitVec 1 := Scalar.cmpi .eq arg1 c3_i32
  let v159 : BitVec 32 := Scalar.extui v158
  let c0_i32_106 : BitVec 32 := 0#32
  let v160 : BitVec 1 := Scalar.cmpi .ne v159 c0_i32_106
  v160

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4096x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "ln2" => some ((Real.log 2 : ℝ) : EReal)
  | "scale" => some (((Real.sqrt 192)⁻¹ : ℝ) : EReal)
  | _ => none
-- ==== ReferenceIdeal.lean ====
abbrev S4096x8x192 : Shape := ⟨3, ![4096, 8, 192]⟩
abbrev S4096x8x256 : Shape := ⟨3, ![4096, 8, 256]⟩
abbrev S4096x8x64 : Shape := ⟨3, ![4096, 8, 64]⟩
abbrev S4096 : Shape := ⟨1, ![4096]⟩
abbrev S4096x1024 : Shape := ⟨2, ![4096, 1024]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x8x128 : Shape := ⟨3, ![4096, 8, 128]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S4096x2048 : Shape := ⟨2, ![4096, 2048]⟩
abbrev S8x4096x64 : Shape := ⟨3, ![8, 4096, 64]⟩

abbrev nBuf : Space → Nat
  | .hbm => 155
  | .vmem => 0
  | .smem => 0
  | _ => 0

abbrev hbmTy0_0 (i : Nat) : BufTy := match i % 128 with
  | 0 => ⟨S4096x8x192, .f32⟩
  | 1 => ⟨S4096x8x256, .f32⟩
  | 2 => ⟨S4096x8x64, .f32⟩
  | 3 => ⟨S4096, .i32⟩
  | 4 => ⟨S4096x1024, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S4096, .f32⟩
  | 14 => ⟨S4096x1, .f32⟩
  | 15 => ⟨S1x32, .f32⟩
  | 16 => ⟨S4096x32, .f32⟩
  | 17 => ⟨S4096x32, .f32⟩
  | 18 => ⟨S4096x32, .f32⟩
  | 19 => ⟨S4096x32, .f32⟩
  | 20 => ⟨S4096x1x32, .f32⟩
  | 21 => ⟨S4096x32, .f32⟩
  | 22 => ⟨S4096x1x32, .f32⟩
  | 23 => ⟨S4096x8x32, .f32⟩
  | 24 => ⟨S4096x8x32, .f32⟩
  | 25 => ⟨S4096x8x128, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S4096x8x32, .f32⟩
  | 33 => ⟨S4096x8x32, .f32⟩
  | 34 => ⟨S4096x8x32, .f32⟩
  | 35 => ⟨S4096x8x32, .f32⟩
  | 36 => ⟨S4096x8x192, .f32⟩
  | 37 => ⟨S4096x8x128, .f32⟩
  | 38 => ⟨S4096x8x128, .f32⟩
  | 39 => ⟨S4096x8x192, .f32⟩
  | 40 => ⟨S_, .f32⟩
  | 41 => ⟨S_, .f32⟩
  | 42 => ⟨S_, .f32⟩
  | 43 => ⟨S_, .f32⟩
  | 44 => ⟨S8x4096x4096, .f32⟩
  | 45 => ⟨S8x4096x4096, .f32⟩
  | 46 => ⟨S8x4096x4096, .f32⟩
  | 47 => ⟨S_, .f32⟩
  | 48 => ⟨S8x4096, .f32⟩
  | 49 => ⟨S8x4096x1, .f32⟩
  | 50 => ⟨S8x4096x4096, .f32⟩
  | 51 => ⟨S8x4096x4096, .i1⟩
  | 52 => ⟨S8x4096x4096, .f32⟩
  | 53 => ⟨S_, .f32⟩
  | 54 => ⟨S8x4096, .f32⟩
  | 55 => ⟨S_, .f32⟩
  | 56 => ⟨S8x4096, .f32⟩
  | 57 => ⟨S8x4096, .f32⟩
  | 58 => ⟨S_, .f32⟩
  | 59 => ⟨S8x4096, .f32⟩
  | 60 => ⟨S8x4096, .i1⟩
  | 61 => ⟨S_, .f32⟩
  | 62 => ⟨S8x4096, .f32⟩
  | 63 => ⟨S8x4096, .i1⟩
  | 64 => ⟨S_, .f32⟩
  | 65 => ⟨S8x4096, .f32⟩
  | 66 => ⟨S_, .f32⟩
  | 67 => ⟨S8x4096, .f32⟩
  | 68 => ⟨S_, .f32⟩
  | 69 => ⟨S8x4096, .f32⟩
  | 70 => ⟨S8x4096, .f32⟩
  | 71 => ⟨S8x4096, .f32⟩
  | 72 => ⟨S8x4096x1, .f32⟩
  | 73 => ⟨S8x4096x4096, .f32⟩
  | 74 => ⟨S8x4096x4096, .f32⟩
  | 75 => ⟨S8x4096x4096, .f32⟩
  | 76 => ⟨S_, .f32⟩
  | 77 => ⟨S8x4096, .f32⟩
  | 78 => ⟨S8x4096x1, .f32⟩
  | 79 => ⟨S8x4096x4096, .f32⟩
  | 80 => ⟨S8x4096x4096, .f32⟩
  | 81 => ⟨S8x4096x1, .f32⟩
  | 82 => ⟨S_, .f32⟩
  | 83 => ⟨S8x4096x1, .f32⟩
  | 84 => ⟨S8x4096x1, .f32⟩
  | 85 => ⟨S8x128x4096, .f32⟩
  | 86 => ⟨S4096x8x128, .f32⟩
  | 87 => ⟨S4096x1024, .f32⟩
  | 88 => ⟨S4096x8x128, .f32⟩
  | 89 => ⟨S8x128x4096, .f32⟩
  | 90 => ⟨S8x4096x4096, .f32⟩
  | 91 => ⟨S8x128x4096, .f32⟩
  | 92 => ⟨S4096x8x128, .f32⟩
  | 93 => ⟨S8x4096x4096, .f32⟩
  | 94 => ⟨S8x4096x4096, .f32⟩
  | 95 => ⟨S8x4096x4096, .f32⟩
  | 96 => ⟨S_, .f32⟩
  | 97 => ⟨S8x4096, .f32⟩
  | 98 => ⟨S8x4096x1, .f32⟩
  | 99 => ⟨S8x4096x1, .f32⟩
  | 100 => ⟨S8x4096x4096, .f32⟩
  | 101 => ⟨S8x4096x4096, .f32⟩
  | 102 => ⟨S_, .f32⟩
  | 103 => ⟨S8x4096, .f32⟩
  | 104 => ⟨S8x4096x4096, .f32⟩
  | 105 => ⟨S8x4096x4096, .f32⟩
  | 106 => ⟨S8x4096x4096, .f32⟩
  | 107 => ⟨S8x4096x4096, .f32⟩
  | 108 => ⟨S8x4096x4096, .f32⟩
  | 109 => ⟨S8x4096x192, .f32⟩
  | 110 => ⟨S4096x8x192, .f32⟩
  | 111 => ⟨S8x4096x192, .f32⟩
  | 112 => ⟨S4096x8x192, .f32⟩
  | 113 => ⟨S4096x8x128, .f32⟩
  | 114 => ⟨S4096x8x64, .f32⟩
  | 115 => ⟨S_, .f32⟩
  | 116 => ⟨S4096x8x256, .f32⟩
  | 117 => ⟨S_, .f32⟩
  | 118 => ⟨S4096x8x256, .f32⟩
  | 119 => ⟨S4096x8x256, .f32⟩
  | 120 => ⟨S4096x8x128, .f32⟩
  | 121 => ⟨S4096x8x32, .f32⟩
  | 122 => ⟨S4096x8x32, .f32⟩
  | 123 => ⟨S4096x8x32, .f32⟩
  | 124 => ⟨S4096x8x32, .f32⟩
  | 125 => ⟨S4096x8x32, .f32⟩
  | 126 => ⟨S4096x8x32, .f32⟩
  | 127 => ⟨S4096x8x32, .f32⟩
  | _ => ⟨S4096x8x192, .f32⟩

abbrev hbmTy0_1 (i : Nat) : BufTy := match i % 128 with
  | 0 => ⟨S4096x8x32, .f32⟩
  | 1 => ⟨S4096x8x32, .f32⟩
  | 2 => ⟨S4096x8x32, .f32⟩
  | 3 => ⟨S4096x8x32, .f32⟩
  | 4 => ⟨S4096x8x32, .f32⟩
  | 5 => ⟨S4096x8x32, .f32⟩
  | 6 => ⟨S_, .f32⟩
  | 7 => ⟨S4096x8x192, .f32⟩
  | 8 => ⟨S_, .f32⟩
  | 9 => ⟨S4096x8x192, .f32⟩
  | 10 => ⟨S4096x8x192, .f32⟩
  | 11 => ⟨S_, .f32⟩
  | 12 => ⟨S4096x8x192, .f32⟩
  | 13 => ⟨S4096x8x192, .f32⟩
  | 14 => ⟨S4096x8x64, .f32⟩
  | 15 => ⟨S_, .i32⟩
  | 16 => ⟨S_, .f32⟩
  | 17 => ⟨S4096x8x128, .f32⟩
  | 18 => ⟨S4096x8x128, .f32⟩
  | 19 => ⟨S4096x1024, .f32⟩
  | 20 => ⟨S4096x1024, .f32⟩
  | 21 => ⟨S4096x2048, .f32⟩
  | 22 => ⟨S8x4096x64, .f32⟩
  | 23 => ⟨S4096x1024, .bf16⟩
  | 24 => ⟨S4096x1024, .bf16⟩
  | 25 => ⟨S4096x2048, .bf16⟩
  | 26 => ⟨S8x4096x64, .bf16⟩
  | _ => ⟨S4096x8x192, .f32⟩

abbrev hbmTy (i : Nat) : BufTy := match i / 128 with
  | 0 => hbmTy0_0 i
  | 1 => hbmTy0_1 i
  | _ => ⟨S4096x8x192, .f32⟩

abbrev bufTy : (tb : Table) → Fin (tcTables nBuf tb) → BufTy
  | .hbm, ⟨i, _⟩ => hbmTy i
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_13 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_14 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_15 : Ref sig .tc := ⟨.hbm, 115, rfl⟩
abbrev main_v94 : Ref sig .tc := ⟨.hbm, 116, rfl⟩
abbrev main_cst_16 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_17 : Ref sig .tc := ⟨.hbm, 134, rfl⟩
abbrev main_v111 : Ref sig .tc := ⟨.hbm, 135, rfl⟩
abbrev main_cst_18 : Ref sig .tc := ⟨.hbm, 136, rfl⟩
abbrev main_v112 : Ref sig .tc := ⟨.hbm, 137, rfl⟩
abbrev main_v113 : Ref sig .tc := ⟨.hbm, 138, rfl⟩
abbrev main_cst_19 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c : Ref sig .tc := ⟨.hbm, 143, rfl⟩
abbrev main_call0_v0 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩

abbrev nD : Nat := 1
abbrev τ : Topo := Topo.v7x

variable {F : FTy → Type} [FloatOps F]
-- ==== Kernel2.lean ====
abbrev S4096x8x192 : Shape := ⟨3, ![4096, 8, 192]⟩
abbrev S4096x8x256 : Shape := ⟨3, ![4096, 8, 256]⟩
abbrev S4096x8x64 : Shape := ⟨3, ![4096, 8, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x8x32 : Shape := ⟨3, ![4096, 8, 32]⟩
abbrev S4096x1x32 : Shape := ⟨3, ![4096, 1, 32]⟩
abbrev S4096x8x128 : Shape := ⟨3, ![4096, 8, 128]⟩
abbrev S8x4096x256 : Shape := ⟨3, ![8, 4096, 256]⟩
abbrev S4096x2048 : Shape := ⟨2, ![4096, 2048]⟩
abbrev S4096x1024 : Shape := ⟨2, ![4096, 1024]⟩
abbrev S8x4096x1 : Shape := ⟨3, ![8, 4096, 1]⟩
abbrev S1x2048x256 : Shape := ⟨3, ![1, 2048, 256]⟩
abbrev S1x4096x256 : Shape := ⟨3, ![1, 4096, 256]⟩
abbrev S4096x128 : Shape := ⟨2, ![4096, 128]⟩
abbrev S2048x128 : Shape := ⟨2, ![2048, 128]⟩
abbrev S1x2048x1 : Shape := ⟨3, ![1, 2048, 1]⟩
abbrev S2048x256 : Shape := ⟨2, ![2048, 256]⟩
abbrev S2048x1 : Shape := ⟨2, ![2048, 1]⟩
abbrev S1x1024x256 : Shape := ⟨3, ![1, 1024, 256]⟩
abbrev S1024x256 : Shape := ⟨2, ![1024, 256]⟩
abbrev S2048x1024 : Shape := ⟨2, ![2048, 1024]⟩
abbrev S2048 : Shape := ⟨1, ![2048]⟩
abbrev S1024x128 : Shape := ⟨2, ![1024, 128]⟩

abbrev nBuf : Space → Nat
  | .hbm => 57
  | .vmem => 10
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x8x64, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x8x192, .f32⟩
  | .hbm, ⟨28, _⟩ => ⟨S4096x8x192, .f32⟩
  | .hbm, ⟨29, _⟩ => ⟨S4096x8x32, .f32⟩
  | .hbm, ⟨30, _⟩ => ⟨S4096x8x32, .f32⟩
  | .hbm, ⟨31, _⟩ => ⟨S4096x1x32, .f32⟩
  | .hbm, ⟨32, _⟩ => ⟨S4096x1x32, .f32⟩
  | .hbm, ⟨33, _⟩ => ⟨S_, .f32⟩
  | .hbm, ⟨34, _⟩ => ⟨S4096x8x64, .f32⟩
  | .hbm, ⟨35, _⟩ => ⟨S4096x8x128, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x256, .f32⟩
  | .hbm, ⟨47, _⟩ => ⟨S8x4096x256, .f32⟩
  | .hbm, ⟨48, _⟩ => ⟨S8x4096x256, .bf16⟩
  | .hbm, ⟨49, _⟩ => ⟨S4096x8x128, .f32⟩
  | .hbm, ⟨50, _⟩ => ⟨S4096x8x256, .f32⟩
  | .hbm, ⟨51, _⟩ => ⟨S8x4096x256, .f32⟩
  | .hbm, ⟨52, _⟩ => ⟨S8x4096x256, .bf16⟩
  | .hbm, ⟨53, _⟩ => ⟨S4096x2048, .f32⟩
  | .hbm, ⟨54, _⟩ => ⟨S4096x2048, .bf16⟩
  | .hbm, ⟨55, _⟩ => ⟨S4096x1024, .bf16⟩
  | .hbm, ⟨56, _⟩ => ⟨S8x4096x1, .f32⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "ilog2" => some (((Real.log 2)⁻¹ : ℝ) : EReal)
  | _ => none
-- ==== Reference2Ideal.lean ====
abbrev S4096x8x192 : Shape := ⟨3, ![4096, 8, 192]⟩
abbrev S4096x8x256 : Shape := ⟨3, ![4096, 8, 256]⟩
abbrev S4096x8x64 : Shape := ⟨3, ![4096, 8, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x8x128 : Shape := ⟨3, ![4096, 8, 128]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x8x64, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x1x32, .f32⟩
  | .hbm, ⟨20, _⟩ => ⟨S4096x32, .f32⟩
  | .hbm, ⟨21, _⟩ => ⟨S4096x1x32, .f32⟩
  | .hbm, ⟨22, _⟩ => ⟨S4096x8x32, .f32⟩
  | .hbm, ⟨23, _⟩ => ⟨S4096x8x32, .f32⟩
  | .hbm, ⟨24, _⟩ => ⟨S4096x8x128, .f32⟩
  | .hbm, ⟨25, _⟩ => ⟨S4096x8x32, .f32⟩
  | .hbm, ⟨26, _⟩ => ⟨S4096x8x32, .f32⟩
  | .hbm, ⟨27, _⟩ => ⟨S4096x8x32, .f32⟩
  | .hbm, ⟨28, _⟩ => ⟨S4096x8x32, .f32⟩
  | .hbm, ⟨29, _⟩ => ⟨S4096x8x32, .f32⟩
  | .hbm, ⟨30, _⟩ => ⟨S4096x8x32, .f32⟩
  | .hbm, ⟨31, _⟩ => ⟨S4096x8x32, .f32⟩
  | .hbm, ⟨32, _⟩ => ⟨S4096x8x32, .f32⟩
  | .hbm, ⟨33, _⟩ => ⟨S4096x8x32, .f32⟩
  | .hbm, ⟨34, _⟩ => ⟨S4096x8x32, .f32⟩
  | .hbm, ⟨35, _⟩ => ⟨S4096x8x192, .f32⟩
  | .hbm, ⟨36, _⟩ => ⟨S4096x8x128, .f32⟩
  | .hbm, ⟨37, _⟩ => ⟨S4096x8x128, .f32⟩
  | .hbm, ⟨38, _⟩ => ⟨S4096x8x192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x128x4096, .f32⟩
  | .hbm, ⟨61, _⟩ => ⟨S4096x8x128, .f32⟩
  | .hbm, ⟨62, _⟩ => ⟨S4096x1024, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x1, .f32⟩
  | .hbm, ⟨68, _⟩ => ⟨S_, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S4096x1024, .bf16⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Kernel3.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S5632x1024, .bf16⟩
  | .local _ .vmem, ⟨3, _⟩ => ⟨S256x2816, .bf16⟩
  | .local _ .vmem, ⟨4, _⟩ => ⟨S256x2816, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S4096x5632 : Shape := ⟨2, ![4096, 5632]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x5632, .bf16⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S5632x1024 : Shape := ⟨2, ![5632, 1024]⟩
abbrev S4096x256 : Shape := ⟨2, ![4096, 256]⟩
abbrev S256x1024 : Shape := ⟨2, ![256, 1024]⟩
abbrev S256x4096 : Shape := ⟨2, ![256, 4096]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S5632x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S4096x256, .bf16⟩
  | .local _ .vmem, ⟨4, _⟩ => ⟨S4096x256, .bf16⟩
  | .local _ .vmem, ⟨5, _⟩ => ⟨S256x1024, .bf16⟩
  | .local _ .vmem, ⟨6, _⟩ => ⟨S256x1024, .bf16⟩
  | .local _ .vmem, ⟨7, _⟩ => ⟨S256x4096, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4096x2816 : Shape := ⟨2, ![4096, 2816]⟩
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x1024, .f32⟩
  | .hbm, ⟨4, _⟩ => ⟨S4096x5632, .bf16⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x4096, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference11Ideal.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel12.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel13.lean ====
abbrev S8x704x1024 : Shape := ⟨3, ![8, 704, 1024]⟩
abbrev S1x704x1024 : Shape := ⟨3, ![1, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x704x1024 : Shape := ⟨3, ![8, 704, 1024]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x3x704 : Shape := ⟨3, ![8, 3, 704]⟩
abbrev S1x3x704 : Shape := ⟨3, ![1, 3, 704]⟩
abbrev S3x704 : Shape := ⟨2, ![3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S1x3x704, .f32⟩
  | .hbm, ⟨2, _⟩ => ⟨S1x3x704, .f32⟩
  | .hbm, ⟨3, _⟩ => ⟨S1x3x704, .f32⟩
  | .hbm, ⟨4, _⟩ => ⟨S1x3x704, .f32⟩
  | .hbm, ⟨5, _⟩ => ⟨S1x3x704, .f32⟩
  | .hbm, ⟨6, _⟩ => ⟨S1x3x704, .f32⟩
  | .hbm, ⟨7, _⟩ => ⟨S1x3x704, .f32⟩
  | .local _ .vmem, ⟨0, _⟩ => ⟨S8x3x704, .f32⟩
  | .local _ .vmem, ⟨1, _⟩ => ⟨S1x3x704, .f32⟩
  | .local _ .vmem, ⟨2, _⟩ => ⟨S1x3x704, .f32⟩
  | .local _ .vmem, ⟨3, _⟩ => ⟨S1x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | .local _ .vmem, ⟨7, _⟩ => ⟨S1x3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x3x704 : Shape := ⟨3, ![8, 3, 704]⟩
abbrev S1x3x704 : Shape := ⟨3, ![1, 3, 704]⟩
abbrev S_ : Shape := ⟨0, ![]⟩
abbrev S3x704 : Shape := ⟨2, ![3, 704]⟩

abbrev nBuf : Space → Nat
  | .hbm => 40
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S1x3x704, .f32⟩
  | .hbm, ⟨2, _⟩ => ⟨S1x3x704, .f32⟩
  | .hbm, ⟨3, _⟩ => ⟨S1x3x704, .f32⟩
  | .hbm, ⟨4, _⟩ => ⟨S_, .f32⟩
  | .hbm, ⟨5, _⟩ => ⟨S3x704, .f32⟩
  | .hbm, ⟨6, _⟩ => ⟨S1x3x704, .f32⟩
  | .hbm, ⟨7, _⟩ => ⟨S_, .f32⟩
  | .hbm, ⟨8, _⟩ => ⟨S1x3x704, .f32⟩
  | .hbm, ⟨9, _⟩ => ⟨S1x3x704, .f32⟩
  | .hbm, ⟨10, _⟩ => ⟨S_, .f32⟩
  | .hbm, ⟨11, _⟩ => ⟨S1x3x704, .f32⟩
  | .hbm, ⟨12, _⟩ => ⟨S1x3x704, .f32⟩
  | .hbm, ⟨13, _⟩ => ⟨S1x3x704, .f32⟩
  | .hbm, ⟨14, _⟩ => ⟨S_, .f32⟩
  | .hbm, ⟨15, _⟩ => ⟨S1x3x704, .f32⟩
  | .hbm, ⟨16, _⟩ => ⟨S1x3x704, .f32⟩
  | .hbm, ⟨17, _⟩ => ⟨S1x3x704, .f32⟩
  | .hbm, ⟨18, _⟩ => ⟨S_, .f32⟩
  | .hbm, ⟨19, _⟩ => ⟨S1x3x704, .f32⟩
  | .hbm, ⟨20, _⟩ => ⟨S1x3x704, .f32⟩
  | .hbm, ⟨21, _⟩ => ⟨S1x3x704, .f32⟩
  | .hbm, ⟨22, _⟩ => ⟨S_, .f32⟩
  | .hbm, ⟨23, _⟩ => ⟨S1x3x704, .f32⟩
  | .hbm, ⟨24, _⟩ => ⟨S1x3x704, .f32⟩
  | .hbm, ⟨25, _⟩ => ⟨S_, .f32⟩
  | .hbm, ⟨26, _⟩ => ⟨S1x3x704, .f32⟩
  | .hbm, ⟨27, _⟩ => ⟨S1x3x704, .f32⟩
  | .hbm, ⟨28, _⟩ => ⟨S1x3x704, .f32⟩
  | .hbm, ⟨29, _⟩ => ⟨S_, .f32⟩
  | .hbm, ⟨30, _⟩ => ⟨S1x3x704, .f32⟩
  | .hbm, ⟨31, _⟩ => ⟨S1x3x704, .f32⟩
  | .hbm, ⟨32, _⟩ => ⟨S1x3x704, .f32⟩
  | .hbm, ⟨33, _⟩ => ⟨S_, .f32⟩
  | .hbm, ⟨34, _⟩ => ⟨S1x3x704, .f32⟩
  | .hbm, ⟨35, _⟩ => ⟨S1x3x704, .f32⟩
  | .hbm, ⟨36, _⟩ => ⟨S1x3x704, .f32⟩
  | .hbm, ⟨37, _⟩ => ⟨S_, .f32⟩
  | .hbm, ⟨38, _⟩ => ⟨S1x3x704, .f32⟩
  | .hbm, ⟨39, _⟩ => ⟨S1x3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x504x1024 : Shape := ⟨3, ![8, 504, 1024]⟩
abbrev S1x504x1024 : Shape := ⟨3, ![1, 504, 1024]⟩
abbrev S504x1024 : Shape := ⟨2, ![504, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x504x1024, .bf16⟩
  | .hbm, ⟨1, _⟩ => ⟨S1x504x1024, .f32⟩
  | .hbm, ⟨2, _⟩ => ⟨S1x504x1024, .f32⟩
  | .hbm, ⟨3, _⟩ => ⟨S1x504x1024, .f32⟩
  | .hbm, ⟨4, _⟩ => ⟨S1x504x1024, .f32⟩
  | .hbm, ⟨5, _⟩ => ⟨S1x504x1024, .f32⟩
  | .hbm, ⟨6, _⟩ => ⟨S1x504x1024, .f32⟩
  | .hbm, ⟨7, _⟩ => ⟨S1x504x1024, .f32⟩
  | .local _ .vmem, ⟨0, _⟩ => ⟨S8x504x1024, .bf16⟩
  | .local _ .vmem, ⟨1, _⟩ => ⟨S1x504x1024, .f32⟩
  | .local _ .vmem, ⟨2, _⟩ => ⟨S1x504x1024, .f32⟩
  | .local _ .vmem, ⟨3, _⟩ => ⟨S1x504x1024, .f32⟩
  | .local _ .vmem, ⟨4, _⟩ => ⟨S1x504x1024, .f32⟩
  | .local _ .vmem, ⟨5, _⟩ => ⟨S1x504x1024, .f32⟩
  | .local _ .vmem, ⟨6, _⟩ => ⟨S1x504x1024, .f32⟩
  | .local _ .vmem, ⟨7, _⟩ => ⟨S1x504x1024, .f32⟩
  | _, _ => ⟨S8x504x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x504x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x504x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x504x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x504x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x504x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x504x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x504x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x504x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x504x1024 : Shape := ⟨3, ![8, 504, 1024]⟩
abbrev S1x504x1024 : Shape := ⟨3, ![1, 504, 1024]⟩
abbrev S_ : Shape := ⟨0, ![]⟩
abbrev S504x1024 : Shape := ⟨2, ![504, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x504x1024, .bf16⟩
  | .hbm, ⟨1, _⟩ => ⟨S1x504x1024, .f32⟩
  | .hbm, ⟨2, _⟩ => ⟨S1x504x1024, .f32⟩
  | .hbm, ⟨3, _⟩ => ⟨S1x504x1024, .f32⟩
  | .hbm, ⟨4, _⟩ => ⟨S8x504x1024, .f32⟩
  | .hbm, ⟨5, _⟩ => ⟨S_, .f32⟩
  | .hbm, ⟨6, _⟩ => ⟨S504x1024, .f32⟩
  | .hbm, ⟨7, _⟩ => ⟨S1x504x1024, .f32⟩
  | .hbm, ⟨8, _⟩ => ⟨S_, .f32⟩
  | .hbm, ⟨9, _⟩ => ⟨S1x504x1024, .f32⟩
  | .hbm, ⟨10, _⟩ => ⟨S1x504x1024, .f32⟩
  | .hbm, ⟨11, _⟩ => ⟨S_, .f32⟩
  | .hbm, ⟨12, _⟩ => ⟨S1x504x1024, .f32⟩
  | .hbm, ⟨13, _⟩ => ⟨S1x504x1024, .f32⟩
  | .hbm, ⟨14, _⟩ => ⟨S1x504x1024, .f32⟩
  | .hbm, ⟨15, _⟩ => ⟨S_, .f32⟩
  | .hbm, ⟨16, _⟩ => ⟨S1x504x1024, .f32⟩
  | .hbm, ⟨17, _⟩ => ⟨S1x504x1024, .f32⟩
  | .hbm, ⟨18, _⟩ => ⟨S1x504x1024, .f32⟩
  | .hbm, ⟨19, _⟩ => ⟨S_, .f32⟩
  | .hbm, ⟨20, _⟩ => ⟨S1x504x1024, .f32⟩
  | .hbm, ⟨21, _⟩ => ⟨S1x504x1024, .f32⟩
  | .hbm, ⟨22, _⟩ => ⟨S1x504x1024, .f32⟩
  | .hbm, ⟨23, _⟩ => ⟨S_, .f32⟩
  | .hbm, ⟨24, _⟩ => ⟨S1x504x1024, .f32⟩
  | .hbm, ⟨25, _⟩ => ⟨S1x504x1024, .f32⟩
  | .hbm, ⟨26, _⟩ => ⟨S_, .f32⟩
  | .hbm, ⟨27, _⟩ => ⟨S1x504x1024, .f32⟩
  | .hbm, ⟨28, _⟩ => ⟨S1x504x1024, .f32⟩
  | .hbm, ⟨29, _⟩ => ⟨S1x504x1024, .f32⟩
  | .hbm, ⟨30, _⟩ => ⟨S_, .f32⟩
  | .hbm, ⟨31, _⟩ => ⟨S1x504x1024, .f32⟩
  | .hbm, ⟨32, _⟩ => ⟨S1x504x1024, .f32⟩
  | .hbm, ⟨33, _⟩ => ⟨S1x504x1024, .f32⟩
  | .hbm, ⟨34, _⟩ => ⟨S_, .f32⟩
  | .hbm, ⟨35, _⟩ => ⟨S1x504x1024, .f32⟩
  | .hbm, ⟨36, _⟩ => ⟨S1x504x1024, .f32⟩
  | .hbm, ⟨37, _⟩ => ⟨S1x504x1024, .f32⟩
  | .hbm, ⟨38, _⟩ => ⟨S_, .f32⟩
  | .hbm, ⟨39, _⟩ => ⟨S1x504x1024, .f32⟩
  | .hbm, ⟨40, _⟩ => ⟨S1x504x1024, .f32⟩
  | _, _ => ⟨S8x504x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S8x192x256 : Shape := ⟨3, ![8, 192, 256]⟩
abbrev S1x192x256 : Shape := ⟨3, ![1, 192, 256]⟩
abbrev S192x256 : Shape := ⟨2, ![192, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x192x256, .bf16⟩
  | .hbm, ⟨1, _⟩ => ⟨S1x192x256, .f32⟩
  | .hbm, ⟨2, _⟩ => ⟨S1x192x256, .f32⟩
  | .hbm, ⟨3, _⟩ => ⟨S1x192x256, .f32⟩
  | .hbm, ⟨4, _⟩ => ⟨S1x192x256, .f32⟩
  | .hbm, ⟨5, _⟩ => ⟨S1x192x256, .f32⟩
  | .hbm, ⟨6, _⟩ => ⟨S1x192x256, .f32⟩
  | .hbm, ⟨7, _⟩ => ⟨S1x192x256, .f32⟩
  | .local _ .vmem, ⟨0, _⟩ => ⟨S8x192x256, .bf16⟩
  | .local _ .vmem, ⟨1, _⟩ => ⟨S1x192x256, .f32⟩
  | .local _ .vmem, ⟨2, _⟩ => ⟨S1x192x256, .f32⟩
  | .local _ .vmem, ⟨3, _⟩ => ⟨S1x192x256, .f32⟩
  | .local _ .vmem, ⟨4, _⟩ => ⟨S1x192x256, .f32⟩
  | .local _ .vmem, ⟨5, _⟩ => ⟨S1x192x256, .f32⟩
  | .local _ .vmem, ⟨6, _⟩ => ⟨S1x192x256, .f32⟩
  | .local _ .vmem, ⟨7, _⟩ => ⟨S1x192x256, .f32⟩
  | _, _ => ⟨S8x192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x192x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x192x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x192x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x192x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x192x256 : Shape := ⟨3, ![8, 192, 256]⟩
abbrev S1x192x256 : Shape := ⟨3, ![1, 192, 256]⟩
abbrev S_ : Shape := ⟨0, ![]⟩
abbrev S192x256 : Shape := ⟨2, ![192, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x192x256, .bf16⟩
  | .hbm, ⟨1, _⟩ => ⟨S1x192x256, .f32⟩
  | .hbm, ⟨2, _⟩ => ⟨S1x192x256, .f32⟩
  | .hbm, ⟨3, _⟩ => ⟨S1x192x256, .f32⟩
  | .hbm, ⟨4, _⟩ => ⟨S8x192x256, .f32⟩
  | .hbm, ⟨5, _⟩ => ⟨S_, .f32⟩
  | .hbm, ⟨6, _⟩ => ⟨S192x256, .f32⟩
  | .hbm, ⟨7, _⟩ => ⟨S1x192x256, .f32⟩
  | .hbm, ⟨8, _⟩ => ⟨S_, .f32⟩
  | .hbm, ⟨9, _⟩ => ⟨S1x192x256, .f32⟩
  | .hbm, ⟨10, _⟩ => ⟨S1x192x256, .f32⟩
  | .hbm, ⟨11, _⟩ => ⟨S_, .f32⟩
  | .hbm, ⟨12, _⟩ => ⟨S1x192x256, .f32⟩
  | .hbm, ⟨13, _⟩ => ⟨S1x192x256, .f32⟩
  | .hbm, ⟨14, _⟩ => ⟨S1x192x256, .f32⟩
  | .hbm, ⟨15, _⟩ => ⟨S_, .f32⟩
  | .hbm, ⟨16, _⟩ => ⟨S1x192x256, .f32⟩
  | .hbm, ⟨17, _⟩ => ⟨S1x192x256, .f32⟩
  | .hbm, ⟨18, _⟩ => ⟨S1x192x256, .f32⟩
  | .hbm, ⟨19, _⟩ => ⟨S_, .f32⟩
  | .hbm, ⟨20, _⟩ => ⟨S1x192x256, .f32⟩
  | .hbm, ⟨21, _⟩ => ⟨S1x192x256, .f32⟩
  | .hbm, ⟨22, _⟩ => ⟨S1x192x256, .f32⟩
  | .hbm, ⟨23, _⟩ => ⟨S_, .f32⟩
  | .hbm, ⟨24, _⟩ => ⟨S1x192x256, .f32⟩
  | .hbm, ⟨25, _⟩ => ⟨S1x192x256, .f32⟩
  | .hbm, ⟨26, _⟩ => ⟨S_, .f32⟩
  | .hbm, ⟨27, _⟩ => ⟨S1x192x256, .f32⟩
  | .hbm, ⟨28, _⟩ => ⟨S1x192x256, .f32⟩
  | .hbm, ⟨29, _⟩ => ⟨S1x192x256, .f32⟩
  | .hbm, ⟨30, _⟩ => ⟨S_, .f32⟩
  | .hbm, ⟨31, _⟩ => ⟨S1x192x256, .f32⟩
  | .hbm, ⟨32, _⟩ => ⟨S1x192x256, .f32⟩
  | .hbm, ⟨33, _⟩ => ⟨S1x192x256, .f32⟩
  | .hbm, ⟨34, _⟩ => ⟨S_, .f32⟩
  | .hbm, ⟨35, _⟩ => ⟨S1x192x256, .f32⟩
  | .hbm, ⟨36, _⟩ => ⟨S1x192x256, .f32⟩
  | .hbm, ⟨37, _⟩ => ⟨S1x192x256, .f32⟩
  | .hbm, ⟨38, _⟩ => ⟨S_, .f32⟩
  | .hbm, ⟨39, _⟩ => ⟨S1x192x256, .f32⟩
  | .hbm, ⟨40, _⟩ => ⟨S1x192x256, .f32⟩
  | _, _ => ⟨S8x192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S1x128x256, .f32⟩
  | .hbm, ⟨5, _⟩ => ⟨S1x128x256, .f32⟩
  | .hbm, ⟨6, _⟩ => ⟨S1x128x256, .f32⟩
  | .hbm, ⟨7, _⟩ => ⟨S1x128x256, .f32⟩
  | .local _ .vmem, ⟨0, _⟩ => ⟨S8x128x256, .bf16⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x128x256 : Shape := ⟨3, ![8, 128, 256]⟩
abbrev S1x128x256 : Shape := ⟨3, ![1, 128, 256]⟩
abbrev S_ : Shape := ⟨0, ![]⟩
abbrev S128x256 : Shape := ⟨2, ![128, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S1x128x256, .f32⟩
  | .hbm, ⟨8, _⟩ => ⟨S_, .f32⟩
  | .hbm, ⟨9, _⟩ => ⟨S1x128x256, .f32⟩
  | .hbm, ⟨10, _⟩ => ⟨S1x128x256, .f32⟩
  | .hbm, ⟨11, _⟩ => ⟨S_, .f32⟩
  | .hbm, ⟨12, _⟩ => ⟨S1x128x256, .f32⟩
  | .hbm, ⟨13, _⟩ => ⟨S1x128x256, .f32⟩
  | .hbm, ⟨14, _⟩ => ⟨S1x128x256, .f32⟩
  | .hbm, ⟨15, _⟩ => ⟨S_, .f32⟩
  | .hbm, ⟨16, _⟩ => ⟨S1x128x256, .f32⟩
  | .hbm, ⟨17, _⟩ => ⟨S1x128x256, .f32⟩
  | .hbm, ⟨18, _⟩ => ⟨S1x128x256, .f32⟩
  | .hbm, ⟨19, _⟩ => ⟨S_, .f32⟩
  | .hbm, ⟨20, _⟩ => ⟨S1x128x256, .f32⟩
  | .hbm, ⟨21, _⟩ => ⟨S1x128x256, .f32⟩
  | .hbm, ⟨22, _⟩ => ⟨S1x128x256, .f32⟩
  | .hbm, ⟨23, _⟩ => ⟨S_, .f32⟩
  | .hbm, ⟨24, _⟩ => ⟨S1x128x256, .f32⟩
  | .hbm, ⟨25, _⟩ => ⟨S1x128x256, .f32⟩
  | .hbm, ⟨26, _⟩ => ⟨S_, .f32⟩
  | .hbm, ⟨27, _⟩ => ⟨S1x128x256, .f32⟩
  | .hbm, ⟨28, _⟩ => ⟨S1x128x256, .f32⟩
  | .hbm, ⟨29, _⟩ => ⟨S1x128x256, .f32⟩
  | .hbm, ⟨30, _⟩ => ⟨S_, .f32⟩
  | .hbm, ⟨31, _⟩ => ⟨S1x128x256, .f32⟩
  | .hbm, ⟨32, _⟩ => ⟨S1x128x256, .f32⟩
  | .hbm, ⟨33, _⟩ => ⟨S1x128x256, .f32⟩
  | .hbm, ⟨34, _⟩ => ⟨S_, .f32⟩
  | .hbm, ⟨35, _⟩ => ⟨S1x128x256, .f32⟩
  | .hbm, ⟨36, _⟩ => ⟨S1x128x256, .f32⟩
  | .hbm, ⟨37, _⟩ => ⟨S1x128x256, .f32⟩
  | .hbm, ⟨38, _⟩ => ⟨S_, .f32⟩
  | .hbm, ⟨39, _⟩ => ⟨S1x128x256, .f32⟩
  | .hbm, ⟨40, _⟩ => ⟨S1x128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S8x1x9728 : Shape := ⟨3, ![8, 1, 9728]⟩
abbrev S1x1x9728 : Shape := ⟨3, ![1, 1, 9728]⟩
abbrev S1x9728 : Shape := ⟨2, ![1, 9728]⟩

abbrev nBuf : Space → Nat
  | .hbm => 8
  | .vmem => 8
  | .smem => 0
  | _ => 0

abbrev bufTy : (tb : Table) → Fin (tcTables nBuf tb) → BufTy
  | .hbm, ⟨0, _⟩ => ⟨S8x1x9728, .f32⟩
  | .hbm, ⟨1, _⟩ => ⟨S1x1x9728, .f32⟩
  | .hbm, ⟨2, _⟩ => ⟨S1x1x9728, .f32⟩
  | .hbm, ⟨3, _⟩ => ⟨S1x1x9728, .f32⟩
  | .hbm, ⟨4, _⟩ => ⟨S1x1x9728, .f32⟩
  | .hbm, ⟨5, _⟩ => ⟨S1x1x9728, .f32⟩
  | .hbm, ⟨6, _⟩ => ⟨S1x1x9728, .f32⟩
  | .hbm, ⟨7, _⟩ => ⟨S1x1x9728, .f32⟩
  | .local _ .vmem, ⟨0, _⟩ => ⟨S8x1x9728, .f32⟩
  | .local _ .vmem, ⟨1, _⟩ => ⟨S1x1x9728, .f32⟩
  | .local _ .vmem, ⟨2, _⟩ => ⟨S1x1x9728, .f32⟩
  | .local _ .vmem, ⟨3, _⟩ => ⟨S1x1x9728, .f32⟩
  | .local _ .vmem, ⟨4, _⟩ => ⟨S1x1x9728, .f32⟩
  | .local _ .vmem, ⟨5, _⟩ => ⟨S1x1x9728, .f32⟩
  | .local _ .vmem, ⟨6, _⟩ => ⟨S1x1x9728, .f32⟩
  | .local _ .vmem, ⟨7, _⟩ => ⟨S1x1x9728, .f32⟩
  | _, _ => ⟨S8x1x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1x9728 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x9728 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x9728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x9728 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x9728 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x9728 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x9728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x9728 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x1x9728 : Shape := ⟨3, ![8, 1, 9728]⟩
abbrev S1x1x9728 : Shape := ⟨3, ![1, 1, 9728]⟩
abbrev S_ : Shape := ⟨0, ![]⟩
abbrev S1x9728 : Shape := ⟨2, ![1, 9728]⟩

abbrev nBuf : Space → Nat
  | .hbm => 40
  | .vmem => 0
  | .smem => 0
  | _ => 0

abbrev bufTy : (tb : Table) → Fin (tcTables nBuf tb) → BufTy
  | .hbm, ⟨0, _⟩ => ⟨S8x1x9728, .f32⟩
  | .hbm, ⟨1, _⟩ => ⟨S1x1x9728, .f32⟩
  | .hbm, ⟨2, _⟩ => ⟨S1x1x9728, .f32⟩
  | .hbm, ⟨3, _⟩ => ⟨S1x1x9728, .f32⟩
  | .hbm, ⟨4, _⟩ => ⟨S_, .f32⟩
  | .hbm, ⟨5, _⟩ => ⟨S1x9728, .f32⟩
  | .hbm, ⟨6, _⟩ => ⟨S1x1x9728, .f32⟩
  | .hbm, ⟨7, _⟩ => ⟨S_, .f32⟩
  | .hbm, ⟨8, _⟩ => ⟨S1x1x9728, .f32⟩
  | .hbm, ⟨9, _⟩ => ⟨S1x1x9728, .f32⟩
  | .hbm, ⟨10, _⟩ => ⟨S_, .f32⟩
  | .hbm, ⟨11, _⟩ => ⟨S1x1x9728, .f32⟩
  | .hbm, ⟨12, _⟩ => ⟨S1x1x9728, .f32⟩
  | .hbm, ⟨13, _⟩ => ⟨S1x1x9728, .f32⟩
  | .hbm, ⟨14, _⟩ => ⟨S_, .f32⟩
  | .hbm, ⟨15, _⟩ => ⟨S1x1x9728, .f32⟩
  | .hbm, ⟨16, _⟩ => ⟨S1x1x9728, .f32⟩
  | .hbm, ⟨17, _⟩ => ⟨S1x1x9728, .f32⟩
  | .hbm, ⟨18, _⟩ => ⟨S_, .f32⟩
  | .hbm, ⟨19, _⟩ => ⟨S1x1x9728, .f32⟩
  | .hbm, ⟨20, _⟩ => ⟨S1x1x9728, .f32⟩
  | .hbm, ⟨21, _⟩ => ⟨S1x1x9728, .f32⟩
  | .hbm, ⟨22, _⟩ => ⟨S_, .f32⟩
  | .hbm, ⟨23, _⟩ => ⟨S1x1x9728, .f32⟩
  | .hbm, ⟨24, _⟩ => ⟨S1x1x9728, .f32⟩
  | .hbm, ⟨25, _⟩ => ⟨S_, .f32⟩
  | .hbm, ⟨26, _⟩ => ⟨S1x1x9728, .f32⟩
  | .hbm, ⟨27, _⟩ => ⟨S1x1x9728, .f32⟩
  | .hbm, ⟨28, _⟩ => ⟨S1x1x9728, .f32⟩
  | .hbm, ⟨29, _⟩ => ⟨S_, .f32⟩
  | .hbm, ⟨30, _⟩ => ⟨S1x1x9728, .f32⟩
  | .hbm, ⟨31, _⟩ => ⟨S1x1x9728, .f32⟩
  | .hbm, ⟨32, _⟩ => ⟨S1x1x9728, .f32⟩
  | .hbm, ⟨33, _⟩ => ⟨S_, .f32⟩
  | .hbm, ⟨34, _⟩ => ⟨S1x1x9728, .f32⟩
  | .hbm, ⟨35, _⟩ => ⟨S1x1x9728, .f32⟩
  | .hbm, ⟨36, _⟩ => ⟨S1x1x9728, .f32⟩
  | .hbm, ⟨37, _⟩ => ⟨S_, .f32⟩
  | .hbm, ⟨38, _⟩ => ⟨S1x1x9728, .f32⟩
  | .hbm, ⟨39, _⟩ => ⟨S1x1x9728, .f32⟩
  | _, _ => ⟨S8x1x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Frames.lean ====
/- The frames of the three programs, and the two named constants of the kernel. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Pre_finite
public import Idealize.ShloMosaic.Lib.Quiescent

@[expose] public section

set_option maxRecDepth 16384

noncomputable section

open Idealize.ShloMosaic Idealize.ShloMosaic.TcCoe Idealize.SL.Sem

namespace Cert.Proof

/-- The side conditions under which the precondition's term is stated: plain facts about shapes. -/
theorem finite_facts : Cert.Pre_finite.Facts := by
  constructor <;> decide

/-- The compiled kernel runs to its end and leaves its arguments as they were. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- So does the reference, whose run is a list of host operations. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The two constants stand for the reals that they are named after. -/
theorem preserves : Cert.preserves_Kernel_KernelIdeal :=
  ⟨IdealRules.named_const.statement Cert.KernelIdeal.κ "scale" .f32 0x3D93CD3A#32 (((Real.sqrt 192)⁻¹ : ℝ) : EReal) rfl,
    IdealRules.named_const.statement Cert.KernelIdeal.κ "ln2" .f32 0x3F317218#32 ((Real.log 2 : ℝ) : EReal) rfl⟩

end Cert.Proof

end
-- ==== Proof.Reals.lean ====
module

public import Idealize.ShloMosaic.PureOps.Ideal
public import Idealize.ShloMosaic.Lib.Pointwise

@[expose] public section

set_option maxRecDepth 16384

/-! # The attention's gradient over the real numbers

The gradient of rotated softmax attention, written once over real numbers (`dq`, `dk`, `dv` below), and the few real
identities by which the kernel's way of computing it — powers of two, a saved logarithm of the denominator, a
scale folded into the query, blocks of 1024 keys and 1024 queries — comes out the same. -/

noncomputable section

namespace Cert.Att

/-- The arrays of the call as real numbers: query, keys with values, rotated key, the cosines and sines of the
rotation, and the gradient of the attention's result. -/
structure Inp where
  q : Fin 4096 → Fin 8 → Fin 192 → ℝ
  kv : Fin 4096 → Fin 8 → Fin 256 → ℝ
  kr : Fin 4096 → Fin 8 → Fin 64 → ℝ
  co : Fin 4096 → Fin 32 → ℝ
  si : Fin 4096 → Fin 32 → ℝ
  g : Fin 4096 → Fin 1024 → ℝ

variable (X : Inp)

/-- The query with its last 64 lanes rotated by the position. -/
def rot (t : Fin 4096) (h : Fin 8) (d : Fin 192) : ℝ :=
  if h₁ : d.val < 128 then X.q t h d
  else if h₂ : d.val < 160 then
    X.q t h d * X.co t ⟨d.val - 128, by omega⟩ - X.q t h ⟨d.val + 32, by omega⟩ * X.si t ⟨d.val - 128, by omega⟩
  else X.q t h d * X.co t ⟨d.val - 160, by omega⟩ + X.q t h ⟨d.val - 32, by omega⟩ * X.si t ⟨d.val - 160, by omega⟩

/-- The key: 128 lanes of the head's own, then the 64 rotated lanes. -/
def key (k : Fin 4096) (h : Fin 8) (d : Fin 192) : ℝ :=
  if h₁ : d.val < 128 then X.kv k h ⟨d.val, by omega⟩ else X.kr k h ⟨d.val - 128, by omega⟩

/-- The value: the upper 128 lanes of the keys-with-values array. -/
def val (k : Fin 4096) (h : Fin 8) (d : Fin 128) : ℝ := X.kv k h ⟨128 + d.val, by omega⟩

/-- The gradient of the result, by head. -/
def ct (r : Fin 4096) (h : Fin 8) (d : Fin 128) : ℝ := X.g r ⟨h.val * 128 + d.val, by omega⟩

/-- One over the root of the head's width. -/
def sc : ℝ := 1 / Real.sqrt 192

/-- The scaled score of query `r` against key `k`. -/
def score (h : Fin 8) (r k : Fin 4096) : ℝ := (∑ d, rot X r h d * key X k h d) * sc

/-- The softmax's denominator. -/
def den (h : Fin 8) (r : Fin 4096) : ℝ := ∑ k, Real.exp (score X h r k)

/-- The softmax. -/
def prob (h : Fin 8) (r k : Fin 4096) : ℝ := Real.exp (score X h r k) / den X h r

/-- The gradient with respect to the softmax's result. -/
def dp (h : Fin 8) (r k : Fin 4096) : ℝ := ∑ d, ct X r h d * val X k h d

/-- The softmax's own correction: the mean of `dp` under the softmax. -/
def delta (h : Fin 8) (r : Fin 4096) : ℝ := ∑ k, prob X h r k * dp X h r k

/-- The gradient with respect to the scores. -/
def ds (h : Fin 8) (r k : Fin 4096) : ℝ := prob X h r k * (dp X h r k - delta X h r)

/-- The gradient with respect to the rotated query. -/
def dq (r : Fin 4096) (h : Fin 8) (d : Fin 192) : ℝ := (∑ k, ds X h r k * key X k h d) * sc

/-- The gradient with respect to the key. -/
def dk (k : Fin 4096) (h : Fin 8) (d : Fin 192) : ℝ := (∑ r, ds X h r k * rot X r h d) * sc

/-- The gradient with respect to the value. -/
def dv (k : Fin 4096) (h : Fin 8) (d : Fin 128) : ℝ := ∑ r, prob X h r k * ct X r h d

/-- The gradient with respect to the query's last 64 lanes before the rotation, in a block of 128 lanes. -/
def dqr (r : Fin 4096) (h : Fin 8) (j : Fin 128) : ℝ :=
  if h₁ : j.val < 32 then
    dq X r h ⟨128 + j.val, by omega⟩ * X.co r ⟨j.val, h₁⟩ + dq X r h ⟨160 + j.val, by omega⟩ * X.si r ⟨j.val, h₁⟩
  else if h₂ : j.val < 64 then
    dq X r h ⟨128 + j.val, by omega⟩ * X.co r ⟨j.val - 32, by omega⟩
      - dq X r h ⟨96 + j.val, by omega⟩ * X.si r ⟨j.val - 32, by omega⟩
  else 0

/-! ### The four results -/

/-- The query's first 128 lanes, head after head. -/
def outN (r : Fin 4096) (i : Fin 1024) : ℝ := dq X r ⟨i.val / 128, by omega⟩ ⟨i.val % 128, by omega⟩

/-- The query's last 64 lanes, padded to 128, head after head. -/
def outR (r : Fin 4096) (i : Fin 1024) : ℝ := dqr X r ⟨i.val / 128, by omega⟩ ⟨i.val % 128, by omega⟩

/-- Keys and values, head after head. -/
def outKV (k : Fin 4096) (i : Fin 2048) : ℝ :=
  if h : i.val % 256 < 128 then dk X k ⟨i.val / 256, by omega⟩ ⟨i.val % 256, by omega⟩
  else dv X k ⟨i.val / 256, by omega⟩ ⟨i.val % 256 - 128, by omega⟩

/-- The rotated key, head by head. -/
def outKR (h : Fin 8) (k : Fin 4096) (d : Fin 64) : ℝ := dk X k h ⟨128 + d.val, by omega⟩

/-! ## Real identities -/

/-- A row's sum of exponentials is positive. -/
theorem den_pos (h : Fin 8) (r : Fin 4096) : 0 < den X h r :=
  Finset.sum_pos (fun _ _ => Real.exp_pos _) ⟨0, Finset.mem_univ _⟩

/-- Subtracting a number from every score scales the denominator. -/
theorem shifted_den (h : Fin 8) (r : Fin 4096) (M : ℝ) :
    ∑ k, Real.exp (score X h r k - M) = den X h r / Real.exp M := by
  simp only [Real.exp_sub, den, Finset.sum_div]

/-- The softmax doesn't depend on the number that is subtracted from the scores. -/
theorem shifted_prob (h : Fin 8) (r k : Fin 4096) (M : ℝ) :
    Real.exp (score X h r k - M) / (∑ k, Real.exp (score X h r k - M)) = prob X h r k := by
  rw [shifted_den, Real.exp_sub, prob]
  have := (Real.exp_pos M).ne'
  have := (den_pos X h r).ne'
  field_simp

/-- The saved logarithm: the number subtracted, plus the logarithm of the shifted denominator. -/
theorem shifted_log (h : Fin 8) (r : Fin 4096) (M : ℝ) :
    M + Real.log (∑ k, Real.exp (score X h r k - M)) = Real.log (den X h r) := by
  rw [shifted_den, Real.log_div (den_pos X h r).ne' (Real.exp_pos M).ne', Real.log_exp]
  ring

/-- The logarithm of two is positive. -/
theorem log_two_pos : 0 < Real.log 2 := Real.log_pos (by norm_num)

/-- A power of two of the scores and the logarithm, both over the logarithm of two, is the softmax. -/
theorem two_rpow (h : Fin 8) (r k : Fin 4096) :
    Real.rpow 2 (score X h r k / Real.log 2 - Real.log (den X h r) / Real.log 2) = prob X h r k := by
  have h2 := log_two_pos.ne'
  change (2 : ℝ) ^ (_ : ℝ) = _
  rw [Real.rpow_def_of_pos (by norm_num)]
  have : Real.log 2 * (score X h r k / Real.log 2 - Real.log (den X h r) / Real.log 2)
      = score X h r k - Real.log (den X h r) := by field_simp
  rw [this, Real.exp_sub, Real.exp_log (den_pos X h r), prob]

/-- The correction as the kernel computes it: the gradient of the result against the result itself. -/
theorem delta_eq (h : Fin 8) (r : Fin 4096) :
    ∑ d, ct X r h d * (∑ k, prob X h r k * val X k h d) = delta X h r := by
  simp only [delta, dp, Finset.mul_sum]
  rw [Finset.sum_comm]
  exact Finset.sum_congr rfl fun k _ => Finset.sum_congr rfl fun d _ => by ring

/-- The gradient of the scores as `jax.vjp` of the softmax writes it: the quotient rule on numerator and denominator. -/
theorem quotient_rule (h : Fin 8) (r k : Fin 4096) (M : ℝ) (E : Fin 4096 → ℝ)
    (hE : ∀ k, E k = Real.exp (score X h r k - M)) :
    (dp X h r k * (1 / (∑ k, E k))
        + (0 + -(0 + ∑ k, dp X h r k * (1 * (1 / ((∑ k, E k) * ∑ k, E k))) * E k))) * E k = ds X h r k := by
  have hL : ∑ k, E k = ∑ k, Real.exp (score X h r k - M) := Finset.sum_congr rfl fun k _ => hE k
  have hp : ∀ k, E k / (∑ k, E k) = prob X h r k := fun k => by rw [hL, hE, shifted_prob]
  have hL0 : (∑ k, E k) ≠ 0 := by
    rw [hL, shifted_den]; exact (div_pos (den_pos X h r) (Real.exp_pos M)).ne'
  have hs : ∑ k, dp X h r k * (1 * (1 / ((∑ k, E k) * ∑ k, E k))) * E k = delta X h r / ∑ k, E k := by
    simp only [delta, ← hp, Finset.sum_div]
    refine Finset.sum_congr rfl fun k _ => ?_
    generalize (∑ k, E k) = L at hL0 ⊢
    field_simp
  rw [hs, ds, ← hp]
  generalize (∑ k, E k) = L at hL0 ⊢
  field_simp
  ring

/-! ## Sums over blocks -/

/-- A sum over 4096 as four sums over 1024. -/
theorem sum_blocks (f : Fin 4096 → ℝ) :
    ∑ k, f k = ∑ b : Fin 4, ∑ k : Fin 1024, f ⟨b.val * 1024 + k.val, by omega⟩ :=
  Idealize.ShloMosaic.Fin.sum_univ_tiles 4 1024 rfl f

/-- A sum over 256 lanes whose last 64 vanish is the sum over the first 192. -/
theorem sum_padded (f : Fin 256 → ℝ) (g : Fin 192 → ℝ) (h : ∀ d : Fin 256, f d = if hd : d.val < 192 then g ⟨d.val, hd⟩ else 0) :
    ∑ d, f d = ∑ d, g d := by
  rw [Fin.sum_univ_add (a := 192) (b := 64) f]
  have h₁ : ∀ i : Fin 192, f (Fin.castAdd 64 i) = g i := fun i => by
    rw [h]; exact dif_pos i.isLt
  have h₂ : ∀ i : Fin 64, f (Fin.natAdd 192 i) = 0 := fun i => by
    rw [h, dif_neg]; simp
  simp [h₁, h₂]

/-! ## Real numbers inside the extended reals -/

/-- The embedding of the reals carries finite sums to finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, started at minus infinity, is a real. -/
theorem fold_max_real {ι : Type*} (s : Finset ι) (hs : s.Nonempty) (f : ι → ℝ) :
    ∃ M : ℝ, s.fold max (⊥ : EReal) (fun k => ((f k : ℝ) : EReal)) = (M : EReal) := by
  classical
  induction hs using Finset.Nonempty.cons_induction with
  | singleton a => exact ⟨f a, by simp⟩
  | cons a s ha hs ih =>
    obtain ⟨M, h⟩ := ih
    exact ⟨max (f a) M, by rw [Finset.fold_cons, h]; exact (EReal.coe_strictMono.monotone.map_max).symm⟩

open Idealize.ShloMosaic in
/-- A maximum over some axes of an array of reals, started at minus infinity, is a real. -/
theorem reduce_max_real {s t u : Shape} {axes : List (Fin s.rank)} (x : FVec Ideal s .f32) (init : FVec Ideal u .f32)
    (h : s.ReducesTo axes t) (hu : 0 < u.numel) (j : t.Idx) (i₀ : s.Idx) (h₀ : h.drop i₀ = j)
    (hi : ∀ i, init i = (⊥ : EReal)) (f : s.Idx → ℝ) (hx : ∀ i, x i = ((f i : ℝ) : EReal)) :
    ∃ M : ℝ, Host.reduce FloatOps.maximumf x init h hu j = ((M : ℝ) : EReal) := by
  have hc : Std.Commutative (FloatOps.maximumf (F := Ideal) (φ := .f32)) := ⟨fun a b => max_comm (α := EReal) a b⟩
  have ha : Std.Associative (FloatOps.maximumf (F := Ideal) (φ := .f32)) := ⟨fun a b c => max_assoc (α := EReal) a b c⟩
  rw [Host.reduce_eq_fold, hi, funext hx]
  exact fold_max_real _ ⟨i₀, Finset.mem_filter.2 ⟨Finset.mem_univ _, h₀⟩⟩ f

/-! ## The constants of the two programs -/

/-- The float word of two. -/
theorem bits_two : Idealize.ShloMosaic.Ideal.ofBits .f32 0x40000000#32 = ((2 : ℝ) : EReal) := by
  simp [Idealize.ShloMosaic.Ideal.ofBits, Idealize.ShloMosaic.Ideal.ieee, -EReal.coe_mul]; norm_num

/-- The float word of 32. -/
theorem bits_lanes : Idealize.ShloMosaic.Ideal.ofBits .f32 0x42000000#32 = ((32 : ℝ) : EReal) := by
  simp [Idealize.ShloMosaic.Ideal.ofBits, Idealize.ShloMosaic.Ideal.ieee, -EReal.coe_mul]; norm_num

/-- The float word of 192. -/
theorem bits_width : Idealize.ShloMosaic.Ideal.ofBits .f32 0x43400000#32 = ((192 : ℝ) : EReal) := by
  simp [Idealize.ShloMosaic.Ideal.ofBits, Idealize.ShloMosaic.Ideal.ieee, -EReal.coe_mul]; norm_num

/-- The float word of 10000. -/
theorem bits_theta : Idealize.ShloMosaic.Ideal.ofBits .f32 0x461C4000#32 = ((10000 : ℝ) : EReal) := by
  simp [Idealize.ShloMosaic.Ideal.ofBits, Idealize.ShloMosaic.Ideal.ieee, -EReal.coe_mul]; norm_num

/-- The float word of minus infinity. -/
theorem bits_bot : Idealize.ShloMosaic.Ideal.ofBits .f32 0xFF800000#32 = ⊥ := by
  simp [Idealize.ShloMosaic.Ideal.ofBits, Idealize.ShloMosaic.Ideal.ieee]

/-- A quotient of reals whose divisor isn't zero. -/
theorem div_real {y : ℝ} (h : y ≠ 0) (x : ℝ) : Idealize.ShloMosaic.Ideal.div (x : EReal) (y : EReal) = ((x * (1 / y) : ℝ) : EReal) := by
  rw [Idealize.ShloMosaic.Ideal.div_coe h, EReal.coe_mul]

/-- One over the root of the head's width, as both programs compute it. -/
theorem scale_real :
    Idealize.ShloMosaic.Ideal.div 1 (Idealize.ShloMosaic.Ideal.sqrt (Idealize.ShloMosaic.Ideal.ofBits .f32 0x43400000#32)) = ((sc : ℝ) : EReal) := by
  rw [bits_width, Idealize.ShloMosaic.Ideal.sqrt_coe, if_neg (by norm_num), ← EReal.coe_one,
    div_real (by positivity), sc, one_mul]

/-- The angle of a position and a lane. -/
def angle (p : BitVec 32) (j : Fin 32) : ℝ :=
  (p.toInt : ℝ) * Real.rpow 10000 (-((BitVec.ofNat 32 j.val).toInt : ℝ) * (1 / 32))

/-- The angle as both programs compute it is that real number. -/
theorem angle_real (p : BitVec 32) (j : Fin 32) :
    Idealize.ShloMosaic.FloatOps.sitofp (F := Idealize.ShloMosaic.Ideal) .f32 p
      * Idealize.ShloMosaic.Ideal.pow (Idealize.ShloMosaic.Ideal.ofBits .f32 0x461C4000#32)
          (Idealize.ShloMosaic.Ideal.div (-Idealize.ShloMosaic.FloatOps.sitofp (F := Idealize.ShloMosaic.Ideal) .f32 (BitVec.ofNat 32 j.val))
            (Idealize.ShloMosaic.Ideal.ofBits .f32 0x42000000#32)) = ((angle p j : ℝ) : EReal) := by
  rw [bits_lanes, bits_theta]
  change ((p.toInt : ℝ) : EReal) * Idealize.ShloMosaic.Ideal.pow _ (Idealize.ShloMosaic.Ideal.div (-(((BitVec.ofNat 32 j.val).toInt : ℝ) : EReal)) _) = _
  rw [← EReal.coe_neg, div_real (by norm_num), Idealize.ShloMosaic.Ideal.pow_coe_coe, ← EReal.coe_mul]
  rfl

end Cert.Att
-- ==== Proof.Ref.lean ====
module

public import proofs.«01_k».proof.Proof.Gen.ReferenceIdeal.Run
public import proofs.«01_k».proof.Proof.Reals
public import Idealize.ShloMosaic.Lib.Pointwise
public import Idealize.ShloMosaic.Lib.Tactic.CleanTypes

@[expose] public section

set_option maxRecDepth 16384

/-! # The reference's results as real numbers -/

noncomputable section

open Idealize.ShloMosaic Idealize.ShloMosaic.TcCoe Idealize.SL.Sem Idealize.ShloMosaic.StableHlo

namespace Cert.ReferenceIdeal.Value
open Cert.ReferenceIdeal Cert.ReferenceIdeal.Gen Cert.Att

/-- The reference's arguments are the real arrays `X`. -/
structure Reads (V0 : Valuation τ sig (Elt Ideal)) (X : Inp) : Prop where
  q : ∀ t h d, @Eq EReal (V0 (Proc.devRef .tc main_arg0) (ix3 t h d)) (X.q t h d : ℝ)
  kv : ∀ t h d, @Eq EReal (V0 (Proc.devRef .tc main_arg1) (ix3 t h d)) (X.kv t h d : ℝ)
  kr : ∀ t h d, @Eq EReal (V0 (Proc.devRef .tc main_arg2) (ix3 t h d)) (X.kr t h d : ℝ)
  co : ∀ t j, X.co t j = Real.cos (angle (V0 (Proc.devRef .tc main_arg3) (ix1 t)) j)
  si : ∀ t j, X.si t j = Real.sin (angle (V0 (Proc.devRef .tc main_arg3) (ix1 t)) j)
  g : ∀ t i, @Eq EReal (V0 (Proc.devRef .tc main_arg4) (ix2 t i)) (X.g t i : ℝ)

variable {V0 : Valuation τ sig (Elt Ideal)} {X : Inp} (R : Reads V0 X)
include R

/-- The reference's cosines. -/
theorem v13_real (t : Fin 4096) (j : Fin 32) : @Eq EReal (res_main_v13 V0 (ix3 t 0 j)) (X.co t j : ℝ) := by
  pointwise [res_main_v13, res_main_v11]
  rw [angle_real, Ideal.cos_coe, R.co]

/-- The reference's sines. -/
theorem v15_real (t : Fin 4096) (j : Fin 32) : @Eq EReal (res_main_v15 V0 (ix3 t 0 j)) (X.si t j : ℝ) := by
  pointwise [res_main_v15, res_main_v11]
  rw [angle_real, Ideal.sin_coe, R.si]

/-- The reference's rotated query. -/
theorem v29_real (t : Fin 4096) (h : Fin 8) (d : Fin 192) : @Eq EReal (res_main_v29 V0 (ix3 t h d)) (rot X t h d : ℝ) := by
  pointwise [res_main_v29, res_main_v16, res_main_v17, R.q, v13_real R, v15_real R]
  by_cases h₁ : d.val < 128
  · rw [dif_pos h₁, rot, dif_pos h₁]
  · by_cases h₂ : d.val < 160
    · rw [dif_neg h₁, dif_pos (by omega), rot, dif_neg h₁, dif_pos h₂, EReal.coe_sub, EReal.coe_mul, EReal.coe_mul]
      congr 4 <;> (congr 1; omega)
    · rw [dif_neg h₁, dif_neg (by omega), rot, dif_neg h₁, dif_neg h₂, EReal.coe_add, EReal.coe_mul, EReal.coe_mul]
      congr 4 <;> (congr 1; omega)

/-- The reference's keys. -/
theorem v32_real (t : Fin 4096) (h : Fin 8) (d : Fin 192) : @Eq EReal (res_main_v32 V0 (ix3 t h d)) (key X t h d : ℝ) := by
  pointwise [res_main_v32, R.kv, R.kr]
  by_cases h₁ : d.val < 128
  · rw [dif_pos h₁, key, dif_pos h₁]
  · rw [dif_neg h₁, key, dif_neg h₁]

/-- The reference's factor of the scores. -/
theorem v34_real : @Eq EReal (res_main_v34 V0 ix0) (sc : ℝ) := by
  pointwise [res_main_v34]
  exact scale_real

/-- The reference's scores. -/
theorem v37_real (h : Fin 8) (r k : Fin 4096) : @Eq EReal (res_main_v37 V0 (ix3 h r k)) (score X h r k : ℝ) := by
  pointwise [res_main_v37, v34_real R, v29_real R, v32_real R]
  rw [score, EReal.coe_mul, coe_sum]
  simp only [EReal.coe_mul]

omit R in
/-- Dropping the key axis of an index leaves head and row. -/
theorem v38_drop (h : Fin 8) (r k : Fin 4096) : reducesTo_S8x4096x4096_S8x4096_d2.drop (ix3 h r k) = ix2 h r := by
  funext a
  match a with
  | ⟨0, _⟩ => rfl
  | ⟨1, _⟩ => rfl

/-- A row's maximum is a real number. -/
theorem v38_real (h : Fin 8) (r : Fin 4096) : ∃ M : ℝ, @Eq EReal (res_main_v38 V0 (ix2 h r)) (M : ℝ) := by
  refine reduce_max_real (res_main_v37 V0) _ reducesTo_S8x4096x4096_S8x4096_d2 h_S_ (ix2 h r) (ix3 h r 0) (v38_drop h r 0)
    (fun i => bits_bot) (fun i => score X (i 0) (i 1) (i 2)) fun i => ?_
  exact (congrArg _ (eq_ix3 i)).trans (v37_real R (i 0) (i 1) (i 2))

omit R in
/-- An exponential below the row's maximum, at an index. -/
theorem exp_at (x : FVec Ideal S8x4096x4096 .f32) (b : FVec Ideal S_ .f32) (y : FVec Ideal S8x4096 .f32) (h : Fin 8) (r k : Fin 4096) :
    @Eq EReal (Host.exp (subf x (broadcastInDim S8x4096x4096 ![0, 1, 2] bcast_S8x4096x1_S8x4096x4096_0_1_2 (broadcastInDim S8x4096x1 ![0, 1] bcast_S8x4096_S8x4096x1_0_1 (maximumf (broadcastInDim S8x4096 ![] bcast_S_S8x4096 b) y)))) (ix3 h r k))
      (Ideal.exp (x (ix3 h r k) - max (b ix0) (y (ix2 h r)))) := by
  pointwise

/-- The exponentials, below a row's maximum. -/
theorem v58_real (h : Fin 8) (r : Fin 4096) :
    ∃ M : ℝ, ∀ k, @Eq EReal (res_main_v58 V0 (ix3 h r k)) (Real.exp (score X h r k - M) : ℝ) := by
  obtain ⟨M, hM⟩ := v38_real R h r
  refine ⟨M, fun k => (exp_at (res_main_v37 V0) (constant S_ .f32 0xFF800000#32) (res_main_v38 V0) h r k).trans ?_⟩
  rw [v37_real R, hM, show @Eq EReal (constant (F := Ideal) S_ .f32 0xFF800000#32 ix0) ⊥ from bits_bot, max_eq_right bot_le,
    ← EReal.coe_sub, Ideal.exp_coe]

/-- A row's sum of exponentials, below its maximum. -/
theorem v60_real {M : ℝ} {h : Fin 8} {r : Fin 4096}
    (hM : ∀ k, @Eq EReal (res_main_v58 V0 (ix3 h r k)) (Real.exp (score X h r k - M) : ℝ)) :
    @Eq EReal (res_main_v60 V0 (ix3 h r 0)) (∑ k, Real.exp (score X h r k - M) : ℝ) := by
  pointwise [res_main_v60, hM]
  rw [coe_sum]

/-- The reference's softmax. -/
theorem v62_real (h : Fin 8) (r k : Fin 4096) : @Eq EReal (res_main_v62 V0 (ix3 h r k)) (prob X h r k : ℝ) := by
  obtain ⟨M, hM⟩ := v58_real R h r
  pointwise [res_main_v62, hM, v60_real R hM]
  rw [div_real, ← shifted_prob X h r k M, mul_one_div]
  rw [shifted_den]
  exact (div_pos (den_pos X h r) (Real.exp_pos M)).ne'

/-- The gradient that reaches the softmax. -/
theorem v71_real (h : Fin 8) (r k : Fin 4096) : @Eq EReal (res_main_v71 V0 (ix3 h r k)) (dp X h r k : ℝ) := by
  pointwise [res_main_v71, res_main_v70, res_main_v31, R.g, R.kv]
  rw [dp, coe_sum]
  simp only [EReal.coe_mul]
  rfl

/-- The gradient that reaches the scores. -/
theorem v87_real (h : Fin 8) (r k : Fin 4096) : @Eq EReal (res_main_v87 V0 (ix3 h r k)) (ds X h r k * sc : ℝ) := by
  obtain ⟨M, hM⟩ := v58_real R h r
  have hL : (∑ k, Real.exp (score X h r k - M)) ≠ 0 := by
    rw [shifted_den]; exact (div_pos (den_pos X h r) (Real.exp_pos M)).ne'
  pointwise [res_main_v87, v34_real R, hM, v60_real R hM, v71_real R]
  rw [← quotient_rule X h r k M _ fun _ => rfl]
  generalize (∑ k, Real.exp (score X h r k - M)) = L at hL ⊢
  rw [← EReal.coe_mul L L, ← EReal.coe_one, div_real hL, div_real (mul_ne_zero hL hL)]
  simp only [← EReal.coe_mul, ← coe_sum, ← EReal.coe_neg, ← EReal.coe_add, zero_add, Finset.univ_unique, Finset.sum_singleton]

/-- The gradient of the rotated query. -/
theorem v91_real (r : Fin 4096) (h : Fin 8) (d : Fin 192) : @Eq EReal (res_main_v91 V0 (ix3 r h d)) (dq X r h d : ℝ) := by
  pointwise [res_main_v91, v87_real R, v32_real R]
  simp only [← EReal.coe_mul, ← coe_sum]
  rw [dq, Finset.sum_mul]
  exact congrArg _ (Finset.sum_congr rfl fun k _ => by ring)

/-- The gradient of the keys. -/
theorem v89_real (k : Fin 4096) (h : Fin 8) (d : Fin 192) : @Eq EReal (res_main_v89 V0 (ix3 k h d)) (dk X k h d : ℝ) := by
  pointwise [res_main_v89, v87_real R, v29_real R]
  simp only [← EReal.coe_mul, ← coe_sum]
  rw [dk, Finset.sum_mul]
  exact congrArg _ (Finset.sum_congr rfl fun k _ => by ring)

/-- The first half of the rotated lanes' gradient. -/
theorem v98_real (r : Fin 4096) (h : Fin 8) (d : Fin 32) : @Eq EReal (res_main_v98 V0 (ix3 r h d)) (dq X r h ⟨128 + d.val, by omega⟩ : ℝ) := by
  pointwise [res_main_v98, v91_real R]

/-- The second half of the rotated lanes' gradient. -/
theorem v99_real (r : Fin 4096) (h : Fin 8) (d : Fin 32) : @Eq EReal (res_main_v99 V0 (ix3 r h d)) (dq X r h ⟨160 + d.val, by omega⟩ : ℝ) := by
  pointwise [res_main_v99, v91_real R]

/-- The gradient of the query before the rotation. -/
theorem v115_real (r : Fin 4096) (h : Fin 8) (d : Fin 192) :
    @Eq EReal (res_main_v115 V0 (ix3 r h d))
      ((if h₁ : d.val < 128 then dq X r h d
        else if h₂ : d.val < 160 then
          dq X r h d * X.co r ⟨d.val - 128, by omega⟩ + dq X r h ⟨d.val + 32, by omega⟩ * X.si r ⟨d.val - 128, by omega⟩
        else dq X r h d * X.co r ⟨d.val - 160, by omega⟩ - dq X r h ⟨d.val - 32, by omega⟩ * X.si r ⟨d.val - 160, by omega⟩ : ℝ)) := by
  unfold res_main_v115
  clean_types
  pointwise [v91_real R, v98_real R, v99_real R, v13_real R, v15_real R]
  by_cases h₁ : d.val < 128
  · rw [dif_pos h₁, dif_neg (by omega), dif_neg (by omega), dif_pos h₁, add_zero, add_zero]
  · by_cases h₂ : d.val < 160
    · rw [dif_neg h₁, dif_neg (by omega), dif_pos (by omega), dif_neg h₁, dif_pos h₂, zero_add, zero_add]
      simp only [← EReal.coe_mul, ← EReal.coe_add]
      rw [add_comm]
      congr 5 <;> omega
    · rw [dif_neg h₁, dif_pos (by omega), dif_neg (by omega), dif_neg h₁, dif_neg h₂, zero_add, add_zero]
      simp only [← EReal.coe_mul, ← EReal.coe_add, ← EReal.coe_neg]
      rw [neg_mul, ← sub_eq_add_neg]
      congr 5 <;> omega

/-- The first result: the query's lanes that aren't rotated. -/
theorem res0_real (r : Fin 4096) (i : Fin 1024) :
    @Eq EReal (truncf (F := Ideal) .bf16 (shapeCast S4096x1024 (extractStridedSlice S4096x8x128 ![0, 0, 0] (res_main_v115 V0) slices_S4096x8x192_S4096x8x128_0_0_0) shapeCasts_S4096x8x128_S4096x1024) bitsLt_bf16_f32 (ix2 r i))
      (outN X r i : ℝ) := by
  pointwise [v115_real R]
  rw [outN, dif_pos (by omega)]

/-- The second result: the query's rotated lanes, in blocks of 128. -/
theorem res1_real (r : Fin 4096) (i : Fin 1024) :
    @Eq EReal (truncf (F := Ideal) .bf16 (shapeCast S4096x1024 (pad S4096x8x128 ![0, 0, 0] ![0, 0, 64] ![0, 0, 0] (extractStridedSlice S4096x8x64 ![0, 0, 128] (res_main_v115 V0) slices_S4096x8x192_S4096x8x64_0_0_128) (sitofp .f32 (constantI S_ 32 0#32)) pads_S4096x8x64_S4096x8x128_000_000_0640 h_S_) shapeCasts_S4096x8x128_S4096x1024) bitsLt_bf16_f32 (ix2 r i))
      (outR X r i : ℝ) := by
  clean_types
  pointwise [v115_real R]
  by_cases h : i.val % 128 < 64
  · rw [dif_pos ⟨by omega, h⟩]
    by_cases h₁ : i.val % 128 < 32
    · refine Eq.trans ?_ (congrArg (fun x : ℝ => (x : EReal)) (show outR X r i = _ by rw [outR, dqr, dif_pos h₁])).symm
      rw [dif_pos (by omega)]
      congr 5
      dsimp only
      omega
    · refine Eq.trans ?_ (congrArg (fun x : ℝ => (x : EReal)) (show outR X r i = _ by rw [outR, dqr, dif_neg h₁, dif_pos h])).symm
      rw [dif_neg (by omega)]
      congr 5 <;> (dsimp only; omega)
  · refine Eq.trans ?_ (congrArg (fun x : ℝ => (x : EReal)) (show outR X r i = 0 by rw [outR, dqr, dif_neg (by simp only; omega), dif_neg h])).symm
    rw [dif_neg (by omega)]
    simp [FloatOps.sitofp]

omit R in
/-- The values' gradient at an index, as a sum over the query rows. -/
theorem value_at (A : FVec Ideal S8x128x4096 .f32) (B : FVec Ideal S8x4096x4096 .f32) (k : Fin 4096) (h : Fin 8) (d : Fin 128) :
    @Eq EReal (transpose S4096x8x128 [2, 0, 1] (Host.dotGeneral dot_S8x128x4096_S8x4096x4096_S8x128x4096_2_1_1_2_0_0 none A B) transposes_S8x128x4096_S4096x8x128_2_0_1 (ix3 k h d))
      (∑ x : Fin 4096, A (ix3 h d x) * B (ix3 h x k)) := by
  pointwise

/-- The result's gradient by heads. -/
theorem v70_real (h : Fin 8) (d : Fin 128) (r : Fin 4096) : @Eq EReal (res_main_v70 V0 (ix3 h d r)) (ct X r h d : ℝ) := by
  pointwise [res_main_v70, R.g]
  rfl

/-- The gradient of the values, transposed to rows. -/
theorem value_real (k : Fin 4096) (h : Fin 8) (d : Fin 128) :
    @Eq EReal (transpose S4096x8x128 [2, 0, 1] (Host.dotGeneral dot_S8x128x4096_S8x4096x4096_S8x128x4096_2_1_1_2_0_0 none (show FVec Ideal S8x128x4096 .f32 from res_main_v70 V0) (show FVec Ideal S8x4096x4096 .f32 from res_main_v62 V0)) transposes_S8x128x4096_S4096x8x128_2_0_1 (ix3 k h d))
      (dv X k h d : ℝ) := by
  refine (value_at _ _ k h d).trans ?_
  rw [dv, coe_sum]
  refine Finset.sum_congr rfl fun r _ => ?_
  rw [v70_real R, v62_real R, ← EReal.coe_mul, mul_comm]

omit R in
/-- On a head's first 128 lanes the third result is the keys' gradient. -/
theorem pads_low (D : FVec Ideal S4096x8x128 .f32) (K : FVec Ideal S4096x8x192 .f32) (r : Fin 4096) (i : Fin 2048) (h : i.val % 256 < 128) :
    @Eq EReal (truncf (F := Ideal) .bf16 (shapeCast S4096x2048 (addf (pad S4096x8x256 ![0, 0, 128] ![0, 0, 0] ![0, 0, 0] D (constant S_ .f32 0x00000000#32) pads_S4096x8x128_S4096x8x256_000_000_12800 h_S_) (pad S4096x8x256 ![0, 0, 0] ![0, 0, 128] ![0, 0, 0] (extractStridedSlice S4096x8x128 ![0, 0, 0] K slices_S4096x8x192_S4096x8x128_0_0_0) (constant S_ .f32 0x00000000#32) pads_S4096x8x128_S4096x8x256_000_000_01280 h_S_)) shapeCasts_S4096x8x256_S4096x2048) bitsLt_bf16_f32 (ix2 r i))
      (K (ix3 r ⟨i.val / 256, by omega⟩ ⟨i.val % 256, by omega⟩)) := by
  pointwise
  have h₁ : ¬(i.val / 256 < 8 ∧ 128 ≤ i.val % 256 ∧ i.val % 256 - 128 < 128) := by omega
  have h₂ : i.val / 256 < 8 ∧ i.val % 256 < 128 := by omega
  rw [dif_neg h₁, dif_pos h₂, zero_add]

set_option maxHeartbeats 800000 in
omit R in
/-- On a head's other lanes the third result is the values' gradient. -/
theorem pads_high (D : FVec Ideal S4096x8x128 .f32) (K : FVec Ideal S4096x8x192 .f32) (r : Fin 4096) (i : Fin 2048) (h : ¬i.val % 256 < 128) :
    @Eq EReal (truncf (F := Ideal) .bf16 (shapeCast S4096x2048 (addf (pad S4096x8x256 ![0, 0, 128] ![0, 0, 0] ![0, 0, 0] D (constant S_ .f32 0x00000000#32) pads_S4096x8x128_S4096x8x256_000_000_12800 h_S_) (pad S4096x8x256 ![0, 0, 0] ![0, 0, 128] ![0, 0, 0] (extractStridedSlice S4096x8x128 ![0, 0, 0] K slices_S4096x8x192_S4096x8x128_0_0_0) (constant S_ .f32 0x00000000#32) pads_S4096x8x128_S4096x8x256_000_000_01280 h_S_)) shapeCasts_S4096x8x256_S4096x2048) bitsLt_bf16_f32 (ix2 r i))
      (D (ix3 r ⟨i.val / 256, by omega⟩ ⟨i.val % 256 - 128, by omega⟩)) := by
  pointwise
  have h₁ : i.val / 256 < 8 ∧ 128 ≤ i.val % 256 ∧ i.val % 256 - 128 < 128 := by omega
  have h₂ : ¬(i.val / 256 < 8 ∧ i.val % 256 < 128) := by omega
  rw [dif_pos h₁, dif_neg h₂, add_zero]

/-- The third result: keys and values. -/
theorem res2_real (r : Fin 4096) (i : Fin 2048) :
    @Eq EReal (truncf (F := Ideal) .bf16 (shapeCast S4096x2048 (addf (pad S4096x8x256 ![0, 0, 128] ![0, 0, 0] ![0, 0, 0] (transpose S4096x8x128 [2, 0, 1] (Host.dotGeneral dot_S8x128x4096_S8x4096x4096_S8x128x4096_2_1_1_2_0_0 none (show FVec Ideal S8x128x4096 .f32 from res_main_v70 V0) (show FVec Ideal S8x4096x4096 .f32 from res_main_v62 V0)) transposes_S8x128x4096_S4096x8x128_2_0_1) (constant S_ .f32 0x00000000#32) pads_S4096x8x128_S4096x8x256_000_000_12800 h_S_) (pad S4096x8x256 ![0, 0, 0] ![0, 0, 128] ![0, 0, 0] (extractStridedSlice S4096x8x128 ![0, 0, 0] (res_main_v89 V0) slices_S4096x8x192_S4096x8x128_0_0_0) (constant S_ .f32 0x00000000#32) pads_S4096x8x128_S4096x8x256_000_000_01280 h_S_)) shapeCasts_S4096x8x256_S4096x2048) bitsLt_bf16_f32 (ix2 r i))
      (outKV X r i : ℝ) := by
  by_cases h : i.val % 256 < 128
  · refine (pads_low _ _ r i h).trans ?_
    rw [outKV, dif_pos h]
    exact v89_real R _ _ _
  · refine (pads_high _ _ r i h).trans ?_
    rw [outKV, dif_neg h]
    exact value_real R _ _ _

/-- The fourth result: the keys' rotated lanes. -/
theorem res3_real (h : Fin 8) (k : Fin 4096) (d : Fin 64) :
    @Eq EReal (truncf (F := Ideal) .bf16 (transpose S8x4096x64 [1, 0, 2] (extractStridedSlice S4096x8x64 ![0, 0, 128] (res_main_v89 V0) slices_S4096x8x192_S4096x8x64_0_0_128) transposes_S4096x8x64_S8x4096x64_1_0_2) bitsLt_bf16_f32 (ix3 h k d))
      (outKR X h k d : ℝ) := by
  pointwise [v89_real R]
  rw [outKR]

end Cert.ReferenceIdeal.Value
-- ==== Proof.Host.lean ====
module

public import proofs.«01_k».proof.Proof.Gen.KernelIdeal.Frame.Runs
public import proofs.«01_k».proof.Proof.Reals
public import Idealize.ShloMosaic.Lib.Pointwise
public import Idealize.ShloMosaic.Lib.StableHlo.ReadAt
public import Idealize.ShloMosaic.Lib.Tactic.CleanTypes

@[expose] public section

set_option maxRecDepth 16384

/-! # What the host's lines leave in the kernel's operands, as real numbers -/

noncomputable section

open Idealize.ShloMosaic Idealize.ShloMosaic.TcCoe Idealize.SL.Sem Idealize.ShloMosaic.StableHlo

namespace Cert.KernelIdeal.Value
open Cert.KernelIdeal Cert.KernelIdeal.Gen Cert.Att

variable (m : (ℓ : Loc nD τ sig) → Buf (Elt Ideal) ℓ) (c : Dev nD)

/-- The kernel's arguments on device `c` are the real arrays `X`. -/
structure Reads (m : (ℓ : Loc nD τ sig) → Buf (Elt Ideal) ℓ) (c : Dev nD) (X : Inp) : Prop where
  q : ∀ t h d, @Eq EReal (m (c, Proc.devRef .tc main_arg0) (ix3 t h d)) (X.q t h d : ℝ)
  kv : ∀ t h d, @Eq EReal (m (c, Proc.devRef .tc main_arg1) (ix3 t h d)) (X.kv t h d : ℝ)
  kr : ∀ t h d, @Eq EReal (m (c, Proc.devRef .tc main_arg2) (ix3 t h d)) (X.kr t h d : ℝ)
  co : ∀ t j, X.co t j = Real.cos (angle (m (c, Proc.devRef .tc main_arg3) (ix1 t)) j)
  si : ∀ t j, X.si t j = Real.sin (angle (m (c, Proc.devRef .tc main_arg3) (ix1 t)) j)
  g : ∀ t i, @Eq EReal (m (c, Proc.devRef .tc main_arg4) (ix2 t i)) (X.g t i : ℝ)

variable {m c} {X : Inp} (R : Reads m c X)

/-- The logarithm of two, as the host computes it. -/
theorem v18_real : @Eq EReal (V m c main_v18 ix0) (Real.log 2 : ℝ) := by
  unfold V
  after_reads_at
  rw [bits_two, Ideal.log_coe, if_neg (by norm_num)]

/-- The query's scale over the logarithm of two, as the host computes it. -/
theorem scale_log :
    Ideal.div (Ideal.div 1 (Ideal.sqrt (Ideal.ofBits .f32 0x43400000#32))) (Ideal.log (Ideal.ofBits .f32 0x40000000#32)) = ((sc / Real.log 2 : ℝ) : EReal) := by
  rw [scale_real, bits_two, Ideal.log_coe, if_neg (by norm_num), div_real log_two_pos.ne', mul_one_div]

include R

/-- A cosine of the tables, for a lane below 32. -/
theorem cos_at (t : Fin 4096) (j : ℕ) (hj : j < 32) :
    Ideal.cos (FloatOps.sitofp (F := Ideal) .f32 (m (c, Proc.devRef .tc main_arg3) (ix1 t))
      * Ideal.pow (Ideal.ofBits .f32 0x461C4000#32) (Ideal.div (-FloatOps.sitofp (F := Ideal) .f32 (BitVec.ofNat 32 j)) (Ideal.ofBits .f32 0x42000000#32)))
      = ((X.co t ⟨j, hj⟩ : ℝ) : EReal) := by
  rw [R.co, ← Ideal.cos_coe, ← angle_real]

/-- A sine of the tables, for a lane below 32. -/
theorem sin_at (t : Fin 4096) (j : ℕ) (hj : j < 32) :
    Ideal.sin (FloatOps.sitofp (F := Ideal) .f32 (m (c, Proc.devRef .tc main_arg3) (ix1 t))
      * Ideal.pow (Ideal.ofBits .f32 0x461C4000#32) (Ideal.div (-FloatOps.sitofp (F := Ideal) .f32 (BitVec.ofNat 32 j)) (Ideal.ofBits .f32 0x42000000#32)))
      = ((X.si t ⟨j, hj⟩ : ℝ) : EReal) := by
  rw [R.si, ← Ideal.sin_coe, ← angle_real]

/-- The table of cosines: twice 32 lanes, then zeros. -/
theorem v15_real (t : Fin 4096) (j : Fin 128) :
    @Eq EReal (V m c main_v15 (ix2 t j))
      ((if h : j.val < 32 then X.co t ⟨j.val, h⟩ else if h₂ : j.val < 64 then X.co t ⟨j.val - 32, by omega⟩ else 0 : ℝ)) := by
  unfold V
  after_reads_at
  after_reads_at
  by_cases h₁ : j.val < 32
  · rw [dif_pos h₁, dif_pos h₁, cos_at R t _ h₁]
  · by_cases h₂ : j.val < 64
    · rw [dif_neg h₁, dif_neg h₁, dif_pos h₂, dif_pos (by omega), cos_at R t _ (by omega)]
    · rw [dif_neg h₁, dif_neg h₁, dif_neg h₂, dif_neg (by omega), EReal.coe_zero]

/-- The table of sines of the rotation back: 32 lanes, the same negated, then zeros. -/
theorem v17_real (t : Fin 4096) (j : Fin 128) :
    @Eq EReal (V m c main_v17 (ix2 t j))
      ((if h : j.val < 32 then X.si t ⟨j.val, h⟩ else if h₂ : j.val < 64 then -X.si t ⟨j.val - 32, by omega⟩ else 0 : ℝ)) := by
  unfold V
  after_reads_at
  after_reads_at
  by_cases h₁ : j.val < 32
  · rw [dif_pos h₁, dif_pos h₁, sin_at R t _ h₁]
  · by_cases h₂ : j.val < 64
    · rw [dif_neg h₁, dif_neg h₁, dif_pos h₂, dif_pos (by omega), sin_at R t _ (by omega), EReal.coe_neg]
    · rw [dif_neg h₁, dif_neg h₁, dif_neg h₂, dif_neg (by omega), EReal.coe_zero]

/-- The query in rows of 256 lanes: rotated, scaled for powers of two, padded by zeros. -/
theorem v42_real (h : Fin 8) (t : Fin 4096) (d : Fin 256) :
    @Eq EReal (V m c main_v42 (ix3 h t d)) ((if hd : d.val < 192 then rot X t h ⟨d.val, hd⟩ * (sc / Real.log 2) else 0 : ℝ)) := by
  unfold V
  after_reads_at
  after_reads_at
  by_cases h₁ : d.val < 128
  · rw [dif_pos h₁, dif_pos (by omega), rot, dif_pos h₁, R.q, scale_log, ← EReal.coe_mul]
  · by_cases h₂ : d.val < 160
    · rw [dif_neg h₁, dif_pos (by omega), dif_pos (by omega), rot, dif_neg h₁, dif_pos h₂, R.q, R.q, scale_log,
        cos_at R t _ (by omega), sin_at R t _ (by omega)]
      simp only [← EReal.coe_mul, ← EReal.coe_sub]
      rw [sub_mul, mul_right_comm, mul_right_comm (X.q _ _ _) (X.si _ _)]
      congr 6 <;> omega
    · by_cases h₃ : d.val < 192
      · rw [dif_neg h₁, dif_neg (by omega), dif_pos (by omega), dif_pos h₃, rot, dif_neg h₁, dif_neg h₂, R.q, R.q, scale_log,
          cos_at R t _ (by omega), sin_at R t _ (by omega)]
        simp only [← EReal.coe_mul, ← EReal.coe_add]
        rw [add_mul, mul_right_comm, mul_right_comm (X.q _ _ _) (X.si _ _)]
        have e₁ : 160 + (d.val - 160) = d.val := by omega
        have e₂ : 128 + (d.val - 160) = d.val - 32 := by omega
        have e₃ : d.val - 128 - 32 = d.val - 160 := by omega
        simp only [e₃, e₁, e₂]
      · rw [dif_neg h₁, dif_neg (by omega), dif_neg (by omega), dif_neg h₃, EReal.coe_zero]

/-- The key in rows of 256 lanes, padded by zeros. -/
theorem v46_real (h : Fin 8) (t : Fin 4096) (d : Fin 256) :
    @Eq EReal (V m c main_v46 (ix3 h t d)) ((if hd : d.val < 192 then key X t h ⟨d.val, hd⟩ else 0 : ℝ)) := by
  unfold V
  after_reads_at
  after_reads_at
  by_cases h₁ : d.val < 128
  · rw [dif_pos h₁, dif_pos (by omega), key, dif_pos h₁, R.kv]
  · by_cases h₂ : d.val < 192
    · rw [dif_neg h₁, dif_pos (by omega), dif_pos h₂, key, dif_neg h₁, R.kr]
    · rw [dif_neg h₁, dif_neg (by omega), dif_neg h₂, EReal.coe_zero]

/-- Keys and values, as the call takes them. -/
theorem v70_real (t : Fin 4096) (i : Fin 2048) :
    @Eq EReal (V m c main_v70 (ix2 t i)) (X.kv t ⟨i.val / 256, by omega⟩ ⟨i.val % 256, by omega⟩ : ℝ) := by
  unfold V
  after_reads_at
  exact R.kv _ _ _

/-- The result's gradient, as the call takes it. -/
theorem v71_real (t : Fin 4096) (i : Fin 1024) : @Eq EReal (V m c main_v71 (ix2 t i)) (X.g t i : ℝ) := by
  unfold V
  after_reads_at
  exact R.g _ _

omit R in
/-- The scores, as an expression of the padded rows. -/
theorem v51_eq : @Eq (FVec Ideal S8x4096x4096 .f32) (V m c main_v51) (mulf (Host.dotGeneral dot_S8x4096x256_S8x4096x256_S8x4096x4096_2_2_1_1_0_0 none (extf .f32 (show FVec Ideal S8x4096x256 .bf16 from V m c main_v42) bitsLt_bf16_f32) (extf .f32 (show FVec Ideal S8x4096x256 .bf16 from V m c main_v46) bitsLt_bf16_f32)) (broadcastInDim S8x4096x4096 ![] bcast_S_S8x4096x4096 (show FVec Ideal S_ .f32 from V m c main_v18))) := by
  unfold V
  after_reads_simp

/-- The score in natural logarithms. -/
theorem v51_real (h : Fin 8) (r k : Fin 4096) : @Eq EReal (V m c main_v51 (ix3 h r k)) (score X h r k : ℝ) := by
  refine (congrFun v51_eq _).trans ?_
  pointwise [v42_real R, v46_real R, v18_real]
  rw [v18_real]
  simp only [← EReal.coe_mul, ← EReal.coe_add, ← coe_sum, mul_zero, Finset.sum_const_zero, add_zero]
  rw [score, Finset.sum_mul, Finset.sum_mul]
  refine congrArg _ (Finset.sum_congr rfl fun d _ => ?_)
  have := log_two_pos.ne'
  field_simp

omit R in
/-- The scores' row maxima, as an expression of the scores. -/
theorem v52_eq : @Eq (FVec Ideal S8x4096 .f32) (V m c main_v52) (Host.reduce FloatOps.maximumf (show FVec Ideal S8x4096x4096 .f32 from V m c main_v51) (constant S_ .f32 0xFF800000#32) reducesTo_S8x4096x4096_S8x4096_d2 h_S_) := by
  unfold V
  after_reads_simp

omit R in
/-- Dropping the key axis of an index leaves head and row. -/
theorem drop_row (h : Fin 8) (r k : Fin 4096) : reducesTo_S8x4096x4096_S8x4096_d2.drop (ix3 h r k) = ix2 h r := by
  funext a
  match a with
  | ⟨0, _⟩ => rfl
  | ⟨1, _⟩ => rfl

/-- A row's maximum is a real number. -/
theorem v52_real (h : Fin 8) (r : Fin 4096) : ∃ M : ℝ, @Eq EReal (V m c main_v52 (ix2 h r)) (M : ℝ) := by
  rw [v52_eq]
  refine reduce_max_real (show FVec Ideal S8x4096x4096 .f32 from V m c main_v51) _ reducesTo_S8x4096x4096_S8x4096_d2 h_S_ (ix2 h r) (ix3 h r 0) (drop_row h r 0)
    (fun i => bits_bot) (fun i => score X (i 0) (i 1) (i 2)) fun i => ?_
  exact (congrArg _ (eq_ix3 i)).trans (v51_real R (i 0) (i 1) (i 2))

omit R in
/-- The exponentials, as an expression of scores and maxima. -/
theorem v56_eq : @Eq (FVec Ideal S8x4096x4096 .f32) (V m c main_v56) (Host.exp (subf (show FVec Ideal S8x4096x4096 .f32 from V m c main_v51) (broadcastInDim S8x4096x4096 ![0, 1, 2] bcast_S8x4096x1_S8x4096x4096_0_1_2 (broadcastInDim S8x4096x1 ![0, 1] bcast_S8x4096_S8x4096x1_0_1 (show FVec Ideal S8x4096 .f32 from V m c main_v52))))) := by
  unfold V
  after_reads_simp

end Cert.KernelIdeal.Value
-- ==== Proof.Saved.lean ====
module

public import proofs.«01_k».proof.Proof.Gen.KernelIdeal.Frame.Runs
public import proofs.«01_k».proof.Proof.Host
public import Idealize.ShloMosaic.Lib.Pointwise
public import Idealize.ShloMosaic.Lib.StableHlo.ReadAt
public import Idealize.ShloMosaic.Lib.Tactic.CleanTypes

@[expose] public section

set_option maxRecDepth 16384

/-! # What the host saves of the forward pass, as real numbers -/

noncomputable section

open Idealize.ShloMosaic Idealize.ShloMosaic.TcCoe Idealize.SL.Sem Idealize.ShloMosaic.StableHlo

namespace Cert.KernelIdeal.Value
open Cert.KernelIdeal Cert.KernelIdeal.Gen Cert.Att

variable {m : (ℓ : Loc nD τ sig) → Buf (Elt Ideal) ℓ} {c : Dev nD} {X : Inp} (R : Reads m c X)
include R

/-- The exponentials, below a row's maximum. -/
theorem v56_real (h : Fin 8) (r : Fin 4096) :
    ∃ M : ℝ, @Eq EReal (V m c main_v52 (ix2 h r)) (M : ℝ) ∧ ∀ k, @Eq EReal (V m c main_v56 (ix3 h r k)) (Real.exp (score X h r k - M) : ℝ) := by
  obtain ⟨M, hM⟩ := v52_real R h r
  refine ⟨M, hM, fun k => (congrFun v56_eq _).trans ?_⟩
  pointwise [v51_real R]
  rw [hM, ← EReal.coe_sub, Ideal.exp_coe]

omit R in
/-- The sums of exponentials, as an expression of these. -/
theorem v57_eq : @Eq (FVec Ideal S8x4096 .f32) (V m c main_v57) (Host.reduceAdd (show FVec Ideal S8x4096x4096 .f32 from V m c main_v56) (constant S_ .f32 0x00000000#32) reducesTo_S8x4096x4096_S8x4096_d2 h_S_) := by
  unfold V
  after_reads_simp

/-- A row's sum of exponentials, below its maximum. -/
theorem v57_real {M : ℝ} {h : Fin 8} {r : Fin 4096}
    (hM : ∀ k, @Eq EReal (V m c main_v56 (ix3 h r k)) (Real.exp (score X h r k - M) : ℝ)) :
    @Eq EReal (V m c main_v57 (ix2 h r)) (∑ k, Real.exp (score X h r k - M) : ℝ) := by
  refine (congrFun v57_eq _).trans ?_
  pointwise [hM]
  rw [coe_sum]

omit R in
/-- The saved logarithm at an index, for any maxima and sums. -/
theorem lse_at (M L : FVec Ideal S8x4096 .f32) (l : FVec Ideal S_ .f32) (h : Fin 8) (r : Fin 4096) :
    @Eq EReal (Host.divf (addf (broadcastInDim S8x4096x1 ![0, 1] bcast_S8x4096_S8x4096x1_0_1 M) (Host.log (broadcastInDim S8x4096x1 ![0, 1] bcast_S8x4096_S8x4096x1_0_1 L))) (broadcastInDim S8x4096x1 ![] bcast_S_S8x4096x1 l) (ix3 h r 0))
      (Ideal.div (M (ix2 h r) + Ideal.log (L (ix2 h r))) (l ix0)) := by
  pointwise

omit R in
/-- The saved logarithms, as an expression of maxima and sums. -/
theorem v62_eq : @Eq (FVec Ideal S8x4096x1 .f32) (V m c main_v62) (Host.divf (addf (broadcastInDim S8x4096x1 ![0, 1] bcast_S8x4096_S8x4096x1_0_1 (show FVec Ideal S8x4096 .f32 from V m c main_v52)) (Host.log (broadcastInDim S8x4096x1 ![0, 1] bcast_S8x4096_S8x4096x1_0_1 (show FVec Ideal S8x4096 .f32 from V m c main_v57)))) (broadcastInDim S8x4096x1 ![] bcast_S_S8x4096x1 (show FVec Ideal S_ .f32 from V m c main_v18))) := by
  unfold V
  after_reads_simp

/-- The saved logarithm of the denominator, in powers of two. -/
theorem v62_real (h : Fin 8) (r : Fin 4096) : @Eq EReal (V m c main_v62 (ix3 h r 0)) (Real.log (den X h r) / Real.log 2 : ℝ) := by
  obtain ⟨M, hM, hE⟩ := v56_real R h r
  refine (congrFun v62_eq _).trans ((lse_at _ _ _ h r).trans ?_)
  have hL : 0 < ∑ k, Real.exp (score X h r k - M) := by
    rw [shifted_den]; exact div_pos (den_pos X h r) (Real.exp_pos M)
  rw [hM, v57_real R hE, v18_real, Ideal.log_coe, if_neg (not_le.2 hL), ← EReal.coe_add, div_real log_two_pos.ne',
    shifted_log, mul_one_div]

omit R in
/-- The softmax, as an expression of exponentials and sums. -/
theorem v64_eq : @Eq (FVec Ideal S8x4096x4096 .f32) (V m c main_v64) (Host.divf (show FVec Ideal S8x4096x4096 .f32 from V m c main_v56) (broadcastInDim S8x4096x4096 ![0, 1, 2] bcast_S8x4096x1_S8x4096x4096_0_1_2 (broadcastInDim S8x4096x1 ![0, 1] bcast_S8x4096_S8x4096x1_0_1 (show FVec Ideal S8x4096 .f32 from V m c main_v57)))) := by
  unfold V
  after_reads_simp

/-- The softmax. -/
theorem v64_real (h : Fin 8) (r k : Fin 4096) : @Eq EReal (V m c main_v64 (ix3 h r k)) (prob X h r k : ℝ) := by
  obtain ⟨M, hM, hE⟩ := v56_real R h r
  refine (congrFun v64_eq _).trans ?_
  pointwise [hE]
  rw [v57_real R hE, div_real, ← shifted_prob X h r k M, mul_one_div]
  rw [shifted_den]
  exact (div_pos (den_pos X h r) (Real.exp_pos M)).ne'

/-- The values by heads. -/
theorem v65_real (r : Fin 4096) (h : Fin 8) (d : Fin 128) : @Eq EReal (V m c main_v65 (ix3 r h d)) (val X r h d : ℝ) := by
  unfold V
  after_reads_at
  exact R.kv _ _ _

omit R in
/-- The saved result, as an expression of softmax and values. -/
theorem v72_eq : @Eq (FVec Ideal S4096x1024 .bf16) (V m c main_v72) (truncf (F := Ideal) .bf16 (shapeCast S4096x1024 (transpose S4096x8x128 [2, 0, 1] (Host.dotGeneral dot_S4096x8x128_S8x4096x4096_S8x128x4096_0_2_2_1_1_0 none (show FVec Ideal S4096x8x128 .f32 from V m c main_v65) (show FVec Ideal S8x4096x4096 .f32 from V m c main_v64)) transposes_S8x128x4096_S4096x8x128_2_0_1) shapeCasts_S4096x8x128_S4096x1024) bitsLt_bf16_f32) := by
  unfold V
  after_reads_simp
  rfl

/-- The saved result of the attention. -/
theorem v72_real (r : Fin 4096) (i : Fin 1024) :
    @Eq EReal (V m c main_v72 (ix2 r i))
      (∑ k, prob X ⟨i.val / 128, by omega⟩ r k * val X k ⟨i.val / 128, by omega⟩ ⟨i.val % 128, by omega⟩ : ℝ) := by
  refine (congrFun v72_eq _).trans ?_
  pointwise [v65_real R, v64_real R]
  simp only [← EReal.coe_mul, ← coe_sum]
  exact congrArg _ (Finset.sum_congr rfl fun k _ => mul_comm _ _)

end Cert.KernelIdeal.Value
-- ==== Proof.Body.lean ====
module

public import proofs.«01_k».proof.Proof.Gen.KernelIdeal.Skeleton
public import proofs.«01_k».proof.Proof.Reals
public import Idealize.ShloMosaic.Lib.Pointwise

@[expose] public section

set_option maxRecDepth 16384

/-! # What one grid point computes, as real numbers

A grid point holds a tile of query rows and walks over four chunks of key rows. Which rows these are is left open here:
`ρ` names the row of each line of the tile and `χ` the row of each line of the chunk. -/

noncomputable section

open Idealize.ShloMosaic Idealize.ShloMosaic.TcCoe

namespace Cert.Att

variable (X : Inp)

/-- The kernel's query row: rotated, scaled for powers of two, padded to 256 lanes. -/
def qf (h : Fin 8) (r : Fin 4096) (d : Fin 256) : ℝ :=
  if hd : d.val < 192 then rot X r h ⟨d.val, hd⟩ * (sc / Real.log 2) else 0

/-- The kernel's key row, padded to 256 lanes. -/
def kf (h : Fin 8) (k : Fin 4096) (d : Fin 256) : ℝ := if hd : d.val < 192 then key X k h ⟨d.val, hd⟩ else 0

/-- The product of the padded rows is the score over the logarithm of two. -/
theorem qf_kf (h : Fin 8) (r k : Fin 4096) : ∑ d, qf X h r d * kf X h k d = score X h r k / Real.log 2 := by
  rw [sum_padded _ (fun d => rot X r h d * (sc / Real.log 2) * key X k h d)
    (fun d => by by_cases hd : d.val < 192 <;> simp [qf, kf, hd]), score, Finset.sum_mul, Finset.sum_div]
  exact Finset.sum_congr rfl fun d _ => by ring

end Cert.Att

namespace Cert.KernelIdeal.Value
open Cert.KernelIdeal Cert.KernelIdeal.Gen Cert.Att

variable {X : Inp} {h : Fin 8} {ρ χ : Fin 1024 → Fin 4096}

/-- What a grid point holds of its query rows: the row itself, the result's gradient, the saved logarithm and the correction. -/
structure Tile (X : Inp) (h : Fin 8) (ρ : Fin 1024 → Fin 4096) (Q : FVec Ideal S1024x256 .bf16) (O : FVec Ideal S1024x128 .bf16)
    (L D : FVec Ideal S1024x1 .f32) : Prop where
  q : ∀ r d, @Eq EReal (Q (ix2 r d)) (qf X h (ρ r) d : ℝ)
  o : ∀ r d, @Eq EReal (O (ix2 r d)) (ct X (ρ r) h d : ℝ)
  l : ∀ r, @Eq EReal (L (ix2 r 0)) (Real.log (den X h (ρ r)) / Real.log 2 : ℝ)
  d : ∀ r, @Eq EReal (D (ix2 r 0)) (delta X h (ρ r) : ℝ)

/-- What a grid point holds of a chunk of key rows: the rows and their values. -/
structure Chunk (X : Inp) (h : Fin 8) (χ : Fin 1024 → Fin 4096) (K : FVec Ideal S1x1024x256 .bf16) (W : FVec Ideal S1024x128 .bf16) : Prop where
  k : ∀ k d, @Eq EReal (K (ix3 0 k d)) (kf X h (χ k) d : ℝ)
  v : ∀ k d, @Eq EReal (W (ix2 k d)) (val X (χ k) h d : ℝ)

variable {Q : FVec Ideal S1024x256 .bf16} {O : FVec Ideal S1024x128 .bf16} {L D : FVec Ideal S1024x1 .f32}
  {K : FVec Ideal S1x1024x256 .bf16} {W : FVec Ideal S1024x128 .bf16} (T : Tile X h ρ Q O L D) (C : Chunk X h χ K W)

include T C

/-- The softmax on a tile and a chunk. -/
theorem p_real (r k : Fin 1024) : @Eq EReal (k0_pay21 Q L K (ix2 r k)) (prob X h (ρ r) (χ k) : ℝ) := by
  pointwise [k0_pay21, k0_pay20, T.q, T.l, C.k]
  simp only [← EReal.coe_mul, ← coe_sum]
  rw [qf_kf, ← EReal.coe_sub]
  exact (Ideal.exp2_coe _).trans (congrArg _ (two_rpow X h _ _))

/-- The gradient of the scores on a tile and a chunk. -/
theorem ds_real (r k : Fin 1024) : @Eq EReal (k0_pay22 Q O L D K W (ix2 r k)) (ds X h (ρ r) (χ k) : ℝ) := by
  pointwise [k0_pay22, p_real T C, T.o, T.d, C.v]
  simp only [← EReal.coe_mul, ← coe_sum]
  rw [← EReal.coe_sub, ← EReal.coe_mul]
  rfl

/-- A chunk adds its part to the gradient of the query rows. -/
theorem dq_step (A : FVec Ideal S1024x256 .f32) (r : Fin 1024) (d : Fin 256) :
    @Eq EReal (k0_pay23 Q O L D A K W (ix2 r d)) (A (ix2 r d) + (∑ k, ds X h (ρ r) (χ k) * kf X h (χ k) d : ℝ)) := by
  pointwise [k0_pay23, k0_pay20, ds_real T C, C.k]
  simp only [← EReal.coe_mul, ← coe_sum]

/-- A tile adds its part to the gradient of the key rows. -/
theorem dk_step (A : FVec Ideal S1x1024x256 .f32) (k : Fin 1024) (d : Fin 256) :
    @Eq EReal (k0_pay24 Q O L D K W A (ix2 k d)) (A (ix3 0 k d) + (∑ r, ds X h (ρ r) (χ k) * qf X h (ρ r) d : ℝ)) := by
  pointwise [k0_pay24, ds_real T C, T.q]
  simp only [← EReal.coe_mul, ← coe_sum]

/-- A tile adds its part to the gradient of the values. -/
theorem dv_step (A : FVec Ideal S1x1024x128 .f32) (k : Fin 1024) (d : Fin 128) :
    @Eq EReal (k0_pay26 O (k0_pay21 Q L K) A (ix3 0 k d)) (A (ix3 0 k d) + (∑ r, prob X h (ρ r) (χ k) * ct X (ρ r) h d : ℝ)) := by
  pointwise [k0_pay26, p_real T C, T.o]
  simp only [← EReal.coe_mul, ← coe_sum]

end Cert.KernelIdeal.Value
-- ==== Proof.Stack.lean ====
module

public import proofs.«01_k».proof.Proof.Gen.KernelIdeal.Value
public import proofs.«01_k».proof.Proof.Body
public import Idealize.ShloMosaic.Lib.Pipeline.ValueKit
public import Idealize.ShloMosaic.Lib.Pipeline.ReadBack

@[expose] public section

set_option maxRecDepth 16384

/-! # The four chunks of one grid point, side by side in the accumulators -/

noncomputable section

open Idealize.ShloMosaic Idealize.ShloMosaic.TcCoe Idealize.SL.Sem

namespace Cert.KernelIdeal.Value
open Cert.KernelIdeal Cert.KernelIdeal.Gen Cert.Att

variable {X : Inp} {h : Fin 8} {ρ : Fin 1024 → Fin 4096}

/-- A tile's part of the gradient of a key row. -/
def partK (X : Inp) (h : Fin 8) (ρ : Fin 1024 → Fin 4096) (k : Fin 4096) (d : Fin 256) : ℝ :=
  ∑ r, ds X h (ρ r) k * qf X h (ρ r) d

/-- A tile's part of the gradient of a value row. -/
def partV (X : Inp) (h : Fin 8) (ρ : Fin 1024 → Fin 4096) (k : Fin 4096) (d : Fin 128) : ℝ :=
  ∑ r, prob X h (ρ r) k * ct X (ρ r) h d

/-- The keys and values a grid point holds: all rows of one head. -/
structure Keys (X : Inp) (h : Fin 8) (K : FVec Ideal S1x4096x256 .bf16) (W : FVec Ideal S4096x128 .bf16) : Prop where
  k : ∀ k d, @Eq EReal (K (ix3 0 k d)) (kf X h k d : ℝ)
  v : ∀ k d, @Eq EReal (W (ix2 k d)) (val X k h d : ℝ)

variable {Q : FVec Ideal S1024x256 .bf16} {O : FVec Ideal S1024x128 .bf16} {L D : FVec Ideal S1024x1 .f32}
  {K : FVec Ideal S1x4096x256 .bf16} {W : FVec Ideal S4096x128 .bf16}

/-- A row of the chunk that starts at row `o`. -/
def row (o : ℕ) (ho : o + 1024 ≤ 4096) (k : Fin 1024) : Fin 4096 := ⟨o + k.val, by omega⟩

/-- A chunk of a head's keys and values. -/
theorem chunk_at (H : Keys X h K W) (o : ℕ) (ho : o + 1024 ≤ 4096)
    (i₁ : ∀ a, (![0, o, 0] : Fin 3 → ℕ) a + (![1, 1024, 256] : Fin 3 → ℕ) a ≤ S1x4096x256.size a)
    (i₂ : ∀ a, (![o, 0] : Fin 2 → ℕ) a + (![1024, 128] : Fin 2 → ℕ) a ≤ S4096x128.size a) :
    Chunk X h (row o ho) (View.ld (Val := Elt Ideal) (e' := .bf16) K (Rect.unit (s := S1x4096x256) ![0, o, 0] ![1, 1024, 256] i₁))
      (View.ld (Val := Elt Ideal) (e' := .bf16) W (Rect.unit (s := S4096x128) ![o, 0] ![1024, 128] i₂)) where
  k k d := (View.ld_unit_apply_of (Val := Elt Ideal) (e := .bf16) K _ _ i₁ (ix3 0 k d) (ix3 0 (row o ho k) d) (fun a => by fin_cases a <;> simp [row])).trans (H.k _ _)
  v k d := (View.ld_unit_apply_of (Val := Elt Ideal) (e := .bf16) W _ _ i₂ (ix2 k d) (ix2 (row o ho k) d) (fun a => by fin_cases a <;> simp [row])).trans (H.v _ _)

variable (T : Tile X h ρ Q O L D) (H : Keys X h K W)

include T H

/-- What one chunk's store leaves in the key accumulator. -/
theorem dk_piece (A : FVec Ideal S1x4096x256 .f32) (o : ℕ) (ho : o + 1024 ≤ 4096)
    (i₁ : ∀ a, (![0, o, 0] : Fin 3 → ℕ) a + (![1, 1024, 256] : Fin 3 → ℕ) a ≤ S1x4096x256.size a)
    (i₂ : ∀ a, (![o, 0] : Fin 2 → ℕ) a + (![1024, 128] : Fin 2 → ℕ) a ≤ S4096x128.size a)
    (x : (Rect.unit (s := S1x4096x256) ![0, o, 0] ![1, 1024, 256] i₁).shape.Idx) :
    @Eq EReal (k0_pay25 (k0_pay24 Q O L D (View.ld (Val := Elt Ideal) (e' := .bf16) K (Rect.unit (s := S1x4096x256) ![0, o, 0] ![1, 1024, 256] i₁))
        (View.ld (Val := Elt Ideal) (e' := .bf16) W (Rect.unit (s := S4096x128) ![o, 0] ![1024, 128] i₂))
        (View.ld (Val := Elt Ideal) (e' := .f32) A (Rect.unit (s := S1x4096x256) ![0, o, 0] ![1, 1024, 256] i₁))) x)
      (A ((Rect.unit (s := S1x4096x256) ![0, o, 0] ![1, 1024, 256] i₁).emb x)
        + (partK X h ρ ((Rect.unit (s := S1x4096x256) ![0, o, 0] ![1, 1024, 256] i₁).emb x 1) ((Rect.unit (s := S1x4096x256) ![0, o, 0] ![1, 1024, 256] i₁).emb x 2) : ℝ)) := by
  obtain ⟨k, d, rfl⟩ : ∃ (k : Fin 1024) (d : Fin 256), x = ix3 0 k d :=
    ⟨x 1, x 2, (eq_ix3 x).trans (by congr 1; exact Subsingleton.elim (α := Fin 1) _ _)⟩
  have e : (Rect.unit (s := S1x4096x256) ![0, o, 0] ![1, 1024, 256] i₁).emb (ix3 0 k d) = ix3 0 (row o ho k) d := by
    funext a; apply Fin.ext; fin_cases a <;> simp [row]
  rw [e]
  refine Eq.trans ?_ ((dk_step T (chunk_at H o ho i₁ i₂) (View.ld (Val := Elt Ideal) (e' := .f32) A (Rect.unit (s := S1x4096x256) ![0, o, 0] ![1, 1024, 256] i₁)) k d).trans ?_)
  · pointwise [k0_pay25]
  · rw [View.ld_unit_apply_of (Val := Elt Ideal) (e := .f32) A _ _ i₁ (ix3 0 k d) (ix3 0 (row o ho k) d) (fun a => by fin_cases a <;> simp [row])]
    rfl

/-- What one chunk's store leaves in the value accumulator. -/
theorem dv_piece (A : FVec Ideal S1x4096x128 .f32) (o : ℕ) (ho : o + 1024 ≤ 4096)
    (i₁ : ∀ a, (![0, o, 0] : Fin 3 → ℕ) a + (![1, 1024, 256] : Fin 3 → ℕ) a ≤ S1x4096x256.size a)
    (i₂ : ∀ a, (![o, 0] : Fin 2 → ℕ) a + (![1024, 128] : Fin 2 → ℕ) a ≤ S4096x128.size a)
    (i₃ : ∀ a, (![0, o, 0] : Fin 3 → ℕ) a + (![1, 1024, 128] : Fin 3 → ℕ) a ≤ S1x4096x128.size a)
    (x : (Rect.unit (s := S1x4096x128) ![0, o, 0] ![1, 1024, 128] i₃).shape.Idx) :
    @Eq EReal (k0_pay26 O (k0_pay21 Q L (View.ld (Val := Elt Ideal) (e' := .bf16) K (Rect.unit (s := S1x4096x256) ![0, o, 0] ![1, 1024, 256] i₁))) (View.ld (Val := Elt Ideal) (e' := .f32) A (Rect.unit (s := S1x4096x128) ![0, o, 0] ![1, 1024, 128] i₃)) x)
      (A ((Rect.unit (s := S1x4096x128) ![0, o, 0] ![1, 1024, 128] i₃).emb x)
        + (partV X h ρ ((Rect.unit (s := S1x4096x128) ![0, o, 0] ![1, 1024, 128] i₃).emb x 1) ((Rect.unit (s := S1x4096x128) ![0, o, 0] ![1, 1024, 128] i₃).emb x 2) : ℝ)) := by
  obtain ⟨k, d, rfl⟩ : ∃ (k : Fin 1024) (d : Fin 128), x = ix3 0 k d :=
    ⟨x 1, x 2, (eq_ix3 x).trans (by congr 1; exact Subsingleton.elim (α := Fin 1) _ _)⟩
  have e : (Rect.unit (s := S1x4096x128) ![0, o, 0] ![1, 1024, 128] i₃).emb (ix3 0 k d) = ix3 0 (row o ho k) d := by
    funext a; apply Fin.ext; fin_cases a <;> simp [row]
  rw [e]
  refine (dv_step T (chunk_at H o ho i₁ i₂) (View.ld (Val := Elt Ideal) (e' := .f32) A (Rect.unit (s := S1x4096x128) ![0, o, 0] ![1, 1024, 128] i₃)) k d).trans ?_
  rw [View.ld_unit_apply_of (Val := Elt Ideal) (e := .f32) A _ _ i₃ (ix3 0 k d) (ix3 0 (row o ho k) d) (fun a => by fin_cases a <;> simp [row])]
  rfl

omit T H in
/-- Four chunks of 1024 rows cover an accumulator. -/
theorem covered {n : ℕ} (L : List (View.Piece (Elt Ideal) ⟨3, ![1, 4096, n]⟩ .f32))
    (hL : ∀ o : Fin 4, ∃ p ∈ L, ∃ i, p.1 = Rect.unit ![0, 1024 * o.val, 0] ![1, 1024, n] i) (k : Fin 4096) (d : Fin n) :
    ∃ p ∈ L, (ix3 0 k d : (⟨3, ![1, 4096, n]⟩ : Shape).Idx) ∈ p.1.set := by
  obtain ⟨p, hp, i, e⟩ := hL ⟨k.val / 1024, by omega⟩
  refine ⟨p, hp, ?_⟩
  rw [e, Rect.mem_set_unit]
  intro a
  fin_cases a <;> simp <;> omega

/-- A grid point adds its tile's part to the accumulated gradient of the key rows. -/
theorem dk_stack (A : FVec Ideal S1x4096x256 .f32) (tail : List (View.Piece (Elt Ideal) S1x4096x256 .f32))
    (b0 : ∀ a, (![0, 0, 0] : Fin 3 → ℕ) a + (![1, 1024, 256] : Fin 3 → ℕ) a ≤ S1x4096x256.size a)
    (b1 : ∀ a, (![0, 1024, 0] : Fin 3 → ℕ) a + (![1, 1024, 256] : Fin 3 → ℕ) a ≤ S1x4096x256.size a)
    (b2 : ∀ a, (![0, 2048, 0] : Fin 3 → ℕ) a + (![1, 1024, 256] : Fin 3 → ℕ) a ≤ S1x4096x256.size a)
    (b3 : ∀ a, (![0, 3072, 0] : Fin 3 → ℕ) a + (![1, 1024, 256] : Fin 3 → ℕ) a ≤ S1x4096x256.size a)
    (c0 : ∀ a, (![0, 0] : Fin 2 → ℕ) a + (![1024, 128] : Fin 2 → ℕ) a ≤ S4096x128.size a)
    (c1 : ∀ a, (![1024, 0] : Fin 2 → ℕ) a + (![1024, 128] : Fin 2 → ℕ) a ≤ S4096x128.size a)
    (c2 : ∀ a, (![2048, 0] : Fin 2 → ℕ) a + (![1024, 128] : Fin 2 → ℕ) a ≤ S4096x128.size a)
    (c3 : ∀ a, (![3072, 0] : Fin 2 → ℕ) a + (![1024, 128] : Fin 2 → ℕ) a ≤ S4096x128.size a) (k : Fin 4096) (d : Fin 256) :
    @Eq EReal (View.canon (Val := Elt Ideal) (s := S1x4096x256) (e := .f32) (
        ⟨(Rect.unit (s := S1x4096x256) ![0, 3072, 0] ![1, 1024, 256] b3),
          k0_pay37 Q O L D (View.ld (Val := Elt Ideal) (e' := .bf16) K (Rect.unit (s := S1x4096x256) ![0, 3072, 0] ![1, 1024, 256] b3)) (View.ld (Val := Elt Ideal) (e' := .bf16) W (Rect.unit (s := S4096x128) ![3072, 0] ![1024, 128] c3)) (View.ld (Val := Elt Ideal) (e' := .f32) A (Rect.unit (s := S1x4096x256) ![0, 3072, 0] ![1, 1024, 256] b3))⟩ ::
        ⟨(Rect.unit (s := S1x4096x256) ![0, 2048, 0] ![1, 1024, 256] b2),
          k0_pay31 Q O L D (View.ld (Val := Elt Ideal) (e' := .bf16) K (Rect.unit (s := S1x4096x256) ![0, 2048, 0] ![1, 1024, 256] b2)) (View.ld (Val := Elt Ideal) (e' := .bf16) W (Rect.unit (s := S4096x128) ![2048, 0] ![1024, 128] c2)) (View.ld (Val := Elt Ideal) (e' := .f32) A (Rect.unit (s := S1x4096x256) ![0, 2048, 0] ![1, 1024, 256] b2))⟩ ::
        ⟨(Rect.unit (s := S1x4096x256) ![0, 1024, 0] ![1, 1024, 256] b1),
          k0_pay25 (k0_pay24 Q O L D (View.ld (Val := Elt Ideal) (e' := .bf16) K (Rect.unit (s := S1x4096x256) ![0, 1024, 0] ![1, 1024, 256] b1)) (View.ld (Val := Elt Ideal) (e' := .bf16) W (Rect.unit (s := S4096x128) ![1024, 0] ![1024, 128] c1)) (View.ld (Val := Elt Ideal) (e' := .f32) A (Rect.unit (s := S1x4096x256) ![0, 1024, 0] ![1, 1024, 256] b1)))⟩ ::
        ⟨(Rect.unit (s := S1x4096x256) ![0, 0, 0] ![1, 1024, 256] b0),
          k0_pay18 Q (k0_pay22 Q O L D (View.ld (Val := Elt Ideal) (e' := .bf16) K (Rect.unit (s := S1x4096x256) ![0, 0, 0] ![1, 1024, 256] b0)) (View.ld (Val := Elt Ideal) (e' := .bf16) W (Rect.unit (s := S4096x128) ![0, 0] ![1024, 128] c0))) (View.ld (Val := Elt Ideal) (e' := .f32) A (Rect.unit (s := S1x4096x256) ![0, 0, 0] ![1, 1024, 256] b0))⟩ :: tail) (ix3 0 k d))
      (A (ix3 0 k d) + (partK X h ρ k d : ℝ)) := by
  refine View.canon_append_of_piecesOf (Val := Elt Ideal) (s := S1x4096x256) (e := .f32)
    (fun y => (show EReal from A y) + (partK X h ρ (y 1) (y 2) : ℝ)) tail [_, _, _, _]
    ⟨fun x => ?_, fun x => ?_, fun x => ?_, fun x => ?_, trivial⟩ (ix3 0 k d) ?_
  · exact dk_piece T H A 3072 (by norm_num) b3 c3 x
  · exact dk_piece T H A 2048 (by norm_num) b2 c2 x
  · exact dk_piece T H A 1024 (by norm_num) b1 c1 x
  · exact dk_piece T H A 0 (by norm_num) b0 c0 x
  · refine covered _ (fun o => ?_) k d
    fin_cases o
    · exact ⟨_, .tail _ (.tail _ (.tail _ (.head _))), b0, rfl⟩
    · exact ⟨_, .tail _ (.tail _ (.head _)), b1, rfl⟩
    · exact ⟨_, .tail _ (.head _), b2, rfl⟩
    · exact ⟨_, .head _, b3, rfl⟩

/-- A grid point adds its tile's part to the accumulated gradient of the value rows. -/
theorem dv_stack (A : FVec Ideal S1x4096x128 .f32) (tail : List (View.Piece (Elt Ideal) S1x4096x128 .f32))
    (b0 : ∀ a, (![0, 0, 0] : Fin 3 → ℕ) a + (![1, 1024, 256] : Fin 3 → ℕ) a ≤ S1x4096x256.size a)
    (b1 : ∀ a, (![0, 1024, 0] : Fin 3 → ℕ) a + (![1, 1024, 256] : Fin 3 → ℕ) a ≤ S1x4096x256.size a)
    (b2 : ∀ a, (![0, 2048, 0] : Fin 3 → ℕ) a + (![1, 1024, 256] : Fin 3 → ℕ) a ≤ S1x4096x256.size a)
    (b3 : ∀ a, (![0, 3072, 0] : Fin 3 → ℕ) a + (![1, 1024, 256] : Fin 3 → ℕ) a ≤ S1x4096x256.size a)
    (c0 : ∀ a, (![0, 0] : Fin 2 → ℕ) a + (![1024, 128] : Fin 2 → ℕ) a ≤ S4096x128.size a)
    (c1 : ∀ a, (![1024, 0] : Fin 2 → ℕ) a + (![1024, 128] : Fin 2 → ℕ) a ≤ S4096x128.size a)
    (c2 : ∀ a, (![2048, 0] : Fin 2 → ℕ) a + (![1024, 128] : Fin 2 → ℕ) a ≤ S4096x128.size a)
    (c3 : ∀ a, (![3072, 0] : Fin 2 → ℕ) a + (![1024, 128] : Fin 2 → ℕ) a ≤ S4096x128.size a)
    (a0 : ∀ a, (![0, 0, 0] : Fin 3 → ℕ) a + (![1, 1024, 128] : Fin 3 → ℕ) a ≤ S1x4096x128.size a)
    (a1 : ∀ a, (![0, 1024, 0] : Fin 3 → ℕ) a + (![1, 1024, 128] : Fin 3 → ℕ) a ≤ S1x4096x128.size a)
    (a2 : ∀ a, (![0, 2048, 0] : Fin 3 → ℕ) a + (![1, 1024, 128] : Fin 3 → ℕ) a ≤ S1x4096x128.size a)
    (a3 : ∀ a, (![0, 3072, 0] : Fin 3 → ℕ) a + (![1, 1024, 128] : Fin 3 → ℕ) a ≤ S1x4096x128.size a) (k : Fin 4096) (d : Fin 128) :
    @Eq EReal (View.canon (Val := Elt Ideal) (s := S1x4096x128) (e := .f32) (
        ⟨(Rect.unit (s := S1x4096x128) ![0, 3072, 0] ![1, 1024, 128] a3),
          k0_pay1 O (k0_pay38 (View.ld (Val := Elt Ideal) (e' := .f32) A (Rect.unit (s := S1x4096x128) ![0, 3072, 0] ![1, 1024, 128] a3))) (k0_pay39 Q L (View.ld (Val := Elt Ideal) (e' := .bf16) K (Rect.unit (s := S1x4096x256) ![0, 3072, 0] ![1, 1024, 256] b3)))⟩ ::
        ⟨(Rect.unit (s := S1x4096x128) ![0, 2048, 0] ![1, 1024, 128] a2),
          k0_pay32 O (k0_pay28 Q L (View.ld (Val := Elt Ideal) (e' := .bf16) K (Rect.unit (s := S1x4096x256) ![0, 2048, 0] ![1, 1024, 256] b2))) (View.ld (Val := Elt Ideal) (e' := .f32) A (Rect.unit (s := S1x4096x128) ![0, 2048, 0] ![1, 1024, 128] a2))⟩ ::
        ⟨(Rect.unit (s := S1x4096x128) ![0, 1024, 0] ![1, 1024, 128] a1),
          k0_pay26 O (k0_pay21 Q L (View.ld (Val := Elt Ideal) (e' := .bf16) K (Rect.unit (s := S1x4096x256) ![0, 1024, 0] ![1, 1024, 256] b1))) (View.ld (Val := Elt Ideal) (e' := .f32) A (Rect.unit (s := S1x4096x128) ![0, 1024, 0] ![1, 1024, 128] a1))⟩ ::
        ⟨(Rect.unit (s := S1x4096x128) ![0, 0, 0] ![1, 1024, 128] a0),
          k0_pay19 O (k0_pay21 Q L (View.ld (Val := Elt Ideal) (e' := .bf16) K (Rect.unit (s := S1x4096x256) ![0, 0, 0] ![1, 1024, 256] b0))) (View.ld (Val := Elt Ideal) (e' := .f32) A (Rect.unit (s := S1x4096x128) ![0, 0, 0] ![1, 1024, 128] a0))⟩ :: tail) (ix3 0 k d))
      (A (ix3 0 k d) + (partV X h ρ k d : ℝ)) := by
  refine View.canon_append_of_piecesOf (Val := Elt Ideal) (s := S1x4096x128) (e := .f32)
    (fun y => (show EReal from A y) + (partV X h ρ (y 1) (y 2) : ℝ)) tail [_, _, _, _]
    ⟨fun x => ?_, fun x => ?_, fun x => ?_, fun x => ?_, trivial⟩ (ix3 0 k d) ?_
  · exact dv_piece T H A 3072 (by norm_num) b3 c3 a3 x
  · exact dv_piece T H A 2048 (by norm_num) b2 c2 a2 x
  · exact dv_piece T H A 1024 (by norm_num) b1 c1 a1 x
  · exact dv_piece T H A 0 (by norm_num) b0 c0 a0 x
  · refine covered _ (fun o => ?_) k d
    fin_cases o
    · exact ⟨_, .tail _ (.tail _ (.tail _ (.head _))), a0, rfl⟩
    · exact ⟨_, .tail _ (.tail _ (.head _)), a1, rfl⟩
    · exact ⟨_, .tail _ (.head _), a2, rfl⟩
    · exact ⟨_, .head _, a3, rfl⟩

end Cert.KernelIdeal.Value
-- ==== Proof.Blocks.lean ====
module

public import proofs.«01_k».proof.Proof.Saved
public import proofs.«01_k».proof.Proof.Stack

@[expose] public section

set_option maxRecDepth 16384

/-! # The blocks a grid point holds, as real numbers

Point `t` of the grid holds the query tile `t % 4` of the head `t / 4`, and all keys and values of that head. -/

noncomputable section

open Idealize.ShloMosaic Idealize.ShloMosaic.TcCoe Idealize.SL.Sem

namespace Cert.KernelIdeal.Value
open Cert.KernelIdeal Cert.KernelIdeal.Gen Cert.Att

variable {m : (ℓ : Loc nD τ sig) → Buf (Elt Ideal) ℓ} {c : Dev nD} {X : Inp} (R : Reads m c X)

/-- The head a point works on. -/
def headOf (t : ℕ) : Fin 8 := ⟨t / 4 % 8, by omega⟩

/-- The query rows a point works on. -/
def tileRow (t : ℕ) (r : Fin 1024) : Fin 4096 := ⟨t % 4 * 1024 + r.val, by omega⟩

/-- Which block of each argument a point holds. -/
theorem idx : ∀ t : Fin cfg0.N, win0_0.index t = ![t.val / 4, t.val % 4, 0] ∧ win0_1.index t = ![t.val / 4, 0, 0]
    ∧ win0_2.index t = ![0, t.val / 4 * 2 + 1] ∧ win0_3.index t = ![t.val % 4, t.val / 4] ∧ win0_4.index t = ![t.val % 4, t.val / 4]
    ∧ win0_5.index t = ![t.val / 4, t.val % 4, 0] ∧ win0_6.index t = ![t.val % 4, 0] ∧ win0_7.index t = ![t.val % 4, 0] ∧ t.val < 32 :=
  (by decide +kernel : ∀ t : Fin grid0.N, _)

/-- The block of the query rows. -/
theorem iblk_q (t : Fin cfg0.N) (r : Fin 1024) (d : Fin 256) :
    @Eq EReal (iblk m c 0 t (ix3 0 r d)) (V m c main_v42 (ix3 (headOf t) (tileRow t r) d)) := by
  obtain ⟨e0, e1, e2, e3, e4, e5, e6, e7, hN⟩ := idx t
  blk_ext [iblk, e0, headOf, tileRow]

/-- The block of the keys. -/
theorem iblk_k (t : Fin cfg0.N) (r : Fin 4096) (d : Fin 256) :
    @Eq EReal (iblk m c 1 t (ix3 0 r d)) (V m c main_v46 (ix3 (headOf t) r d)) := by
  obtain ⟨e0, e1, e2, e3, e4, e5, e6, e7, hN⟩ := idx t
  blk_ext [iblk, e1, headOf, tileRow]

/-- The block of the values. -/
theorem iblk_v (t : Fin cfg0.N) (r : Fin 4096) (d : Fin 128) :
    @Eq EReal (iblk m c 2 t (ix2 r d)) (V m c main_v70 (ix2 r ⟨(headOf t).val * 256 + 128 + d.val, by omega⟩)) := by
  obtain ⟨e0, e1, e2, e3, e4, e5, e6, e7, hN⟩ := idx t
  blk_ext [iblk, e2, headOf, tileRow]

/-- The block of the result's gradient. -/
theorem iblk_g (t : Fin cfg0.N) (r : Fin 1024) (d : Fin 128) :
    @Eq EReal (iblk m c 3 t (ix2 r d)) (V m c main_v71 (ix2 (tileRow t r) ⟨(headOf t).val * 128 + d.val, by omega⟩)) := by
  obtain ⟨e0, e1, e2, e3, e4, e5, e6, e7, hN⟩ := idx t
  blk_ext [iblk, e3, headOf, tileRow]

/-- The block of the saved result. -/
theorem iblk_o (t : Fin cfg0.N) (r : Fin 1024) (d : Fin 128) :
    @Eq EReal (iblk m c 4 t (ix2 r d)) (V m c main_v72 (ix2 (tileRow t r) ⟨(headOf t).val * 128 + d.val, by omega⟩)) := by
  obtain ⟨e0, e1, e2, e3, e4, e5, e6, e7, hN⟩ := idx t
  blk_ext [iblk, e4, headOf, tileRow]

/-- The block of the saved logarithms. -/
theorem iblk_l (t : Fin cfg0.N) (r : Fin 1024) :
    @Eq EReal (iblk m c 5 t (ix3 0 r 0)) (V m c main_v62 (ix3 (headOf t) (tileRow t r) 0)) := by
  obtain ⟨e0, e1, e2, e3, e4, e5, e6, e7, hN⟩ := idx t
  blk_ext [iblk, e5, headOf, tileRow]

/-- The block of the cosines. -/
theorem iblk_c (t : Fin cfg0.N) (r : Fin 1024) (j : Fin 128) :
    @Eq EReal (iblk m c 6 t (ix2 r j)) (V m c main_v15 (ix2 (tileRow t r) j)) := by
  obtain ⟨e0, e1, e2, e3, e4, e5, e6, e7, hN⟩ := idx t
  blk_ext [iblk, e6, headOf, tileRow]

/-- The block of the sines. -/
theorem iblk_s (t : Fin cfg0.N) (r : Fin 1024) (j : Fin 128) :
    @Eq EReal (iblk m c 7 t (ix2 r j)) (V m c main_v17 (ix2 (tileRow t r) j)) := by
  obtain ⟨e0, e1, e2, e3, e4, e5, e6, e7, hN⟩ := idx t
  blk_ext [iblk, e7, headOf, tileRow]

end Cert.KernelIdeal.Value
-- ==== Proof.Outs.lean ====
module

public import proofs.«01_k».proof.Proof.Stack

@[expose] public section

set_option maxRecDepth 16384

/-! # From the sums of a grid point to the gradients it writes -/

noncomputable section

open Idealize.ShloMosaic Idealize.ShloMosaic.TcCoe Idealize.SL.Sem

namespace Cert.KernelIdeal.Value
open Cert.KernelIdeal Cert.KernelIdeal.Gen Cert.Att

variable {X : Inp} {h : Fin 8} {ρ : Fin 1024 → Fin 4096}

/-- The sum over all key rows that makes the gradient of a query row, on the padded lanes. -/
def sumQ (X : Inp) (h : Fin 8) (r : Fin 4096) (d : Fin 256) : ℝ := ∑ k, ds X h r k * kf X h k d

/-- The sum, scaled, is the gradient on the first 192 lanes and zero behind them. -/
theorem sumQ_sc (r : Fin 4096) (d : Fin 256) : sumQ X h r d * sc = if hd : d.val < 192 then dq X r h ⟨d.val, hd⟩ else 0 := by
  by_cases hd : d.val < 192
  · simp only [sumQ, kf, dif_pos hd, dq]
  · simp only [sumQ, kf, dif_neg hd, mul_zero, Finset.sum_const_zero, zero_mul]

/-- The sum over all query rows that makes the gradient of a key row is the gradient over the logarithm of two. -/
theorem sumK_log (k : Fin 4096) (d : Fin 256) (hd : d.val < 192) :
    (∑ r, ds X h r k * qf X h r d) * Real.log 2 = dk X k h ⟨d.val, hd⟩ := by
  simp only [qf, dif_pos hd, dk]
  rw [Finset.sum_mul, Finset.sum_mul]
  refine Finset.sum_congr rfl fun r _ => ?_
  have := log_two_pos.ne'
  field_simp

variable {Q : FVec Ideal S1024x256 .bf16} {O : FVec Ideal S1024x128 .bf16} {L D : FVec Ideal S1024x1 .f32}
  {K : FVec Ideal S1x4096x256 .bf16} {W : FVec Ideal S4096x128 .bf16}

/-- The four chunks one after another sum over all key rows. -/
theorem dq_total (T : Tile X h ρ Q O L D) (H : Keys X h K W) (b0 b1 b2 b3 c0 c1 c2 c3) (r : Fin 1024) (d : Fin 256) :
    @Eq EReal (k0_pay36 Q O L D (k0_pay30 Q O L D (k0_pay23 Q O L D (k0_pay23 Q O L D (broadcast S1024x256 (Scalar.ofBits .f32 0x00000000#32))
        (View.ld (Val := Elt Ideal) (e' := .bf16) K (Rect.unit (s := S1x4096x256) ![0, 0, 0] ![1, 1024, 256] b0))
        (View.ld (Val := Elt Ideal) (e' := .bf16) W (Rect.unit (s := S4096x128) ![0, 0] ![1024, 128] c0)))
        (View.ld (Val := Elt Ideal) (e' := .bf16) K (Rect.unit (s := S1x4096x256) ![0, 1024, 0] ![1, 1024, 256] b1))
        (View.ld (Val := Elt Ideal) (e' := .bf16) W (Rect.unit (s := S4096x128) ![1024, 0] ![1024, 128] c1)))
        (View.ld (Val := Elt Ideal) (e' := .bf16) K (Rect.unit (s := S1x4096x256) ![0, 2048, 0] ![1, 1024, 256] b2))
        (View.ld (Val := Elt Ideal) (e' := .bf16) W (Rect.unit (s := S4096x128) ![2048, 0] ![1024, 128] c2)))
        (View.ld (Val := Elt Ideal) (e' := .bf16) K (Rect.unit (s := S1x4096x256) ![0, 3072, 0] ![1, 1024, 256] b3))
        (View.ld (Val := Elt Ideal) (e' := .bf16) W (Rect.unit (s := S4096x128) ![3072, 0] ![1024, 128] c3)) (ix2 r d))
      (sumQ X h (ρ r) d : ℝ) := by
  refine (dq_step T (chunk_at H 3072 (by omega) b3 c3) _ r d).trans ?_
  refine (congrArg (· + _) ((dq_step T (chunk_at H 2048 (by omega) b2 c2) _ r d).trans
    (congrArg (· + _) ((dq_step T (chunk_at H 1024 (by omega) b1 c1) _ r d).trans
      (congrArg (· + _) (dq_step T (chunk_at H 0 (by omega) b0 c0) _ r d)))))).trans ?_
  have z : @Eq EReal (broadcast S1024x256 (Scalar.ofBits .f32 0x00000000#32 : Ideal .f32) (ix2 r d)) 0 := by pointwise
  rw [z, zero_add]
  simp only [← EReal.coe_add]
  rw [sumQ, sum_blocks, Fin.sum_univ_four]
  have e : ∀ (b : Fin 4) (o : ℕ) (ho : o + 1024 ≤ 4096), b.val * 1024 = o → ∀ k : Fin 1024, (⟨b.val * 1024 + k.val, by omega⟩ : Fin 4096) = row o ho k :=
    fun b o ho hb k => Fin.ext (by simp only [row, hb])
  simp only [e 0 0 (by omega) rfl, e 1 1024 (by omega) rfl, e 2 2048 (by omega) rfl, e 3 3072 (by omega) rfl]

/-- The score's factor, as the kernel names it. -/
theorem named_scale : @Eq EReal (Named.named (F := Ideal) (φ := .f32) κ "scale" 0x3D93CD3A#32) (sc : ℝ) :=
  (IdealRules.named_const.ideal_named_scalar κ "scale" (φ := .f32) 0x3D93CD3A#32 (((Real.sqrt 192)⁻¹ : ℝ) : EReal) rfl).trans (by rw [sc, one_div])

/-- The logarithm of two, as the kernel names it. -/
theorem named_ln2 : @Eq EReal (Named.named (F := Ideal) (φ := .f32) κ "ln2" 0x3F317218#32) (Real.log 2 : ℝ) :=
  IdealRules.named_const.ideal_named_scalar κ "ln2" (φ := .f32) 0x3F317218#32 ((Real.log 2 : ℝ) : EReal) rfl

/-- The first 128 lanes of the scaled sum. -/
theorem pay3_real (A : FVec Ideal S1024x256 .f32) (f : Fin 1024 → Fin 256 → ℝ) (hA : ∀ r d, @Eq EReal (A (ix2 r d)) (f r d : ℝ))
    (r : Fin 1024) (d : Fin 128) : @Eq EReal (k0_pay3 A (ix2 r d)) (f r ⟨d.val, by omega⟩ * sc : ℝ) := by
  pointwise [k0_pay3, k0_pay2, hA]
  rw [named_scale, ← EReal.coe_mul]

/-- The other lanes of the scaled sum, turned back by the angles of the rows. -/
theorem pay4_real (A : FVec Ideal S1024x256 .f32) (f : Fin 1024 → Fin 256 → ℝ) (hA : ∀ r d, @Eq EReal (A (ix2 r d)) (f r d : ℝ))
    (C S : FVec Ideal S1024x128 .f32) (co si : Fin 1024 → Fin 128 → ℝ) (hC : ∀ r d, @Eq EReal (C (ix2 r d)) (co r d : ℝ))
    (hS : ∀ r d, @Eq EReal (S (ix2 r d)) (si r d : ℝ)) (r : Fin 1024) (d : Fin 128) :
    @Eq EReal (k0_pay4 A C S (ix2 r d)) (f r ⟨128 + d.val, by omega⟩ * sc * co r d
      + (if d.val < 32 then f r ⟨128 + (d.val + 32) % 128, by omega⟩ * sc else f r ⟨128 + (d.val + 96) % 128, by omega⟩ * sc) * si r d : ℝ) := by
  pointwise [k0_pay4, k0_pay2, hA, hC, hS]
  rw [named_scale]
  have e : ∀ d : Fin 128, IntOp.cmpi CmpIPredicate.slt (BitVec.ofNat 32 d.val) 32#32 = if d.val < 32 then 1#1 else 0#1 := by decide +kernel
  have e₁ : (d.val + 128 - 96) % 128 = (d.val + 32) % 128 := by omega
  have e₂ : (d.val + 128 - 32) % 128 = (d.val + 96) % 128 := by omega
  simp only [e, e₁, e₂]
  by_cases hd : d.val < 32
  · simp only [if_pos hd]
    simp only [Scalar.select, ← EReal.coe_mul]
    rw [if_pos (by decide), ← EReal.coe_mul, ← EReal.coe_add]
  · simp only [if_neg hd]
    simp only [Scalar.select, ← EReal.coe_mul]
    rw [if_neg (by decide), ← EReal.coe_mul, ← EReal.coe_add]

/-- The key sums times the logarithm of two. -/
theorem pay5_real (A : FVec Ideal S1x4096x256 .f32) (f : Fin 4096 → Fin 256 → ℝ) (hA : ∀ r d, @Eq EReal (A (ix3 0 r d)) (f r d : ℝ))
    (r : Fin 4096) (d : Fin 256) : @Eq EReal (k0_pay5 (F := Ideal) A (ix2 r d)) (f r d * Real.log 2 : ℝ) := by
  pointwise [k0_pay5, hA]
  rw [named_ln2, ← EReal.coe_mul]

/-- Keys and values side by side. -/
theorem pay6_real (A : FVec Ideal S1x4096x256 .f32) (f : Fin 4096 → Fin 256 → ℝ) (hA : ∀ r d, @Eq EReal (A (ix3 0 r d)) (f r d : ℝ))
    (B : FVec Ideal S1x4096x128 .f32) (g : Fin 4096 → Fin 128 → ℝ) (hB : ∀ r d, @Eq EReal (B (ix3 0 r d)) (g r d : ℝ))
    (r : Fin 4096) (d : Fin 256) : @Eq EReal (k0_pay6 (F := Ideal) A B (ix2 r d))
      (if h : d.val < 128 then f r d * Real.log 2 else g r ⟨d.val - 128, by omega⟩ : ℝ) := by
  by_cases h : d.val < 128
  · rw [dif_pos h]
    pointwise [k0_pay6, pay5_real A f hA, hB]
    exact dif_pos h
  · rw [dif_neg h]
    pointwise [k0_pay6, pay5_real A f hA, hB]
    exact dif_neg h

/-- The rotated lanes of the keys. -/
theorem pay7_real (A : FVec Ideal S1x4096x256 .f32) (f : Fin 4096 → Fin 256 → ℝ) (hA : ∀ r d, @Eq EReal (A (ix3 0 r d)) (f r d : ℝ))
    (r : Fin 4096) (d : Fin 64) : @Eq EReal (k0_pay7 (F := Ideal) A (ix3 0 r d)) (f r ⟨128 + d.val, by omega⟩ * Real.log 2 : ℝ) := by
  pointwise [k0_pay7, pay5_real A f hA]

end Cert.KernelIdeal.Value
-- ==== Proof.Acc.lean ====
module

public import proofs.«01_k».proof.Proof.Blocks
public import proofs.«01_k».proof.Proof.Outs

@[expose] public section

set_option maxRecDepth 16384

/-! # What the grid's points leave in the accumulators and in the results' blocks -/

noncomputable section

open Idealize.ShloMosaic Idealize.ShloMosaic.TcCoe Idealize.SL.Sem

namespace Cert.KernelIdeal.Value
open Cert.KernelIdeal Cert.KernelIdeal.Gen Cert.Att

variable {m : (ℓ : Loc nD τ sig) → Buf (Elt Ideal) ℓ} {c : Dev nD} {X : Inp} (R : Reads m c X)

/-- The correction a point computes from the result and its gradient. -/
theorem pay13_at (G O : FVec Ideal S1024x128 .bf16) (r : Fin 1024) :
    @Eq EReal (k0_pay13 (F := Ideal) G O (ix2 r 0)) (∑ d : Fin 128, G (ix2 r d) * O (ix2 r d)) := by
  pointwise [k0_pay13, k0_pay11]

include R

/-- A point holds all keys and values of its head. -/
theorem keys_at (t : Fin cfg0.N) : Keys X (headOf t) (iblk m c 1 t) (iblk m c 2 t) where
  k k d := (iblk_k t k d).trans (v46_real R _ _ _)
  v k d := (iblk_v t k d).trans ((v70_real R _ _).trans (by
    congr 2 <;> (apply Fin.ext; dsimp only; omega)))

/-- A point holds the result's gradient on its tile. -/
theorem g_at (t : Fin cfg0.N) (r : Fin 1024) (d : Fin 128) :
    @Eq EReal (iblk m c 3 t (ix2 r d)) (ct X (tileRow t r) (headOf t) d : ℝ) :=
  (iblk_g t r d).trans (v71_real R _ _)

/-- A point holds the query rows of its tile, their saved logarithms and the corrections. -/
theorem tile_at (t : Fin cfg0.N) : Tile X (headOf t) (tileRow t) (k0_pay10 (iblk m c 0 t)) (k0_pay11 (iblk m c 3 t))
    (k0_pay12 (iblk m c 5 t)) (k0_pay13 (iblk m c 3 t) (iblk m c 4 t)) where
  q r d := by
    pointwise [k0_pay10]
    exact (iblk_q t r d).trans (v42_real R _ _ _)
  o r d := by
    pointwise [k0_pay11]
    exact g_at R t r d
  l r := by
    pointwise [k0_pay12]
    exact (iblk_l t r).trans (v62_real R _ _)
  d r := by
    rw [pay13_at, ← delta_eq, coe_sum]
    refine Finset.sum_congr rfl fun d _ => ?_
    rw [g_at R, iblk_o, v72_real R, ← EReal.coe_mul]
    have e₁ : (⟨((headOf t).val * 128 + d.val) / 128, by omega⟩ : Fin 8) = headOf t := Fin.ext (by dsimp only; omega)
    have e₂ : (⟨((headOf t).val * 128 + d.val) % 128, by omega⟩ : Fin 128) = d := Fin.ext (by dsimp only; omega)
    simp only [e₁, e₂]

omit R in
/-- The key accumulator starts from zeros. -/
theorem pay8_at (k : Fin 4096) (d : Fin 256) : @Eq EReal (k0_pay8 (F := Ideal) (ix3 0 k d)) 0 := by
  pointwise [k0_pay8]

omit R in
/-- The value accumulator starts from zeros. -/
theorem pay9_at (k : Fin 4096) (d : Fin 128) : @Eq EReal (k0_pay9 (F := Ideal) (ix3 0 k d)) 0 := by
  pointwise [k0_pay9]

/-- After the point on tile `n` of a head the two accumulators hold the parts of the head's tiles so far. -/
theorem acc_real (n : ℕ) : ∀ t : Fin cfg0.N, t.val % 4 = n →
    (∀ k d, @Eq EReal ((outsAt0 m c t.val t.isLt).2.2.2.2.1 (ix3 0 k d)) (∑ s ∈ Finset.range (n + 1), partK X (headOf t) (tileRow s) k d : ℝ))
    ∧ (∀ k d, @Eq EReal ((outsAt0 m c t.val t.isLt).2.2.2.2.2 (ix3 0 k d)) (∑ s ∈ Finset.range (n + 1), partV X (headOf t) (tileRow s) k d : ℝ)) := by
  induction n with
  | zero =>
    intro t ht
    have h1 : ¬t.val % 4 = 3 := by omega
    have e : tileRow t = tileRow 0 := by funext r; apply Fin.ext; dsimp only [tileRow]; omega
    constructor
    · intro k d
      rw [outsAt0_A m c t ht h1]
      frame_out
      simp (disch := decide) only [↓ View.readCov_skip, ↓ View.readCov_cons_toLoadRect, ↓ View.readCov_fill]
      refine (dk_stack (tile_at R t) (keys_at R t) k0_pay8 [_] _ _ _ _ _ _ _ _ k d).trans ?_
      rw [pay8_at, zero_add, Finset.sum_range_one, e]
    · intro k d
      rw [outsAt0_A m c t ht h1]
      frame_out
      simp (disch := decide) only [↓ View.readCov_skip, ↓ View.readCov_cons_toLoadRect, ↓ View.readCov_fill]
      refine (dv_stack (tile_at R t) (keys_at R t) k0_pay9 [_] _ _ _ _ (by decide) (by decide) (by decide) (by decide) _ _ _ _ k d).trans ?_
      rw [pay9_at, zero_add, Finset.sum_range_one, e]
  | succ n ih =>
    intro t ht
    have h0 : ¬t.val % 4 = 0 := by omega
    have hN : t.val < 32 := (idx t).2.2.2.2.2.2.2.2
    have e : tileRow t = tileRow (n + 1) := by funext r; apply Fin.ext; dsimp only [tileRow]; omega
    have hp : t.val - 1 < cfg0.N := lt_of_le_of_lt (Nat.sub_le _ _) t.isLt
    have eh : headOf (t.val - 1) = headOf t := by apply Fin.ext; dsimp only [headOf]; omega
    obtain ⟨i₁, i₂⟩ := ih ⟨t.val - 1, hp⟩ (by dsimp only; omega)
    dsimp only at i₁ i₂
    rw [eh] at i₁ i₂
    constructor
    · intro k d
      by_cases h1 : t.val % 4 = 3
      · rw [outsAt0_C m c t h0 h1]
        frame_out
        simp only [read_unread_whole]
        refine (dk_stack (tile_at R t) (keys_at R t) _ [] _ _ _ _ _ _ _ _ k d).trans ?_
        rw [i₁, ← EReal.coe_add, Finset.sum_range_succ _ (n + 1), e]
      · rw [outsAt0_B m c t h0 h1]
        frame_out
        simp only [read_unread_whole]
        refine (dk_stack (tile_at R t) (keys_at R t) _ [] _ _ _ _ _ _ _ _ k d).trans ?_
        rw [i₁, ← EReal.coe_add, Finset.sum_range_succ _ (n + 1), e]
    · intro k d
      by_cases h1 : t.val % 4 = 3
      · rw [outsAt0_C m c t h0 h1]
        frame_out
        simp only [read_unread_whole]
        refine (dv_stack (tile_at R t) (keys_at R t) _ [] _ _ _ _ (by decide) (by decide) (by decide) (by decide) _ _ _ _ k d).trans ?_
        rw [i₂, ← EReal.coe_add, Finset.sum_range_succ _ (n + 1), e]
      · rw [outsAt0_B m c t h0 h1]
        frame_out
        simp only [read_unread_whole]
        refine (dv_stack (tile_at R t) (keys_at R t) _ [] _ _ _ _ (by decide) (by decide) (by decide) (by decide) _ _ _ _ k d).trans ?_
        rw [i₂, ← EReal.coe_add, Finset.sum_range_succ _ (n + 1), e]

/-- What a point writes of the gradient of its query rows: the lanes that weren't rotated. -/
theorem out8_real (t : Fin cfg0.N) (r : Fin 1024) (d : Fin 128) :
    @Eq EReal ((outsAt0 m c t.val t.isLt).1 (ix2 r d)) (dq X (tileRow t r) (headOf t) ⟨d.val, by omega⟩ : ℝ) := by
  have e : dq X (tileRow t r) (headOf t) ⟨d.val, by omega⟩ = sumQ X (headOf t) (tileRow t r) ⟨d.val, by omega⟩ * sc := by
    rw [sumQ_sc, dif_pos (by dsimp only; omega)]
  rw [e]
  by_cases h0 : t.val % 4 = 0
  · have h1 : ¬t.val % 4 = 3 := by omega
    rw [outsAt0_A m c t h0 h1]
    frame_out
    exact pay3_real _ (fun r d => sumQ X (headOf t) (tileRow t r) d) (dq_total (tile_at R t) (keys_at R t) _ _ _ _ _ _ _ _) r d
  · by_cases h1 : t.val % 4 = 3
    · rw [outsAt0_C m c t h0 h1]
      frame_out
      exact pay3_real _ (fun r d => sumQ X (headOf t) (tileRow t r) d) (dq_total (tile_at R t) (keys_at R t) _ _ _ _ _ _ _ _) r d
    · rw [outsAt0_B m c t h0 h1]
      frame_out
      exact pay3_real _ (fun r d => sumQ X (headOf t) (tileRow t r) d) (dq_total (tile_at R t) (keys_at R t) _ _ _ _ _ _ _ _) r d

/-- What a point writes of the gradient of its query rows: the lanes turned back. -/
theorem out9_real (t : Fin cfg0.N) (r : Fin 1024) (d : Fin 128) :
    @Eq EReal ((outsAt0 m c t.val t.isLt).2.1 (ix2 r d)) (dqr X (tileRow t r) (headOf t) d : ℝ) := by
  have hC : ∀ (r : Fin 1024) (d : Fin 128), @Eq EReal (iblk m c 6 t (ix2 r d)) _ := fun r d => (iblk_c t r d).trans (v15_real R (tileRow t r) d)
  have hS : ∀ (r : Fin 1024) (d : Fin 128), @Eq EReal (iblk m c 7 t (ix2 r d)) _ := fun r d => (iblk_s t r d).trans (v17_real R (tileRow t r) d)
  have key := fun A hA => pay4_real A (fun r d => sumQ X (headOf t) (tileRow t r) d) hA (iblk m c 6 t) (iblk m c 7 t) _ _ hC hS r d
  have e : sumQ X (headOf t) (tileRow t r) ⟨128 + d.val, by omega⟩ * sc
        * (if h : d.val < 32 then X.co (tileRow t r) ⟨d.val, h⟩ else if h₂ : d.val < 64 then X.co (tileRow t r) ⟨d.val - 32, by omega⟩ else 0)
      + (if d.val < 32 then sumQ X (headOf t) (tileRow t r) ⟨128 + (d.val + 32) % 128, by omega⟩ * sc
          else sumQ X (headOf t) (tileRow t r) ⟨128 + (d.val + 96) % 128, by omega⟩ * sc)
        * (if h : d.val < 32 then X.si (tileRow t r) ⟨d.val, h⟩ else if h₂ : d.val < 64 then -X.si (tileRow t r) ⟨d.val - 32, by omega⟩ else 0)
      = dqr X (tileRow t r) (headOf t) d := by
    simp only [sumQ_sc]
    unfold dqr
    by_cases h₁ : d.val < 32
    · have e₁ : 128 + (d.val + 32) % 128 = 160 + d.val := by omega
      simp only [h₁, if_true, dif_pos, e₁]
      rw [dif_pos (by omega), dif_pos (by omega)]
    · by_cases h₂ : d.val < 64
      · have e₁ : 128 + (d.val + 96) % 128 = 96 + d.val := by omega
        simp only [h₁, h₂, if_false, dif_pos, dif_neg, not_false_eq_true, e₁]
        rw [dif_pos (by omega), dif_pos (by omega)]
        ring
      · simp only [h₁, h₂, dif_neg, not_false_eq_true]
        ring
  rw [e] at key
  by_cases h0 : t.val % 4 = 0
  · have h1 : ¬t.val % 4 = 3 := by omega
    rw [outsAt0_A m c t h0 h1]
    frame_out
    exact key _ (dq_total (tile_at R t) (keys_at R t) _ _ _ _ _ _ _ _)
  · by_cases h1 : t.val % 4 = 3
    · rw [outsAt0_C m c t h0 h1]
      frame_out
      exact key _ (dq_total (tile_at R t) (keys_at R t) _ _ _ _ _ _ _ _)
    · rw [outsAt0_B m c t h0 h1]
      frame_out
      exact key _ (dq_total (tile_at R t) (keys_at R t) _ _ _ _ _ _ _ _)

omit R in
/-- The sums over a head's four tiles are the sums over all its query rows. -/
theorem four_tiles (f : Fin 4096 → ℝ) : ∑ s ∈ Finset.range 4, ∑ r, f (tileRow s r) = ∑ r, f r := by
  rw [sum_blocks f, Finset.sum_range]
  refine Finset.sum_congr rfl fun b _ => Finset.sum_congr rfl fun k _ => congrArg f (Fin.ext ?_)
  simp only [tileRow]
  omega

/-- What the last point of a head writes of the gradients of its keys and values. -/
theorem out10_real (t : Fin cfg0.N) (h1 : t.val % 4 = 3) (k : Fin 4096) (d : Fin 256) :
    @Eq EReal ((outsAt0 m c t.val t.isLt).2.2.1 (ix2 k d))
      (if h : d.val < 128 then dk X k (headOf t) ⟨d.val, by omega⟩ else dv X k (headOf t) ⟨d.val - 128, by omega⟩ : ℝ) := by
  have h0 : ¬t.val % 4 = 0 := by omega
  obtain ⟨hK, hV⟩ := acc_real R 3 t h1
  have key : ∀ A B hA hB, @Eq EReal (k0_pay6 (F := Ideal) A B (ix2 k d)) _ := fun A B hA hB => pay6_real A (fun k d => ∑ s ∈ Finset.range (3 + 1), partK X (headOf t) (tileRow s) k d) hA
    B (fun k d => ∑ s ∈ Finset.range (3 + 1), partV X (headOf t) (tileRow s) k d) hB k d
  have e : (if h : d.val < 128 then (∑ s ∈ Finset.range (3 + 1), partK X (headOf t) (tileRow s) k d) * Real.log 2
        else ∑ s ∈ Finset.range (3 + 1), partV X (headOf t) (tileRow s) k ⟨d.val - 128, by omega⟩)
      = if h : d.val < 128 then dk X k (headOf t) ⟨d.val, by omega⟩ else dv X k (headOf t) ⟨d.val - 128, by omega⟩ := by
    by_cases h : d.val < 128
    · rw [dif_pos h, dif_pos h, ← sumK_log k d (by omega)]
      exact congrArg (· * _) (four_tiles fun r => ds X (headOf t) r k * qf X (headOf t) r d)
    · rw [dif_neg h, dif_neg h]
      exact four_tiles fun r => prob X (headOf t) r k * ct X r (headOf t) ⟨d.val - 128, by omega⟩
  rw [e] at key
  rw [outsAt0_C m c t h0 h1] at hK hV ⊢
  frame_out at hK
  frame_out at hV
  frame_out
  simp only [View.readCov_eq_canon']
  refine key _ _ (fun k d => ?_) (fun k d => ?_)
  · exact (congrArg _ (by funext a; apply Fin.ext; fin_cases a <;> simp)).trans (hK k d)
  · exact (congrArg _ (by funext a; apply Fin.ext; fin_cases a <;> simp)).trans (hV k d)

/-- What the last point of a head writes of the gradient of its keys' rotated lanes. -/
theorem out11_real (t : Fin cfg0.N) (h1 : t.val % 4 = 3) (k : Fin 4096) (d : Fin 64) :
    @Eq EReal ((outsAt0 m c t.val t.isLt).2.2.2.1 (ix3 0 k d)) (dk X k (headOf t) ⟨128 + d.val, by omega⟩ : ℝ) := by
  have h0 : ¬t.val % 4 = 0 := by omega
  obtain ⟨hK, -⟩ := acc_real R 3 t h1
  have key : ∀ A hA, @Eq EReal (k0_pay7 (F := Ideal) A (ix3 0 k d)) _ := fun A hA => pay7_real A (fun k d => ∑ s ∈ Finset.range (3 + 1), partK X (headOf t) (tileRow s) k d) hA k d
  have e : (∑ s ∈ Finset.range (3 + 1), partK X (headOf t) (tileRow s) k ⟨128 + d.val, by omega⟩) * Real.log 2
      = dk X k (headOf t) ⟨128 + d.val, by omega⟩ := by
    rw [← sumK_log k ⟨128 + d.val, by omega⟩ (by dsimp only; omega)]
    exact congrArg (· * _) (four_tiles fun r => ds X (headOf t) r k * qf X (headOf t) r ⟨128 + d.val, by omega⟩)
  rw [e] at key
  rw [outsAt0_C m c t h0 h1] at hK ⊢
  frame_out at hK
  frame_out
  simp only [View.readCov_eq_canon']
  refine key _ (fun k d => ?_)
  exact (congrArg _ (by funext a; apply Fin.ext; fin_cases a <;> simp)).trans (hK k d)

end Cert.KernelIdeal.Value
-- ==== Proof.Values.lean ====
module

public import proofs.«01_k».proof.Proof.Acc

@[expose] public section

set_option maxRecDepth 16384

/-! # The kernel's four results as real numbers -/

noncomputable section

open Idealize.ShloMosaic Idealize.ShloMosaic.TcCoe Idealize.SL.Sem

namespace Cert.KernelIdeal.Value
open Cert.KernelIdeal Cert.KernelIdeal.Gen Cert.Att

variable {m : (ℓ : Loc nD τ sig) → Buf (Elt Ideal) ℓ} {c : Dev nD} {X : Inp} (R : Reads m c X)

include R

/-- The gradient of the query's lanes that aren't rotated. -/
theorem G8_real (r : Fin 4096) (i : Fin 1024) : @Eq EReal (G8 m c (ix2 r i)) (outN X r i : ℝ) := by
  have hp : pt8Of (ix2 r i) < cfg0.N := by
    rw [show cfg0.N = 32 from N_0]; show 1 * (r.val / 1024 - 0) + 4 * (i.val / 128 - 0) < 32; omega
  unfold G8
  rw [dif_pos hp, ← outsAt0_sweep m c _ hp]
  have e : loc8Of (ix2 r i) = ix2 (⟨r.val % 1024, by omega⟩ : Fin 1024) (⟨i.val % 128, by omega⟩ : Fin 128) := by
    funext a; fin_cases a <;> rfl
  rw [e]
  refine (out8_real R ⟨_, hp⟩ _ _).trans (congrArg (fun x : ℝ => (x : EReal)) ?_)
  have e₁ : tileRow (pt8Of (ix2 r i)) ⟨r.val % 1024, by omega⟩ = r := Fin.ext (by
    show (1 * (r.val / 1024 - 0) + 4 * (i.val / 128 - 0)) % 4 * 1024 + r.val % 1024 = r.val; omega)
  have e₂ : headOf (pt8Of (ix2 r i)) = ⟨i.val / 128, by omega⟩ := Fin.ext (by
    show (1 * (r.val / 1024 - 0) + 4 * (i.val / 128 - 0)) / 4 % 8 = i.val / 128; omega)
  simp only [e₁, e₂, outN]

/-- The gradient of the query's rotated lanes. -/
theorem G9_real (r : Fin 4096) (i : Fin 1024) : @Eq EReal (G9 m c (ix2 r i)) (outR X r i : ℝ) := by
  have hp : pt9Of (ix2 r i) < cfg0.N := by
    rw [show cfg0.N = 32 from N_0]; show 1 * (r.val / 1024 - 0) + 4 * (i.val / 128 - 0) < 32; omega
  unfold G9
  rw [dif_pos hp, ← outsAt0_sweep m c _ hp]
  have e : loc9Of (ix2 r i) = ix2 (⟨r.val % 1024, by omega⟩ : Fin 1024) (⟨i.val % 128, by omega⟩ : Fin 128) := by
    funext a; fin_cases a <;> rfl
  rw [e]
  refine (out9_real R ⟨_, hp⟩ _ _).trans (congrArg (fun x : ℝ => (x : EReal)) ?_)
  have e₁ : tileRow (pt9Of (ix2 r i)) ⟨r.val % 1024, by omega⟩ = r := Fin.ext (by
    show (1 * (r.val / 1024 - 0) + 4 * (i.val / 128 - 0)) % 4 * 1024 + r.val % 1024 = r.val; omega)
  have e₂ : headOf (pt9Of (ix2 r i)) = ⟨i.val / 128, by omega⟩ := Fin.ext (by
    show (1 * (r.val / 1024 - 0) + 4 * (i.val / 128 - 0)) / 4 % 8 = i.val / 128; omega)
  simp only [e₁, e₂, outR]

/-- The gradients of the keys' lanes that aren't rotated and of the values. -/
theorem G10_real (r : Fin 4096) (i : Fin 2048) : @Eq EReal (G10 m c (ix2 r i)) (outKV X r i : ℝ) := by
  have hv : pt10Of (ix2 r i) = 4 * (i.val / 256) + 3 := by
    show 4 * (8 * (r.val / 4096 - 0) + 1 * (i.val / 256 - 0)) + 3 = _; omega
  have hp : pt10Of (ix2 r i) < cfg0.N := by rw [show cfg0.N = 32 from N_0, hv]; omega
  unfold G10
  rw [dif_pos hp, ← outsAt0_sweep m c _ hp]
  have e : loc10Of (ix2 r i) = ix2 r (⟨i.val % 256, by omega⟩ : Fin 256) := by
    funext a; fin_cases a
    · exact Fin.ext (show r.val % 4096 = r.val by omega)
    · rfl
  rw [e]
  refine (out10_real R ⟨_, hp⟩ (by dsimp only; omega) _ _).trans (congrArg (fun x : ℝ => (x : EReal)) ?_)
  have e₂ : headOf (pt10Of (ix2 r i)) = ⟨i.val / 256, by omega⟩ := Fin.ext (by
    rw [hv]; show (4 * (i.val / 256) + 3) / 4 % 8 = i.val / 256; omega)
  simp only [e₂, outKV]

/-- The gradient of the keys' rotated lanes. -/
theorem G11_real (h : Fin 8) (k : Fin 4096) (d : Fin 64) : @Eq EReal (G11 m c (ix3 h k d)) (outKR X h k d : ℝ) := by
  have hv : pt11Of (ix3 h k d) = 4 * h.val + 3 := by
    show 4 * (1 * (h.val / 1 - 0) + 1 * (k.val / 4096 - 0) + 1 * (d.val / 64 - 0)) + 3 = _; omega
  have hp : pt11Of (ix3 h k d) < cfg0.N := by rw [show cfg0.N = 32 from N_0, hv]; omega
  unfold G11
  rw [dif_pos hp, ← outsAt0_sweep m c _ hp]
  have e : loc11Of (ix3 h k d) = ix3 (0 : Fin 1) k d := by
    funext a; fin_cases a
    · exact Fin.ext (show h.val % 1 = 0 by omega)
    · exact Fin.ext (show k.val % 4096 = k.val by omega)
    · exact Fin.ext (show d.val % 64 = d.val by omega)
  rw [e]
  refine (out11_real R ⟨_, hp⟩ (by dsimp only; omega) _ _).trans (congrArg (fun x : ℝ => (x : EReal)) ?_)
  have e₂ : headOf (pt11Of (ix3 h k d)) = h := Fin.ext (by
    rw [hv]; show (4 * h.val + 3) / 4 % 8 = h.val; omega)
  simp only [e₂, outKR]

end Cert.KernelIdeal.Value
-- ==== Proof.Final.lean ====
module

public import proofs.«01_k».proof.Defs
public import proofs.«01_k».proof.Pre_finite
public import proofs.«01_k».proof.Proof.Frames
public import proofs.«01_k».proof.Proof.Ref
public import proofs.«01_k».proof.Proof.Values
public import Idealize.ShloMosaic.Lib.ReduceAll
public import Idealize.ShloMosaic.Adequacy
public import Idealize.ShloMosaic.Init

@[expose] public section

set_option maxRecDepth 16384

/-! # The kernel's results are the reference's -/

noncomputable section

open Idealize.ShloMosaic Idealize.ShloMosaic.TcCoe Idealize.SL.Sem Idealize.ShloMosaic.StableHlo

namespace Cert.Proof
open Cert.Att

/-- An extended real strictly between two others is a real number. -/
theorem real_of_between {a b : Ideal .f32} (x : Ideal .f32)
    (h : IntOp.andi (FloatOps.cmpf .olt x a) (FloatOps.cmpf .ogt x b) = 1#1) : ∃ y : ℝ, @Eq EReal x (y : EReal) := by
  have hs : ∀ p q : BitVec 1, IntOp.andi p q = 1#1 → p = 1#1 ∧ q = 1#1 := by decide
  obtain ⟨h₁, h₂⟩ := hs _ _ h
  refine ⟨EReal.toReal x, (EReal.coe_toReal (fun e => ?_) (fun e => ?_)).symm⟩
  · exact absurd h₁ (by rw [Ideal.cmpf_def, e]; simp [Ideal.cmp])
  · exact absurd h₂ (by rw [Ideal.cmpf_def, e]; simp [Ideal.cmp])

/-- A scalar has one index. -/
instance : Subsingleton Cert.Pre_finite.S_.Idx := inferInstanceAs (Subsingleton (∀ a : Fin 0, Fin _))

/-- Where the precondition holds the kernel's arguments are real arrays. -/
theorem exists_reals (m : (ℓ : Loc Cert.KernelIdeal.nD Cert.KernelIdeal.τ Cert.KernelIdeal.sig) → Buf (Elt Ideal) ℓ)
    (h : letI := finite_facts; Cert.Pre_KernelIdeal_finite m) (c : Dev Cert.KernelIdeal.nD) :
    ∃ X : Inp, Cert.KernelIdeal.Value.Reads m c X := by
  letI := finite_facts
  obtain ⟨h0, h1, h2, h4⟩ := h c
  dsimp only [Cert.Pre_finite.fn, Cert.Pre_finite.fn_part1] at h0 h1 h2 h4
  have f0 := fun t h d => real_of_between _ (Host.reduce_andi_all _ _ _ _ ix0 (congrFun h0 ix0) (ix3 t h d))
  have f1 := fun t h d => real_of_between _ (Host.reduce_andi_all _ _ _ _ ix0 (congrFun h1 ix0) (ix3 t h d))
  have f2 := fun t h d => real_of_between _ (Host.reduce_andi_all _ _ _ _ ix0 (congrFun h2 ix0) (ix3 t h d))
  have f4 := fun t d => real_of_between _ (Host.reduce_andi_all _ _ _ _ ix0 (congrFun h4 ix0) (ix2 t d))
  choose q hq using f0
  choose kv hkv using f1
  choose kr hkr using f2
  choose g hg using f4
  exact ⟨⟨q, kv, kr, fun t j => Real.cos (angle (m (c, Proc.devRef .tc Cert.KernelIdeal.main_arg3) (ix1 t)) j),
    fun t j => Real.sin (angle (m (c, Proc.devRef .tc Cert.KernelIdeal.main_arg3) (ix1 t)) j), g⟩,
    ⟨hq, hkv, hkr, fun _ _ => rfl, fun _ _ => rfl, hg⟩⟩

/-- The kernel's four results are the reference's, on real arguments. -/
theorem value : letI := finite_facts; Cert.algebraic_KernelIdeal_ReferenceIdeal_pre_finite := by
  letI := finite_facts
  intro m ρ m' ρ' hpre hagree
  refine ⟨Cert.KernelIdeal.Value.G8 m, Cert.KernelIdeal.Value.G9 m, Cert.KernelIdeal.Value.G10 m, Cert.KernelIdeal.Value.G11 m,
    Cert.KernelIdeal.Value.run (F := Ideal) m ρ, ?_⟩
  refine (θ_run Cert.ReferenceIdeal.defs _ _).mono (fun _ h c => ?_) (Cert.ReferenceIdeal.Value.run (F := Ideal) m' ρ')
  obtain ⟨X, R⟩ := exists_reals m hpre c
  obtain ⟨a0, a1, a2, a3, a4⟩ := hagree c
  have S : Cert.ReferenceIdeal.Value.Reads (launchContents m' c) X :=
    ⟨fun t h d => (congrFun a0 (ix3 t h d)).trans (R.q t h d), fun t h d => (congrFun a1 (ix3 t h d)).trans (R.kv t h d),
      fun t h d => (congrFun a2 (ix3 t h d)).trans (R.kr t h d),
      fun t j => (R.co t j).trans (congrArg (fun p => Real.cos (angle p j)) (congrFun a3 (ix1 t)).symm),
      fun t j => (R.si t j).trans (congrArg (fun p => Real.sin (angle p j)) (congrFun a3 (ix1 t)).symm),
      fun t i => (congrFun a4 (ix2 t i)).trans (R.g t i)⟩
  obtain ⟨r0, r1, r2, r3, kept⟩ := h c
  refine ⟨r0.trans ?_, r1.trans ?_, r2.trans ?_, r3.trans ?_, kept⟩
  · funext i
    rw [eq_ix2 i]
    exact (Cert.ReferenceIdeal.Value.res0_real S _ _).trans (Cert.KernelIdeal.Value.G8_real R _ _).symm
  · funext i
    rw [eq_ix2 i]
    exact (Cert.ReferenceIdeal.Value.res1_real S _ _).trans (Cert.KernelIdeal.Value.G9_real R _ _).symm
  · funext i
    rw [eq_ix2 i]
    exact (Cert.ReferenceIdeal.Value.res2_real S _ _).trans (Cert.KernelIdeal.Value.G10_real R _ _).symm
  · funext i
    rw [eq_ix3 i]
    exact (Cert.ReferenceIdeal.Value.res3_real S _ _ _).trans (Cert.KernelIdeal.Value.G11_real R _ _ _).symm

end Cert.Proof
-- ==== Proof.Frames2.lean ====
/- The frames of the programs of call 2. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Pre_finite2
public import Idealize.ShloMosaic.Lib.Quiescent

@[expose] public section

set_option maxRecDepth 16384

noncomputable section

open Idealize.ShloMosaic Idealize.ShloMosaic.TcCoe Idealize.SL.Sem

namespace Cert.Proof

/-- The side conditions under which the precondition's term is stated: plain facts about shapes. -/
theorem finite2_facts : Cert.Pre_finite2.Facts := by
  constructor <;> decide

/-- The compiled kernel runs to its end and leaves its arguments as they were. -/
theorem frame_p2 : Cert.quiescent_Kernel2 := fun m ρ _ => Cert.Kernel2.Gen.frame m ρ

/-- So does the kernel over the extended reals. -/
theorem frame_pi2 : Cert.quiescent_Kernel2Ideal := fun m ρ _ => Cert.Kernel2Ideal.Gen.frame m ρ

/-- So does the reference, whose run is a list of host operations. -/
theorem frame_ri2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The ideal program is the kernel over the extended reals. -/
theorem preserves2 : Cert.preserves_Kernel2_Kernel2Ideal := IdealRules.named_const.statement Cert.Kernel2Ideal.κ "ilog2" .f32 0x3FB8AA3B#32 (((Real.log 2)⁻¹ : ℝ) : EReal) rfl

end Cert.Proof

end
-- ==== Proof.Frames3.lean ====
/- The frames of the programs of call 3. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem

namespace Cert.Proof

/-- The compiled kernel runs to its end and leaves its arguments as they were. -/
theorem frame_p3 : Cert.quiescent_Kernel3 := fun m ρ _ => Cert.Kernel3.Gen.frame m ρ

/-- So does the kernel over the extended reals. -/
theorem frame_pi3 : Cert.quiescent_Kernel3Ideal := fun m ρ _ => Cert.Kernel3Ideal.Gen.frame m ρ

/-- So does the reference, whose run is a list of host operations. -/
theorem frame_ri3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The ideal program is the kernel over the extended reals. -/
theorem preserves3 : Cert.preserves_Kernel3_Kernel3Ideal := trivial

end Cert.Proof

end
-- ==== Proof.Frames11.lean ====
/- The frames of the programs of call 11. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Quiescent

@[expose] public section

set_option maxRecDepth 16384

noncomputable section

open Idealize.ShloMosaic Idealize.ShloMosaic.TcCoe Idealize.SL.Sem

namespace Cert.Proof

/-- The compiled kernel runs to its end and leaves its arguments as they were. -/
theorem frame_p11 : Cert.quiescent_Kernel11 := fun m ρ _ => Cert.Kernel11.Gen.frame m ρ

/-- So does the kernel over the extended reals. -/
theorem frame_pi11 : Cert.quiescent_Kernel11Ideal := fun m ρ _ => Cert.Kernel11Ideal.Gen.frame m ρ

/-- So does the reference, whose run is a list of host operations. -/
theorem frame_ri11 : Cert.quiescent_Reference11Ideal := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

/-- The ideal program is the kernel over the extended reals. -/
theorem preserves11 : Cert.preserves_Kernel11_Kernel11Ideal := trivial

end Cert.Proof

end
-- ==== Proof.FramesProducts.lean ====
/- The frames of the programs of calls 4 to 10, the plain products. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import Idealize.ShloMosaic.Lib.Quiescent

@[expose] public section

set_option maxRecDepth 16384

noncomputable section

open Idealize.ShloMosaic Idealize.ShloMosaic.TcCoe Idealize.SL.Sem

namespace Cert.Proof

/-- The compiled call `ffn_up_dw` runs to its end and leaves its arguments as they were. -/
theorem frame_p4 : Cert.quiescent_Kernel4 := fun m ρ _ => Cert.Kernel4.Gen.frame m ρ

/-- So does `ffn_up_dw` over the extended reals. -/
theorem frame_pi4 : Cert.quiescent_Kernel4Ideal := fun m ρ _ => Cert.Kernel4Ideal.Gen.frame m ρ

/-- So does the reference of `ffn_up_dw`, whose run is a list of host operations. -/
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The ideal program of `ffn_up_dw` is the call over the extended reals. -/
theorem preserves4 : Cert.preserves_Kernel4_Kernel4Ideal := trivial

/-- The compiled call `ffn_up` runs to its end and leaves its arguments as they were. -/
theorem frame_p5 : Cert.quiescent_Kernel5 := fun m ρ _ => Cert.Kernel5.Gen.frame m ρ

/-- So does `ffn_up` over the extended reals. -/
theorem frame_pi5 : Cert.quiescent_Kernel5Ideal := fun m ρ _ => Cert.Kernel5Ideal.Gen.frame m ρ

/-- So does the reference of `ffn_up`, whose run is a list of host operations. -/
theorem frame_ri5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The ideal program of `ffn_up` is the call over the extended reals. -/
theorem preserves5 : Cert.preserves_Kernel5_Kernel5Ideal := trivial

/-- The compiled call `ffn_down_dx` runs to its end and leaves its arguments as they were. -/
theorem frame_p6 : Cert.quiescent_Kernel6 := fun m ρ _ => Cert.Kernel6.Gen.frame m ρ

/-- So does `ffn_down_dx` over the extended reals. -/
theorem frame_pi6 : Cert.quiescent_Kernel6Ideal := fun m ρ _ => Cert.Kernel6Ideal.Gen.frame m ρ

/-- So does the reference of `ffn_down_dx`, whose run is a list of host operations. -/
theorem frame_ri6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The ideal program of `ffn_down_dx` is the call over the extended reals. -/
theorem preserves6 : Cert.preserves_Kernel6_Kernel6Ideal := trivial

/-- The compiled call `ffn_down_dw` runs to its end and leaves its arguments as they were. -/
theorem frame_p7 : Cert.quiescent_Kernel7 := fun m ρ _ => Cert.Kernel7.Gen.frame m ρ

/-- So does `ffn_down_dw` over the extended reals. -/
theorem frame_pi7 : Cert.quiescent_Kernel7Ideal := fun m ρ _ => Cert.Kernel7Ideal.Gen.frame m ρ

/-- So does the reference of `ffn_down_dw`, whose run is a list of host operations. -/
theorem frame_ri7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The ideal program of `ffn_down_dw` is the call over the extended reals. -/
theorem preserves7 : Cert.preserves_Kernel7_Kernel7Ideal := trivial

/-- The compiled call `proj_dw` runs to its end and leaves its arguments as they were. -/
theorem frame_p8 : Cert.quiescent_Kernel8 := fun m ρ _ => Cert.Kernel8.Gen.frame m ρ

/-- So does `proj_dw` over the extended reals. -/
theorem frame_pi8 : Cert.quiescent_Kernel8Ideal := fun m ρ _ => Cert.Kernel8Ideal.Gen.frame m ρ

/-- So does the reference of `proj_dw`, whose run is a list of host operations. -/
theorem frame_ri8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The ideal program of `proj_dw` is the call over the extended reals. -/
theorem preserves8 : Cert.preserves_Kernel8_Kernel8Ideal := trivial

/-- The compiled call `proj` runs to its end and leaves its arguments as they were. -/
theorem frame_p9 : Cert.quiescent_Kernel9 := fun m ρ _ => Cert.Kernel9.Gen.frame m ρ

/-- So does `proj` over the extended reals. -/
theorem frame_pi9 : Cert.quiescent_Kernel9Ideal := fun m ρ _ => Cert.Kernel9Ideal.Gen.frame m ρ

/-- So does the reference of `proj`, whose run is a list of host operations. -/
theorem frame_ri9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The ideal program of `proj` is the call over the extended reals. -/
theorem preserves9 : Cert.preserves_Kernel9_Kernel9Ideal := trivial

/-- The compiled call `out_proj_dw` runs to its end and leaves its arguments as they were. -/
theorem frame_p10 : Cert.quiescent_Kernel10 := fun m ρ _ => Cert.Kernel10.Gen.frame m ρ

/-- So does `out_proj_dw` over the extended reals. -/
theorem frame_pi10 : Cert.quiescent_Kernel10Ideal := fun m ρ _ => Cert.Kernel10Ideal.Gen.frame m ρ

/-- So does the reference of `out_proj_dw`, whose run is a list of host operations. -/
theorem frame_ri10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The ideal program of `out_proj_dw` is the call over the extended reals. -/
theorem preserves10 : Cert.preserves_Kernel10_Kernel10Ideal := trivial

end Cert.Proof

end
-- ==== Proof.FwdHost.lean ====
module

public import proofs.«01_k».proof.Proof.Gen.Kernel2Ideal.Frame
public import proofs.«01_k».proof.Proof.Body
public import Idealize.ShloMosaic.Lib.Pointwise
public import Idealize.ShloMosaic.Lib.StableHlo.ReadAt
public import Idealize.ShloMosaic.Lib.Tactic.CleanTypes

@[expose] public section

set_option maxRecDepth 16384

/-! # What the host's lines leave in the forward kernel's operands, as real numbers -/

noncomputable section

open Idealize.ShloMosaic Idealize.ShloMosaic.TcCoe Idealize.SL.Sem Idealize.ShloMosaic.StableHlo

namespace Cert.Kernel2Ideal.Value
open Cert.Kernel2Ideal Cert.Kernel2Ideal.Gen Cert.Att

variable (m : (ℓ : Loc nD τ sig) → Buf (Elt Ideal) ℓ) (c : Dev nD)

/-- The kernel's arguments on device `c` are the real arrays `X`. -/
structure Reads (m : (ℓ : Loc nD τ sig) → Buf (Elt Ideal) ℓ) (c : Dev nD) (X : Inp) : Prop where
  q : ∀ t h d, @Eq EReal (m (c, Proc.devRef .tc main_arg0) (ix3 t h d)) (X.q t h d : ℝ)
  kv : ∀ t h d, @Eq EReal (m (c, Proc.devRef .tc main_arg1) (ix3 t h d)) (X.kv t h d : ℝ)
  kr : ∀ t h d, @Eq EReal (m (c, Proc.devRef .tc main_arg2) (ix3 t h d)) (X.kr t h d : ℝ)
  co : ∀ t j, X.co t j = Real.cos (angle (m (c, Proc.devRef .tc main_arg3) (ix1 t)) j)
  si : ∀ t j, X.si t j = Real.sin (angle (m (c, Proc.devRef .tc main_arg3) (ix1 t)) j)

variable {m c} {X : Inp} (R : Reads m c X)

/-- The query's scale over the logarithm of two, as the host computes it. -/
theorem scale_log :
    Ideal.div (Ideal.div 1 (Ideal.sqrt (Ideal.ofBits .f32 0x43400000#32))) (Ideal.log (Ideal.ofBits .f32 0x40000000#32)) = ((sc / Real.log 2 : ℝ) : EReal) := by
  rw [scale_real, bits_two, Ideal.log_coe, if_neg (by norm_num), div_real log_two_pos.ne', mul_one_div]

include R

/-- A cosine of the tables, for a lane below 32. -/
theorem cos_at (t : Fin 4096) (j : ℕ) (hj : j < 32) :
    Ideal.cos (FloatOps.sitofp (F := Ideal) .f32 (m (c, Proc.devRef .tc main_arg3) (ix1 t))
      * Ideal.pow (Ideal.ofBits .f32 0x461C4000#32) (Ideal.div (-FloatOps.sitofp (F := Ideal) .f32 (BitVec.ofNat 32 j)) (Ideal.ofBits .f32 0x42000000#32)))
      = ((X.co t ⟨j, hj⟩ : ℝ) : EReal) := by
  rw [R.co, ← Ideal.cos_coe, ← angle_real]

/-- A sine of the tables, for a lane below 32. -/
theorem sin_at (t : Fin 4096) (j : ℕ) (hj : j < 32) :
    Ideal.sin (FloatOps.sitofp (F := Ideal) .f32 (m (c, Proc.devRef .tc main_arg3) (ix1 t))
      * Ideal.pow (Ideal.ofBits .f32 0x461C4000#32) (Ideal.div (-FloatOps.sitofp (F := Ideal) .f32 (BitVec.ofNat 32 j)) (Ideal.ofBits .f32 0x42000000#32)))
      = ((X.si t ⟨j, hj⟩ : ℝ) : EReal) := by
  rw [R.si, ← Ideal.sin_coe, ← angle_real]

/-- The query in rows of 256 lanes: rotated, scaled for powers of two, padded by zeros. -/
theorem v38_real (h : Fin 8) (t : Fin 4096) (d : Fin 256) :
    @Eq EReal (V m c main_v38 (ix3 h t d)) (qf X h t d : ℝ) := by
  rw [qf]
  unfold V
  after_reads_at
  after_reads_at
  by_cases h₁ : d.val < 128
  · rw [dif_pos h₁, dif_pos (by omega), rot, dif_pos h₁, R.q, scale_log, ← EReal.coe_mul]
  · by_cases h₂ : d.val < 160
    · rw [dif_neg h₁, dif_pos (by omega), dif_pos (by omega), rot, dif_neg h₁, dif_pos h₂, R.q, R.q, scale_log,
        cos_at R t _ (by omega), sin_at R t _ (by omega)]
      simp only [← EReal.coe_mul, ← EReal.coe_sub]
      rw [sub_mul, mul_right_comm, mul_right_comm (X.q _ _ _) (X.si _ _)]
      congr 6 <;> omega
    · by_cases h₃ : d.val < 192
      · rw [dif_neg h₁, dif_neg (by omega), dif_pos (by omega), dif_pos h₃, rot, dif_neg h₁, dif_neg h₂, R.q, R.q, scale_log,
          cos_at R t _ (by omega), sin_at R t _ (by omega)]
        simp only [← EReal.coe_mul, ← EReal.coe_add]
        rw [add_mul, mul_right_comm, mul_right_comm (X.q _ _ _) (X.si _ _)]
        have e₁ : 160 + (d.val - 160) = d.val := by omega
        have e₂ : 128 + (d.val - 160) = d.val - 32 := by omega
        have e₃ : d.val - 128 - 32 = d.val - 160 := by omega
        simp only [e₃, e₁, e₂]
      · rw [dif_neg h₁, dif_neg (by omega), dif_neg (by omega), dif_neg h₃, EReal.coe_zero]

/-- The key in rows of 256 lanes, padded by zeros. -/
theorem v42_real (h : Fin 8) (t : Fin 4096) (d : Fin 256) :
    @Eq EReal (V m c main_v42 (ix3 h t d)) (kf X h t d : ℝ) := by
  rw [kf]
  unfold V
  after_reads_at
  after_reads_at
  by_cases h₁ : d.val < 128
  · rw [dif_pos h₁, dif_pos (by omega), key, dif_pos h₁, R.kv]
  · by_cases h₂ : d.val < 192
    · rw [dif_neg h₁, dif_pos (by omega), dif_pos h₂, key, dif_neg h₁, R.kr]
    · rw [dif_neg h₁, dif_neg (by omega), dif_neg h₂, EReal.coe_zero]

/-- Keys and values, as the call takes them. -/
theorem v44_real (t : Fin 4096) (i : Fin 2048) :
    @Eq EReal (V m c main_v44 (ix2 t i)) (X.kv t ⟨i.val / 256, by omega⟩ ⟨i.val % 256, by omega⟩ : ℝ) := by
  unfold V
  after_reads_at
  exact R.kv _ _ _

end Cert.Kernel2Ideal.Value
-- ==== Proof.FwdBlocks.lean ====
module

public import proofs.«01_k».proof.Proof.FwdHost
public import Idealize.ShloMosaic.Lib.Pipeline.ValueKit

@[expose] public section

set_option maxRecDepth 16384

/-! # The blocks a grid point of the forward kernel holds, as real numbers

Point `t` of the grid holds the query tile `t % 2` of the head `t / 2`, and all keys and values of that head. -/

noncomputable section

open Idealize.ShloMosaic Idealize.ShloMosaic.TcCoe Idealize.SL.Sem

namespace Cert.Kernel2Ideal.Value
open Cert.Kernel2Ideal Cert.Kernel2Ideal.Gen Cert.Att

variable {m : (ℓ : Loc nD τ sig) → Buf (Elt Ideal) ℓ} {c : Dev nD} {X : Inp} (R : Reads m c X)

/-- The head a point works on. -/
def headOf (t : ℕ) : Fin 8 := ⟨t / 2 % 8, by omega⟩

/-- The query rows a point works on. -/
def tileRow (t : ℕ) (r : Fin 2048) : Fin 4096 := ⟨t % 2 * 2048 + r.val, by omega⟩

/-- Which block of each argument and result a point holds. -/
theorem idx : ∀ t : Fin cfg0.N, win0_0.index t = ![t.val / 2, t.val % 2, 0] ∧ win0_1.index t = ![t.val / 2, 0, 0]
    ∧ win0_2.index t = ![0, t.val / 2 * 2 + 1] ∧ win0_3.index t = ![t.val % 2, t.val / 2] ∧ win0_4.index t = ![t.val / 2, t.val % 2, 0] ∧ t.val < 16 :=
  (by decide +kernel : ∀ t : Fin grid0.N, _)

include R

/-- The block of the query rows. -/
theorem iblk_q (t : Fin cfg0.N) (r : Fin 2048) (d : Fin 256) :
    @Eq EReal (iblk m c 0 t (ix3 0 r d)) (qf X (headOf t) (tileRow t r) d : ℝ) := by
  obtain ⟨e0, e1, e2, e3, e4, hN⟩ := idx t
  have e : @Eq EReal (iblk m c 0 t (ix3 0 r d)) (V m c main_v38 (ix3 (headOf t) (tileRow t r) d)) := by
    blk_ext [iblk, e0, headOf, tileRow]
  exact e.trans (v38_real R _ _ _)

/-- The block of the keys. -/
theorem iblk_k (t : Fin cfg0.N) (r : Fin 4096) (d : Fin 256) :
    @Eq EReal (iblk m c 1 t (ix3 0 r d)) (kf X (headOf t) r d : ℝ) := by
  obtain ⟨e0, e1, e2, e3, e4, hN⟩ := idx t
  have e : @Eq EReal (iblk m c 1 t (ix3 0 r d)) (V m c main_v42 (ix3 (headOf t) r d)) := by
    blk_ext [iblk, e1, headOf]
  exact e.trans (v42_real R _ _ _)

/-- The block of the values. -/
theorem iblk_v (t : Fin cfg0.N) (r : Fin 4096) (d : Fin 128) :
    @Eq EReal (iblk m c 2 t (ix2 r d)) (val X r (headOf t) d : ℝ) := by
  obtain ⟨e0, e1, e2, e3, e4, hN⟩ := idx t
  have e : @Eq EReal (iblk m c 2 t (ix2 r d)) (V m c main_v44 (ix2 r ⟨(headOf t).val * 256 + 128 + d.val, by omega⟩)) := by
    blk_ext [iblk, e2, headOf]
  refine (e.trans (v44_real R _ _)).trans (congrArg _ ?_)
  have hd := d.isLt
  exact congr (congrArg (X.kv r) (Fin.ext (by show ((headOf t).val * 256 + 128 + d.val) / 256 = _; omega)))
    (Fin.ext (by show ((headOf t).val * 256 + 128 + d.val) % 256 = 128 + d.val; omega))

end Cert.Kernel2Ideal.Value
-- ==== Proof.FwdBody.lean ====
module

public import proofs.«01_k».proof.Proof.Gen.Kernel2Ideal.Frame
public import proofs.«01_k».proof.Proof.Body
public import Idealize.ShloMosaic.Lib.Pipeline.ValueKit

@[expose] public section

set_option maxRecDepth 16384

/-! # The softmax over four chunks of keys

A grid point holds 2048 query rows of one head and walks over that head's keys in four chunks. It carries three numbers for a row:
some number `μ`, the sum of exponentials so far and the values so far weighted by exponentials, both divided by two to the `μ`. Which number
`μ` is doesn't matter here, only that it is a real one. -/

noncomputable section

open Idealize.ShloMosaic Idealize.ShloMosaic.TcCoe Idealize.SL.Sem

namespace Cert.Kernel2Ideal.Value
open Cert.Kernel2Ideal Cert.Kernel2Ideal.Gen Cert.Att

/-- Two to the minus `μ`. -/
def wgt (μ : ℝ) : ℝ := Real.exp (-(μ * Real.log 2))

/-- A power of two of a difference takes one weight to another. -/
theorem rpow_wgt (μ ν : ℝ) : Real.rpow 2 (μ - ν) * wgt μ = wgt ν := by
  change (2 : ℝ) ^ (μ - ν) * _ = _
  rw [Real.rpow_def_of_pos (by norm_num), wgt, wgt, ← Real.exp_add]
  congr 1; ring

/-- A power of two of a score over the logarithm of two, less `ν`. -/
theorem rpow_score (s ν : ℝ) : Real.rpow 2 (s / Real.log 2 - ν) = Real.exp s * wgt ν := by
  change (2 : ℝ) ^ (s / Real.log 2 - ν) = _
  rw [Real.rpow_def_of_pos (by norm_num), wgt, ← Real.exp_add]
  have := log_two_pos.ne'
  congr 1; field_simp; ring

/-- The scores of a tile against a chunk. -/
def scoresOf (Q : FVec Ideal S2048x256 .bf16) (K : FVec Ideal S1x1024x256 .bf16) : FVec Ideal S2048x1024 .f32 :=
  matmul dot_S2048x256_S1024x256_S2048x1024_1_1_0_0_n_n none Q (shapeCast S1024x256 K shapeCasts_S1x1024x256_S1024x256 : FVec Ideal S1024x256 .bf16) (constant S2048x1024 .f32 0x00000000#32)

/-- The number carried on. -/
def stepM (M : FVec Ideal S2048x1 .f32) (s : FVec Ideal S2048x1024 .f32) : FVec Ideal S2048x1 .f32 :=
  maximumf M (shapeCast S2048x1 (multiReduction .maximumf [1] S2048 s 0xFF800000#32 reduces_S2048x1024_S2048 (.inl rfl) rfl) shapeCasts_S2048_S2048x1)

/-- The chunk's exponentials. -/
def exps (s : FVec Ideal S2048x1024 .f32) (N : FVec Ideal S2048x1 .f32) : FVec Ideal S2048x1024 .f32 :=
  exp2 (subf s (broadcastTo S2048x1024 N broadcasts_S2048x1_S2048x1024))

/-- The sum carried on. -/
def stepL (α L : FVec Ideal S2048x1 .f32) (P : FVec Ideal S2048x1024 .f32) : FVec Ideal S2048x1 .f32 :=
  addf (mulf α L) (shapeCast S2048x1 (multiReduction .add [1] S2048 P 0x00000000#32 reduces_S2048x1024_S2048 (.inl rfl) rfl) shapeCasts_S2048_S2048x1)

/-- The weighted values carried on. -/
def stepA (α : FVec Ideal S2048x1 .f32) (A : FVec Ideal S2048x128 .f32) (P : FVec Ideal S2048x1024 .f32) (W : FVec Ideal S1024x128 .bf16) : FVec Ideal S2048x128 .f32 :=
  addf (mulf (broadcastTo S2048x128 α broadcasts_S2048x1_S2048x128) A)
    (matmul dot_S2048x1024_S1024x128_S2048x128_1_0_0_1_n_n none (truncf .bf16 P bitsLt_bf16_f32) (shapeCast S1024x128 W shapeCasts_S1024x128_S1024x128 : FVec Ideal S1024x128 .bf16) (constant S2048x128 .f32 0x00000000#32))

/-- What is carried from chunk to chunk. -/
structure Carry where
  M : FVec Ideal S2048x1 .f32
  L : FVec Ideal S2048x1 .f32
  A : FVec Ideal S2048x128 .f32

/-- One chunk's step. -/
def Carry.next (Q : FVec Ideal S2048x256 .bf16) (s : Carry) (K : FVec Ideal S1x1024x256 .bf16) (W : FVec Ideal S1024x128 .bf16) : Carry where
  M := stepM s.M (scoresOf Q K)
  L := stepL (exp2 (subf s.M (stepM s.M (scoresOf Q K)))) s.L (exps (scoresOf Q K) (stepM s.M (scoresOf Q K)))
  A := stepA (exp2 (subf s.M (stepM s.M (scoresOf Q K)))) s.A (exps (scoresOf Q K) (stepM s.M (scoresOf Q K))) W

/-- What is carried into the first chunk. -/
def Carry.start : Carry where
  M := k0_pay6
  L := broadcast S2048x1 (Scalar.ofBits .f32 0x00000000#32 : Ideal .f32)
  A := broadcast S2048x128 (Scalar.ofBits .f32 0x00000000#32 : Ideal .f32)

/-- The result from what is carried out of the last chunk. -/
def Carry.o (s : Carry) : FVec Ideal S2048x128 .bf16 :=
  truncf .bf16 (divf s.A (broadcastTo S2048x128 s.L broadcasts_S2048x1_S2048x128)) bitsLt_bf16_f32

/-- The logarithm from what is carried out of the last chunk. -/
def Carry.l (s : Carry) : FVec Ideal S1x2048x1 .f32 :=
  shapeCast S1x2048x1 (addf s.M (mulf (log s.L) (broadcast S2048x1 (Named.named κ "ilog2" 0x3FB8AA3B#32 : Ideal .f32)))) shapeCasts_S2048x1_S1x2048x1

variable {X : Inp} {h : Fin 8} {ρ : Fin 2048 → Fin 4096} {χ : Fin 1024 → Fin 4096}

/-- What is carried, as real numbers: `Λ` is the sum of exponentials so far and `Γ` the weighted values so far. -/
def Carry.Is (s : Carry) (Λ : Fin 2048 → ℝ) (Γ : Fin 2048 → Fin 128 → ℝ) : Prop :=
  ∀ r, ∃ μ : ℝ, @Eq EReal (s.M (ix2 r 0)) (μ : ℝ) ∧ @Eq EReal (s.L (ix2 r 0)) (Λ r * wgt μ : ℝ) ∧ ∀ d, @Eq EReal (s.A (ix2 r d)) (Γ r d * wgt μ : ℝ)

/-- The number carried into the first chunk is real. -/
theorem bits_start : ∃ μ : ℝ, @Eq EReal (Ideal.ofBits .f32 0xF149F2CA#32) (μ : ℝ) := by
  simp [Ideal.ofBits, Ideal.ieee, -EReal.coe_mul]
  exact ⟨_, rfl⟩

/-- Before the first chunk both sums are empty. -/
theorem start_is : Carry.start.Is (fun _ => 0) (fun _ _ => 0) := by
  intro r
  obtain ⟨μ, hμ⟩ := bits_start
  refine ⟨μ, ?_, ?_, fun d => ?_⟩
  · pointwise [Carry.start, k0_pay6]
    exact hμ
  · pointwise [Carry.start]
    rw [zero_mul, EReal.coe_zero]
  · pointwise [Carry.start]
    rw [zero_mul, EReal.coe_zero]

section step
variable {Q : FVec Ideal S2048x256 .bf16} {K : FVec Ideal S1x1024x256 .bf16} {W : FVec Ideal S1024x128 .bf16}
  (hQ : ∀ r d, @Eq EReal (Q (ix2 r d)) (qf X h (ρ r) d : ℝ)) (hK : ∀ k d, @Eq EReal (K (ix3 0 k d)) (kf X h (χ k) d : ℝ))
  (hW : ∀ k d, @Eq EReal (W (ix2 k d)) (val X (χ k) h d : ℝ))

include hQ hK in
/-- The scores of a tile against a chunk, over the logarithm of two. -/
theorem scores_real (r : Fin 2048) (k : Fin 1024) : @Eq EReal (scoresOf Q K (ix2 r k)) (score X h (ρ r) (χ k) / Real.log 2 : ℝ) := by
  pointwise [scoresOf, hQ, hK]
  simp only [← EReal.coe_mul, ← coe_sum]
  rw [qf_kf]

/-- A maximum over some axes of an array of reals, started at minus infinity, is a real. -/
theorem multi_max_real {s t : Shape} {axes : List (Fin s.rank)} (x : FVec Ideal s .f32) (acc : BitVec 32) (h : s.Reduces axes t)
    (hφ : FKind.Formats .f32) (hacc : acc = FKind.maximumf.neutral .f32 hφ) (j : t.Idx) (i₀ : s.Idx) (h₀ : h.drop i₀ = j)
    (hb : @Eq EReal (FloatOps.ofBits (F := Ideal) .f32 acc) ⊥) (f : s.Idx → ℝ) (hx : ∀ i, x i = ((f i : ℝ) : EReal)) :
    ∃ M : ℝ, @Eq EReal (multiReduction .maximumf axes t x acc h hφ hacc j) (M : ℝ) := by
  have hc : Std.Commutative (FloatOps.maximumf (F := Ideal) (φ := .f32)) := ⟨fun a b => max_comm (α := EReal) a b⟩
  have ha : Std.Associative (FloatOps.maximumf (F := Ideal) (φ := .f32)) := ⟨fun a b c => max_assoc (α := EReal) a b c⟩
  rw [multiReduction_maximumf_eq_fold, hb, funext hx]
  exact fold_max_real _ ⟨i₀, Finset.mem_filter.2 ⟨Finset.mem_univ _, h₀⟩⟩ f

/-- The first column of a row drops to the row. -/
theorem drop_first (r : Fin 2048) : reduces_S2048x1024_S2048.drop (ix2 r (0 : Fin 1024)) = ix1 r := by
  funext a
  match a with
  | ⟨0, _⟩ => rfl

/-- The largest score of a row is real. -/
theorem largest_real {s : FVec Ideal S2048x1024 .f32} {σ : Fin 2048 → Fin 1024 → ℝ} (hs : ∀ r k, @Eq EReal (s (ix2 r k)) (σ r k : ℝ)) (r : Fin 2048) :
    ∃ ν : ℝ, @Eq EReal (multiReduction .maximumf [1] S2048 s 0xFF800000#32 reduces_S2048x1024_S2048 (.inl rfl) rfl (ix1 r)) (ν : ℝ) :=
  multi_max_real s _ reduces_S2048x1024_S2048 _ _ (ix1 r) (ix2 r 0) (drop_first r) bits_bot (fun i => σ (i 0) (i 1))
    fun i => (congrArg s (eq_ix2 i)).trans (hs (i 0) (i 1))

/-- The number carried on, from the one carried so far and the largest score. -/
theorem stepM_at {M : FVec Ideal S2048x1 .f32} {v : FVec Ideal S2048 .f32} {r : Fin 2048} {μ ν : ℝ} (hM : @Eq EReal (M (ix2 r 0)) (μ : ℝ))
    (hv : @Eq EReal (v (ix1 r)) (ν : ℝ)) : @Eq EReal (maximumf M (shapeCast S2048x1 v shapeCasts_S2048_S2048x1) (ix2 r 0)) (max μ ν : ℝ) := by
  pointwise [hM, hv]
  exact (EReal.coe_strictMono.monotone.map_max).symm

/-- The number carried on is real. -/
theorem stepM_real {M : FVec Ideal S2048x1 .f32} {s : FVec Ideal S2048x1024 .f32} {σ : Fin 2048 → Fin 1024 → ℝ}
    (hs : ∀ r k, @Eq EReal (s (ix2 r k)) (σ r k : ℝ)) {r : Fin 2048} {μ : ℝ} (hM : @Eq EReal (M (ix2 r 0)) (μ : ℝ)) :
    ∃ ν : ℝ, @Eq EReal (stepM M s (ix2 r 0)) (ν : ℝ) := by
  obtain ⟨ν, hν⟩ := largest_real hs r
  exact ⟨max μ ν, stepM_at hM hν⟩

/-- An exponential of a chunk. -/
theorem exps_real {s : FVec Ideal S2048x1024 .f32} {σ : Fin 2048 → Fin 1024 → ℝ} (hs : ∀ r k, @Eq EReal (s (ix2 r k)) (σ r k / Real.log 2 : ℝ))
    {N : FVec Ideal S2048x1 .f32} {r : Fin 2048} {ν : ℝ} (hN : @Eq EReal (N (ix2 r 0)) (ν : ℝ)) (k : Fin 1024) :
    @Eq EReal (exps s N (ix2 r k)) (Real.exp (σ r k) * wgt ν : ℝ) := by
  pointwise [exps, hs, hN]
  rw [← EReal.coe_sub, ← rpow_score]
  exact Ideal.exp2_coe _

/-- The factor from one number to the next. -/
theorem alpha_real {M N : FVec Ideal S2048x1 .f32} {r : Fin 2048} {μ ν : ℝ} (hM : @Eq EReal (M (ix2 r 0)) (μ : ℝ)) (hN : @Eq EReal (N (ix2 r 0)) (ν : ℝ)) :
    @Eq EReal (exp2 (subf M N) (ix2 r 0)) (Real.rpow 2 (μ - ν) : ℝ) := by
  pointwise [hM, hN]
  rw [← EReal.coe_sub]
  exact Ideal.exp2_coe _

include hQ hK hW in
/-- A chunk adds its exponentials and its weighted values. -/
theorem next_is {s : Carry} {Λ : Fin 2048 → ℝ} {Γ : Fin 2048 → Fin 128 → ℝ} (H : s.Is Λ Γ) :
    (s.next Q K W).Is (fun r => Λ r + ∑ k, Real.exp (score X h (ρ r) (χ k)))
      (fun r d => Γ r d + ∑ k, Real.exp (score X h (ρ r) (χ k)) * val X (χ k) h d) := by
  intro r
  obtain ⟨μ, hM, hL, hA⟩ := H r
  obtain ⟨ν, hN⟩ := stepM_real (scores_real hQ hK) hM
  have hα := alpha_real hM hN
  have hP := exps_real (scores_real hQ hK) hN
  refine ⟨ν, hN, ?_, fun d => ?_⟩
  · show @Eq EReal (stepL _ _ _ _) _
    generalize exp2 (subf s.M (stepM s.M (scoresOf Q K))) = α at hα
    generalize exps (scoresOf Q K) (stepM s.M (scoresOf Q K)) = P at hP
    pointwise [stepL, hα, hL, hP]
    simp only [← EReal.coe_mul, ← coe_sum]
    rw [← EReal.coe_add, add_mul, ← Finset.sum_mul, mul_left_comm, rpow_wgt]
  · show @Eq EReal (stepA _ _ _ _ _) _
    generalize exp2 (subf s.M (stepM s.M (scoresOf Q K))) = α at hα
    generalize exps (scoresOf Q K) (stepM s.M (scoresOf Q K)) = P at hP
    pointwise [stepA, hα, hA, hP, hW]
    simp only [← EReal.coe_mul, ← coe_sum]
    rw [← EReal.coe_add, add_mul, Finset.sum_mul, mul_left_comm, rpow_wgt]
    refine congrArg _ (congrArg (_ + ·) (Finset.sum_congr rfl fun k _ => ?_))
    ring

end step

/-- One over the logarithm of two, as the kernel names it. -/
theorem named_ilog2 : @Eq EReal (Named.named (F := Ideal) (φ := .f32) κ "ilog2" 0x3FB8AA3B#32) ((Real.log 2)⁻¹ : ℝ) :=
  IdealRules.named_const.ideal_named_scalar κ "ilog2" (φ := .f32) 0x3FB8AA3B#32 (((Real.log 2)⁻¹ : ℝ) : EReal) rfl

/-- A weight is positive. -/
theorem wgt_pos (μ : ℝ) : 0 < wgt μ := Real.exp_pos _

/-- The result: the weight cancels. -/
theorem o_real {s : Carry} {Λ : Fin 2048 → ℝ} {Γ : Fin 2048 → Fin 128 → ℝ} (H : s.Is Λ Γ) {r : Fin 2048} (hr : 0 < Λ r) (d : Fin 128) :
    @Eq EReal (s.o (ix2 r d)) (Γ r d / Λ r : ℝ) := by
  obtain ⟨μ, hM, hL, hA⟩ := H r
  pointwise [Carry.o, hL, hA]
  have hw := (wgt_pos μ).ne'
  have hr' := hr.ne'
  rw [div_real (mul_ne_zero hr' hw)]
  congr 1
  field_simp

/-- The logarithm: the weight's own logarithm is the number carried. -/
theorem l_real {s : Carry} {Λ : Fin 2048 → ℝ} {Γ : Fin 2048 → Fin 128 → ℝ} (H : s.Is Λ Γ) {r : Fin 2048} (hr : 0 < Λ r) :
    @Eq EReal (s.l (ix3 0 r 0)) (Real.log (Λ r) / Real.log 2 : ℝ) := by
  obtain ⟨μ, hM, hL, hA⟩ := H r
  pointwise [Carry.l, hM, hL]
  rw [named_ilog2, Ideal.log_coe, if_neg (not_le.2 (mul_pos hr (wgt_pos μ))), ← EReal.coe_mul, ← EReal.coe_add,
    Real.log_mul hr.ne' (wgt_pos μ).ne', wgt, Real.log_exp]
  have := log_two_pos.ne'
  congr 1
  field_simp
  ring

end Cert.Kernel2Ideal.Value
-- ==== Proof.FwdPoint.lean ====
module

public import proofs.«01_k».proof.Proof.FwdBody

@[expose] public section

set_option maxRecDepth 16384

/-! # What a grid point of the forward kernel writes -/

noncomputable section

open Idealize.ShloMosaic Idealize.ShloMosaic.TcCoe Idealize.SL.Sem

namespace Cert.Kernel2Ideal.Value
open Cert.Kernel2Ideal Cert.Kernel2Ideal.Gen Cert.Att

variable {X : Inp} {h : Fin 8} {ρ : Fin 2048 → Fin 4096}

/-- What a grid point carries out of its last chunk. -/
def carried (x0 : FVec Ideal S1x2048x256 .bf16) (x1 : FVec Ideal S1x4096x256 .bf16) (x2 : FVec Ideal S4096x128 .bf16) : Carry :=
  (((Carry.start.next (k0_pay5 (View.ld (Val := Elt Ideal) (e' := .bf16) x0 r0_0)) (View.ld (Val := Elt Ideal) (e' := .bf16) x1 r0_1) (View.ld (Val := Elt Ideal) (e' := .bf16) x2 r0_2)).next
    (k0_pay5 (View.ld (Val := Elt Ideal) (e' := .bf16) x0 r0_0)) (View.ld (Val := Elt Ideal) (e' := .bf16) x1 r0_3) (View.ld (Val := Elt Ideal) (e' := .bf16) x2 r0_4)).next
    (k0_pay5 (View.ld (Val := Elt Ideal) (e' := .bf16) x0 r0_0)) (View.ld (Val := Elt Ideal) (e' := .bf16) x1 r0_5) (View.ld (Val := Elt Ideal) (e' := .bf16) x2 r0_6)).next
    (k0_pay5 (View.ld (Val := Elt Ideal) (e' := .bf16) x0 r0_0)) (View.ld (Val := Elt Ideal) (e' := .bf16) x1 r0_7) (View.ld (Val := Elt Ideal) (e' := .bf16) x2 r0_8)

/-- What a grid point writes is the result of what it carried. -/
theorem out3_eq (x0 : FVec Ideal S1x2048x256 .bf16) (x1 : FVec Ideal S1x4096x256 .bf16) (x2 : FVec Ideal S4096x128 .bf16) :
    out0_3 (F := Ideal) x0 x1 x2 = (carried x0 x1 x2).o :=
  (View.canon_unit_zero (by funext a; fin_cases a <;> rfl) _ _).trans rfl

/-- So for the logarithm. -/
theorem out4_eq (x0 : FVec Ideal S1x2048x256 .bf16) (x1 : FVec Ideal S1x4096x256 .bf16) (x2 : FVec Ideal S4096x128 .bf16) :
    out0_4 (F := Ideal) x0 x1 x2 = (carried x0 x1 x2).l :=
  (View.canon_unit_zero (by funext a; fin_cases a <;> rfl) _ _).trans rfl

/-- A row of the chunk that starts at row `o`. -/
def row (o : ℕ) (ho : o + 1024 ≤ 4096) (k : Fin 1024) : Fin 4096 := ⟨o + k.val, by omega⟩

/-- The four chunks together are all key rows. -/
theorem four (f : Fin 4096 → ℝ) : 0 + ∑ k, f (row 0 (by omega) k) + ∑ k, f (row 1024 (by omega) k) + ∑ k, f (row 2048 (by omega) k)
    + ∑ k, f (row 3072 (by omega) k) = ∑ k, f k := by
  rw [sum_blocks, Fin.sum_univ_four, zero_add]
  rfl

/-- A chunk of a head's keys. -/
theorem ld_k {x1 : FVec Ideal S1x4096x256 .bf16} (hK : ∀ k d, @Eq EReal (x1 (ix3 0 k d)) (kf X h k d : ℝ)) (o : ℕ) (ho : o + 1024 ≤ 4096)
    (i₁ : ∀ a, (![0, o, 0] : Fin 3 → ℕ) a + (![1, 1024, 256] : Fin 3 → ℕ) a ≤ S1x4096x256.size a) (k : Fin 1024) (d : Fin 256) :
    @Eq EReal (View.ld (Val := Elt Ideal) (e' := .bf16) x1 (Rect.unit (s := S1x4096x256) ![0, o, 0] ![1, 1024, 256] i₁) (ix3 0 k d)) (kf X h (row o ho k) d : ℝ) :=
  (View.ld_unit_apply_of (Val := Elt Ideal) (e := .bf16) x1 _ _ i₁ (ix3 0 k d) (ix3 0 (row o ho k) d) (fun a => by fin_cases a <;> simp [row])).trans (hK _ _)

/-- A chunk of a head's values. -/
theorem ld_v {x2 : FVec Ideal S4096x128 .bf16} (hW : ∀ k d, @Eq EReal (x2 (ix2 k d)) (val X k h d : ℝ)) (o : ℕ) (ho : o + 1024 ≤ 4096)
    (i₂ : ∀ a, (![o, 0] : Fin 2 → ℕ) a + (![1024, 128] : Fin 2 → ℕ) a ≤ S4096x128.size a) (k : Fin 1024) (d : Fin 128) :
    @Eq EReal (View.ld (Val := Elt Ideal) (e' := .bf16) x2 (Rect.unit (s := S4096x128) ![o, 0] ![1024, 128] i₂) (ix2 k d)) (val X (row o ho k) h d : ℝ) :=
  (View.ld_unit_apply_of (Val := Elt Ideal) (e := .bf16) x2 _ _ i₂ (ix2 k d) (ix2 (row o ho k) d) (fun a => by fin_cases a <;> simp [row])).trans (hW _ _)

/-- What a grid point carries out of its last chunk: the whole denominator and all weighted values. -/
theorem carried_is {x0 : FVec Ideal S1x2048x256 .bf16} {x1 : FVec Ideal S1x4096x256 .bf16} {x2 : FVec Ideal S4096x128 .bf16}
    (hQ : ∀ r d, @Eq EReal (x0 (ix3 0 r d)) (qf X h (ρ r) d : ℝ)) (hK : ∀ k d, @Eq EReal (x1 (ix3 0 k d)) (kf X h k d : ℝ))
    (hW : ∀ k d, @Eq EReal (x2 (ix2 k d)) (val X k h d : ℝ)) :
    (carried x0 x1 x2).Is (fun r => den X h (ρ r)) (fun r d => ∑ k, Real.exp (score X h (ρ r) k) * val X k h d) := by
  have hq : ∀ r d, @Eq EReal (k0_pay5 (View.ld (Val := Elt Ideal) (e' := .bf16) x0 r0_0) (ix2 r d)) (qf X h (ρ r) d : ℝ) := by
    intro r d
    have e : View.ld (Val := Elt Ideal) (e' := .bf16) x0 r0_0 = x0 := View.ld_unit_zero (by funext a; fin_cases a <;> rfl) _ _
    rw [e]
    pointwise [k0_pay5, hQ]
  have H := next_is hq (ld_k hK 3072 (by omega) inb_S1x4096x256_S1x1024x256_0_3072_0) (ld_v hW 3072 (by omega) inb_S4096x128_S1024x128_3072_0)
    (next_is hq (ld_k hK 2048 (by omega) inb_S1x4096x256_S1x1024x256_0_2048_0) (ld_v hW 2048 (by omega) inb_S4096x128_S1024x128_2048_0)
      (next_is hq (ld_k hK 1024 (by omega) inb_S1x4096x256_S1x1024x256_0_1024_0) (ld_v hW 1024 (by omega) inb_S4096x128_S1024x128_1024_0)
        (next_is hq (ld_k hK 0 (by omega) inb_S1x4096x256_S1x1024x256_0_0_0) (ld_v hW 0 (by omega) inb_S4096x128_S1024x128_0_0) start_is)))
  have e₁ : ∀ r, den X h (ρ r) = _ := fun r => (four fun k => Real.exp (score X h (ρ r) k)).symm
  have e₂ : ∀ r d, (∑ k, Real.exp (score X h (ρ r) k) * val X k h d) = _ := fun r d => (four fun k => Real.exp (score X h (ρ r) k) * val X k h d).symm
  simp only [e₁, e₂]
  exact H

end Cert.Kernel2Ideal.Value
-- ==== Proof.FwdRef.lean ====
module

public import proofs.«01_k».proof.Proof.Gen.Reference2Ideal.Run
public import proofs.«01_k».proof.Proof.Reals
public import Idealize.ShloMosaic.Lib.Pointwise
public import Idealize.ShloMosaic.Lib.Tactic.CleanTypes

@[expose] public section

set_option maxRecDepth 16384

/-! # The forward reference's results as real numbers -/

noncomputable section

open Idealize.ShloMosaic Idealize.ShloMosaic.TcCoe Idealize.SL.Sem Idealize.ShloMosaic.StableHlo

namespace Cert.Att

/-- The attention's result, head after head. -/
def outO (X : Inp) (r : Fin 4096) (i : Fin 1024) : ℝ :=
  ∑ k, prob X ⟨i.val / 128, by omega⟩ r k * val X k ⟨i.val / 128, by omega⟩ ⟨i.val % 128, by omega⟩

/-- The logarithm of the softmax's denominator, to the base two. -/
def outL (X : Inp) (h : Fin 8) (r : Fin 4096) : ℝ := Real.log (den X h r) / Real.log 2

end Cert.Att

namespace Cert.Reference2Ideal.Value
open Cert.Reference2Ideal Cert.Reference2Ideal.Gen Cert.Att

/-- The scores of a rotated query and a key. -/
def scoresOf (A B : FVec Ideal S4096x8x192 .f32) : FVec Ideal S8x4096x4096 .f32 :=
  mulf (Host.dotGeneral dot_S4096x8x192_S4096x8x192_S8x4096x4096_2_2_0_0_1_1 none A B)
    (broadcastInDim S8x4096x4096 ![] bcast_S_S8x4096x4096 (Host.divf (constant S_ .f32 0x3F800000#32) (Host.sqrt (constant S_ .f32 0x43400000#32))))

/-- The exponentials of the scores below their row's maximum. -/
def expsOf (x : FVec Ideal S8x4096x4096 .f32) : FVec Ideal S8x4096x4096 .f32 :=
  Host.exp (subf x (broadcastInDim S8x4096x4096 ![0, 1, 2] bcast_S8x4096x1_S8x4096x4096_0_1_2 (broadcastInDim S8x4096x1 ![0, 1] bcast_S8x4096_S8x4096x1_0_1
    (maximumf (broadcastInDim S8x4096 ![] bcast_S_S8x4096 (constant S_ .f32 0xFF800000#32)) (Host.reduce FloatOps.maximumf x (constant S_ .f32 0xFF800000#32) reducesTo_S8x4096x4096_S8x4096_d2 h_S_)))))

/-- The attention's result from exponentials and values. -/
def oOf (V : FVec Ideal S4096x8x128 .f32) (e : FVec Ideal S8x4096x4096 .f32) : FVec Ideal S4096x1024 .bf16 :=
  truncf .bf16 (shapeCast S4096x1024 (transpose S4096x8x128 [2, 0, 1] (Host.dotGeneral dot_S4096x8x128_S8x4096x4096_S8x128x4096_0_2_2_1_1_0 none V
    (Host.divf e (broadcastInDim S8x4096x4096 ![0, 1, 2] bcast_S8x4096x1_S8x4096x4096_0_1_2 (broadcastInDim S8x4096x1 ![0, 1] bcast_S8x4096_S8x4096x1_0_1
      (Host.reduceAdd e (constant S_ .f32 0x00000000#32) reducesTo_S8x4096x4096_S8x4096_d2 h_S_))))) transposes_S8x128x4096_S4096x8x128_2_0_1) shapeCasts_S4096x8x128_S4096x1024) bitsLt_bf16_f32

/-- The logarithm of the sum of exponentials of the scores, to the base two. -/
def lOf (x : FVec Ideal S8x4096x4096 .f32) : FVec Ideal S8x4096x1 .f32 :=
  Host.divf (Host.log (broadcastInDim S8x4096x1 ![0, 1] bcast_S8x4096_S8x4096x1_0_1 (Host.reduceAdd (Host.exp x) (constant S_ .f32 0x00000000#32) reducesTo_S8x4096x4096_S8x4096_d2 h_S_)))
    (broadcastInDim S8x4096x1 ![] bcast_S_S8x4096x1 (Host.log (constant S_ .f32 0x40000000#32)))

/-- The reference's arguments are the real arrays `X`. -/
structure Reads (m : (ℓ : Loc nD τ sig) → Buf (Elt Ideal) ℓ) (c : Dev nD) (X : Inp) : Prop where
  q : ∀ t h d, @Eq EReal (m ((c.tc : Thread nD τ).loc main_arg0) (ix3 t h d)) (X.q t h d : ℝ)
  kv : ∀ t h d, @Eq EReal (m ((c.tc : Thread nD τ).loc main_arg1) (ix3 t h d)) (X.kv t h d : ℝ)
  kr : ∀ t h d, @Eq EReal (m ((c.tc : Thread nD τ).loc main_arg2) (ix3 t h d)) (X.kr t h d : ℝ)
  co : ∀ t j, X.co t j = Real.cos (angle (m ((c.tc : Thread nD τ).loc main_arg3) (ix1 t)) j)
  si : ∀ t j, X.si t j = Real.sin (angle (m ((c.tc : Thread nD τ).loc main_arg3) (ix1 t)) j)

variable {m : (ℓ : Loc nD τ sig) → Buf (Elt Ideal) ℓ} {c : Dev nD} {X : Inp}

/-- A cosine of the tables, for a lane below 32. -/
theorem cos_at (R : Reads m c X) (t : Fin 4096) (j : ℕ) (hj : j < 32) :
    Ideal.cos (FloatOps.sitofp (F := Ideal) .f32 (m ((c.tc : Thread nD τ).loc main_arg3) (ix1 t))
      * Ideal.pow (Ideal.ofBits .f32 0x461C4000#32) (Ideal.div (-FloatOps.sitofp (F := Ideal) .f32 (BitVec.ofNat 32 j)) (Ideal.ofBits .f32 0x42000000#32)))
      = ((X.co t ⟨j, hj⟩ : ℝ) : EReal) := by
  rw [R.co, ← Ideal.cos_coe, ← angle_real]

/-- A sine of the tables, for a lane below 32. -/
theorem sin_at (R : Reads m c X) (t : Fin 4096) (j : ℕ) (hj : j < 32) :
    Ideal.sin (FloatOps.sitofp (F := Ideal) .f32 (m ((c.tc : Thread nD τ).loc main_arg3) (ix1 t))
      * Ideal.pow (Ideal.ofBits .f32 0x461C4000#32) (Ideal.div (-FloatOps.sitofp (F := Ideal) .f32 (BitVec.ofNat 32 j)) (Ideal.ofBits .f32 0x42000000#32)))
      = ((X.si t ⟨j, hj⟩ : ℝ) : EReal) := by
  rw [R.si, ← Ideal.sin_coe, ← angle_real]

set_option maxHeartbeats 1000000 in
/-- The results in terms of the rotated query and the keys, which are real arrays. -/
theorem parts (R : Reads m c X) : ∃ A B : FVec Ideal S4096x8x192 .f32, (∀ t h d, @Eq EReal (A (ix3 t h d)) (rot X t h d : ℝ))
    ∧ (∀ t h d, @Eq EReal (B (ix3 t h d)) (key X t h d : ℝ))
    ∧ res_main_v59 m c = oOf (extractStridedSlice S4096x8x128 ![0, 0, 128] (m ((c.tc : Thread nD τ).loc main_arg1)) slices_S4096x8x256_S4096x8x128_0_0_128) (expsOf (scoresOf A B))
    ∧ res_main_v58 m c = lOf (scoresOf A B) := by
  refine ⟨_, _, ?_, ?_, rfl, rfl⟩
  · intro t h d
    clean_types
    pointwise [R.q]
    by_cases h₁ : d.val < 128
    · rw [dif_pos h₁, rot, dif_pos h₁]
    · by_cases h₂ : d.val < 160
      · rw [dif_neg h₁, dif_pos (by omega), rot, dif_neg h₁, dif_pos h₂, EReal.coe_sub, EReal.coe_mul, EReal.coe_mul, cos_at R t _ (by omega), sin_at R t _ (by omega)]
        congr 4 <;> (congr 1; omega)
      · rw [dif_neg h₁, dif_neg (by omega), rot, dif_neg h₁, dif_neg h₂, EReal.coe_add, EReal.coe_mul, EReal.coe_mul, cos_at R t _ (by omega), sin_at R t _ (by omega)]
        congr 4 <;> (congr 1; omega)
  · intro t h d
    clean_types
    pointwise [R.kv, R.kr]
    by_cases h₁ : d.val < 128
    · rw [dif_pos h₁, key, dif_pos h₁]
    · rw [dif_neg h₁, key, dif_neg h₁]

/-- The scores are real. -/
theorem scores_real {A B : FVec Ideal S4096x8x192 .f32} (hA : ∀ t h d, @Eq EReal (A (ix3 t h d)) (rot X t h d : ℝ))
    (hB : ∀ t h d, @Eq EReal (B (ix3 t h d)) (key X t h d : ℝ)) (h : Fin 8) (r k : Fin 4096) :
    @Eq EReal (scoresOf A B (ix3 h r k)) (score X h r k : ℝ) := by
  pointwise [scoresOf, hA, hB]
  rw [scale_real, score, EReal.coe_mul, coe_sum]
  simp only [EReal.coe_mul]

/-- Dropping the key axis of an index leaves head and row. -/
theorem drop_row (h : Fin 8) (r k : Fin 4096) : reducesTo_S8x4096x4096_S8x4096_d2.drop (ix3 h r k) = ix2 h r := by
  funext a
  match a with
  | ⟨0, _⟩ => rfl
  | ⟨1, _⟩ => rfl

/-- An exponential below the row's maximum, at an index. -/
theorem exp_at (x : FVec Ideal S8x4096x4096 .f32) (b : FVec Ideal S_ .f32) (y : FVec Ideal S8x4096 .f32) (h : Fin 8) (r k : Fin 4096) :
    @Eq EReal (Host.exp (subf x (broadcastInDim S8x4096x4096 ![0, 1, 2] bcast_S8x4096x1_S8x4096x4096_0_1_2 (broadcastInDim S8x4096x1 ![0, 1] bcast_S8x4096_S8x4096x1_0_1 (maximumf (broadcastInDim S8x4096 ![] bcast_S_S8x4096 b) y)))) (ix3 h r k))
      (Ideal.exp (x (ix3 h r k) - max (b ix0) (y (ix2 h r)))) := by
  pointwise

variable {x : FVec Ideal S8x4096x4096 .f32} (hx : ∀ h r k, @Eq EReal (x (ix3 h r k)) (score X h r k : ℝ))
include hx

/-- The exponentials are real. -/
theorem exps_real (h : Fin 8) (r : Fin 4096) : ∃ M : ℝ, ∀ k, @Eq EReal (expsOf x (ix3 h r k)) (Real.exp (score X h r k - M) : ℝ) := by
  obtain ⟨M, hM⟩ := reduce_max_real x (constant S_ .f32 0xFF800000#32) reducesTo_S8x4096x4096_S8x4096_d2 h_S_ (ix2 h r) (ix3 h r 0) (drop_row h r 0)
    (fun i => bits_bot) (fun i => score X (i 0) (i 1) (i 2)) fun i => (congrArg _ (eq_ix3 i)).trans (hx (i 0) (i 1) (i 2))
  refine ⟨M, fun k => (exp_at x (constant S_ .f32 0xFF800000#32) _ h r k).trans ?_⟩
  rw [hx, hM, show @Eq EReal (constant (F := Ideal) S_ .f32 0xFF800000#32 ix0) ⊥ from bits_bot, max_eq_right bot_le, ← EReal.coe_sub, Ideal.exp_coe]

/-- The logarithm of the denominator, to the base two. -/
theorem l_real (h : Fin 8) (r : Fin 4096) : @Eq EReal (lOf x (ix3 h r 0)) (outL X h r : ℝ) := by
  pointwise [lOf, hx]
  simp only [Ideal.exp_coe, ← coe_sum]
  rw [bits_two, Ideal.log_coe, if_neg (show ¬ (∑ k, Real.exp (score X h r k)) ≤ 0 from not_le.2 (den_pos X h r)), Ideal.log_coe, if_neg (by norm_num),
    div_real log_two_pos.ne', outL, den, mul_one_div]

omit hx in
/-- The result at an index, from any exponentials. -/
theorem o_at (V : FVec Ideal S4096x8x128 .f32) (e : FVec Ideal S8x4096x4096 .f32) (r : Fin 4096) (i : Fin 1024) :
    @Eq EReal (oOf V e (ix2 r i)) (∑ k : Fin 4096, V (ix3 k ⟨i.val / 128, by omega⟩ ⟨i.val % 128, by omega⟩)
      * Ideal.div (e (ix3 ⟨i.val / 128, by omega⟩ r k)) (0 + ∑ k' : Fin 4096, e (ix3 ⟨i.val / 128, by omega⟩ r k'))) := by
  pointwise [oOf]

/-- The attention's result. -/
theorem o_real {V : FVec Ideal S4096x8x128 .f32} (hV : ∀ k h d, @Eq EReal (V (ix3 k h d)) (val X k h d : ℝ)) (r : Fin 4096) (i : Fin 1024) :
    @Eq EReal (oOf V (expsOf x) (ix2 r i)) (outO X r i : ℝ) := by
  obtain ⟨M, hM⟩ := exps_real hx ⟨i.val / 128, by omega⟩ r
  refine (o_at _ _ r i).trans ?_
  simp only [hM, hV, ← coe_sum, zero_add]
  refine Eq.trans ?_ (coe_sum _ _).symm
  refine Finset.sum_congr rfl fun (k : Fin 4096) _ => ?_
  rw [div_real, ← shifted_prob X _ r k M, mul_one_div, ← EReal.coe_mul, mul_comm]
  rw [shifted_den]
  exact (div_pos (den_pos X _ r) (Real.exp_pos M)).ne'

omit hx in
/-- The first result. -/
theorem res0_real (R : Reads m c X) (r : Fin 4096) (i : Fin 1024) : @Eq EReal (res_main_v59 m c (ix2 r i)) (outO X r i : ℝ) := by
  obtain ⟨A, B, hA, hB, e, -⟩ := parts R
  rw [e]
  refine o_real (scores_real hA hB) (fun k h d => ?_) r i
  pointwise [R.kv]
  rfl

omit hx in
/-- The second result. -/
theorem res1_real (R : Reads m c X) (h : Fin 8) (r : Fin 4096) : @Eq EReal (res_main_v58 m c (ix3 h r 0)) (outL X h r : ℝ) := by
  obtain ⟨A, B, hA, hB, -, e⟩ := parts R
  rw [e]
  exact l_real (scores_real hA hB) h r

end Cert.Reference2Ideal.Value
-- ==== Proof.FwdValues.lean ====
module

public import proofs.«01_k».proof.Proof.FwdBlocks
public import proofs.«01_k».proof.Proof.FwdPoint
public import proofs.«01_k».proof.Proof.FwdRef

@[expose] public section

set_option maxRecDepth 16384

/-! # The forward kernel's results, as real numbers -/

noncomputable section

open Idealize.ShloMosaic Idealize.ShloMosaic.TcCoe Idealize.SL.Sem

namespace Cert.Kernel2Ideal.Value
open Cert.Kernel2Ideal Cert.Kernel2Ideal.Gen Cert.Att

/-- Weighted exponentials over their sum are weighted probabilities. -/
theorem sum_prob (X : Inp) (h : Fin 8) (r : Fin 4096) (f : Fin 4096 → ℝ) :
    (∑ k, Real.exp (score X h r k) * f k) / den X h r = ∑ k, prob X h r k * f k := by
  rw [Finset.sum_div]
  exact Finset.sum_congr rfl fun k _ => by rw [prob]; ring

variable {m : (ℓ : Loc nD τ sig) → Buf (Elt Ideal) ℓ} {c : Dev nD} {X : Inp} (R : Reads m c X)
include R

/-- What a point writes of the result. -/
theorem out3_real (t : Fin cfg0.N) (r : Fin 2048) (d : Fin 128) :
    @Eq EReal (out0_3 (iblk m c 0 t) (iblk m c 1 t) (iblk m c 2 t) (ix2 r d)) (∑ k, prob X (headOf t) (tileRow t r) k * val X k (headOf t) d : ℝ) := by
  have H := carried_is (ρ := tileRow t) (iblk_q R t) (iblk_k R t) (iblk_v R t)
  refine (congrFun (out3_eq _ _ _) (ix2 r d)).trans ((o_real H (den_pos X _ _) d).trans ?_)
  rw [sum_prob]

/-- What a point writes of the logarithms. -/
theorem out4_real (t : Fin cfg0.N) (r : Fin 2048) :
    @Eq EReal (out0_4 (iblk m c 0 t) (iblk m c 1 t) (iblk m c 2 t) (ix3 0 r 0)) (outL X (headOf t) (tileRow t r) : ℝ) := by
  have H := carried_is (ρ := tileRow t) (iblk_q R t) (iblk_k R t) (iblk_v R t)
  exact (congrFun (out4_eq _ _ _) (ix3 0 r 0)).trans (l_real H (den_pos X _ _))

/-- The kernel's result. -/
theorem res3_real (i : S4096x1024.Idx) : @Eq EReal ((dats m 0 c).arrAt 3 cfg0.N i) (outO X (i 0) (i 1) : ℝ) := by
  refine (dats m 0 c).arrAt_forall_of_covers 3 (fun i v => @Eq EReal v (outO X (i 0) (i 1) : ℝ)) (by decide +kernel) (fun t hf y => ?_) i
  obtain ⟨e0, e1, e2, e3, e4, hN⟩ := idx t
  blk_simp [e3]
  rw [after0_3]
  idx_vars y
  have e : ((View.whole main_v45_0).slice (win0_3.rect t)).emb (ix2 y0 y1) = ix2 (tileRow t y0) (⟨t.val / 2 * 128 + y1.val, by omega⟩ : Fin 1024) := by
    blk_ext [e3, tileRow]
  rw [e]
  refine (out3_real R t _ _).trans (congrArg _ ?_)
  show _ = outO X (tileRow t y0) ⟨t.val / 2 * 128 + y1.val, by omega⟩
  have eh : (⟨(t.val / 2 * 128 + y1.val) / 128, by omega⟩ : Fin 8) = headOf t := Fin.ext (by show (t.val / 2 * 128 + y1.val) / 128 = t.val / 2 % 8; omega)
  have ed : (⟨(t.val / 2 * 128 + y1.val) % 128, by omega⟩ : Fin 128) = y1 := Fin.ext (by show (t.val / 2 * 128 + y1.val) % 128 = _; omega)
  simp only [outO, eh, ed]

/-- The kernel's logarithms. -/
theorem res4_real (i : S8x4096x1.Idx) : @Eq EReal ((dats m 0 c).arrAt 4 cfg0.N i) (outL X (i 0) (i 1) : ℝ) := by
  refine (dats m 0 c).arrAt_forall_of_covers 4 (fun i v => @Eq EReal v (outL X (i 0) (i 1) : ℝ)) (by decide +kernel) (fun t hf y => ?_) i
  obtain ⟨e0, e1, e2, e3, e4, hN⟩ := idx t
  blk_simp [e4]
  rw [after0_4]
  idx_vars y
  rw [Subsingleton.elim y0 0, Subsingleton.elim y2 0]
  have e : ((View.whole main_v45_1).slice (win0_4.rect t)).emb (ix3 (0 : Fin 1) y1 (0 : Fin 1)) = ix3 (headOf t) (tileRow t y1) (0 : Fin 1) := by
    blk_ext [e4, headOf, tileRow]
  rw [e]
  exact out4_real R t y1

end Cert.Kernel2Ideal.Value
-- ==== Proof.FwdFinal.lean ====
module

public import proofs.«01_k».proof.Defs
public import proofs.«01_k».proof.Pre_finite2
public import proofs.«01_k».proof.Proof.Frames2
public import proofs.«01_k».proof.Proof.Gen.Kernel2Ideal.Value
public import proofs.«01_k».proof.Proof.FwdValues
public import proofs.«01_k».proof.Proof.Final

@[expose] public section

set_option maxRecDepth 16384

/-! # The forward kernel's results are the reference's -/

noncomputable section

open Idealize.ShloMosaic Idealize.ShloMosaic.TcCoe Idealize.SL.Sem Idealize.ShloMosaic.StableHlo

namespace Cert.Proof
open Cert.Att

/-- A scalar has one index. -/
instance subsingleton2 : Subsingleton Cert.Pre_finite2.S_.Idx := inferInstanceAs (Subsingleton (∀ a : Fin 0, Fin _))

/-- Where the precondition holds the forward kernel's arguments are real arrays. -/
theorem exists_reals2 (m : (ℓ : Loc Cert.Kernel2Ideal.nD Cert.Kernel2Ideal.τ Cert.Kernel2Ideal.sig) → Buf (Elt Ideal) ℓ)
    (h : letI := finite2_facts; Cert.Pre_Kernel2Ideal_finite2 m) (c : Dev Cert.Kernel2Ideal.nD) :
    ∃ X : Inp, Cert.Kernel2Ideal.Value.Reads m c X := by
  letI := finite2_facts
  obtain ⟨h0, h1, h2⟩ := h c
  dsimp only [Cert.Pre_finite2.fn, Cert.Pre_finite2.fn_part1] at h0 h1 h2
  have f0 := fun t h d => real_of_between _ (Host.reduce_andi_all _ _ _ _ ix0 (congrFun h0 ix0) (ix3 t h d))
  have f1 := fun t h d => real_of_between _ (Host.reduce_andi_all _ _ _ _ ix0 (congrFun h1 ix0) (ix3 t h d))
  have f2 := fun t h d => real_of_between _ (Host.reduce_andi_all _ _ _ _ ix0 (congrFun h2 ix0) (ix3 t h d))
  choose q hq using f0
  choose kv hkv using f1
  choose kr hkr using f2
  exact ⟨⟨q, kv, kr, fun t j => Real.cos (angle (m (c, Proc.devRef .tc Cert.Kernel2Ideal.main_arg3) (ix1 t)) j),
    fun t j => Real.sin (angle (m (c, Proc.devRef .tc Cert.Kernel2Ideal.main_arg3) (ix1 t)) j), fun _ _ => 0⟩,
    ⟨hq, hkv, hkr, fun _ _ => rfl, fun _ _ => rfl⟩⟩

/-- The forward kernel's two results are the reference's, on real arguments. -/
theorem value2 : letI := finite2_facts; Cert.algebraic_Kernel2Ideal_Reference2Ideal_pre_finite2 := by
  letI := finite2_facts
  intro m ρ m' ρ' hpre hagree
  refine ⟨_, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨X, R⟩ := exists_reals2 m hpre c
  obtain ⟨a0, a1, a2, a3⟩ := hagree c
  have S : Cert.Reference2Ideal.Value.Reads m' c X :=
    ⟨fun t h d => (congrFun a0 (ix3 t h d)).trans (R.q t h d), fun t h d => (congrFun a1 (ix3 t h d)).trans (R.kv t h d),
      fun t h d => (congrFun a2 (ix3 t h d)).trans (R.kr t h d),
      fun t j => (R.co t j).trans (congrArg (fun p => Real.cos (angle p j)) (congrFun a3 (ix1 t)).symm),
      fun t j => (R.si t j).trans (congrArg (fun p => Real.sin (angle p j)) (congrFun a3 (ix1 t)).symm)⟩
  obtain ⟨r0, r1, kept⟩ := h c
  refine ⟨r0.trans ?_, r1.trans ?_, kept⟩
  · funext i
    refine Eq.trans ?_ (Cert.Kernel2Ideal.Value.res3_real R i).symm
    rw [eq_ix2 i]
    exact Cert.Reference2Ideal.Value.res0_real S _ _
  · funext i
    refine Eq.trans ?_ (Cert.Kernel2Ideal.Value.res4_real R i).symm
    have e : i = ix3 (i 0) (i 1) (0 : Fin 1) := by
      rw [eq_ix3 i]; exact congrArg _ (Subsingleton.elim (α := Fin 1) _ _)
    rw [e]
    exact Cert.Reference2Ideal.Value.res1_real S _ _

end Cert.Proof
-- ==== Proof.NormReals.lean ====
module

public import proofs.«01_k».proof.Proof.Reals

@[expose] public section

set_option maxRecDepth 16384

/-! # A norm's backward pass and the product in front of it, over the extended reals -/

noncomputable section

namespace Cert.Att

/-- What a norm's backward pass starts from: the gradient after the norm and its gains' product, the norm's argument, the
gains, and the gradient that the residual adds. -/
structure NormInp where
  dy : Fin 4096 → Fin 1024 → EReal
  x : Fin 4096 → Fin 1024 → EReal
  g : Fin 1024 → EReal
  d : Fin 4096 → Fin 1024 → EReal

namespace NormInp

/-- The number added to the mean of the squares. -/
def eps : ℝ := (Idealize.ShloMosaic.Ideal.ofBits .f32 0x358637BD#32).toReal

/-- Its float word. -/
theorem bits_eps : Idealize.ShloMosaic.Ideal.ofBits .f32 0x358637BD#32 = ((eps : ℝ) : EReal) ∧ 0 < eps := by
  have h : ∃ e : ℝ, 0 < e ∧ Idealize.ShloMosaic.Ideal.ofBits .f32 0x358637BD#32 = ((e : ℝ) : EReal) := by
    simp [Idealize.ShloMosaic.Ideal.ofBits, Idealize.ShloMosaic.Ideal.ieee, -EReal.coe_mul]
  obtain ⟨e, he, h⟩ := h
  rw [eps, h, EReal.toReal_coe]
  exact ⟨rfl, he⟩

/-- The float word of 1024. -/
theorem bits_rows : Idealize.ShloMosaic.Ideal.ofBits .f32 0x44800000#32 = ((1024 : ℝ) : EReal) := by
  simp [Idealize.ShloMosaic.Ideal.ofBits, Idealize.ShloMosaic.Ideal.ieee, -EReal.coe_mul]; norm_num

/-- The float word of minus a half. -/
theorem bits_minus_half : Idealize.ShloMosaic.Ideal.ofBits .f32 0xBF000000#32 = ((-(1 / 2) : ℝ) : EReal) := by
  simp [Idealize.ShloMosaic.Ideal.ofBits, Idealize.ShloMosaic.Ideal.ieee, -EReal.coe_mul]; norm_num

/-- Division by 1024. -/
theorem div_rows (y : EReal) : Idealize.ShloMosaic.Ideal.div y ((1024 : ℝ) : EReal) = y * ((1 / 1024 : ℝ) : EReal) :=
  Idealize.ShloMosaic.Ideal.div_coe (by norm_num) y

/-- A positive real number is taken out of a sum, whatever the terms are. -/
theorem pos_mul_sum {ι : Type*} (s : Finset ι) (ρ : ℝ) (hρ : 0 < ρ) (f : ι → EReal) : (ρ : EReal) * ∑ i ∈ s, f i = ∑ i ∈ s, (ρ : EReal) * f i := by
  classical
  induction s using Finset.induction_on with
  | empty => simp
  | insert a s ha ih =>
    rw [Finset.sum_insert ha, Finset.sum_insert ha, EReal.left_distrib_of_nonneg_of_ne_top (by exact_mod_cast hρ.le) (EReal.coe_ne_top ρ), ih]

/-- A sum of squares with an infinite term is infinite. -/
theorem sum_sq_top {ι : Type*} (s : Finset ι) (f : ι → EReal) {i : ι} (hi : i ∈ s) (h : f i * f i = ⊤) : ∑ i ∈ s, f i * f i = ⊤ := by
  classical
  have hsq : ∀ y : EReal, 0 ≤ y * y := fun y => by
    rcases le_total 0 y with hy | hy
    · exact mul_nonneg hy hy
    · rw [← neg_mul_neg y y]; exact mul_nonneg (EReal.neg_nonneg.mpr hy) (EReal.neg_nonneg.mpr hy)
  exact top_le_iff.mp (h ▸ Finset.single_le_sum (f := fun i => f i * f i) (fun j _ => hsq (f j)) hi)

/-- Twice what the mean of the squares passes back is the mean's part of the gradient, also where the gradient is infinite. -/
theorem meet (D A : EReal) (ξ ρ μ : ℝ) (hμ : 0 < μ) (hρ : 0 < ρ) (h : ρ * ρ = 1 / μ) :
    D * (ρ : EReal) + (ξ : EReal) * (A * ((-(1 / 2) * (ρ * (1 / μ)) : ℝ) : EReal) * ((1 / 1024 : ℝ) : EReal))
      + A * ((-(1 / 2) * (ρ * (1 / μ)) : ℝ) : EReal) * ((1 / 1024 : ℝ) : EReal) * (ξ : EReal)
    = (ρ : EReal) * (D - (ξ : EReal) * (ρ : EReal) * ((ρ : EReal) * A * ((1 / 1024 : ℝ) : EReal))) := by
  have hκ : -(1 / 2) * (ρ * (1 / μ)) < 0 := by have : 0 < ρ * (1 / μ) := by positivity
                                               linarith
  have h1 : (0 : ℝ) < 1 / 1024 := by norm_num
  induction A with
  | coe A =>
    simp only [← EReal.coe_mul]
    induction D with
    | coe D =>
      simp only [← EReal.coe_mul, ← EReal.coe_add, ← EReal.coe_sub]
      refine congrArg _ ?_
      rw [← h]
      ring
    | top => rw [EReal.top_mul_coe_of_pos hρ, EReal.top_add_coe, EReal.top_add_coe, EReal.top_sub_coe, EReal.coe_mul_top_of_pos hρ]
    | bot => rw [EReal.bot_mul_coe_of_pos hρ, EReal.bot_add, EReal.bot_add, EReal.bot_sub, EReal.coe_mul_bot_of_pos hρ]
  | top =>
    rw [EReal.top_mul_coe_of_neg hκ, EReal.bot_mul_coe_of_pos h1, EReal.coe_mul_top_of_pos hρ, EReal.top_mul_coe_of_pos h1, ← EReal.coe_mul]
    rcases lt_trichotomy ξ 0 with hξ | hξ | hξ
    · rw [EReal.coe_mul_bot_of_neg hξ, EReal.bot_mul_coe_of_neg hξ, EReal.coe_mul_top_of_neg (mul_neg_of_neg_of_pos hξ hρ)]
      induction D with
      | coe D => rw [← EReal.coe_mul, EReal.coe_add_top, EReal.top_add_top, EReal.coe_sub_bot, EReal.coe_mul_top_of_pos hρ]
      | top => rw [EReal.top_mul_coe_of_pos hρ, EReal.top_add_top, EReal.top_add_top, EReal.top_sub_bot, EReal.coe_mul_top_of_pos hρ]
      | bot => rw [EReal.bot_mul_coe_of_pos hρ, EReal.bot_add, EReal.bot_add, EReal.bot_sub, EReal.coe_mul_bot_of_pos hρ]
    · subst hξ; simp [mul_comm]
    · rw [EReal.coe_mul_bot_of_pos hξ, EReal.bot_mul_coe_of_pos hξ, EReal.coe_mul_top_of_pos (mul_pos hξ hρ), EReal.add_bot, EReal.sub_top,
        EReal.coe_mul_bot_of_pos hρ]
  | bot =>
    rw [EReal.bot_mul_coe_of_neg hκ, EReal.top_mul_coe_of_pos h1, EReal.coe_mul_bot_of_pos hρ, EReal.bot_mul_coe_of_pos h1, ← EReal.coe_mul]
    rcases lt_trichotomy ξ 0 with hξ | hξ | hξ
    · rw [EReal.coe_mul_top_of_neg hξ, EReal.top_mul_coe_of_neg hξ, EReal.coe_mul_bot_of_neg (mul_neg_of_neg_of_pos hξ hρ), EReal.add_bot, EReal.sub_top,
        EReal.coe_mul_bot_of_pos hρ]
    · subst hξ; simp [mul_comm]
    · rw [EReal.coe_mul_top_of_pos hξ, EReal.top_mul_coe_of_pos hξ, EReal.coe_mul_bot_of_pos (mul_pos hξ hρ)]
      induction D with
      | coe D => rw [← EReal.coe_mul, EReal.coe_add_top, EReal.top_add_top, EReal.coe_sub_bot, EReal.coe_mul_top_of_pos hρ]
      | top => rw [EReal.top_mul_coe_of_pos hρ, EReal.top_add_top, EReal.top_add_top, EReal.top_sub_bot, EReal.coe_mul_top_of_pos hρ]
      | bot => rw [EReal.bot_mul_coe_of_pos hρ, EReal.bot_add, EReal.bot_add, EReal.bot_sub, EReal.coe_mul_bot_of_pos hρ]

variable (X : NormInp)

/-- The mean of the squares, away from zero. -/
def ms (r : Fin 4096) : EReal := Idealize.ShloMosaic.Ideal.div (∑ i, X.x r i * X.x r i) ((1024 : ℝ) : EReal) + ((eps : ℝ) : EReal)

/-- One over the root of the mean. -/
def inv (r : Fin 4096) : EReal := Idealize.ShloMosaic.Ideal.rsqrt (X.ms r)

/-- The mean of the gradient against the normalised row. -/
def mean (r : Fin 4096) : EReal := Idealize.ShloMosaic.Ideal.div (∑ i, X.dy r i * X.g i * (X.x r i * X.inv r)) ((1024 : ℝ) : EReal)

/-- The gradient with respect to the norm's argument, the residual's added. -/
def dx (r : Fin 4096) (i : Fin 1024) : EReal := X.inv r * (X.dy r i * X.g i - X.x r i * X.inv r * X.mean r) + X.d r i

/-- The gradient with respect to the gains. -/
def dg (i : Fin 1024) : EReal := ∑ r, X.dy r i * (X.x r i * X.inv r)

/-- What the mean of the squares passes back, per entry of the row. -/
def corr (r : Fin 4096) : EReal :=
  Idealize.ShloMosaic.Ideal.div ((∑ i, X.x r i * (X.dy r i * X.g i)) * (((-(1 / 2) : ℝ) : EReal) * Idealize.ShloMosaic.Ideal.div (X.inv r) (X.ms r))) ((1024 : ℝ) : EReal)

/-- A row's entries are real numbers, and so is its inverse root, or the inverse root is zero. -/
theorem row_cases (r : Fin 4096) :
    (∃ (ξ : Fin 1024 → ℝ) (μ ρ : ℝ), (∀ i, X.x r i = (ξ i : EReal)) ∧ 0 < μ ∧ 0 < ρ ∧ ρ * ρ = 1 / μ ∧ X.ms r = (μ : EReal) ∧ X.inv r = (ρ : EReal))
    ∨ (X.inv r = 0 ∧ X.ms r = ⊤) := by
  by_cases hx : ∀ i, X.x r i ≠ ⊤ ∧ X.x r i ≠ ⊥
  · left
    have hm : X.ms r = (((∑ i, (X.x r i).toReal * (X.x r i).toReal) * (1 / 1024) + eps : ℝ) : EReal) := by
      rw [ms, div_rows, EReal.coe_add, EReal.coe_mul, coe_sum]
      refine congrArg (· * ((1 / 1024 : ℝ) : EReal) + ((eps : ℝ) : EReal)) (Finset.sum_congr rfl fun i _ => ?_)
      rw [EReal.coe_mul, EReal.coe_toReal (hx i).1 (hx i).2]
    have hp : 0 < (∑ i, (X.x r i).toReal * (X.x r i).toReal) * (1 / 1024) + eps :=
      add_pos_of_nonneg_of_pos (mul_nonneg (Finset.sum_nonneg fun _ _ => mul_self_nonneg _) (by norm_num)) bits_eps.2
    refine ⟨fun i => (X.x r i).toReal, _, _, fun i => (EReal.coe_toReal (hx i).1 (hx i).2).symm, hp, inv_pos.mpr (Real.sqrt_pos.mpr hp), ?_, hm, ?_⟩
    · rw [← mul_inv, Real.mul_self_sqrt hp.le]
      exact (one_div _).symm
    · rw [inv, hm, Idealize.ShloMosaic.Ideal.rsqrt_coe, if_neg hp.not_gt, if_neg hp.ne']
  · right
    obtain ⟨i, hi⟩ := not_forall.mp hx
    have ht : X.x r i * X.x r i = ⊤ := by
      by_cases h : X.x r i = ⊤
      · rw [h, EReal.top_mul_top]
      · rw [not_not.mp fun hb => hi ⟨h, hb⟩, EReal.bot_mul_bot]
    have hm : X.ms r = ⊤ := by
      rw [ms, sum_sq_top _ _ (Finset.mem_univ i) ht, div_rows, EReal.top_mul_coe_of_pos (by norm_num), EReal.top_add_coe]
    exact ⟨by rw [inv, hm, Idealize.ShloMosaic.Ideal.rsqrt_top], hm⟩

/-- Twice what the mean of the squares passes back is the mean's part of the gradient. -/
theorem dx_eq (r : Fin 4096) (i : Fin 1024) :
    X.dy r i * X.g i * X.inv r + X.x r i * X.corr r + X.corr r * X.x r i + X.d r i = X.dx r i := by
  refine congrArg (· + X.d r i) ?_
  rcases X.row_cases r with ⟨ξ, μ, ρ, hx, hμ, hρ, h, hm, hi⟩ | ⟨hi, hm⟩
  · have hs : ∑ i, X.dy r i * X.g i * (X.x r i * (ρ : EReal)) = (ρ : EReal) * ∑ i, X.x r i * (X.dy r i * X.g i) := by
      rw [pos_mul_sum _ ρ hρ]
      refine Finset.sum_congr rfl fun i _ => ?_
      rw [← mul_assoc, mul_comm, mul_comm (X.dy r i * X.g i)]
    rw [corr, mean, hm, hi, hs, div_rows, div_rows, Idealize.ShloMosaic.Ideal.div_coe hμ.ne', hx i, ← EReal.coe_mul, ← EReal.coe_mul]
    exact meet _ _ _ ρ μ hμ hρ h
  · have hc : X.corr r = 0 := by
      rw [corr, hi, hm, div_rows, Idealize.ShloMosaic.Ideal.div, if_neg EReal.top_ne_zero, zero_mul, mul_zero, mul_zero, zero_mul]
    rw [hc, hi, mul_zero, mul_zero, zero_mul, zero_mul, add_zero, add_zero]

end NormInp

/-- The second norm's backward call: its arguments. -/
structure UpInp where
  a : Fin 4096 → Fin 2816 → EReal
  b : Fin 4096 → Fin 2816 → EReal
  w : Fin 5632 → Fin 1024 → EReal
  x : Fin 4096 → Fin 1024 → EReal
  g : Fin 1024 → EReal
  d : Fin 4096 → Fin 1024 → EReal

namespace UpInp

/-- A row of the weight's gate half. -/
def lo (k : Fin 2816) : Fin 5632 := ⟨k.val, by omega⟩

/-- A row of the weight's value half. -/
def hi (k : Fin 2816) : Fin 5632 := ⟨2816 + k.val, by omega⟩

/-- The gradient with respect to the norm's result. -/
def dy (X : UpInp) (r : Fin 4096) (i : Fin 1024) : EReal := ∑ k, X.a r k * X.w (lo k) i + ∑ k, X.b r k * X.w (hi k) i

/-- What the norm's backward pass starts from. -/
abbrev norm (X : UpInp) : NormInp := ⟨X.dy, X.x, X.g, X.d⟩

end UpInp

/-- The first norm's backward call: its arguments. -/
structure ProjInp where
  a : Fin 4096 → Fin 4096 → EReal
  w : Fin 4096 → Fin 1024 → EReal
  x : Fin 4096 → Fin 1024 → EReal
  g : Fin 1024 → EReal
  d : Fin 4096 → Fin 1024 → EReal

namespace ProjInp

/-- The gradient with respect to the norm's result. -/
def dy (X : ProjInp) (r : Fin 4096) (i : Fin 1024) : EReal := ∑ k, X.a r k * X.w k i

/-- What the norm's backward pass starts from. -/
abbrev norm (X : ProjInp) : NormInp := ⟨X.dy, X.x, X.g, X.d⟩

end ProjInp
end Cert.Att
-- ==== Proof.NormBody.lean ====
module

public import proofs.«01_k».proof.Proof.Gen.Kernel3Ideal.Frame
public import proofs.«01_k».proof.Proof.NormReals
public import Idealize.ShloMosaic.Lib.Pipeline.ValueKit

@[expose] public section

set_option maxRecDepth 16384

/-! # The body of the second norm's backward kernel, entry by entry -/

noncomputable section

open Idealize.ShloMosaic Idealize.ShloMosaic.TcCoe Idealize.SL.Sem

namespace Cert.Kernel3Ideal.Value
open Cert.Kernel3Ideal Cert.Kernel3Ideal.Gen Cert.Att Cert.Att.NormInp Cert.Att.UpInp

/-- What a grid point holds: a tile of rows of the row arrays, and the weight's two halves. -/
structure Tile (X : UpInp) (ρ : Fin 256 → Fin 4096) (a b : FVec Ideal S256x2816 .bf16) (u v : FVec Ideal S2816x1024 .bf16)
    (x : FVec Ideal S256x1024 .f32) : Prop where
  a : ∀ r k, @Eq EReal (a (ix2 r k)) (X.a (ρ r) k)
  b : ∀ r k, @Eq EReal (b (ix2 r k)) (X.b (ρ r) k)
  u : ∀ k i, @Eq EReal (u (ix2 k i)) (X.w (lo k) i)
  v : ∀ k i, @Eq EReal (v (ix2 k i)) (X.w (hi k) i)
  x : ∀ r i, @Eq EReal (x (ix2 r i)) (X.x (ρ r) i)

variable {X : UpInp} {ρ : Fin 256 → Fin 4096} {a b : FVec Ideal S256x2816 .bf16} {u v : FVec Ideal S2816x1024 .bf16}
  {x d : FVec Ideal S256x1024 .f32} {g : FVec Ideal S1x1024 .f32} (T : Tile X ρ a b u v x)
include T

/-- The product of a tile. -/
theorem pay4_at (r : Fin 256) (i : Fin 1024) : @Eq EReal (k0_pay4 (F := Ideal) a u b v (ix2 r i)) (X.dy (ρ r) i) := by
  pointwise [k0_pay4, T.a, T.b, T.u, T.v]
  rfl

/-- One over the root of the mean square of a row. -/
theorem pay5_at (r : Fin 256) : @Eq EReal (k0_pay5 (F := Ideal) x (ix2 r 0)) (X.norm.inv (ρ r)) := by
  pointwise [k0_pay5, T.x]
  rw [bits_rows, bits_eps.1, NormInp.inv, ms]

/-- The normalised row. -/
theorem pay6_at (r : Fin 256) (i : Fin 1024) : @Eq EReal (k0_pay6 (F := Ideal) x (ix2 r i)) (X.x (ρ r) i * X.norm.inv (ρ r)) := by
  have h := pay5_at T
  generalize hp : k0_pay5 (F := Ideal) x = p at h
  pointwise [k0_pay6, hp, h, T.x]

/-- The tile's part of the gains' gradient. -/
theorem pay7_at (i : Fin 1024) : @Eq EReal (k0_pay7 (F := Ideal) a u b v x (ix2 0 i)) (∑ r, X.dy (ρ r) i * (X.x (ρ r) i * X.norm.inv (ρ r))) := by
  have h := pay6_at T
  generalize hp : k0_pay6 (F := Ideal) x = p at h
  have h' := pay4_at T
  generalize hq : k0_pay4 (F := Ideal) a u b v = q at h'
  pointwise [k0_pay7, hp, hq, h, h']

/-- The gradient with respect to the norm's argument. -/
theorem pay8_at (hg : ∀ i, @Eq EReal (g (ix2 0 i)) (X.g i)) (hd : ∀ r i, @Eq EReal (d (ix2 r i)) (X.d (ρ r) i)) (r : Fin 256) (i : Fin 1024) :
    @Eq EReal (k0_pay8 (F := Ideal) a u b v x g d (ix2 r i)) (X.norm.dx (ρ r) i) := by
  have h := pay6_at T
  generalize hp : k0_pay6 (F := Ideal) x = p at h
  have h' := pay4_at T
  generalize hq : k0_pay4 (F := Ideal) a u b v = q at h'
  have h'' := pay5_at T
  generalize hs : k0_pay5 (F := Ideal) x = s at h''
  pointwise [k0_pay8, hp, hq, hs, h, h', h'', hg, hd]
  rw [bits_rows, dx, mean]

end Cert.Kernel3Ideal.Value
-- ==== Proof.NormValues.lean ====
module

public import proofs.«01_k».proof.Proof.Gen.Kernel3Ideal.Value
public import proofs.«01_k».proof.Proof.NormBody
public import Idealize.ShloMosaic.Lib.Pipeline.ReadBack

@[expose] public section

set_option maxRecDepth 16384

/-! # The results of the second norm's backward kernel, entry by entry -/

noncomputable section

open Idealize.ShloMosaic Idealize.ShloMosaic.TcCoe Idealize.SL.Sem

namespace Cert.Kernel3Ideal.Value
open Cert.Kernel3Ideal Cert.Kernel3Ideal.Gen Cert.Att Cert.Att.NormInp Cert.Att.UpInp

/-- The memory holds the arguments `X`. -/
structure Reads (m : (ℓ : Loc nD τ sig) → Buf (Elt Ideal) ℓ) (c : Dev nD) (X : UpInp) : Prop where
  a : ∀ r k, @Eq EReal (m ((c.tc : Thread nD τ).loc main_arg0) (ix2 r k)) (X.a r k)
  b : ∀ r k, @Eq EReal (m ((c.tc : Thread nD τ).loc main_arg1) (ix2 r k)) (X.b r k)
  w : ∀ k i, @Eq EReal (m ((c.tc : Thread nD τ).loc main_arg2) (ix2 k i)) (X.w k i)
  x : ∀ r i, @Eq EReal (m ((c.tc : Thread nD τ).loc main_arg3) (ix2 r i)) (X.x r i)
  g : ∀ i, @Eq EReal (m ((c.tc : Thread nD τ).loc main_arg4) (ix2 0 i)) (X.g i)
  d : ∀ r i, @Eq EReal (m ((c.tc : Thread nD τ).loc main_arg5) (ix2 r i)) (X.d r i)

variable {m : (ℓ : Loc nD τ sig) → Buf (Elt Ideal) ℓ} {c : Dev nD} {X : UpInp} (R : Reads m c X)

/-- The rows a point works on. -/
def tileRow (t : ℕ) (r : Fin 256) : Fin 4096 := ⟨t % 16 * 256 + r.val, by omega⟩

/-- Which block of each argument and result a point holds, and which point writes the gains' gradient back. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] ∧ t.val < 16 ∧ ((cfg0.win 8).flush t = true → t.val = 15) :=
  (by decide +kernel : ∀ t : Fin grid0.N, _)

include R

/-- An entry of the block of the first half. -/
theorem iblk_a (t : Fin cfg0.N) (r : Fin 256) (k : Fin 2816) : @Eq EReal (iblk m c 0 t (ix2 r k)) (X.a (tileRow t r) k) := by
  obtain ⟨e0, e1, e2, e3, e4, e5, e6, e7, e8, hN, hf⟩ := idx t
  have e : @Eq EReal (iblk m c 0 t (ix2 r k)) (m ((c.tc : Thread nD τ).loc main_arg0) (ix2 (tileRow t r) k)) := by
    blk_ext [iblk, V, e0, tileRow]
  exact e.trans (R.a _ _)

/-- An entry of the block of the second half. -/
theorem iblk_b (t : Fin cfg0.N) (r : Fin 256) (k : Fin 2816) : @Eq EReal (iblk m c 2 t (ix2 r k)) (X.b (tileRow t r) k) := by
  obtain ⟨e0, e1, e2, e3, e4, e5, e6, e7, e8, hN, hf⟩ := idx t
  have e : @Eq EReal (iblk m c 2 t (ix2 r k)) (m ((c.tc : Thread nD τ).loc main_arg1) (ix2 (tileRow t r) k)) := by
    blk_ext [iblk, V, e2, tileRow]
  exact e.trans (R.b _ _)

/-- An entry of the block of the weight. -/
theorem iblk_w (t : Fin cfg0.N) (k : Fin 5632) (i : Fin 1024) : @Eq EReal (iblk m c 1 t (ix2 k i)) (X.w k i) := by
  obtain ⟨e0, e1, e2, e3, e4, e5, e6, e7, e8, hN, hf⟩ := idx t
  have e : @Eq EReal (iblk m c 1 t (ix2 k i)) (m ((c.tc : Thread nD τ).loc main_arg2) (ix2 k i)) := by
    blk_ext [iblk, V, e1]
  exact e.trans (R.w _ _)

/-- An entry of the block of the norm's argument. -/
theorem iblk_x (t : Fin cfg0.N) (r : Fin 256) (i : Fin 1024) : @Eq EReal (iblk m c 3 t (ix2 r i)) (X.x (tileRow t r) i) := by
  obtain ⟨e0, e1, e2, e3, e4, e5, e6, e7, e8, hN, hf⟩ := idx t
  have e : @Eq EReal (iblk m c 3 t (ix2 r i)) (m ((c.tc : Thread nD τ).loc main_arg3) (ix2 (tileRow t r) i)) := by
    blk_ext [iblk, V, e3, tileRow]
  exact e.trans (R.x _ _)

/-- An entry of the block of the gains. -/
theorem iblk_g (t : Fin cfg0.N) (i : Fin 1024) : @Eq EReal (iblk m c 4 t (ix2 0 i)) (X.g i) := by
  obtain ⟨e0, e1, e2, e3, e4, e5, e6, e7, e8, hN, hf⟩ := idx t
  have e : @Eq EReal (iblk m c 4 t (ix2 0 i)) (m ((c.tc : Thread nD τ).loc main_arg4) (ix2 0 i)) := by
    blk_ext [iblk, V, e4]
  exact e.trans (R.g _)

/-- An entry of the block of the residual's gradient. -/
theorem iblk_d (t : Fin cfg0.N) (r : Fin 256) (i : Fin 1024) : @Eq EReal (iblk m c 5 t (ix2 r i)) (X.d (tileRow t r) i) := by
  obtain ⟨e0, e1, e2, e3, e4, e5, e6, e7, e8, hN, hf⟩ := idx t
  have e : @Eq EReal (iblk m c 5 t (ix2 r i)) (m ((c.tc : Thread nD τ).loc main_arg5) (ix2 (tileRow t r) i)) := by
    blk_ext [iblk, V, e5, tileRow]
  exact e.trans (R.d _ _)

/-- What a point holds. -/
theorem tile_at (t : Fin cfg0.N) (i₁ : ∀ a, (![0, 0] : Fin 2 → ℕ) a + (![2816, 1024] : Fin 2 → ℕ) a ≤ S5632x1024.size a)
    (i₂ : ∀ a, (![2816, 0] : Fin 2 → ℕ) a + (![2816, 1024] : Fin 2 → ℕ) a ≤ S5632x1024.size a) :
    Tile X (tileRow t) (iblk m c 0 t) (iblk m c 2 t)
      (View.ld (Val := Elt Ideal) (e' := .bf16) (iblk m c 1 t) (Rect.unit (s := S5632x1024) ![0, 0] ![2816, 1024] i₁))
      (View.ld (Val := Elt Ideal) (e' := .bf16) (iblk m c 1 t) (Rect.unit (s := S5632x1024) ![2816, 0] ![2816, 1024] i₂)) (iblk m c 3 t) where
  a := iblk_a R t
  b := iblk_b R t
  u k i := (View.ld_unit_apply_of (Val := Elt Ideal) (e := .bf16) (iblk m c 1 t) _ _ i₁ (ix2 k i) (ix2 (lo k) i)
    (fun a => by fin_cases a <;> simp [lo])).trans (iblk_w R t _ _)
  v k i := (View.ld_unit_apply_of (Val := Elt Ideal) (e := .bf16) (iblk m c 1 t) _ _ i₂ (ix2 k i) (ix2 (hi k) i)
    (fun a => by fin_cases a <;> simp [hi])).trans (iblk_w R t _ _)
  x := iblk_x R t

/-- What a point writes of the gradient. -/
theorem out6_at (t : Fin cfg0.N) (r : Fin 256) (i : Fin 1024) :
    @Eq EReal ((outsAt0 m c t.val t.isLt).1 (ix2 r i)) (X.norm.dx (tileRow t r) i) := by
  by_cases h0 : t.val % 16 = 0
  · rw [outsAt0_A m c t h0]
    frame_out
    exact pay8_at (tile_at R t _ _) (iblk_g R t) (iblk_d R t) r i
  · rw [outsAt0_B m c t h0]
    frame_out
    exact pay8_at (tile_at R t _ _) (iblk_g R t) (iblk_d R t) r i

/-- What a point writes of the rounded gradient. -/
theorem out7_at (t : Fin cfg0.N) (r : Fin 256) (i : Fin 1024) :
    @Eq EReal ((outsAt0 m c t.val t.isLt).2.1 (ix2 r i)) (X.norm.dx (tileRow t r) i) := by
  by_cases h0 : t.val % 16 = 0
  · rw [outsAt0_A m c t h0]
    frame_out
    exact pay8_at (tile_at R t _ _) (iblk_g R t) (iblk_d R t) r i
  · rw [outsAt0_B m c t h0]
    frame_out
    exact pay8_at (tile_at R t _ _) (iblk_g R t) (iblk_d R t) r i

/-- The part of a tile's rows in the gains' gradient. -/
def part (X : UpInp) (s : ℕ) (i : Fin 1024) : EReal := ∑ r, X.dy (tileRow s r) i * (X.x (tileRow s r) i * X.norm.inv (tileRow s r))

omit R in
/-- The accumulator takes a tile's part. -/
theorem pay3_at {u v : FVec Ideal S1x1024 .f32} {i : Fin 1024} {a b : EReal} (hu : @Eq EReal (u (ix2 0 i)) a) (hv : @Eq EReal (v (ix2 0 i)) b) :
    @Eq EReal (k0_pay3 (F := Ideal) u v (ix2 0 i)) (b + a) := by
  pointwise [k0_pay3, hu, hv]

omit R in
/-- The accumulator starts from zeros. -/
theorem pay2_at (i : Fin 1024) : @Eq EReal (k0_pay2 (F := Ideal) (ix2 0 i)) 0 := by
  pointwise [k0_pay2]

/-- After point `n` the accumulator holds the parts of the tiles so far. -/
theorem out8_at (n : ℕ) : ∀ t : Fin cfg0.N, t.val = n → ∀ i,
    @Eq EReal ((outsAt0 m c t.val t.isLt).2.2 (ix2 0 i)) (∑ s ∈ Finset.range (n + 1), part X s i) := by
  induction n with
  | zero =>
    intro t ht i
    rw [outsAt0_A m c t (by omega)]
    frame_out
    refine (pay3_at (pay7_at (tile_at R t _ _) i) (pay2_at i)).trans ?_
    rw [zero_add, Finset.sum_range_one, part, ht]
  | succ n ih =>
    intro t ht i
    have hN : t.val < 16 := (idx t).2.2.2.2.2.2.2.2.2.1
    have hp : t.val - 1 < cfg0.N := lt_of_le_of_lt (Nat.sub_le _ _) t.isLt
    have i₁ := ih ⟨t.val - 1, hp⟩ (by dsimp only; omega) i
    dsimp only at i₁
    rw [outsAt0_B m c t (by omega)]
    frame_out
    refine (pay3_at (pay7_at (tile_at R t _ _) i) i₁).trans ?_
    rw [Finset.sum_range_succ _ (n + 1), part, ht]

omit R in
/-- The tiles' parts together are the gains' gradient. -/
theorem parts_dg (i : Fin 1024) : ∑ s ∈ Finset.range 16, part X s i = X.norm.dg i := by
  rw [dg, Idealize.ShloMosaic.Fin.sum_univ_tiles 16 256 rfl (fun r : Fin 4096 => X.dy r i * (X.x r i * X.norm.inv r)), Finset.sum_range]
  refine Finset.sum_congr rfl fun s _ => Finset.sum_congr rfl fun r _ => ?_
  have e : tileRow s.val r = (⟨s.val * 256 + r.val, by omega⟩ : Fin 4096) := Fin.ext (by show s.val % 16 * 256 + r.val = s.val * 256 + r.val; omega)
  rw [e]

/-- The kernel's first result. -/
theorem res6_at (i : S4096x1024.Idx) : @Eq EReal ((dats m 0 c).arrAt 6 cfg0.N i) (X.norm.dx (i 0) (i 1)) := by
  refine (dats m 0 c).arrAt_forall_of_covers 6 (fun i v => @Eq EReal v (X.norm.dx (i 0) (i 1))) (by decide +kernel) (fun t hf y => ?_) i
  obtain ⟨e0, e1, e2, e3, e4, e5, e6, e7, e8, hN, hf'⟩ := idx t
  blk_simp [e6]
  rw [after0_6]
  idx_vars y
  have e : ((View.whole main_v0_0).slice (win0_6.rect t)).emb (ix2 y0 y1) = ix2 (tileRow t y0) y1 := by
    blk_ext [e6, tileRow]
  rw [e]
  exact out6_at R t y0 y1

/-- The kernel's second result. -/
theorem res7_at (i : S4096x1024.Idx) : @Eq EReal ((dats m 0 c).arrAt 7 cfg0.N i) (X.norm.dx (i 0) (i 1)) := by
  refine (dats m 0 c).arrAt_forall_of_covers 7 (fun i v => @Eq EReal v (X.norm.dx (i 0) (i 1))) (by decide +kernel) (fun t hf y => ?_) i
  obtain ⟨e0, e1, e2, e3, e4, e5, e6, e7, e8, hN, hf'⟩ := idx t
  blk_simp [e7]
  rw [after0_7]
  idx_vars y
  have e : ((View.whole main_v0_1).slice (win0_7.rect t)).emb (ix2 y0 y1) = ix2 (tileRow t y0) y1 := by
    blk_ext [e7, tileRow]
  rw [e]
  exact out7_at R t y0 y1

/-- The kernel's third result. -/
theorem res8_at (i : S1x1024.Idx) : @Eq EReal ((dats m 0 c).arrAt 8 cfg0.N i) (X.norm.dg (i 1)) := by
  refine (dats m 0 c).arrAt_forall_of_covers 8 (fun i v => @Eq EReal v (X.norm.dg (i 1))) (by decide +kernel) (fun t hf y => ?_) i
  obtain ⟨e0, e1, e2, e3, e4, e5, e6, e7, e8, hN, hf'⟩ := idx t
  have h15 := hf' hf
  blk_simp [e8]
  rw [after0_8]
  idx_vars y
  rw [Subsingleton.elim y0 0]
  have e : ((View.whole main_v0_2).slice (win0_8.rect t)).emb (ix2 (0 : Fin 1) y1) = ix2 (0 : Fin 1) y1 := by
    blk_ext [e8]
  rw [e]
  refine (out8_at R 15 t h15 y1).trans ?_
  exact parts_dg y1

end Cert.Kernel3Ideal.Value
-- ==== Proof.NormRef.lean ====
module

public import proofs.«01_k».proof.Proof.Gen.Reference3Ideal.Run
public import proofs.«01_k».proof.Proof.NormReals
public import Idealize.ShloMosaic.Lib.Pointwise
public import Idealize.ShloMosaic.Lib.Tactic.CleanTypes

@[expose] public section

set_option maxRecDepth 16384

/-! # The reference's gradients of the second norm, entry by entry -/

noncomputable section

open Idealize.ShloMosaic Idealize.ShloMosaic.TcCoe Idealize.SL.Sem Idealize.ShloMosaic.StableHlo

namespace Cert.Reference3Ideal.Value
open Cert.Reference3Ideal Cert.Reference3Ideal.Gen Cert.Att Cert.Att.NormInp Cert.Att.UpInp

/-- The product that takes the gradient back. -/
def dyOf (a b : FVec Ideal S4096x2816 .bf16) (w : FVec Ideal S5632x1024 .bf16) : FVec Ideal S4096x1024 .f32 :=
  Host.dotGeneral dot_S4096x5632_S1024x5632_S4096x1024_1_1_0_0_n_n none
    (extf .f32 (concatenate S4096x5632 1 [⟨S4096x2816, a⟩, ⟨S4096x2816, b⟩] concatenates_S4096x2816_S4096x2816_S4096x5632_d1) bitsLt_bf16_f32)
    (transpose S1024x5632 [1, 0] (extf .f32 w bitsLt_bf16_f32) transposes_S5632x1024_S1024x5632_1_0)

/-- The mean of the squares. -/
def msOf (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- The row's sum of the gradient against the argument. -/
def rowOf (y x : FVec Ideal S4096x1024 .f32) (g : FVec Ideal S1x1024 .f32) : FVec Ideal S4096x1 .f32 :=
  shapeCast S4096x1 (Host.reduceAdd (mulf x (mulf y (broadcastInDim S4096x1024 ![0, 1] bcast_S1x1024_S4096x1024_0_1 g))) (constant S_ .f32 0x00000000#32)
    reducesTo_S4096x1024_S4096_d1 h_S_) shapeCasts_S4096_S4096x1

/-- What the mean of the squares passes back. -/
def corrOf (A M : FVec Ideal S4096x1 .f32) : FVec Ideal S4096 .f32 :=
  Host.reduceAdd (Host.divf (mulf A (mulf (broadcastInDim S4096x1 ![] bcast_S_S4096x1 (constant S_ .f32 0xBF000000#32)) (Host.divf (Host.rsqrt M) M)))
    (broadcastInDim S4096x1 ![] bcast_S_S4096x1 (constant S_ .f32 0x44800000#32))) (constant S_ .f32 0x00000000#32) reducesTo_S4096x1_S4096_d1 h_S_

/-- The gradient with respect to the norm's argument. -/
def dxOf (y x : FVec Ideal S4096x1024 .f32) (g : FVec Ideal S1x1024 .f32) (M : FVec Ideal S4096x1 .f32) (C : FVec Ideal S4096 .f32) (d : FVec Ideal S4096x1024 .f32) :
    FVec Ideal S4096x1024 .f32 :=
  addf (addf (addf (mulf (mulf y (broadcastInDim S4096x1024 ![0, 1] bcast_S1x1024_S4096x1024_0_1 g)) (broadcastInDim S4096x1024 ![0, 1] bcast_S4096x1_S4096x1024_0_1 (Host.rsqrt M)))
    (mulf x (broadcastInDim S4096x1024 ![0] bcast_S4096_S4096x1024_0 C))) (mulf (broadcastInDim S4096x1024 ![0] bcast_S4096_S4096x1024_0 C) x)) d

/-- The gradient with respect to the gains. -/
def dgOf (y x : FVec Ideal S4096x1024 .f32) (M : FVec Ideal S4096x1 .f32) : FVec Ideal S1x1024 .f32 :=
  shapeCast S1x1024 (Host.reduceAdd (mulf (mulf x (broadcastInDim S4096x1024 ![0, 1] bcast_S4096x1_S4096x1024_0_1 (Host.rsqrt M))) y) (constant S_ .f32 0x00000000#32)
    reducesTo_S4096x1024_S1024_d0 h_S_) shapeCasts_S1024_S1x1024

/-- The memory holds the arguments `X`. -/
structure Reads (m : (ℓ : Loc nD τ sig) → Buf (Elt Ideal) ℓ) (c : Dev nD) (X : UpInp) : Prop where
  a : ∀ r k, @Eq EReal (m ((c.tc : Thread nD τ).loc main_arg0) (ix2 r k)) (X.a r k)
  b : ∀ r k, @Eq EReal (m ((c.tc : Thread nD τ).loc main_arg1) (ix2 r k)) (X.b r k)
  w : ∀ k i, @Eq EReal (m ((c.tc : Thread nD τ).loc main_arg2) (ix2 k i)) (X.w k i)
  x : ∀ r i, @Eq EReal (m ((c.tc : Thread nD τ).loc main_arg3) (ix2 r i)) (X.x r i)
  g : ∀ i, @Eq EReal (m ((c.tc : Thread nD τ).loc main_arg4) (ix2 0 i)) (X.g i)
  d : ∀ r i, @Eq EReal (m ((c.tc : Thread nD τ).loc main_arg5) (ix2 r i)) (X.d r i)

variable {X : UpInp} {a b : FVec Ideal S4096x2816 .bf16} {w : FVec Ideal S5632x1024 .bf16} {y x d : FVec Ideal S4096x1024 .f32}
  {g : FVec Ideal S1x1024 .f32} {M A : FVec Ideal S4096x1 .f32} {C : FVec Ideal S4096 .f32}

/-- The product, both halves together. -/
theorem dy_at (ha : ∀ r k, @Eq EReal (a (ix2 r k)) (X.a r k)) (hb : ∀ r k, @Eq EReal (b (ix2 r k)) (X.b r k))
    (hw : ∀ k i, @Eq EReal (w (ix2 k i)) (X.w k i)) (r : Fin 4096) (i : Fin 1024) : @Eq EReal (dyOf a b w (ix2 r i)) (X.dy r i) := by
  pointwise [dyOf, ha, hb, hw]
  rfl

/-- The mean of the squares. -/
theorem ms_at (hx : ∀ r i, @Eq EReal (x (ix2 r i)) (X.x r i)) (r : Fin 4096) : @Eq EReal (msOf x (ix2 r 0)) (X.norm.ms r) := by
  pointwise [msOf, hx]
  rw [bits_rows, bits_eps.1, ms]

/-- The row's sum. -/
theorem row_at (hy : ∀ r i, @Eq EReal (y (ix2 r i)) (X.dy r i)) (hx : ∀ r i, @Eq EReal (x (ix2 r i)) (X.x r i))
    (hg : ∀ i, @Eq EReal (g (ix2 0 i)) (X.g i)) (r : Fin 4096) : @Eq EReal (rowOf y x g (ix2 r 0)) (∑ i, X.x r i * (X.dy r i * X.g i)) := by
  pointwise [rowOf, hx, hy, hg]

/-- What the mean of the squares passes back. -/
theorem corr_at (hA : ∀ r, @Eq EReal (A (ix2 r 0)) (∑ i, X.x r i * (X.dy r i * X.g i))) (hM : ∀ r, @Eq EReal (M (ix2 r 0)) (X.norm.ms r)) (r : Fin 4096) :
    @Eq EReal (corrOf A M (ix1 r)) (X.norm.corr r) := by
  pointwise [corrOf]
  rw [Fin.sum_univ_one, hA, hM, bits_rows, bits_minus_half, corr, NormInp.inv]

/-- The gradient with respect to the norm's argument. -/
theorem dx_at (hy : ∀ r i, @Eq EReal (y (ix2 r i)) (X.dy r i)) (hx : ∀ r i, @Eq EReal (x (ix2 r i)) (X.x r i)) (hg : ∀ i, @Eq EReal (g (ix2 0 i)) (X.g i))
    (hM : ∀ r, @Eq EReal (M (ix2 r 0)) (X.norm.ms r)) (hC : ∀ r, @Eq EReal (C (ix1 r)) (X.norm.corr r)) (hd : ∀ r i, @Eq EReal (d (ix2 r i)) (X.d r i))
    (r : Fin 4096) (i : Fin 1024) : @Eq EReal (dxOf y x g M C d (ix2 r i)) (X.norm.dx r i) := by
  pointwise [dxOf, hy, hx, hg, hM, hC, hd]
  exact X.norm.dx_eq r i

/-- The gradient with respect to the gains. -/
theorem dg_at (hy : ∀ r i, @Eq EReal (y (ix2 r i)) (X.dy r i)) (hx : ∀ r i, @Eq EReal (x (ix2 r i)) (X.x r i))
    (hM : ∀ r, @Eq EReal (M (ix2 r 0)) (X.norm.ms r)) (i : Fin 1024) : @Eq EReal (dgOf y x M (ix2 0 i)) (X.norm.dg i) := by
  pointwise [dgOf, hy, hx, hM]
  exact Finset.sum_congr rfl fun r _ => mul_comm _ _

variable {m : (ℓ : Loc nD τ sig) → Buf (Elt Ideal) ℓ} {c : Dev nD} (R : Reads m c X)
include R

/-- The reference's first result. -/
theorem res0_at (r : Fin 4096) (i : Fin 1024) : @Eq EReal (res_main_v40 m c (ix2 r i)) (X.norm.dx r i) :=
  have hy := dy_at R.a R.b R.w
  have hM := ms_at R.x
  dx_at hy R.x R.g hM (corr_at (row_at hy R.x R.g) hM) R.d r i

/-- The reference's second result is the first, rounded. -/
theorem res1_at (r : Fin 4096) (i : Fin 1024) : @Eq EReal (res_main_v41 m c (ix2 r i)) (X.norm.dx r i) :=
  res0_at R r i

/-- The reference's third result. -/
theorem res2_at (i : Fin 1024) : @Eq EReal (dgOf (dyOf (m ((c.tc : Thread nD τ).loc main_arg0)) (m ((c.tc : Thread nD τ).loc main_arg1)) (m ((c.tc : Thread nD τ).loc main_arg2)))
    (m ((c.tc : Thread nD τ).loc main_arg3)) (msOf (m ((c.tc : Thread nD τ).loc main_arg3))) (ix2 0 i)) (X.norm.dg i) :=
  dg_at (dy_at R.a R.b R.w) R.x (ms_at R.x) i

end Cert.Reference3Ideal.Value
-- ==== Proof.NormFinal.lean ====
module

public import proofs.«01_k».proof.Defs
public import proofs.«01_k».proof.Proof.Frames3
public import proofs.«01_k».proof.Proof.NormValues
public import proofs.«01_k».proof.Proof.NormRef

@[expose] public section

set_option maxRecDepth 16384

/-! # The results of the second norm's backward kernel are the reference's -/

noncomputable section

open Idealize.ShloMosaic Idealize.ShloMosaic.TcCoe Idealize.SL.Sem Idealize.ShloMosaic.StableHlo

namespace Cert.Proof
open Cert.Att

/-- The kernel's arguments. -/
theorem exists_inp3 (m : (ℓ : Loc Cert.Kernel3Ideal.nD Cert.Kernel3Ideal.τ Cert.Kernel3Ideal.sig) → Buf (Elt Ideal) ℓ) (c : Dev Cert.Kernel3Ideal.nD) :
    ∃ X : UpInp, Cert.Kernel3Ideal.Value.Reads m c X :=
  ⟨⟨fun r k => m ((c.tc : Thread Cert.Kernel3Ideal.nD Cert.Kernel3Ideal.τ).loc Cert.Kernel3Ideal.main_arg0) (ix2 r k),
    fun r k => m ((c.tc : Thread Cert.Kernel3Ideal.nD Cert.Kernel3Ideal.τ).loc Cert.Kernel3Ideal.main_arg1) (ix2 r k),
    fun k i => m ((c.tc : Thread Cert.Kernel3Ideal.nD Cert.Kernel3Ideal.τ).loc Cert.Kernel3Ideal.main_arg2) (ix2 k i),
    fun r i => m ((c.tc : Thread Cert.Kernel3Ideal.nD Cert.Kernel3Ideal.τ).loc Cert.Kernel3Ideal.main_arg3) (ix2 r i),
    fun i => m ((c.tc : Thread Cert.Kernel3Ideal.nD Cert.Kernel3Ideal.τ).loc Cert.Kernel3Ideal.main_arg4) (ix2 0 i),
    fun r i => m ((c.tc : Thread Cert.Kernel3Ideal.nD Cert.Kernel3Ideal.τ).loc Cert.Kernel3Ideal.main_arg5) (ix2 r i)⟩,
    ⟨fun _ _ => rfl, fun _ _ => rfl, fun _ _ => rfl, fun _ _ => rfl, fun _ => rfl, fun _ _ => rfl⟩⟩

/-- The kernel's three results are the reference's. -/
theorem value3 : Cert.algebraic_Kernel3Ideal_Reference3Ideal := by
  intro m ρ m' ρ' _ hagree
  refine ⟨_, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨X, R⟩ := exists_inp3 m c
  obtain ⟨a0, a1, a2, a3, a4, a5⟩ := hagree c
  have S : Cert.Reference3Ideal.Value.Reads m' c X :=
    ⟨fun r k => (congrFun a0 (ix2 r k)).trans (R.a r k), fun r k => (congrFun a1 (ix2 r k)).trans (R.b r k), fun k i => (congrFun a2 (ix2 k i)).trans (R.w k i),
      fun r i => (congrFun a3 (ix2 r i)).trans (R.x r i), fun i => (congrFun a4 (ix2 0 i)).trans (R.g i), fun r i => (congrFun a5 (ix2 r i)).trans (R.d r i)⟩
  obtain ⟨r0, r1, r2, kept⟩ := h c
  refine ⟨r0.trans ?_, r1.trans ?_, r2.trans ?_, kept⟩
  · funext i
    refine Eq.trans ?_ (Cert.Kernel3Ideal.Value.res6_at R i).symm
    rw [eq_ix2 i]
    exact Cert.Reference3Ideal.Value.res0_at S _ _
  · funext i
    refine Eq.trans ?_ (Cert.Kernel3Ideal.Value.res7_at R i).symm
    rw [eq_ix2 i]
    exact Cert.Reference3Ideal.Value.res1_at S _ _
  · funext i
    refine Eq.trans ?_ (Cert.Kernel3Ideal.Value.res8_at R i).symm
    have e : i = ix2 (0 : Fin 1) (i 1) := by
      rw [eq_ix2 i]; exact congrArg (fun z : Fin 1 => ix2 z (i 1)) (Subsingleton.elim (α := Fin 1) _ _)
    rw [e]
    exact Cert.Reference3Ideal.Value.res2_at S _

end Cert.Proof
-- ==== Proof.ProdReals.lean ====
module

public import Idealize.ShloMosaic.Lib.Pointwise

@[expose] public section

set_option maxRecDepth 16384

/-! # The sum of products that an entry of a product of two matrices is -/

noncomputable section

open Idealize.ShloMosaic Idealize.ShloMosaic.TcCoe Idealize.SL.Sem Idealize.ShloMosaic.StableHlo

namespace Cert.Att

/-- The sum of the products of two lists of numbers, finite or not. -/
def along {n : ℕ} (f g : Fin n → EReal) : EReal := ∑ k, f k * g k

/-- The order of the two factors does not matter. -/
theorem along_comm {n : ℕ} (f g : Fin n → EReal) : along f g = along g f :=
  Finset.sum_congr rfl fun k _ => mul_comm (f k) (g k)

end Cert.Att
-- ==== Proof.ProdUp.lean ====
module

public import proofs.«01_k».proof.Defs
public import proofs.«01_k».proof.Proof.Gen.Kernel5Ideal.Value
public import proofs.«01_k».proof.Proof.Gen.Reference5Ideal.Run
public import proofs.«01_k».proof.Proof.ProdReals
public import proofs.«01_k».proof.Proof.FramesProducts
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `ffn_up` computes its product -/

noncomputable section

open Idealize.ShloMosaic Idealize.ShloMosaic.TcCoe Idealize.SL.Sem Idealize.ShloMosaic.StableHlo

namespace Cert.Kernel5Ideal.Value
open Cert.Kernel5Ideal Cert.Kernel5Ideal.Gen Cert.Att

/-- The product that the call computes, an entry of it. -/
def prod (a : FVec Ideal S4096x1024 .bf16) (b : FVec Ideal S5632x1024 .bf16) (r : Fin 4096) (j : Fin 5632) : EReal :=
  along (fun k : Fin 1024 => a (ix2 r k)) (fun k => b (ix2 j k))

/-- An entry of the body's result. -/
theorem pay_at (u : FVec Ideal S1024x1024 .bf16) (v : FVec Ideal S1408x1024 .bf16) (r : Fin 1024) (j : Fin 1408) :
    @Eq EReal (k0_pay1 (F := Ideal) u v (ix2 r j)) (along (fun k : Fin 1024 => u (ix2 r k)) (fun k => v (ix2 j k))) := by
  pointwise [k0_pay1]
  rfl

variable {m : (ℓ : Loc nD τ sig) → Buf (Elt Ideal) ℓ} {c : Dev nD}

/-- The rows of the result that a point works on. -/
def rowAt (t : ℕ) (r : Fin 1024) : Fin 4096 := ⟨t / 4 % 4 * 1024 + r.val, by omega⟩

/-- The columns of the result that a point works on. -/
def colAt (t : ℕ) (j : Fin 1408) : Fin 5632 := ⟨t % 4 * 1408 + j.val, by omega⟩

/-- Which block of each argument and of the result a point holds. -/
theorem idx : ∀ t : Fin cfg0.N, win0_0.index t = ![t.val / 4, 0] ∧ win0_1.index t = ![t.val % 4, 0] ∧ win0_2.index t = ![t.val / 4, t.val % 4] ∧ t.val < 16 :=
  (by decide +kernel : ∀ t : Fin grid0.N, _)

/-- An entry of the first argument's block. -/
theorem iblk_a (t : Fin cfg0.N) (r : Fin 1024) (k : Fin 1024) : @Eq EReal (iblk m c 0 t (ix2 r k)) (m ((c.tc : Thread nD τ).loc main_arg0) (ix2 (rowAt t r) k)) := by
  obtain ⟨e0, e1, e2, hN⟩ := idx t
  blk_ext [iblk, V, e0, rowAt]

/-- An entry of the second argument's block. -/
theorem iblk_b (t : Fin cfg0.N) (j : Fin 1408) (k : Fin 1024) : @Eq EReal (iblk m c 1 t (ix2 j k)) (m ((c.tc : Thread nD τ).loc main_arg1) (ix2 (colAt t j) k)) := by
  obtain ⟨e0, e1, e2, hN⟩ := idx t
  blk_ext [iblk, V, e1, colAt]

/-- The result of the call. -/
theorem res_at (i : S4096x5632.Idx) :
    @Eq EReal ((dats m 0 c).arrAt 2 cfg0.N i) (prod (m ((c.tc : Thread nD τ).loc main_arg0)) (m ((c.tc : Thread nD τ).loc main_arg1)) (i 0) (i 1)) := by
  refine (dats m 0 c).arrAt_forall_of_covers 2 (fun i v => @Eq EReal v (prod (m ((c.tc : Thread nD τ).loc main_arg0)) (m ((c.tc : Thread nD τ).loc main_arg1)) (i 0) (i 1)))
    (by decide +kernel) (fun t hf y => ?_) i
  obtain ⟨e0, e1, e2, hN⟩ := idx t
  blk_simp [e2]
  rw [after0_2]
  idx_vars y
  have e : ((View.whole main_v0).slice (win0_2.rect t)).emb (ix2 y0 y1) = ix2 (rowAt t y0) (colAt t y1) := by
    blk_ext [e2, rowAt, colAt]
  rw [e]
  frame_out
  refine (pay_at _ _ y0 y1).trans ?_
  exact congrArg₂ along (funext fun k => iblk_a t y0 k) (funext fun k => iblk_b t y1 k)

end Cert.Kernel5Ideal.Value

namespace Cert.Reference5Ideal.Value
open Cert.Reference5Ideal Cert.Reference5Ideal.Gen Cert.Att

/-- The reference's result. -/
def refOf (a : FVec Ideal S4096x1024 .bf16) (b : FVec Ideal S5632x1024 .bf16) : FVec Ideal S4096x5632 .bf16 :=
  truncf .bf16 (Host.dotGeneral dot_S4096x1024_S1024x5632_S4096x5632_1_0_0_1_n_n none (extf .f32 a bitsLt_bf16_f32) (transpose S1024x5632 [1, 0] (extf .f32 b bitsLt_bf16_f32) transposes_S5632x1024_S1024x5632_1_0)) bitsLt_bf16_f32

/-- The reference's result, an entry of it. -/
theorem ref_at (a : FVec Ideal S4096x1024 .bf16) (b : FVec Ideal S5632x1024 .bf16) (r : Fin 4096) (j : Fin 5632) :
    @Eq EReal (refOf a b (ix2 r j)) (along (fun k : Fin 1024 => a (ix2 r k)) (fun k => b (ix2 j k))) := by
  pointwise [refOf]
  rfl

end Cert.Reference5Ideal.Value

namespace Cert.Proof

/-- The result of the call is the reference's. -/
theorem value5 : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨a0, a1⟩ := hagree c
  obtain ⟨r0, kept⟩ := h c
  refine ⟨r0.trans ?_, kept⟩
  funext i
  refine Eq.trans ?_ (Cert.Kernel5Ideal.Value.res_at i).symm
  rw [eq_ix2 i]
  refine (Cert.Reference5Ideal.Value.ref_at _ _ _ _).trans ?_
  rw [a0, a1]
  rfl

end Cert.Proof
-- ==== Proof.ProdUpDw.lean ====
module

public import proofs.«01_k».proof.Defs
public import proofs.«01_k».proof.Proof.Gen.Kernel4Ideal.Value
public import proofs.«01_k».proof.Proof.Gen.Reference4Ideal.Run
public import proofs.«01_k».proof.Proof.ProdReals
public import proofs.«01_k».proof.Proof.FramesProducts
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `ffn_up_dw` computes its product -/

noncomputable section

open Idealize.ShloMosaic Idealize.ShloMosaic.TcCoe Idealize.SL.Sem Idealize.ShloMosaic.StableHlo

namespace Cert.Att

/-- A column of two arrays side by side. -/
def side (a b : Fin 4096 → Fin 2816 → EReal) (r : Fin 5632) (k : Fin 4096) : EReal :=
  if h : r.val < 2816 then a k ⟨r.val, h⟩ else b k ⟨r.val - 2816, by omega⟩

end Cert.Att

namespace Cert.Kernel4Ideal.Value
open Cert.Kernel4Ideal Cert.Kernel4Ideal.Gen Cert.Att

/-- The product that the call computes, an entry of it: the first argument is two arrays side by side. -/
def prod (a b : FVec Ideal S4096x2816 .bf16) (h : FVec Ideal S4096x1024 .bf16) (r : Fin 5632) (j : Fin 1024) : EReal :=
  along (side (fun k r => a (ix2 k r)) (fun k r => b (ix2 k r)) r) (fun k : Fin 4096 => h (ix2 k j))

/-- An entry of the body's result where the first array is read: the block arrives transposed. -/
theorem pay_a (u : FVec Ideal S4096x256 .bf16) (v : FVec Ideal S4096x1024 .bf16) (r : Fin 256) (j : Fin 1024) :
    @Eq EReal (k0_pay3 (F := Ideal) (k0_pay1 (F := Ideal) u) v (ix2 r j)) (along (fun k : Fin 4096 => u (ix2 k r)) (fun k => v (ix2 k j))) := by
  pointwise [k0_pay3, k0_pay1]
  rfl

/-- An entry of the body's result where the second array is read. -/
theorem pay_b (u : FVec Ideal S4096x256 .bf16) (v : FVec Ideal S4096x1024 .bf16) (r : Fin 256) (j : Fin 1024) :
    @Eq EReal (k0_pay3 (F := Ideal) (k0_pay2 (F := Ideal) u) v (ix2 r j)) (along (fun k : Fin 4096 => u (ix2 k r)) (fun k => v (ix2 k j))) := by
  pointwise [k0_pay3, k0_pay2]
  rfl

variable {m : (ℓ : Loc nD τ sig) → Buf (Elt Ideal) ℓ} {c : Dev nD}

/-- The rows of the result that a point works on. -/
def rowAt (t : ℕ) (r : Fin 256) : Fin 5632 := ⟨t % 22 * 256 + r.val, by omega⟩

/-- The same rows, as columns of the array they are read from. -/
def colAt (t : ℕ) (r : Fin 256) : Fin 2816 := ⟨t % 11 * 256 + r.val, by omega⟩

/-- Which block of each argument and of the result a point holds. -/
theorem idx : ∀ t : Fin cfg0.N, win0_0.index t = ![0, min t.val 10] ∧ win0_1.index t = ![0, 0] ∧ win0_2.index t = ![0, t.val - 11]
    ∧ win0_3.index t = ![t.val, 0] ∧ t.val < 22 :=
  (by decide +kernel : ∀ t : Fin grid0.N, _)

/-- An entry of the first array's block, at the points that read it. -/
theorem iblk_a (t : Fin cfg0.N) (h0 : t.val < 11) (k : Fin 4096) (r : Fin 256) :
    @Eq EReal (iblk m c 0 t (ix2 k r)) (m ((c.tc : Thread nD τ).loc main_arg0) (ix2 k (colAt t r))) := by
  obtain ⟨e0, e1, e2, e3, hN⟩ := idx t
  blk_ext [iblk, V, e0, colAt]

/-- An entry of the second array's block, at the points that read it. -/
theorem iblk_b (t : Fin cfg0.N) (h0 : 11 ≤ t.val) (k : Fin 4096) (r : Fin 256) :
    @Eq EReal (iblk m c 2 t (ix2 k r)) (m ((c.tc : Thread nD τ).loc main_arg1) (ix2 k (colAt t r))) := by
  obtain ⟨e0, e1, e2, e3, hN⟩ := idx t
  blk_ext [iblk, V, e2, colAt]

/-- An entry of the third argument's block. -/
theorem iblk_h (t : Fin cfg0.N) (k : Fin 4096) (j : Fin 1024) :
    @Eq EReal (iblk m c 1 t (ix2 k j)) (m ((c.tc : Thread nD τ).loc main_arg2) (ix2 k j)) := by
  obtain ⟨e0, e1, e2, e3, hN⟩ := idx t
  blk_ext [iblk, V, e1]

/-- A point's row is in the first array. -/
theorem side_a (a b : Fin 4096 → Fin 2816 → EReal) (t : ℕ) (h0 : t < 11) (r : Fin 256) (k : Fin 4096) : side a b (rowAt t r) k = a k (colAt t r) := by
  have h : (rowAt t r).val < 2816 := by show t % 22 * 256 + r.val < 2816; omega
  rw [side, dif_pos h]
  exact congrArg (a k) (Fin.ext (by show t % 22 * 256 + r.val = t % 11 * 256 + r.val; omega))

/-- A point's row is in the second array. -/
theorem side_b (a b : Fin 4096 → Fin 2816 → EReal) (t : ℕ) (h0 : 11 ≤ t) (hN : t < 22) (r : Fin 256) (k : Fin 4096) :
    side a b (rowAt t r) k = b k (colAt t r) := by
  have h : ¬(rowAt t r).val < 2816 := by show ¬(t % 22 * 256 + r.val < 2816); omega
  rw [side, dif_neg h]
  exact congrArg (b k) (Fin.ext (by show t % 22 * 256 + r.val - 2816 = t % 11 * 256 + r.val; omega))

/-- What a point writes. -/
theorem out_at (t : Fin cfg0.N) (r : Fin 256) (j : Fin 1024) :
    @Eq EReal (outsAt0 m c t.val t.isLt (ix2 r j)) (prod (m ((c.tc : Thread nD τ).loc main_arg0)) (m ((c.tc : Thread nD τ).loc main_arg1)) (m ((c.tc : Thread nD τ).loc main_arg2)) (rowAt t r) j) := by
  have hN : t.val < 22 := (idx t).2.2.2.2
  by_cases h0 : t.val < 11
  · rw [outsAt0_A m c t h0 (by omega)]
    frame_out
    refine (pay_a _ _ r j).trans ?_
    exact congrArg₂ along (funext fun k => (iblk_a t h0 k r).trans (side_a (fun k r => m ((c.tc : Thread nD τ).loc main_arg0) (ix2 k r)) (fun k r => m ((c.tc : Thread nD τ).loc main_arg1) (ix2 k r)) t h0 r k).symm) (funext fun k => iblk_h t k j)
  · rw [outsAt0_B m c t h0 (by omega)]
    frame_out
    refine (pay_b _ _ r j).trans ?_
    exact congrArg₂ along (funext fun k => (iblk_b t (by omega) k r).trans (side_b (fun k r => m ((c.tc : Thread nD τ).loc main_arg0) (ix2 k r)) (fun k r => m ((c.tc : Thread nD τ).loc main_arg1) (ix2 k r)) t (by omega) hN r k).symm) (funext fun k => iblk_h t k j)

/-- The result of the call. -/
theorem res_at (i : S5632x1024.Idx) :
    @Eq EReal ((dats m 0 c).arrAt 3 cfg0.N i) (prod (m ((c.tc : Thread nD τ).loc main_arg0)) (m ((c.tc : Thread nD τ).loc main_arg1)) (m ((c.tc : Thread nD τ).loc main_arg2)) (i 0) (i 1)) := by
  refine (dats m 0 c).arrAt_forall_of_covers 3 (fun i v => @Eq EReal v (prod (m ((c.tc : Thread nD τ).loc main_arg0)) (m ((c.tc : Thread nD τ).loc main_arg1)) (m ((c.tc : Thread nD τ).loc main_arg2)) (i 0) (i 1)))
    (by decide +kernel) (fun t hf y => ?_) i
  obtain ⟨e0, e1, e2, e3, hN⟩ := idx t
  blk_simp [e3]
  rw [after0_3]
  idx_vars y
  have e : ((View.whole main_v0).slice (win0_3.rect t)).emb (ix2 y0 y1) = ix2 (rowAt t y0) y1 := by
    blk_ext [e3, rowAt]
  rw [e]
  exact out_at t y0 y1

end Cert.Kernel4Ideal.Value

namespace Cert.Reference4Ideal.Value
open Cert.Reference4Ideal Cert.Reference4Ideal.Gen Cert.Att

/-- The reference's result. -/
def refOf (a b : FVec Ideal S4096x2816 .bf16) (h : FVec Ideal S4096x1024 .bf16) : FVec Ideal S5632x1024 .bf16 :=
  truncf .bf16 (transpose S5632x1024 [1, 0] (transpose S1024x5632 [1, 0] (Host.dotGeneral dot_S4096x5632_S4096x1024_S5632x1024_0_0_1_1_n_n none (extf .f32 (concatenate S4096x5632 1 [⟨S4096x2816, a⟩, ⟨S4096x2816, b⟩] concatenates_S4096x2816_S4096x2816_S4096x5632_d1) bitsLt_bf16_f32) (extf .f32 h bitsLt_bf16_f32)) transposes_S5632x1024_S1024x5632_1_0) transposes_S1024x5632_S5632x1024_1_0) bitsLt_bf16_f32

/-- The reference's result, an entry of it. -/
theorem ref_at (a b : FVec Ideal S4096x2816 .bf16) (h : FVec Ideal S4096x1024 .bf16) (r : Fin 5632) (j : Fin 1024) :
    @Eq EReal (refOf a b h (ix2 r j)) (along (side (fun k r => a (ix2 k r)) (fun k r => b (ix2 k r)) r) (fun k : Fin 4096 => h (ix2 k j))) := by
  pointwise [refOf]
  rfl

end Cert.Reference4Ideal.Value

namespace Cert.Proof

/-- The result of the call is the reference's. -/
theorem value4 : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨a0, a1, a2⟩ := hagree c
  obtain ⟨r0, kept⟩ := h c
  refine ⟨r0.trans ?_, kept⟩
  funext i
  refine Eq.trans ?_ (Cert.Kernel4Ideal.Value.res_at i).symm
  rw [eq_ix2 i]
  refine (Cert.Reference4Ideal.Value.ref_at _ _ _ _ _).trans ?_
  rw [a0, a1, a2]
  rfl

end Cert.Proof
-- ==== Proof.ProdDownDx.lean ====
module

public import proofs.«01_k».proof.Defs
public import proofs.«01_k».proof.Proof.Gen.Kernel6Ideal.Value
public import proofs.«01_k».proof.Proof.Gen.Reference6Ideal.Run
public import proofs.«01_k».proof.Proof.ProdReals
public import proofs.«01_k».proof.Proof.FramesProducts
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `ffn_down_dx` computes its product -/

noncomputable section

open Idealize.ShloMosaic Idealize.ShloMosaic.TcCoe Idealize.SL.Sem Idealize.ShloMosaic.StableHlo

namespace Cert.Kernel6Ideal.Value
open Cert.Kernel6Ideal Cert.Kernel6Ideal.Gen Cert.Att

/-- The product that the call computes, an entry of it. -/
def prod (a : FVec Ideal S4096x1024 .bf16) (b : FVec Ideal S2816x1024 .bf16) (r : Fin 4096) (j : Fin 2816) : EReal :=
  along (fun k : Fin 1024 => a (ix2 r k)) (fun k => b (ix2 j k))

/-- An entry of the body's result. -/
theorem pay_at (u : FVec Ideal S1024x1024 .bf16) (v : FVec Ideal S1408x1024 .bf16) (r : Fin 1024) (j : Fin 1408) :
    @Eq EReal (k0_pay1 (F := Ideal) u v (ix2 r j)) (along (fun k : Fin 1024 => u (ix2 r k)) (fun k => v (ix2 j k))) := by
  pointwise [k0_pay1]
  rfl

variable {m : (ℓ : Loc nD τ sig) → Buf (Elt Ideal) ℓ} {c : Dev nD}

/-- The rows of the result that a point works on. -/
def rowAt (t : ℕ) (r : Fin 1024) : Fin 4096 := ⟨t / 2 % 4 * 1024 + r.val, by omega⟩

/-- The columns of the result that a point works on. -/
def colAt (t : ℕ) (j : Fin 1408) : Fin 2816 := ⟨t % 2 * 1408 + j.val, by omega⟩

/-- Which block of each argument and of the result a point holds. -/
theorem idx : ∀ t : Fin cfg0.N, win0_0.index t = ![t.val / 2, 0] ∧ win0_1.index t = ![t.val % 2, 0] ∧ win0_2.index t = ![t.val / 2, t.val % 2] ∧ t.val < 8 :=
  (by decide +kernel : ∀ t : Fin grid0.N, _)

/-- An entry of the first argument's block. -/
theorem iblk_a (t : Fin cfg0.N) (r : Fin 1024) (k : Fin 1024) : @Eq EReal (iblk m c 0 t (ix2 r k)) (m ((c.tc : Thread nD τ).loc main_arg0) (ix2 (rowAt t r) k)) := by
  obtain ⟨e0, e1, e2, hN⟩ := idx t
  blk_ext [iblk, V, e0, rowAt]

/-- An entry of the second argument's block. -/
theorem iblk_b (t : Fin cfg0.N) (j : Fin 1408) (k : Fin 1024) : @Eq EReal (iblk m c 1 t (ix2 j k)) (m ((c.tc : Thread nD τ).loc main_arg1) (ix2 (colAt t j) k)) := by
  obtain ⟨e0, e1, e2, hN⟩ := idx t
  blk_ext [iblk, V, e1, colAt]

/-- The result of the call. -/
theorem res_at (i : S4096x2816.Idx) :
    @Eq EReal ((dats m 0 c).arrAt 2 cfg0.N i) (prod (m ((c.tc : Thread nD τ).loc main_arg0)) (m ((c.tc : Thread nD τ).loc main_arg1)) (i 0) (i 1)) := by
  refine (dats m 0 c).arrAt_forall_of_covers 2 (fun i v => @Eq EReal v (prod (m ((c.tc : Thread nD τ).loc main_arg0)) (m ((c.tc : Thread nD τ).loc main_arg1)) (i 0) (i 1)))
    (by decide +kernel) (fun t hf y => ?_) i
  obtain ⟨e0, e1, e2, hN⟩ := idx t
  blk_simp [e2]
  rw [after0_2]
  idx_vars y
  have e : ((View.whole main_v0).slice (win0_2.rect t)).emb (ix2 y0 y1) = ix2 (rowAt t y0) (colAt t y1) := by
    blk_ext [e2, rowAt, colAt]
  rw [e]
  frame_out
  refine (pay_at _ _ y0 y1).trans ?_
  exact congrArg₂ along (funext fun k => iblk_a t y0 k) (funext fun k => iblk_b t y1 k)

end Cert.Kernel6Ideal.Value

namespace Cert.Reference6Ideal.Value
open Cert.Reference6Ideal Cert.Reference6Ideal.Gen Cert.Att

/-- The reference's result. -/
def refOf (a : FVec Ideal S4096x1024 .bf16) (b : FVec Ideal S2816x1024 .bf16) : FVec Ideal S4096x2816 .bf16 :=
  truncf .bf16 (Host.dotGeneral dot_S4096x1024_S2816x1024_S4096x2816_1_1_0_0_n_n none (extf .f32 a bitsLt_bf16_f32) (extf .f32 b bitsLt_bf16_f32)) bitsLt_bf16_f32

/-- The reference's result, an entry of it. -/
theorem ref_at (a : FVec Ideal S4096x1024 .bf16) (b : FVec Ideal S2816x1024 .bf16) (r : Fin 4096) (j : Fin 2816) :
    @Eq EReal (refOf a b (ix2 r j)) (along (fun k : Fin 1024 => a (ix2 r k)) (fun k => b (ix2 j k))) := by
  pointwise [refOf]
  rfl

end Cert.Reference6Ideal.Value

namespace Cert.Proof

/-- The result of the call is the reference's. -/
theorem value6 : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨a0, a1⟩ := hagree c
  obtain ⟨r0, kept⟩ := h c
  refine ⟨r0.trans ?_, kept⟩
  funext i
  refine Eq.trans ?_ (Cert.Kernel6Ideal.Value.res_at i).symm
  rw [eq_ix2 i]
  refine (Cert.Reference6Ideal.Value.ref_at _ _ _ _).trans ?_
  rw [a0, a1]
  rfl

end Cert.Proof
-- ==== Proof.ProdDownDw.lean ====
module

public import proofs.«01_k».proof.Defs
public import proofs.«01_k».proof.Proof.Gen.Kernel7Ideal.Value
public import proofs.«01_k».proof.Proof.Gen.Reference7Ideal.Run
public import proofs.«01_k».proof.Proof.ProdReals
public import proofs.«01_k».proof.Proof.FramesProducts
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `ffn_down_dw` computes its product -/

noncomputable section

open Idealize.ShloMosaic Idealize.ShloMosaic.TcCoe Idealize.SL.Sem Idealize.ShloMosaic.StableHlo

namespace Cert.Kernel7Ideal.Value
open Cert.Kernel7Ideal Cert.Kernel7Ideal.Gen Cert.Att

/-- The product that the call computes, an entry of it. -/
def prod (a : FVec Ideal S4096x2816 .bf16) (b : FVec Ideal S4096x1024 .bf16) (r : Fin 2816) (j : Fin 1024) : EReal :=
  along (fun k : Fin 4096 => a (ix2 k r)) (fun k => b (ix2 k j))

/-- An entry of the body's result: the first block arrives transposed. -/
theorem pay_at (u : FVec Ideal S4096x256 .bf16) (v : FVec Ideal S4096x1024 .bf16) (r : Fin 256) (j : Fin 1024) :
    @Eq EReal (k0_pay2 (F := Ideal) (k0_pay1 (F := Ideal) u) v (ix2 r j)) (along (fun k : Fin 4096 => u (ix2 k r)) (fun k => v (ix2 k j))) := by
  pointwise [k0_pay2, k0_pay1]
  rfl

variable {m : (ℓ : Loc nD τ sig) → Buf (Elt Ideal) ℓ} {c : Dev nD}

/-- The rows of the result that a point works on. -/
def rowAt (t : ℕ) (r : Fin 256) : Fin 2816 := ⟨t / 1 % 11 * 256 + r.val, by omega⟩

/-- The columns of the result that a point works on. -/
def colAt (t : ℕ) (j : Fin 1024) : Fin 1024 := ⟨t % 1 * 1024 + j.val, by omega⟩

/-- Which block of each argument and of the result a point holds. -/
theorem idx : ∀ t : Fin cfg0.N, win0_0.index t = ![0, t.val / 1] ∧ win0_1.index t = ![0, t.val % 1] ∧ win0_2.index t = ![t.val / 1, t.val % 1] ∧ t.val < 11 :=
  (by decide +kernel : ∀ t : Fin grid0.N, _)

/-- An entry of the first argument's block. -/
theorem iblk_a (t : Fin cfg0.N) (k : Fin 4096) (r : Fin 256) : @Eq EReal (iblk m c 0 t (ix2 k r)) (m ((c.tc : Thread nD τ).loc main_arg0) (ix2 k (rowAt t r))) := by
  obtain ⟨e0, e1, e2, hN⟩ := idx t
  blk_ext [iblk, V, e0, rowAt]

/-- An entry of the second argument's block. -/
theorem iblk_b (t : Fin cfg0.N) (k : Fin 4096) (j : Fin 1024) : @Eq EReal (iblk m c 1 t (ix2 k j)) (m ((c.tc : Thread nD τ).loc main_arg1) (ix2 k (colAt t j))) := by
  obtain ⟨e0, e1, e2, hN⟩ := idx t
  blk_ext [iblk, V, e1, colAt]

/-- The result of the call. -/
theorem res_at (i : S2816x1024.Idx) :
    @Eq EReal ((dats m 0 c).arrAt 2 cfg0.N i) (prod (m ((c.tc : Thread nD τ).loc main_arg0)) (m ((c.tc : Thread nD τ).loc main_arg1)) (i 0) (i 1)) := by
  refine (dats m 0 c).arrAt_forall_of_covers 2 (fun i v => @Eq EReal v (prod (m ((c.tc : Thread nD τ).loc main_arg0)) (m ((c.tc : Thread nD τ).loc main_arg1)) (i 0) (i 1)))
    (by decide +kernel) (fun t hf y => ?_) i
  obtain ⟨e0, e1, e2, hN⟩ := idx t
  blk_simp [e2]
  rw [after0_2]
  idx_vars y
  have e : ((View.whole main_v0).slice (win0_2.rect t)).emb (ix2 y0 y1) = ix2 (rowAt t y0) (colAt t y1) := by
    blk_ext [e2, rowAt, colAt]
  rw [e]
  unfold outsAt0
  frame_out
  refine (pay_at _ _ y0 y1).trans ?_
  exact congrArg₂ along (funext fun k => iblk_a t k y0) (funext fun k => iblk_b t k y1)

end Cert.Kernel7Ideal.Value

namespace Cert.Reference7Ideal.Value
open Cert.Reference7Ideal Cert.Reference7Ideal.Gen Cert.Att

/-- The reference's result. -/
def refOf (a : FVec Ideal S4096x2816 .bf16) (b : FVec Ideal S4096x1024 .bf16) : FVec Ideal S2816x1024 .bf16 :=
  truncf .bf16 (transpose S2816x1024 [1, 0] (Host.dotGeneral dot_S4096x1024_S4096x2816_S1024x2816_0_0_1_1_n_n none (extf .f32 b bitsLt_bf16_f32) (extf .f32 a bitsLt_bf16_f32)) transposes_S1024x2816_S2816x1024_1_0) bitsLt_bf16_f32

/-- The reference's result, an entry of it. -/
theorem ref_at (a : FVec Ideal S4096x2816 .bf16) (b : FVec Ideal S4096x1024 .bf16) (r : Fin 2816) (j : Fin 1024) :
    @Eq EReal (refOf a b (ix2 r j)) (along (fun k : Fin 4096 => a (ix2 k r)) (fun k => b (ix2 k j))) := by
  pointwise [refOf]
  exact along_comm (fun k : Fin 4096 => b (ix2 k j)) (fun k => a (ix2 k r))

end Cert.Reference7Ideal.Value

namespace Cert.Proof

/-- The result of the call is the reference's. -/
theorem value7 : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨a0, a1⟩ := hagree c
  obtain ⟨r0, kept⟩ := h c
  refine ⟨r0.trans ?_, kept⟩
  funext i
  refine Eq.trans ?_ (Cert.Kernel7Ideal.Value.res_at i).symm
  rw [eq_ix2 i]
  refine (Cert.Reference7Ideal.Value.ref_at _ _ _ _).trans ?_
  rw [a0, a1]
  rfl

end Cert.Proof
-- ==== Proof.ProdProj.lean ====
module

public import proofs.«01_k».proof.Defs
public import proofs.«01_k».proof.Proof.Gen.Kernel9Ideal.Value
public import proofs.«01_k».proof.Proof.Gen.Reference9Ideal.Run
public import proofs.«01_k».proof.Proof.ProdReals
public import proofs.«01_k».proof.Proof.FramesProducts
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `proj` computes its product -/

noncomputable section

open Idealize.ShloMosaic Idealize.ShloMosaic.TcCoe Idealize.SL.Sem Idealize.ShloMosaic.StableHlo

namespace Cert.Kernel9Ideal.Value
open Cert.Kernel9Ideal Cert.Kernel9Ideal.Gen Cert.Att

/-- The product that the call computes, an entry of it. -/
def prod (a : FVec Ideal S4096x1024 .bf16) (b : FVec Ideal S4096x1024 .bf16) (r : Fin 4096) (j : Fin 4096) : EReal :=
  along (fun k : Fin 1024 => a (ix2 r k)) (fun k => b (ix2 j k))

/-- An entry of the body's result. -/
theorem pay_at (u : FVec Ideal S1024x1024 .bf16) (v : FVec Ideal S1024x1024 .bf16) (r : Fin 1024) (j : Fin 1024) :
    @Eq EReal (k0_pay1 (F := Ideal) u v (ix2 r j)) (along (fun k : Fin 1024 => u (ix2 r k)) (fun k => v (ix2 j k))) := by
  pointwise [k0_pay1]
  rfl

variable {m : (ℓ : Loc nD τ sig) → Buf (Elt Ideal) ℓ} {c : Dev nD}

/-- The rows of the result that a point works on. -/
def rowAt (t : ℕ) (r : Fin 1024) : Fin 4096 := ⟨t / 4 % 4 * 1024 + r.val, by omega⟩

/-- The columns of the result that a point works on. -/
def colAt (t : ℕ) (j : Fin 1024) : Fin 4096 := ⟨t % 4 * 1024 + j.val, by omega⟩

/-- Which block of each argument and of the result a point holds. -/
theorem idx : ∀ t : Fin cfg0.N, win0_0.index t = ![t.val / 4, 0] ∧ win0_1.index t = ![t.val % 4, 0] ∧ win0_2.index t = ![t.val / 4, t.val % 4] ∧ t.val < 16 :=
  (by decide +kernel : ∀ t : Fin grid0.N, _)

/-- An entry of the first argument's block. -/
theorem iblk_a (t : Fin cfg0.N) (r : Fin 1024) (k : Fin 1024) : @Eq EReal (iblk m c 0 t (ix2 r k)) (m ((c.tc : Thread nD τ).loc main_arg0) (ix2 (rowAt t r) k)) := by
  obtain ⟨e0, e1, e2, hN⟩ := idx t
  blk_ext [iblk, V, e0, rowAt]

/-- An entry of the second argument's block. -/
theorem iblk_b (t : Fin cfg0.N) (j : Fin 1024) (k : Fin 1024) : @Eq EReal (iblk m c 1 t (ix2 j k)) (m ((c.tc : Thread nD τ).loc main_arg1) (ix2 (colAt t j) k)) := by
  obtain ⟨e0, e1, e2, hN⟩ := idx t
  blk_ext [iblk, V, e1, colAt]

/-- The result of the call. -/
theorem res_at (i : S4096x4096.Idx) :
    @Eq EReal ((dats m 0 c).arrAt 2 cfg0.N i) (prod (m ((c.tc : Thread nD τ).loc main_arg0)) (m ((c.tc : Thread nD τ).loc main_arg1)) (i 0) (i 1)) := by
  refine (dats m 0 c).arrAt_forall_of_covers 2 (fun i v => @Eq EReal v (prod (m ((c.tc : Thread nD τ).loc main_arg0)) (m ((c.tc : Thread nD τ).loc main_arg1)) (i 0) (i 1)))
    (by decide +kernel) (fun t hf y => ?_) i
  obtain ⟨e0, e1, e2, hN⟩ := idx t
  blk_simp [e2]
  rw [after0_2]
  idx_vars y
  have e : ((View.whole main_v0).slice (win0_2.rect t)).emb (ix2 y0 y1) = ix2 (rowAt t y0) (colAt t y1) := by
    blk_ext [e2, rowAt, colAt]
  rw [e]
  frame_out
  refine (pay_at _ _ y0 y1).trans ?_
  exact congrArg₂ along (funext fun k => iblk_a t y0 k) (funext fun k => iblk_b t y1 k)

end Cert.Kernel9Ideal.Value

namespace Cert.Reference9Ideal.Value
open Cert.Reference9Ideal Cert.Reference9Ideal.Gen Cert.Att

/-- The reference's result. -/
def refOf (a : FVec Ideal S4096x1024 .bf16) (b : FVec Ideal S4096x1024 .bf16) : FVec Ideal S4096x4096 .bf16 :=
  truncf .bf16 (Host.dotGeneral dot_S4096x1024_S1024x4096_S4096x4096_1_0_0_1_n_n none (extf .f32 a bitsLt_bf16_f32) (transpose S1024x4096 [1, 0] (extf .f32 b bitsLt_bf16_f32) transposes_S4096x1024_S1024x4096_1_0)) bitsLt_bf16_f32

/-- The reference's result, an entry of it. -/
theorem ref_at (a : FVec Ideal S4096x1024 .bf16) (b : FVec Ideal S4096x1024 .bf16) (r : Fin 4096) (j : Fin 4096) :
    @Eq EReal (refOf a b (ix2 r j)) (along (fun k : Fin 1024 => a (ix2 r k)) (fun k => b (ix2 j k))) := by
  pointwise [refOf]
  rfl

end Cert.Reference9Ideal.Value

namespace Cert.Proof

/-- The result of the call is the reference's. -/
theorem value9 : Cert.algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ?_) (Cert.Reference9Ideal.Value.run (F := Ideal) m' ρ')
  obtain ⟨a0, a1⟩ := hagree c
  obtain ⟨r0, kept⟩ := h c
  refine ⟨r0.trans ?_, kept⟩
  funext i
  refine Eq.trans ?_ (Cert.Kernel9Ideal.Value.res_at i).symm
  rw [eq_ix2 i]
  refine (Cert.Reference9Ideal.Value.ref_at _ _ _ _).trans ?_
  rw [a0, a1]
  rfl

end Cert.Proof
-- ==== Proof.ProdProjDw.lean ====
module

public import proofs.«01_k».proof.Defs
public import proofs.«01_k».proof.Proof.Gen.Kernel8Ideal.Value
public import proofs.«01_k».proof.Proof.Gen.Reference8Ideal.Run
public import proofs.«01_k».proof.Proof.ProdReals
public import proofs.«01_k».proof.Proof.FramesProducts
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `proj_dw` computes its product -/

noncomputable section

open Idealize.ShloMosaic Idealize.ShloMosaic.TcCoe Idealize.SL.Sem Idealize.ShloMosaic.StableHlo

namespace Cert.Kernel8Ideal.Value
open Cert.Kernel8Ideal Cert.Kernel8Ideal.Gen Cert.Att

/-- The product that the call computes, an entry of it. -/
def prod (a : FVec Ideal S4096x4096 .bf16) (b : FVec Ideal S4096x1024 .bf16) (r : Fin 4096) (j : Fin 1024) : EReal :=
  along (fun k : Fin 4096 => a (ix2 k r)) (fun k => b (ix2 k j))

/-- An entry of the body's result: the first block arrives transposed. -/
theorem pay_at (u : FVec Ideal S4096x512 .bf16) (v : FVec Ideal S4096x1024 .bf16) (r : Fin 512) (j : Fin 1024) :
    @Eq EReal (k0_pay2 (F := Ideal) (k0_pay1 (F := Ideal) u) v (ix2 r j)) (along (fun k : Fin 4096 => u (ix2 k r)) (fun k => v (ix2 k j))) := by
  pointwise [k0_pay2, k0_pay1]
  rfl

variable {m : (ℓ : Loc nD τ sig) → Buf (Elt Ideal) ℓ} {c : Dev nD}

/-- The rows of the result that a point works on. -/
def rowAt (t : ℕ) (r : Fin 512) : Fin 4096 := ⟨t / 1 % 8 * 512 + r.val, by omega⟩

/-- The columns of the result that a point works on. -/
def colAt (t : ℕ) (j : Fin 1024) : Fin 1024 := ⟨t % 1 * 1024 + j.val, by omega⟩

/-- Which block of each argument and of the result a point holds. -/
theorem idx : ∀ t : Fin cfg0.N, win0_0.index t = ![0, t.val / 1] ∧ win0_1.index t = ![0, t.val % 1] ∧ win0_2.index t = ![t.val / 1, t.val % 1] ∧ t.val < 8 :=
  (by decide +kernel : ∀ t : Fin grid0.N, _)

/-- An entry of the first argument's block. -/
theorem iblk_a (t : Fin cfg0.N) (k : Fin 4096) (r : Fin 512) : @Eq EReal (iblk m c 0 t (ix2 k r)) (m ((c.tc : Thread nD τ).loc main_arg0) (ix2 k (rowAt t r))) := by
  obtain ⟨e0, e1, e2, hN⟩ := idx t
  blk_ext [iblk, V, e0, rowAt]

/-- An entry of the second argument's block. -/
theorem iblk_b (t : Fin cfg0.N) (k : Fin 4096) (j : Fin 1024) : @Eq EReal (iblk m c 1 t (ix2 k j)) (m ((c.tc : Thread nD τ).loc main_arg1) (ix2 k (colAt t j))) := by
  obtain ⟨e0, e1, e2, hN⟩ := idx t
  blk_ext [iblk, V, e1, colAt]

/-- The result of the call. -/
theorem res_at (i : S4096x1024.Idx) :
    @Eq EReal ((dats m 0 c).arrAt 2 cfg0.N i) (prod (m ((c.tc : Thread nD τ).loc main_arg0)) (m ((c.tc : Thread nD τ).loc main_arg1)) (i 0) (i 1)) := by
  refine (dats m 0 c).arrAt_forall_of_covers 2 (fun i v => @Eq EReal v (prod (m ((c.tc : Thread nD τ).loc main_arg0)) (m ((c.tc : Thread nD τ).loc main_arg1)) (i 0) (i 1)))
    (by decide +kernel) (fun t hf y => ?_) i
  obtain ⟨e0, e1, e2, hN⟩ := idx t
  blk_simp [e2]
  rw [after0_2]
  idx_vars y
  have e : ((View.whole main_v0).slice (win0_2.rect t)).emb (ix2 y0 y1) = ix2 (rowAt t y0) (colAt t y1) := by
    blk_ext [e2, rowAt, colAt]
  rw [e]
  unfold outsAt0
  frame_out
  refine (pay_at _ _ y0 y1).trans ?_
  exact congrArg₂ along (funext fun k => iblk_a t k y0) (funext fun k => iblk_b t k y1)

end Cert.Kernel8Ideal.Value

namespace Cert.Reference8Ideal.Value
open Cert.Reference8Ideal Cert.Reference8Ideal.Gen Cert.Att

/-- The reference's result. -/
def refOf (a : FVec Ideal S4096x4096 .bf16) (b : FVec Ideal S4096x1024 .bf16) : FVec Ideal S4096x1024 .bf16 :=
  truncf .bf16 (transpose S4096x1024 [1, 0] (transpose S1024x4096 [1, 0] (Host.dotGeneral dot_S4096x4096_S4096x1024_S4096x1024_0_0_1_1_n_n none (extf .f32 a bitsLt_bf16_f32) (extf .f32 b bitsLt_bf16_f32)) transposes_S4096x1024_S1024x4096_1_0) transposes_S1024x4096_S4096x1024_1_0) bitsLt_bf16_f32

/-- The reference's result, an entry of it. -/
theorem ref_at (a : FVec Ideal S4096x4096 .bf16) (b : FVec Ideal S4096x1024 .bf16) (r : Fin 4096) (j : Fin 1024) :
    @Eq EReal (refOf a b (ix2 r j)) (along (fun k : Fin 4096 => a (ix2 k r)) (fun k => b (ix2 k j))) := by
  pointwise [refOf]
  rfl

end Cert.Reference8Ideal.Value

namespace Cert.Proof

/-- The result of the call is the reference's. -/
theorem value8 : Cert.algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨a0, a1⟩ := hagree c
  obtain ⟨r0, kept⟩ := h c
  refine ⟨r0.trans ?_, kept⟩
  funext i
  refine Eq.trans ?_ (Cert.Kernel8Ideal.Value.res_at i).symm
  rw [eq_ix2 i]
  refine (Cert.Reference8Ideal.Value.ref_at _ _ _ _).trans ?_
  rw [a0, a1]
  rfl

end Cert.Proof
-- ==== Proof.ProdOutProjDw.lean ====
module

public import proofs.«01_k».proof.Defs
public import proofs.«01_k».proof.Proof.Gen.Kernel10Ideal.Value
public import proofs.«01_k».proof.Proof.Gen.Reference10Ideal.Run
public import proofs.«01_k».proof.Proof.ProdReals
public import proofs.«01_k».proof.Proof.FramesProducts
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `out_proj_dw` computes its product -/

noncomputable section

open Idealize.ShloMosaic Idealize.ShloMosaic.TcCoe Idealize.SL.Sem Idealize.ShloMosaic.StableHlo

namespace Cert.Kernel10Ideal.Value
open Cert.Kernel10Ideal Cert.Kernel10Ideal.Gen Cert.Att

/-- The product that the call computes, an entry of it. -/
def prod (a : FVec Ideal S4096x1024 .bf16) (b : FVec Ideal S4096x1024 .bf16) (r : Fin 1024) (j : Fin 1024) : EReal :=
  along (fun k : Fin 4096 => a (ix2 k r)) (fun k => b (ix2 k j))

/-- An entry of the body's result: the first block arrives transposed. -/
theorem pay_at (u : FVec Ideal S4096x512 .bf16) (v : FVec Ideal S4096x1024 .bf16) (r : Fin 512) (j : Fin 1024) :
    @Eq EReal (k0_pay2 (F := Ideal) (k0_pay1 (F := Ideal) u) v (ix2 r j)) (along (fun k : Fin 4096 => u (ix2 k r)) (fun k => v (ix2 k j))) := by
  pointwise [k0_pay2, k0_pay1]
  rfl

variable {m : (ℓ : Loc nD τ sig) → Buf (Elt Ideal) ℓ} {c : Dev nD}

/-- The rows of the result that a point works on. -/
def rowAt (t : ℕ) (r : Fin 512) : Fin 1024 := ⟨t / 1 % 2 * 512 + r.val, by omega⟩

/-- The columns of the result that a point works on. -/
def colAt (t : ℕ) (j : Fin 1024) : Fin 1024 := ⟨t % 1 * 1024 + j.val, by omega⟩

/-- Which block of each argument and of the result a point holds. -/
theorem idx : ∀ t : Fin cfg0.N, win0_0.index t = ![0, t.val / 1] ∧ win0_1.index t = ![0, t.val % 1] ∧ win0_2.index t = ![t.val / 1, t.val % 1] ∧ t.val < 2 :=
  (by decide +kernel : ∀ t : Fin grid0.N, _)

/-- An entry of the first argument's block. -/
theorem iblk_a (t : Fin cfg0.N) (k : Fin 4096) (r : Fin 512) : @Eq EReal (iblk m c 0 t (ix2 k r)) (m ((c.tc : Thread nD τ).loc main_arg0) (ix2 k (rowAt t r))) := by
  obtain ⟨e0, e1, e2, hN⟩ := idx t
  blk_ext [iblk, V, e0, rowAt]

/-- An entry of the second argument's block. -/
theorem iblk_b (t : Fin cfg0.N) (k : Fin 4096) (j : Fin 1024) : @Eq EReal (iblk m c 1 t (ix2 k j)) (m ((c.tc : Thread nD τ).loc main_arg1) (ix2 k (colAt t j))) := by
  obtain ⟨e0, e1, e2, hN⟩ := idx t
  blk_ext [iblk, V, e1, colAt]

/-- The result of the call. -/
theorem res_at (i : S1024x1024.Idx) :
    @Eq EReal ((dats m 0 c).arrAt 2 cfg0.N i) (prod (m ((c.tc : Thread nD τ).loc main_arg0)) (m ((c.tc : Thread nD τ).loc main_arg1)) (i 0) (i 1)) := by
  refine (dats m 0 c).arrAt_forall_of_covers 2 (fun i v => @Eq EReal v (prod (m ((c.tc : Thread nD τ).loc main_arg0)) (m ((c.tc : Thread nD τ).loc main_arg1)) (i 0) (i 1)))
    (by decide +kernel) (fun t hf y => ?_) i
  obtain ⟨e0, e1, e2, hN⟩ := idx t
  blk_simp [e2]
  rw [after0_2]
  idx_vars y
  have e : ((View.whole main_v0).slice (win0_2.rect t)).emb (ix2 y0 y1) = ix2 (rowAt t y0) (colAt t y1) := by
    blk_ext [e2, rowAt, colAt]
  rw [e]
  unfold outsAt0
  frame_out
  refine (pay_at _ _ y0 y1).trans ?_
  exact congrArg₂ along (funext fun k => iblk_a t k y0) (funext fun k => iblk_b t k y1)

end Cert.Kernel10Ideal.Value

namespace Cert.Reference10Ideal.Value
open Cert.Reference10Ideal Cert.Reference10Ideal.Gen Cert.Att

/-- The reference's result. -/
def refOf (a : FVec Ideal S4096x1024 .bf16) (b : FVec Ideal S4096x1024 .bf16) : FVec Ideal S1024x1024 .bf16 :=
  truncf .bf16 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0) bitsLt_bf16_f32

/-- The reference's result, an entry of it. -/
theorem ref_at (a : FVec Ideal S4096x1024 .bf16) (b : FVec Ideal S4096x1024 .bf16) (r : Fin 1024) (j : Fin 1024) :
    @Eq EReal (refOf a b (ix2 r j)) (along (fun k : Fin 4096 => a (ix2 k r)) (fun k => b (ix2 k j))) := by
  pointwise [refOf]
  exact along_comm (fun k : Fin 4096 => b (ix2 k j)) (fun k => a (ix2 k r))

end Cert.Reference10Ideal.Value

namespace Cert.Proof

/-- The result of the call is the reference's. -/
theorem value10 : Cert.algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ?_) (Cert.Reference10Ideal.Value.run (F := Ideal) m' ρ')
  obtain ⟨a0, a1⟩ := hagree c
  obtain ⟨r0, kept⟩ := h c
  refine ⟨r0.trans ?_, kept⟩
  funext i
  refine Eq.trans ?_ (Cert.Kernel10Ideal.Value.res_at i).symm
  rw [eq_ix2 i]
  refine (Cert.Reference10Ideal.Value.ref_at _ _ _ _).trans ?_
  rw [a0, a1]
  rfl

end Cert.Proof
-- ==== Proof.FirstNormBody.lean ====
module

public import proofs.«01_k».proof.Proof.Gen.Kernel11Ideal.Frame
public import proofs.«01_k».proof.Proof.NormReals
public import Idealize.ShloMosaic.Lib.Pipeline.ValueKit

@[expose] public section

set_option maxRecDepth 16384

/-! # The body of the first norm's backward kernel, entry by entry -/

noncomputable section

open Idealize.ShloMosaic Idealize.ShloMosaic.TcCoe Idealize.SL.Sem

namespace Cert.Kernel11Ideal.Value
open Cert.Kernel11Ideal Cert.Kernel11Ideal.Gen Cert.Att Cert.Att.NormInp Cert.Att.ProjInp

/-- What a grid point holds: a tile of rows of the row arrays, and the weight. -/
structure Tile (X : ProjInp) (ρ : Fin 512 → Fin 4096) (a : FVec Ideal S512x4096 .bf16) (w : FVec Ideal S4096x1024 .bf16)
    (x : FVec Ideal S512x1024 .f32) : Prop where
  a : ∀ r k, @Eq EReal (a (ix2 r k)) (X.a (ρ r) k)
  w : ∀ k i, @Eq EReal (w (ix2 k i)) (X.w k i)
  x : ∀ r i, @Eq EReal (x (ix2 r i)) (X.x (ρ r) i)

variable {X : ProjInp} {ρ : Fin 512 → Fin 4096} {a : FVec Ideal S512x4096 .bf16} {w : FVec Ideal S4096x1024 .bf16}
  {x d : FVec Ideal S512x1024 .f32} {g : FVec Ideal S1x1024 .f32} (T : Tile X ρ a w x)
include T

/-- The product of a tile. -/
theorem pay3_at (r : Fin 512) (i : Fin 1024) : @Eq EReal (k0_pay3 (F := Ideal) a w (ix2 r i)) (X.dy (ρ r) i) := by
  pointwise [k0_pay3, T.a, T.w]
  rfl

/-- One over the root of the mean square of a row. -/
theorem pay4_at (r : Fin 512) : @Eq EReal (k0_pay4 (F := Ideal) x (ix2 r 0)) (X.norm.inv (ρ r)) := by
  pointwise [k0_pay4, T.x]
  rw [bits_rows, bits_eps.1, NormInp.inv, ms]

/-- The normalised row. -/
theorem pay5_at (r : Fin 512) (i : Fin 1024) : @Eq EReal (k0_pay5 (F := Ideal) x (ix2 r i)) (X.x (ρ r) i * X.norm.inv (ρ r)) := by
  have h := pay4_at T
  generalize hp : k0_pay4 (F := Ideal) x = p at h
  pointwise [k0_pay5, hp, h, T.x]

/-- The tile's part of the gains' gradient. -/
theorem pay6_at (i : Fin 1024) : @Eq EReal (k0_pay6 (F := Ideal) a w x (ix2 0 i)) (∑ r, X.dy (ρ r) i * (X.x (ρ r) i * X.norm.inv (ρ r))) := by
  have h := pay5_at T
  generalize hp : k0_pay5 (F := Ideal) x = p at h
  have h' := pay3_at T
  generalize hq : k0_pay3 (F := Ideal) a w = q at h'
  pointwise [k0_pay6, hp, hq, h, h']

/-- The gradient with respect to the norm's argument. -/
theorem pay7_at (hg : ∀ i, @Eq EReal (g (ix2 0 i)) (X.g i)) (hd : ∀ r i, @Eq EReal (d (ix2 r i)) (X.d (ρ r) i)) (r : Fin 512) (i : Fin 1024) :
    @Eq EReal (k0_pay7 (F := Ideal) a w x g d (ix2 r i)) (X.norm.dx (ρ r) i) := by
  have h := pay5_at T
  generalize hp : k0_pay5 (F := Ideal) x = p at h
  have h' := pay3_at T
  generalize hq : k0_pay3 (F := Ideal) a w = q at h'
  have h'' := pay4_at T
  generalize hs : k0_pay4 (F := Ideal) x = s at h''
  pointwise [k0_pay7, hp, hq, hs, h, h', h'', hg, hd]
  rw [bits_rows, dx, mean]

end Cert.Kernel11Ideal.Value
-- ==== Proof.FirstNormValues.lean ====
module

public import proofs.«01_k».proof.Proof.Gen.Kernel11Ideal.Value
public import proofs.«01_k».proof.Proof.FirstNormBody
public import Idealize.ShloMosaic.Lib.Pipeline.ReadBack

@[expose] public section

set_option maxRecDepth 16384

/-! # The results of the first norm's backward kernel, entry by entry -/

noncomputable section

open Idealize.ShloMosaic Idealize.ShloMosaic.TcCoe Idealize.SL.Sem

namespace Cert.Kernel11Ideal.Value
open Cert.Kernel11Ideal Cert.Kernel11Ideal.Gen Cert.Att Cert.Att.NormInp Cert.Att.ProjInp

/-- The memory holds the arguments `X`. -/
structure Reads (m : (ℓ : Loc nD τ sig) → Buf (Elt Ideal) ℓ) (c : Dev nD) (X : ProjInp) : Prop where
  a : ∀ r k, @Eq EReal (m ((c.tc : Thread nD τ).loc main_arg0) (ix2 r k)) (X.a r k)
  w : ∀ k i, @Eq EReal (m ((c.tc : Thread nD τ).loc main_arg1) (ix2 k i)) (X.w k i)
  x : ∀ r i, @Eq EReal (m ((c.tc : Thread nD τ).loc main_arg2) (ix2 r i)) (X.x r i)
  g : ∀ i, @Eq EReal (m ((c.tc : Thread nD τ).loc main_arg3) (ix2 0 i)) (X.g i)
  d : ∀ r i, @Eq EReal (m ((c.tc : Thread nD τ).loc main_arg4) (ix2 r i)) (X.d r i)

variable {m : (ℓ : Loc nD τ sig) → Buf (Elt Ideal) ℓ} {c : Dev nD} {X : ProjInp} (R : Reads m c X)

/-- The rows a point works on. -/
def tileRow (t : ℕ) (r : Fin 512) : Fin 4096 := ⟨t % 8 * 512 + r.val, by omega⟩

/-- Which block of each argument and result a point holds, and which point writes the gains' gradient back. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ t.val < 8 ∧ ((cfg0.win 6).flush t = true → t.val = 7) :=
  (by decide +kernel : ∀ t : Fin grid0.N, _)

include R

/-- An entry of the block of the gradient behind the product. -/
theorem iblk_a (t : Fin cfg0.N) (r : Fin 512) (k : Fin 4096) : @Eq EReal (iblk m c 0 t (ix2 r k)) (X.a (tileRow t r) k) := by
  obtain ⟨e0, e1, e2, e3, e4, e5, e6, hN, hf⟩ := idx t
  have e : @Eq EReal (iblk m c 0 t (ix2 r k)) (m ((c.tc : Thread nD τ).loc main_arg0) (ix2 (tileRow t r) k)) := by
    blk_ext [iblk, V, e0, tileRow]
  exact e.trans (R.a _ _)

/-- An entry of the block of the weight. -/
theorem iblk_w (t : Fin cfg0.N) (k : Fin 4096) (i : Fin 1024) : @Eq EReal (iblk m c 1 t (ix2 k i)) (X.w k i) := by
  obtain ⟨e0, e1, e2, e3, e4, e5, e6, hN, hf⟩ := idx t
  have e : @Eq EReal (iblk m c 1 t (ix2 k i)) (m ((c.tc : Thread nD τ).loc main_arg1) (ix2 k i)) := by
    blk_ext [iblk, V, e1]
  exact e.trans (R.w _ _)

/-- An entry of the block of the norm's argument. -/
theorem iblk_x (t : Fin cfg0.N) (r : Fin 512) (i : Fin 1024) : @Eq EReal (iblk m c 2 t (ix2 r i)) (X.x (tileRow t r) i) := by
  obtain ⟨e0, e1, e2, e3, e4, e5, e6, hN, hf⟩ := idx t
  have e : @Eq EReal (iblk m c 2 t (ix2 r i)) (m ((c.tc : Thread nD τ).loc main_arg2) (ix2 (tileRow t r) i)) := by
    blk_ext [iblk, V, e2, tileRow]
  exact e.trans (R.x _ _)

/-- An entry of the block of the gains. -/
theorem iblk_g (t : Fin cfg0.N) (i : Fin 1024) : @Eq EReal (iblk m c 3 t (ix2 0 i)) (X.g i) := by
  obtain ⟨e0, e1, e2, e3, e4, e5, e6, hN, hf⟩ := idx t
  have e : @Eq EReal (iblk m c 3 t (ix2 0 i)) (m ((c.tc : Thread nD τ).loc main_arg3) (ix2 0 i)) := by
    blk_ext [iblk, V, e3]
  exact e.trans (R.g _)

/-- An entry of the block of the residual's gradient. -/
theorem iblk_d (t : Fin cfg0.N) (r : Fin 512) (i : Fin 1024) : @Eq EReal (iblk m c 4 t (ix2 r i)) (X.d (tileRow t r) i) := by
  obtain ⟨e0, e1, e2, e3, e4, e5, e6, hN, hf⟩ := idx t
  have e : @Eq EReal (iblk m c 4 t (ix2 r i)) (m ((c.tc : Thread nD τ).loc main_arg4) (ix2 (tileRow t r) i)) := by
    blk_ext [iblk, V, e4, tileRow]
  exact e.trans (R.d _ _)

/-- What a point holds. -/
theorem tile_at (t : Fin cfg0.N) : Tile X (tileRow t) (iblk m c 0 t) (iblk m c 1 t) (iblk m c 2 t) where
  a := iblk_a R t
  w := iblk_w R t
  x := iblk_x R t

/-- What a point writes of the gradient. -/
theorem out5_at (t : Fin cfg0.N) (r : Fin 512) (i : Fin 1024) :
    @Eq EReal ((outsAt0 m c t.val t.isLt).1 (ix2 r i)) (X.norm.dx (tileRow t r) i) := by
  by_cases h0 : t.val % 8 = 0
  · rw [outsAt0_A m c t h0]
    frame_out
    exact pay7_at (tile_at R t) (iblk_g R t) (iblk_d R t) r i
  · rw [outsAt0_B m c t h0]
    frame_out
    exact pay7_at (tile_at R t) (iblk_g R t) (iblk_d R t) r i

/-- The part of a tile's rows in the gains' gradient. -/
def part (X : ProjInp) (s : ℕ) (i : Fin 1024) : EReal := ∑ r, X.dy (tileRow s r) i * (X.x (tileRow s r) i * X.norm.inv (tileRow s r))

omit R in
/-- The accumulator takes a tile's part. -/
theorem pay2_at {u v : FVec Ideal S1x1024 .f32} {i : Fin 1024} {a b : EReal} (hu : @Eq EReal (u (ix2 0 i)) a) (hv : @Eq EReal (v (ix2 0 i)) b) :
    @Eq EReal (k0_pay2 (F := Ideal) u v (ix2 0 i)) (b + a) := by
  pointwise [k0_pay2, hu, hv]

omit R in
/-- The accumulator starts from zeros. -/
theorem pay1_at (i : Fin 1024) : @Eq EReal (k0_pay1 (F := Ideal) (ix2 0 i)) 0 := by
  pointwise [k0_pay1]

/-- After point `n` the accumulator holds the parts of the tiles so far. -/
theorem out6_at (n : ℕ) : ∀ t : Fin cfg0.N, t.val = n → ∀ i,
    @Eq EReal ((outsAt0 m c t.val t.isLt).2 (ix2 0 i)) (∑ s ∈ Finset.range (n + 1), part X s i) := by
  induction n with
  | zero =>
    intro t ht i
    rw [outsAt0_A m c t (by omega)]
    frame_out
    refine (pay2_at (pay6_at (tile_at R t) i) (pay1_at i)).trans ?_
    rw [zero_add, Finset.sum_range_one, part, ht]
  | succ n ih =>
    intro t ht i
    have hN : t.val < 8 := (idx t).2.2.2.2.2.2.2.1
    have hp : t.val - 1 < cfg0.N := lt_of_le_of_lt (Nat.sub_le _ _) t.isLt
    have i₁ := ih ⟨t.val - 1, hp⟩ (by dsimp only; omega) i
    dsimp only at i₁
    rw [outsAt0_B m c t (by omega)]
    frame_out
    refine (pay2_at (pay6_at (tile_at R t) i) i₁).trans ?_
    rw [Finset.sum_range_succ _ (n + 1), part, ht]

omit R in
/-- The tiles' parts together are the gains' gradient. -/
theorem parts_dg (i : Fin 1024) : ∑ s ∈ Finset.range 8, part X s i = X.norm.dg i := by
  rw [dg, Idealize.ShloMosaic.Fin.sum_univ_tiles 8 512 rfl (fun r : Fin 4096 => X.dy r i * (X.x r i * X.norm.inv r)), Finset.sum_range]
  refine Finset.sum_congr rfl fun s _ => Finset.sum_congr rfl fun r _ => ?_
  have e : tileRow s.val r = (⟨s.val * 512 + r.val, by omega⟩ : Fin 4096) := Fin.ext (by show s.val % 8 * 512 + r.val = s.val * 512 + r.val; omega)
  rw [e]

/-- The kernel's first result. -/
theorem res5_at (i : S4096x1024.Idx) : @Eq EReal ((dats m 0 c).arrAt 5 cfg0.N i) (X.norm.dx (i 0) (i 1)) := by
  refine (dats m 0 c).arrAt_forall_of_covers 5 (fun i v => @Eq EReal v (X.norm.dx (i 0) (i 1))) (by decide +kernel) (fun t hf y => ?_) i
  obtain ⟨e0, e1, e2, e3, e4, e5, e6, hN, hf'⟩ := idx t
  blk_simp [e5]
  rw [after0_5]
  idx_vars y
  have e : ((View.whole main_v0_0).slice (win0_5.rect t)).emb (ix2 y0 y1) = ix2 (tileRow t y0) y1 := by
    blk_ext [e5, tileRow]
  rw [e]
  exact out5_at R t y0 y1

/-- The kernel's second result. -/
theorem res6_at (i : S1x1024.Idx) : @Eq EReal ((dats m 0 c).arrAt 6 cfg0.N i) (X.norm.dg (i 1)) := by
  refine (dats m 0 c).arrAt_forall_of_covers 6 (fun i v => @Eq EReal v (X.norm.dg (i 1))) (by decide +kernel) (fun t hf y => ?_) i
  obtain ⟨e0, e1, e2, e3, e4, e5, e6, hN, hf'⟩ := idx t
  have h7 := hf' hf
  blk_simp [e6]
  rw [after0_6]
  idx_vars y
  rw [Subsingleton.elim y0 0]
  have e : ((View.whole main_v0_1).slice (win0_6.rect t)).emb (ix2 (0 : Fin 1) y1) = ix2 (0 : Fin 1) y1 := by
    blk_ext [e6]
  rw [e]
  refine (out6_at R 7 t h7 y1).trans ?_
  exact parts_dg y1

end Cert.Kernel11Ideal.Value
-- ==== Proof.FirstNormRef.lean ====
module

public import proofs.«01_k».proof.Proof.Gen.Reference11Ideal.Run
public import proofs.«01_k».proof.Proof.NormReals
public import Idealize.ShloMosaic.Lib.Pointwise
public import Idealize.ShloMosaic.Lib.Tactic.CleanTypes

@[expose] public section

set_option maxRecDepth 16384

/-! # The reference's gradients of the first norm, entry by entry -/

noncomputable section

open Idealize.ShloMosaic Idealize.ShloMosaic.TcCoe Idealize.SL.Sem Idealize.ShloMosaic.StableHlo

namespace Cert.Reference11Ideal.Value
open Cert.Reference11Ideal Cert.Reference11Ideal.Gen Cert.Att Cert.Att.NormInp Cert.Att.ProjInp

/-- The product that takes the gradient back. -/
def dyOf (a : FVec Ideal S4096x4096 .bf16) (w : FVec Ideal S4096x1024 .bf16) : FVec Ideal S4096x1024 .f32 :=
  Host.dotGeneral dot_S4096x4096_S1024x4096_S4096x1024_1_1_0_0_n_n none (extf .f32 a bitsLt_bf16_f32)
    (transpose S1024x4096 [1, 0] (extf .f32 w bitsLt_bf16_f32) transposes_S4096x1024_S1024x4096_1_0)

/-- The mean of the squares. -/
def msOf (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- The row's sum of the gradient against the argument. -/
def rowOf (y x : FVec Ideal S4096x1024 .f32) (g : FVec Ideal S1x1024 .f32) : FVec Ideal S4096x1 .f32 :=
  shapeCast S4096x1 (Host.reduceAdd (mulf x (mulf y (broadcastInDim S4096x1024 ![0, 1] bcast_S1x1024_S4096x1024_0_1 g))) (constant S_ .f32 0x00000000#32)
    reducesTo_S4096x1024_S4096_d1 h_S_) shapeCasts_S4096_S4096x1

/-- What the mean of the squares passes back. -/
def corrOf (A M : FVec Ideal S4096x1 .f32) : FVec Ideal S4096 .f32 :=
  Host.reduceAdd (Host.divf (mulf A (mulf (broadcastInDim S4096x1 ![] bcast_S_S4096x1 (constant S_ .f32 0xBF000000#32)) (Host.divf (Host.rsqrt M) M)))
    (broadcastInDim S4096x1 ![] bcast_S_S4096x1 (constant S_ .f32 0x44800000#32))) (constant S_ .f32 0x00000000#32) reducesTo_S4096x1_S4096_d1 h_S_

/-- The gradient with respect to the norm's argument. -/
def dxOf (y x : FVec Ideal S4096x1024 .f32) (g : FVec Ideal S1x1024 .f32) (M : FVec Ideal S4096x1 .f32) (C : FVec Ideal S4096 .f32) (d : FVec Ideal S4096x1024 .f32) :
    FVec Ideal S4096x1024 .f32 :=
  addf (addf (addf (mulf (mulf y (broadcastInDim S4096x1024 ![0, 1] bcast_S1x1024_S4096x1024_0_1 g)) (broadcastInDim S4096x1024 ![0, 1] bcast_S4096x1_S4096x1024_0_1 (Host.rsqrt M)))
    (mulf x (broadcastInDim S4096x1024 ![0] bcast_S4096_S4096x1024_0 C))) (mulf (broadcastInDim S4096x1024 ![0] bcast_S4096_S4096x1024_0 C) x)) d

/-- The gradient with respect to the gains. -/
def dgOf (y x : FVec Ideal S4096x1024 .f32) (M : FVec Ideal S4096x1 .f32) : FVec Ideal S1x1024 .f32 :=
  shapeCast S1x1024 (Host.reduceAdd (mulf (mulf x (broadcastInDim S4096x1024 ![0, 1] bcast_S4096x1_S4096x1024_0_1 (Host.rsqrt M))) y) (constant S_ .f32 0x00000000#32)
    reducesTo_S4096x1024_S1024_d0 h_S_) shapeCasts_S1024_S1x1024

/-- The memory holds the arguments `X`. -/
structure Reads (m : (ℓ : Loc nD τ sig) → Buf (Elt Ideal) ℓ) (c : Dev nD) (X : ProjInp) : Prop where
  a : ∀ r k, @Eq EReal (m ((c.tc : Thread nD τ).loc main_arg0) (ix2 r k)) (X.a r k)
  w : ∀ k i, @Eq EReal (m ((c.tc : Thread nD τ).loc main_arg1) (ix2 k i)) (X.w k i)
  x : ∀ r i, @Eq EReal (m ((c.tc : Thread nD τ).loc main_arg2) (ix2 r i)) (X.x r i)
  g : ∀ i, @Eq EReal (m ((c.tc : Thread nD τ).loc main_arg3) (ix2 0 i)) (X.g i)
  d : ∀ r i, @Eq EReal (m ((c.tc : Thread nD τ).loc main_arg4) (ix2 r i)) (X.d r i)

variable {X : ProjInp} {a : FVec Ideal S4096x4096 .bf16} {w : FVec Ideal S4096x1024 .bf16} {y x d : FVec Ideal S4096x1024 .f32}
  {g : FVec Ideal S1x1024 .f32} {M A : FVec Ideal S4096x1 .f32} {C : FVec Ideal S4096 .f32}

/-- The product. -/
theorem dy_at (ha : ∀ r k, @Eq EReal (a (ix2 r k)) (X.a r k)) (hw : ∀ k i, @Eq EReal (w (ix2 k i)) (X.w k i)) (r : Fin 4096) (i : Fin 1024) : @Eq EReal (dyOf a w (ix2 r i)) (X.dy r i) := by
  pointwise [dyOf, ha, hw]
  rfl

/-- The mean of the squares. -/
theorem ms_at (hx : ∀ r i, @Eq EReal (x (ix2 r i)) (X.x r i)) (r : Fin 4096) : @Eq EReal (msOf x (ix2 r 0)) (X.norm.ms r) := by
  pointwise [msOf, hx]
  rw [bits_rows, bits_eps.1, ms]

/-- The row's sum. -/
theorem row_at (hy : ∀ r i, @Eq EReal (y (ix2 r i)) (X.dy r i)) (hx : ∀ r i, @Eq EReal (x (ix2 r i)) (X.x r i))
    (hg : ∀ i, @Eq EReal (g (ix2 0 i)) (X.g i)) (r : Fin 4096) : @Eq EReal (rowOf y x g (ix2 r 0)) (∑ i, X.x r i * (X.dy r i * X.g i)) := by
  pointwise [rowOf, hx, hy, hg]

/-- What the mean of the squares passes back. -/
theorem corr_at (hA : ∀ r, @Eq EReal (A (ix2 r 0)) (∑ i, X.x r i * (X.dy r i * X.g i))) (hM : ∀ r, @Eq EReal (M (ix2 r 0)) (X.norm.ms r)) (r : Fin 4096) :
    @Eq EReal (corrOf A M (ix1 r)) (X.norm.corr r) := by
  pointwise [corrOf]
  rw [Fin.sum_univ_one, hA, hM, bits_rows, bits_minus_half, corr, NormInp.inv]

/-- The gradient with respect to the norm's argument. -/
theorem dx_at (hy : ∀ r i, @Eq EReal (y (ix2 r i)) (X.dy r i)) (hx : ∀ r i, @Eq EReal (x (ix2 r i)) (X.x r i)) (hg : ∀ i, @Eq EReal (g (ix2 0 i)) (X.g i))
    (hM : ∀ r, @Eq EReal (M (ix2 r 0)) (X.norm.ms r)) (hC : ∀ r, @Eq EReal (C (ix1 r)) (X.norm.corr r)) (hd : ∀ r i, @Eq EReal (d (ix2 r i)) (X.d r i))
    (r : Fin 4096) (i : Fin 1024) : @Eq EReal (dxOf y x g M C d (ix2 r i)) (X.norm.dx r i) := by
  pointwise [dxOf, hy, hx, hg, hM, hC, hd]
  exact X.norm.dx_eq r i

/-- The gradient with respect to the gains. -/
theorem dg_at (hy : ∀ r i, @Eq EReal (y (ix2 r i)) (X.dy r i)) (hx : ∀ r i, @Eq EReal (x (ix2 r i)) (X.x r i))
    (hM : ∀ r, @Eq EReal (M (ix2 r 0)) (X.norm.ms r)) (i : Fin 1024) : @Eq EReal (dgOf y x M (ix2 0 i)) (X.norm.dg i) := by
  pointwise [dgOf, hy, hx, hM]
  exact Finset.sum_congr rfl fun r _ => mul_comm _ _

variable {m : (ℓ : Loc nD τ sig) → Buf (Elt Ideal) ℓ} {c : Dev nD} (R : Reads m c X)
include R

/-- The reference's first result. -/
theorem res0_at (r : Fin 4096) (i : Fin 1024) : @Eq EReal (res_main_v39 m c (ix2 r i)) (X.norm.dx r i) :=
  have hy := dy_at R.a R.w
  have hM := ms_at R.x
  dx_at hy R.x R.g hM (corr_at (row_at hy R.x R.g) hM) R.d r i

/-- The reference's second result. -/
theorem res1_at (i : Fin 1024) : @Eq EReal (dgOf (dyOf (m ((c.tc : Thread nD τ).loc main_arg0)) (m ((c.tc : Thread nD τ).loc main_arg1)))
    (m ((c.tc : Thread nD τ).loc main_arg2)) (msOf (m ((c.tc : Thread nD τ).loc main_arg2))) (ix2 0 i)) (X.norm.dg i) :=
  dg_at (dy_at R.a R.w) R.x (ms_at R.x) i

end Cert.Reference11Ideal.Value
-- ==== Proof.FirstNormFinal.lean ====
module

public import proofs.«01_k».proof.Defs
public import proofs.«01_k».proof.Proof.Frames11
public import proofs.«01_k».proof.Proof.FirstNormValues
public import proofs.«01_k».proof.Proof.FirstNormRef

@[expose] public section

set_option maxRecDepth 16384

/-! # The results of the first norm's backward kernel are the reference's -/

noncomputable section

open Idealize.ShloMosaic Idealize.ShloMosaic.TcCoe Idealize.SL.Sem Idealize.ShloMosaic.StableHlo

namespace Cert.Proof
open Cert.Att

/-- The kernel's arguments. -/
theorem exists_inp11 (m : (ℓ : Loc Cert.Kernel11Ideal.nD Cert.Kernel11Ideal.τ Cert.Kernel11Ideal.sig) → Buf (Elt Ideal) ℓ) (c : Dev Cert.Kernel11Ideal.nD) :
    ∃ X : ProjInp, Cert.Kernel11Ideal.Value.Reads m c X :=
  ⟨⟨fun r k => m ((c.tc : Thread Cert.Kernel11Ideal.nD Cert.Kernel11Ideal.τ).loc Cert.Kernel11Ideal.main_arg0) (ix2 r k),
    fun k i => m ((c.tc : Thread Cert.Kernel11Ideal.nD Cert.Kernel11Ideal.τ).loc Cert.Kernel11Ideal.main_arg1) (ix2 k i),
    fun r i => m ((c.tc : Thread Cert.Kernel11Ideal.nD Cert.Kernel11Ideal.τ).loc Cert.Kernel11Ideal.main_arg2) (ix2 r i),
    fun i => m ((c.tc : Thread Cert.Kernel11Ideal.nD Cert.Kernel11Ideal.τ).loc Cert.Kernel11Ideal.main_arg3) (ix2 0 i),
    fun r i => m ((c.tc : Thread Cert.Kernel11Ideal.nD Cert.Kernel11Ideal.τ).loc Cert.Kernel11Ideal.main_arg4) (ix2 r i)⟩,
    ⟨fun _ _ => rfl, fun _ _ => rfl, fun _ _ => rfl, fun _ => rfl, fun _ _ => rfl⟩⟩

/-- The kernel's two results are the reference's. -/
theorem value11 : Cert.algebraic_Kernel11Ideal_Reference11Ideal := by
  intro m ρ m' ρ' _ hagree
  refine ⟨_, _, Cert.Kernel11Ideal.Value.run_blocks (F := Ideal) m ρ, ?_⟩
  refine (θ_run Cert.Reference11Ideal.defs _ _).mono (fun _ h c => ?_) (Cert.Reference11Ideal.Value.run (F := Ideal) m' ρ')
  obtain ⟨X, R⟩ := exists_inp11 m c
  obtain ⟨a0, a1, a2, a3, a4⟩ := hagree c
  have S : Cert.Reference11Ideal.Value.Reads m' c X :=
    ⟨fun r k => (congrFun a0 (ix2 r k)).trans (R.a r k), fun k i => (congrFun a1 (ix2 k i)).trans (R.w k i),
      fun r i => (congrFun a2 (ix2 r i)).trans (R.x r i), fun i => (congrFun a3 (ix2 0 i)).trans (R.g i), fun r i => (congrFun a4 (ix2 r i)).trans (R.d r i)⟩
  obtain ⟨r0, r1, kept⟩ := h c
  refine ⟨r0.trans ?_, r1.trans ?_, kept⟩
  · funext i
    refine Eq.trans ?_ (Cert.Kernel11Ideal.Value.res5_at R i).symm
    rw [eq_ix2 i]
    exact Cert.Reference11Ideal.Value.res0_at S _ _
  · funext i
    refine Eq.trans ?_ (Cert.Kernel11Ideal.Value.res6_at R i).symm
    have e : i = ix2 (0 : Fin 1) (i 1) := by
      rw [eq_ix2 i]; exact congrArg (fun z : Fin 1 => ix2 z (i 1)) (Subsingleton.elim (α := Fin 1) _ _)
    rw [e]
    exact Cert.Reference11Ideal.Value.res1_at S _

end Cert.Proof
-- ==== Proof.FramesAdam.lean ====
/- The frames of the programs of calls 12 to 19, the optimiser's. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import Idealize.ShloMosaic.Lib.Quiescent

@[expose] public section

set_option maxRecDepth 16384

noncomputable section

open Idealize.ShloMosaic Idealize.ShloMosaic.TcCoe Idealize.SL.Sem

namespace Cert.Proof

/-- The compiled call `adamw_w_out` runs to its end and leaves its arguments as they were. -/
theorem frame_p12 : Cert.quiescent_Kernel12 := fun m ρ _ => Cert.Kernel12.Gen.frame m ρ

/-- So does `adamw_w_out` over the extended reals. -/
theorem frame_pi12 : Cert.quiescent_Kernel12Ideal := fun m ρ _ => Cert.Kernel12Ideal.Gen.frame m ρ

/-- So does the reference of `adamw_w_out`, whose run is a list of host operations. -/
theorem frame_ri12 : Cert.quiescent_Reference12Ideal := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

/-- The ideal program of `adamw_w_out` is the call over the extended reals. -/
theorem preserves12 : Cert.preserves_Kernel12_Kernel12Ideal := trivial

/-- The compiled call `adamw_w_up` runs to its end and leaves its arguments as they were. -/
theorem frame_p13 : Cert.quiescent_Kernel13 := fun m ρ _ => Cert.Kernel13.Gen.frame m ρ

/-- So does `adamw_w_up` over the extended reals. -/
theorem frame_pi13 : Cert.quiescent_Kernel13Ideal := fun m ρ _ => Cert.Kernel13Ideal.Gen.frame m ρ

/-- So does the reference of `adamw_w_up`, whose run is a list of host operations. -/
theorem frame_ri13 : Cert.quiescent_Reference13Ideal := fun m ρ _ =>
  (θ_run Cert.Reference13Ideal.defs _ _).mono (fun r h => ⟨fun c => (h c).2.2.2.2,
      Idealize.ShloMosaic.sem_eq_zero_of_no_sems (by decide) r.2⟩)
    (Cert.Reference13Ideal.Value.run (F := Ideal) m ρ)

/-- The ideal program of `adamw_w_up` is the call over the extended reals. -/
theorem preserves13 : Cert.preserves_Kernel13_Kernel13Ideal := trivial

/-- The compiled call `adamw_w_down` runs to its end and leaves its arguments as they were. -/
theorem frame_p14 : Cert.quiescent_Kernel14 := fun m ρ _ => Cert.Kernel14.Gen.frame m ρ

/-- So does `adamw_w_down` over the extended reals. -/
theorem frame_pi14 : Cert.quiescent_Kernel14Ideal := fun m ρ _ => Cert.Kernel14Ideal.Gen.frame m ρ

/-- So does the reference of `adamw_w_down`, whose run is a list of host operations. -/
theorem frame_ri14 : Cert.quiescent_Reference14Ideal := fun m ρ _ =>
  (θ_run Cert.Reference14Ideal.defs _ _).mono (fun r h => ⟨fun c => (h c).2.2.2.2,
      Idealize.ShloMosaic.sem_eq_zero_of_no_sems (by decide) r.2⟩)
    (Cert.Reference14Ideal.Value.run (F := Ideal) m ρ)

/-- The ideal program of `adamw_w_down` is the call over the extended reals. -/
theorem preserves14 : Cert.preserves_Kernel14_Kernel14Ideal := trivial

/-- The compiled call `adamw_conv_w` runs to its end and leaves its arguments as they were. -/
theorem frame_p15 : Cert.quiescent_Kernel15 := fun m ρ _ => Cert.Kernel15.Gen.frame m ρ

/-- So does `adamw_conv_w` over the extended reals. -/
theorem frame_pi15 : Cert.quiescent_Kernel15Ideal := fun m ρ _ => Cert.Kernel15Ideal.Gen.frame m ρ

/-- So does the reference of `adamw_conv_w`, whose run is a list of host operations. -/
theorem frame_ri15 : Cert.quiescent_Reference15Ideal := fun m ρ _ =>
  (θ_run Cert.Reference15Ideal.defs _ _).mono (fun r h => ⟨fun c => (h c).2.2.2.2,
      Idealize.ShloMosaic.sem_eq_zero_of_no_sems (by decide) r.2⟩)
    (Cert.Reference15Ideal.Value.run (F := Ideal) m ρ)

/-- The ideal program of `adamw_conv_w` is the call over the extended reals. -/
theorem preserves15 : Cert.preserves_Kernel15_Kernel15Ideal := trivial

/-- The compiled call `adamw_w_in` runs to its end and leaves its arguments as they were. -/
theorem frame_p16 : Cert.quiescent_Kernel16 := fun m ρ _ => Cert.Kernel16.Gen.frame m ρ

/-- So does `adamw_w_in` over the extended reals. -/
theorem frame_pi16 : Cert.quiescent_Kernel16Ideal := fun m ρ _ => Cert.Kernel16Ideal.Gen.frame m ρ

/-- So does the reference of `adamw_w_in`, whose run is a list of host operations. -/
theorem frame_ri16 : Cert.quiescent_Reference16Ideal := fun m ρ _ =>
  (θ_run Cert.Reference16Ideal.defs _ _).mono (fun r h => ⟨fun c => (h c).2.2.2.2,
      Idealize.ShloMosaic.sem_eq_zero_of_no_sems (by decide) r.2⟩)
    (Cert.Reference16Ideal.Value.run (F := Ideal) m ρ)

/-- The ideal program of `adamw_w_in` is the call over the extended reals. -/
theorem preserves16 : Cert.preserves_Kernel16_Kernel16Ideal := trivial

/-- The compiled call `adamw_w_q_b` runs to its end and leaves its arguments as they were. -/
theorem frame_p17 : Cert.quiescent_Kernel17 := fun m ρ _ => Cert.Kernel17.Gen.frame m ρ

/-- So does `adamw_w_q_b` over the extended reals. -/
theorem frame_pi17 : Cert.quiescent_Kernel17Ideal := fun m ρ _ => Cert.Kernel17Ideal.Gen.frame m ρ

/-- So does the reference of `adamw_w_q_b`, whose run is a list of host operations. -/
theorem frame_ri17 : Cert.quiescent_Reference17Ideal := fun m ρ _ =>
  (θ_run Cert.Reference17Ideal.defs _ _).mono (fun r h => ⟨fun c => (h c).2.2.2.2,
      Idealize.ShloMosaic.sem_eq_zero_of_no_sems (by decide) r.2⟩)
    (Cert.Reference17Ideal.Value.run (F := Ideal) m ρ)

/-- The ideal program of `adamw_w_q_b` is the call over the extended reals. -/
theorem preserves17 : Cert.preserves_Kernel17_Kernel17Ideal := trivial

/-- The compiled call `adamw_w_kv_b` runs to its end and leaves its arguments as they were. -/
theorem frame_p18 : Cert.quiescent_Kernel18 := fun m ρ _ => Cert.Kernel18.Gen.frame m ρ

/-- So does `adamw_w_kv_b` over the extended reals. -/
theorem frame_pi18 : Cert.quiescent_Kernel18Ideal := fun m ρ _ => Cert.Kernel18Ideal.Gen.frame m ρ

/-- So does the reference of `adamw_w_kv_b`, whose run is a list of host operations. -/
theorem frame_ri18 : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

/-- The ideal program of `adamw_w_kv_b` is the call over the extended reals. -/
theorem preserves18 : Cert.preserves_Kernel18_Kernel18Ideal := trivial

/-- The compiled call `adamw_small` runs to its end and leaves its arguments as they were. -/
theorem frame_p19 : Cert.quiescent_Kernel19 := fun m ρ _ => Cert.Kernel19.Gen.frame m ρ

/-- So does `adamw_small` over the extended reals. -/
theorem frame_pi19 : Cert.quiescent_Kernel19Ideal := fun m ρ _ => Cert.Kernel19Ideal.Gen.frame m ρ

/-- So does the reference of `adamw_small`, whose run is a list of host operations. -/
theorem frame_ri19 : Cert.quiescent_Reference19Ideal := fun m ρ _ =>
  (θ_run Cert.Reference19Ideal.defs _ _).mono (fun r h => ⟨fun c => (h c).2.2.2.2,
      Idealize.ShloMosaic.sem_eq_zero_of_no_sems (by decide) r.2⟩)
    (Cert.Reference19Ideal.Value.run (F := Ideal) m ρ)

/-- The ideal program of `adamw_small` is the call over the extended reals. -/
theorem preserves19 : Cert.preserves_Kernel19_Kernel19Ideal := trivial

end Cert.Proof
-- ==== Proof.AdamReals.lean ====
module

public import Idealize.ShloMosaic.Lib.Pointwise

@[expose] public section

set_option maxRecDepth 16384

/-! # One step of AdamW for one weight, over the reals -/

noncomputable section

open Idealize.ShloMosaic

namespace Cert.Adam

/-- The gradient of a weight: the sum of the eight devices' parts of it. -/
def total (p : Fin 8 → EReal) : EReal := ∑ s, p s

/-- The new first moment: nine tenths of the old one and a tenth of the gradient. -/
def newM (g m : EReal) : EReal :=
  Ideal.ofBits .f32 0x3F666666#32 * m + Ideal.ofBits .f32 0x3DCCCCCD#32 * g

/-- The new second moment: 0.999 of the old one and 0.001 of the gradient's square. -/
def newV (g v : EReal) : EReal :=
  Ideal.ofBits .f32 0x3F7FBE77#32 * v + Ideal.ofBits .f32 0x3A83126F#32 * (g * g)

/-- The change of the weight: minus the learning rate times the moments' quotient, each moment rescaled, and the weight decay. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-- The parts added one after the other are their sum. -/
theorem total_eq (p : Fin 8 → EReal) : p 0 + p 1 + p 2 + p 3 + p 4 + p 5 + p 6 + p 7 = total p := (Fin.sum_univ_eight p).symm

end Cert.Adam
-- ==== Proof.AdamWOut.lean ====
module

public import proofs.«01_k».proof.Defs
public import proofs.«01_k».proof.Proof.Gen.Kernel12Ideal.Value
public import proofs.«01_k».proof.Proof.Gen.Reference12Ideal.Run
public import proofs.«01_k».proof.Proof.AdamReals
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `adamw_w_out` computes one step of AdamW -/

noncomputable section

open Idealize.ShloMosaic Idealize.ShloMosaic.TcCoe Idealize.SL.Sem Idealize.ShloMosaic.StableHlo

namespace Cert.Kernel12Ideal.Value
open Cert.Kernel12Ideal Cert.Kernel12Ideal.Gen Cert.Adam

/-- The eight parts of an entry of the gradient. -/
def partsAt (p : FVec Ideal S8x128x1024 .bf16) (r : Fin 128) (j : Fin 1024) (s : Fin 8) : EReal := p (ix3 s r j)

/-- An entry of the body's sum of the eight parts. -/
theorem sum_at (u0 u1 u2 u3 u4 u5 u6 u7 : FVec Ideal S1x128x1024 .bf16) (r : Fin 128) (j : Fin 1024) :
    @Eq EReal (k0_pay3 (F := Ideal) u0 u1 u2 u3 u4 u5 u6 u7 (ix2 r j)) (u0 (ix3 0 r j) + u1 (ix3 0 r j) + u2 (ix3 0 r j) + u3 (ix3 0 r j) + u4 (ix3 0 r j) + u5 (ix3 0 r j) + u6 (ix3 0 r j) + u7 (ix3 0 r j)) := by
  pointwise [k0_pay3]

/-- An entry of the gradient as the body writes it. -/
theorem grad_at (u : FVec Ideal S128x1024 .f32) (r : Fin 128) (j : Fin 1024) :
    @Eq EReal (k0_pay6 (F := Ideal) u (ix3 0 r j)) (u (ix2 r j)) := by
  pointwise [k0_pay6]

/-- An entry of the new first moment. -/
theorem moment_at (u : FVec Ideal S128x1024 .f32) (mm : FVec Ideal S1x128x1024 .f32) (r : Fin 128) (j : Fin 1024) :
    @Eq EReal (k0_pay1 (F := Ideal) (k0_pay4 (F := Ideal) u mm) (ix3 0 r j)) (newM (u (ix2 r j)) (mm (ix3 0 r j))) := by
  pointwise [k0_pay1, k0_pay4]
  rfl

/-- An entry of the change of the weight. -/
theorem delta_at (u : FVec Ideal S128x1024 .f32) (mm vv ww : FVec Ideal S1x128x1024 .f32) (r : Fin 128) (j : Fin 1024) :
    @Eq EReal (k0_pay7 (F := Ideal) u mm vv ww (ix3 0 r j)) (delta (u (ix2 r j)) (ww (ix3 0 r j)) (mm (ix3 0 r j)) (vv (ix3 0 r j))) := by
  pointwise [k0_pay7, k0_pay4, k0_pay5]
  rfl

/-- An entry of the new second moment. -/
theorem square_at (u : FVec Ideal S128x1024 .f32) (vv : FVec Ideal S1x128x1024 .f32) (r : Fin 128) (j : Fin 1024) :
    @Eq EReal (k0_pay2 (F := Ideal) (k0_pay5 (F := Ideal) u vv) (ix3 0 r j)) (newV (u (ix2 r j)) (vv (ix3 0 r j))) := by
  pointwise [k0_pay2, k0_pay5]
  rfl

/-- Part 0 of the block of parts, read. -/
theorem ld_0 (x : FVec Ideal S8x128x1024 .bf16) (r : Fin 128) (j : Fin 1024) : @Eq EReal (View.ld (Val := Elt Ideal) (e' := .bf16) x r0_0 (ix3 0 r j)) (x (ix3 0 r j)) :=
  View.ld_unit_apply_of (Val := Elt Ideal) (e := .bf16) x _ _ inb_S8x128x1024_S1x128x1024_0_0_0 (ix3 0 r j) (ix3 0 r j) (fun a => by fin_cases a <;> simp [ix3])

/-- Part 1 of the block of parts, read. -/
theorem ld_1 (x : FVec Ideal S8x128x1024 .bf16) (r : Fin 128) (j : Fin 1024) : @Eq EReal (View.ld (Val := Elt Ideal) (e' := .bf16) x r0_1 (ix3 0 r j)) (x (ix3 1 r j)) :=
  View.ld_unit_apply_of (Val := Elt Ideal) (e := .bf16) x _ _ inb_S8x128x1024_S1x128x1024_1_0_0 (ix3 0 r j) (ix3 1 r j) (fun a => by fin_cases a <;> simp [ix3])

/-- Part 2 of the block of parts, read. -/
theorem ld_2 (x : FVec Ideal S8x128x1024 .bf16) (r : Fin 128) (j : Fin 1024) : @Eq EReal (View.ld (Val := Elt Ideal) (e' := .bf16) x r0_2 (ix3 0 r j)) (x (ix3 2 r j)) :=
  View.ld_unit_apply_of (Val := Elt Ideal) (e := .bf16) x _ _ inb_S8x128x1024_S1x128x1024_2_0_0 (ix3 0 r j) (ix3 2 r j) (fun a => by fin_cases a <;> simp [ix3])

/-- Part 3 of the block of parts, read. -/
theorem ld_3 (x : FVec Ideal S8x128x1024 .bf16) (r : Fin 128) (j : Fin 1024) : @Eq EReal (View.ld (Val := Elt Ideal) (e' := .bf16) x r0_3 (ix3 0 r j)) (x (ix3 3 r j)) :=
  View.ld_unit_apply_of (Val := Elt Ideal) (e := .bf16) x _ _ inb_S8x128x1024_S1x128x1024_3_0_0 (ix3 0 r j) (ix3 3 r j) (fun a => by fin_cases a <;> simp [ix3])

/-- Part 4 of the block of parts, read. -/
theorem ld_4 (x : FVec Ideal S8x128x1024 .bf16) (r : Fin 128) (j : Fin 1024) : @Eq EReal (View.ld (Val := Elt Ideal) (e' := .bf16) x r0_4 (ix3 0 r j)) (x (ix3 4 r j)) :=
  View.ld_unit_apply_of (Val := Elt Ideal) (e := .bf16) x _ _ inb_S8x128x1024_S1x128x1024_4_0_0 (ix3 0 r j) (ix3 4 r j) (fun a => by fin_cases a <;> simp [ix3])

/-- Part 5 of the block of parts, read. -/
theorem ld_5 (x : FVec Ideal S8x128x1024 .bf16) (r : Fin 128) (j : Fin 1024) : @Eq EReal (View.ld (Val := Elt Ideal) (e' := .bf16) x r0_5 (ix3 0 r j)) (x (ix3 5 r j)) :=
  View.ld_unit_apply_of (Val := Elt Ideal) (e := .bf16) x _ _ inb_S8x128x1024_S1x128x1024_5_0_0 (ix3 0 r j) (ix3 5 r j) (fun a => by fin_cases a <;> simp [ix3])

/-- Part 6 of the block of parts, read. -/
theorem ld_6 (x : FVec Ideal S8x128x1024 .bf16) (r : Fin 128) (j : Fin 1024) : @Eq EReal (View.ld (Val := Elt Ideal) (e' := .bf16) x r0_6 (ix3 0 r j)) (x (ix3 6 r j)) :=
  View.ld_unit_apply_of (Val := Elt Ideal) (e := .bf16) x _ _ inb_S8x128x1024_S1x128x1024_6_0_0 (ix3 0 r j) (ix3 6 r j) (fun a => by fin_cases a <;> simp [ix3])

/-- Part 7 of the block of parts, read. -/
theorem ld_7 (x : FVec Ideal S8x128x1024 .bf16) (r : Fin 128) (j : Fin 1024) : @Eq EReal (View.ld (Val := Elt Ideal) (e' := .bf16) x r0_7 (ix3 0 r j)) (x (ix3 7 r j)) :=
  View.ld_unit_apply_of (Val := Elt Ideal) (e := .bf16) x _ _ inb_S8x128x1024_S1x128x1024_7_0_0 (ix3 0 r j) (ix3 7 r j) (fun a => by fin_cases a <;> simp [ix3])

/-- The body's sum of the parts in its block. -/
theorem total_at (x : FVec Ideal S8x128x1024 .bf16) (w mm vv : FVec Ideal S1x128x1024 .f32) (r : Fin 128) (j : Fin 1024) :
    @Eq EReal (k0_pay8 (F := Ideal) x w mm vv (ix2 r j)) (total fun s => x (ix3 s r j)) := by
  refine (sum_at _ _ _ _ _ _ _ _ r j).trans ?_
  rw [ld_0, ld_1, ld_2, ld_3, ld_4, ld_5, ld_6, ld_7]
  exact total_eq fun s => x (ix3 s r j)

variable {m : (ℓ : Loc nD τ sig) → Buf (Elt Ideal) ℓ} {c : Dev nD}

/-- Each argument and each result is one block. -/
theorem idx : ∀ t : Fin cfg0.N, (win0_0.index t = ![0, 0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0, 0]) ∧ t.val < 1 :=
  (by decide +kernel : ∀ t : Fin grid0.N, _)

/-- An entry of the parts block. -/
theorem iblk_parts (t : Fin cfg0.N) (s : Fin 8) (r : Fin 128) (j : Fin 1024) :
    @Eq EReal (iblk m c 0 t (ix3 s r j)) (m ((c.tc : Thread nD τ).loc main_arg0) (ix3 s r j)) := by
  obtain ⟨⟨e0, e1, e2, e3⟩, -, hN⟩ := idx t
  blk_ext [iblk, V, e0]

/-- An entry of the weight's block. -/
theorem iblk_w (t : Fin cfg0.N) (r : Fin 128) (j : Fin 1024) :
    @Eq EReal (iblk m c 1 t (ix3 0 r j)) (m ((c.tc : Thread nD τ).loc main_arg1) (ix3 0 r j)) := by
  obtain ⟨⟨e0, e1, e2, e3⟩, -, hN⟩ := idx t
  blk_ext [iblk, V, e1]

/-- An entry of the first moment's block. -/
theorem iblk_m (t : Fin cfg0.N) (r : Fin 128) (j : Fin 1024) :
    @Eq EReal (iblk m c 2 t (ix3 0 r j)) (m ((c.tc : Thread nD τ).loc main_arg2) (ix3 0 r j)) := by
  obtain ⟨⟨e0, e1, e2, e3⟩, -, hN⟩ := idx t
  blk_ext [iblk, V, e2]

/-- An entry of the second moment's block. -/
theorem iblk_v (t : Fin cfg0.N) (r : Fin 128) (j : Fin 1024) :
    @Eq EReal (iblk m c 3 t (ix3 0 r j)) (m ((c.tc : Thread nD τ).loc main_arg3) (ix3 0 r j)) := by
  obtain ⟨⟨e0, e1, e2, e3⟩, -, hN⟩ := idx t
  blk_ext [iblk, V, e3]

/-- The body's sum of the parts, at a point. -/
theorem total_pt (t : Fin cfg0.N) (r : Fin 128) (j : Fin 1024) :
    @Eq EReal (k0_pay8 (F := Ideal) (iblk m c 0 t) (iblk m c 1 t) (iblk m c 2 t) (iblk m c 3 t) (ix2 r j)) (total (partsAt (m ((c.tc : Thread nD τ).loc main_arg0)) r j)) :=
  (total_at _ _ _ _ r j).trans (congrArg total (funext fun s => iblk_parts t s r j))

/-- What a point leaves of the gradient. -/
theorem out4_at (t : Fin cfg0.N) (r : Fin 128) (j : Fin 1024) :
    @Eq EReal (out0_4 (F := Ideal) (iblk m c 0 t) (iblk m c 1 t) (iblk m c 2 t) (iblk m c 3 t) (ix3 0 r j)) (total (partsAt (m ((c.tc : Thread nD τ).loc main_arg0)) r j)) := by
  frame_out
  exact (grad_at _ r j).trans (total_pt t r j)

/-- What a point leaves of the change of the weight. -/
theorem out5_at (t : Fin cfg0.N) (r : Fin 128) (j : Fin 1024) :
    @Eq EReal (out0_5 (F := Ideal) (iblk m c 0 t) (iblk m c 1 t) (iblk m c 2 t) (iblk m c 3 t) (ix3 0 r j)) (delta (total (partsAt (m ((c.tc : Thread nD τ).loc main_arg0)) r j)) (m ((c.tc : Thread nD τ).loc main_arg1) (ix3 0 r j)) (m ((c.tc : Thread nD τ).loc main_arg2) (ix3 0 r j)) (m ((c.tc : Thread nD τ).loc main_arg3) (ix3 0 r j))) := by
  frame_out
  refine (delta_at _ _ _ _ r j).trans ?_
  exact congr (congr (congr (congrArg delta (total_pt t r j)) (iblk_w t r j)) (iblk_m t r j)) (iblk_v t r j)

/-- What a point leaves of the new first moment. -/
theorem out6_at (t : Fin cfg0.N) (r : Fin 128) (j : Fin 1024) :
    @Eq EReal (out0_6 (F := Ideal) (iblk m c 0 t) (iblk m c 1 t) (iblk m c 2 t) (iblk m c 3 t) (ix3 0 r j)) (newM (total (partsAt (m ((c.tc : Thread nD τ).loc main_arg0)) r j)) (m ((c.tc : Thread nD τ).loc main_arg2) (ix3 0 r j))) := by
  frame_out
  refine (moment_at _ _ r j).trans ?_
  exact congrArg₂ newM (total_pt t r j) (iblk_m t r j)

/-- What a point leaves of the new second moment. -/
theorem out7_at (t : Fin cfg0.N) (r : Fin 128) (j : Fin 1024) :
    @Eq EReal (out0_7 (F := Ideal) (iblk m c 0 t) (iblk m c 1 t) (iblk m c 2 t) (iblk m c 3 t) (ix3 0 r j)) (newV (total (partsAt (m ((c.tc : Thread nD τ).loc main_arg0)) r j)) (m ((c.tc : Thread nD τ).loc main_arg3) (ix3 0 r j))) := by
  frame_out
  refine (square_at _ _ r j).trans ?_
  exact congrArg₂ newV (total_pt t r j) (iblk_v t r j)

/-- The gradient, an entry of the result. -/
theorem res4_at (i : S1x128x1024.Idx) :
    @Eq EReal ((dats m 0 c).arrAt 4 cfg0.N i) (total (partsAt (m ((c.tc : Thread nD τ).loc main_arg0)) (i 1) (i 2))) := by
  refine (dats m 0 c).arrAt_forall_of_covers 4 (fun i v => @Eq EReal v (total (partsAt (m ((c.tc : Thread nD τ).loc main_arg0)) (i 1) (i 2))))
    (by decide +kernel) (fun t hf y => ?_) i
  obtain ⟨-, ⟨e4, e5, e6, e7⟩, hN⟩ := idx t
  blk_simp [e4]
  rw [after0_4]
  idx_vars y
  have e : ((View.whole main_v0_0).slice (win0_4.rect t)).emb (ix3 y0 y1 y2) = ix3 0 y1 y2 := by
    blk_ext [e4]
  rw [e, Subsingleton.elim y0 0]
  exact out4_at t y1 y2

/-- The change of the weight, an entry of the result. -/
theorem res5_at (i : S1x128x1024.Idx) :
    @Eq EReal ((dats m 0 c).arrAt 5 cfg0.N i) (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))) := by
  refine (dats m 0 c).arrAt_forall_of_covers 5 (fun i v => @Eq EReal v (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e5]
  rw [after0_5]
  idx_vars y
  have e : ((View.whole main_v0_1).slice (win0_5.rect t)).emb (ix3 y0 y1 y2) = ix3 0 y1 y2 := by
    blk_ext [e5]
  rw [e, Subsingleton.elim y0 0]
  exact out5_at t y1 y2

/-- The new first moment, an entry of the result. -/
theorem res6_at (i : S1x128x1024.Idx) :
    @Eq EReal ((dats m 0 c).arrAt 6 cfg0.N i) (newM (total (partsAt (m ((c.tc : Thread nD τ).loc main_arg0)) (i 1) (i 2))) (m ((c.tc : Thread nD τ).loc main_arg2) (ix3 0 (i 1) (i 2)))) := by
  refine (dats m 0 c).arrAt_forall_of_covers 6 (fun i v => @Eq EReal v (newM (total (partsAt (m ((c.tc : Thread nD τ).loc main_arg0)) (i 1) (i 2))) (m ((c.tc : Thread nD τ).loc main_arg2) (ix3 0 (i 1) (i 2)))))
    (by decide +kernel) (fun t hf y => ?_) i
  obtain ⟨-, ⟨e4, e5, e6, e7⟩, hN⟩ := idx t
  blk_simp [e6]
  rw [after0_6]
  idx_vars y
  have e : ((View.whole main_v0_2).slice (win0_6.rect t)).emb (ix3 y0 y1 y2) = ix3 0 y1 y2 := by
    blk_ext [e6]
  rw [e, Subsingleton.elim y0 0]
  exact out6_at t y1 y2

/-- The new second moment, an entry of the result. -/
theorem res7_at (i : S1x128x1024.Idx) :
    @Eq EReal ((dats m 0 c).arrAt 7 cfg0.N i) (newV (total (partsAt (m ((c.tc : Thread nD τ).loc main_arg0)) (i 1) (i 2))) (m ((c.tc : Thread nD τ).loc main_arg3) (ix3 0 (i 1) (i 2)))) := by
  refine (dats m 0 c).arrAt_forall_of_covers 7 (fun i v => @Eq EReal v (newV (total (partsAt (m ((c.tc : Thread nD τ).loc main_arg0)) (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e7]
  rw [after0_7]
  idx_vars y
  have e : ((View.whole main_v0_3).slice (win0_7.rect t)).emb (ix3 y0 y1 y2) = ix3 0 y1 y2 := by
    blk_ext [e7]
  rw [e, Subsingleton.elim y0 0]
  exact out7_at t y1 y2

end Cert.Kernel12Ideal.Value

namespace Cert.Reference12Ideal.Value
open Cert.Reference12Ideal Cert.Reference12Ideal.Gen Cert.Adam

/-- The reference's gradient. -/
def gradOf (p : FVec Ideal S8x128x1024 .bf16) : FVec Ideal S1x128x1024 .f32 :=
  broadcastInDim S1x128x1024 ![1, 2] bcast_S128x1024_S1x128x1024_1_2 (Host.reduceAdd (extf .f32 p bitsLt_bf16_f32) (constant S_ .f32 0x00000000#32) reducesTo_S8x128x1024_S128x1024_d0 h_S_)

/-- The reference's new first moment. -/
def newMOf (p : FVec Ideal S8x128x1024 .bf16) (mm : FVec Ideal S1x128x1024 .f32) : FVec Ideal S1x128x1024 .f32 :=
  addf (mulf (broadcastInDim S1x128x1024 ![] bcast_S_S1x128x1024 (constant S_ .f32 0x3F666666#32)) mm) (mulf (broadcastInDim S1x128x1024 ![] bcast_S_S1x128x1024 (constant S_ .f32 0x3DCCCCCD#32)) (gradOf p))

/-- The reference's new second moment. -/
def newVOf (p : FVec Ideal S8x128x1024 .bf16) (vv : FVec Ideal S1x128x1024 .f32) : FVec Ideal S1x128x1024 .f32 :=
  addf (mulf (broadcastInDim S1x128x1024 ![] bcast_S_S1x128x1024 (constant S_ .f32 0x3F7FBE77#32)) vv) (mulf (broadcastInDim S1x128x1024 ![] bcast_S_S1x128x1024 (constant S_ .f32 0x3A83126F#32)) (mulf (gradOf p) (gradOf p)))

/-- The reference's change of the weight. -/
def deltaOf (p : FVec Ideal S8x128x1024 .bf16) (ww mm vv : FVec Ideal S1x128x1024 .f32) : FVec Ideal S1x128x1024 .f32 :=
  mulf (broadcastInDim S1x128x1024 ![] bcast_S_S1x128x1024 (constant S_ .f32 0xBA83126F#32)) (addf (Host.divf (Host.divf (newMOf p mm) (broadcastInDim S1x128x1024 ![] bcast_S_S1x128x1024 (constant S_ .f32 0x3F26BD02#32))) (addf (Host.sqrt (Host.divf (newVOf p vv) (broadcastInDim S1x128x1024 ![] bcast_S_S1x128x1024 (constant S_ .f32 0x3C231ACC#32)))) (broadcastInDim S1x128x1024 ![] bcast_S_S1x128x1024 (constant S_ .f32 0x322BCC77#32)))) (mulf (broadcastInDim S1x128x1024 ![] bcast_S_S1x128x1024 (constant S_ .f32 0x3C23D70A#32)) ww))

/-- An entry of the reference's gradient. -/
theorem gradOf_at (p : FVec Ideal S8x128x1024 .bf16) (r : Fin 128) (j : Fin 1024) : @Eq EReal (gradOf p (ix3 0 r j)) (total fun s => p (ix3 s r j)) := by
  pointwise [gradOf]
  rfl

/-- An entry of the reference's new first moment. -/
theorem newMOf_at (p : FVec Ideal S8x128x1024 .bf16) (mm : FVec Ideal S1x128x1024 .f32) (r : Fin 128) (j : Fin 1024) :
    @Eq EReal (newMOf p mm (ix3 0 r j)) (newM (total fun s => p (ix3 s r j)) (mm (ix3 0 r j))) := by
  pointwise [newMOf, gradOf_at]
  rfl

/-- An entry of the reference's new second moment. -/
theorem newVOf_at (p : FVec Ideal S8x128x1024 .bf16) (vv : FVec Ideal S1x128x1024 .f32) (r : Fin 128) (j : Fin 1024) :
    @Eq EReal (newVOf p vv (ix3 0 r j)) (newV (total fun s => p (ix3 s r j)) (vv (ix3 0 r j))) := by
  pointwise [newVOf, gradOf_at]
  rfl

/-- An entry of the reference's change of the weight. -/
theorem deltaOf_at (p : FVec Ideal S8x128x1024 .bf16) (ww mm vv : FVec Ideal S1x128x1024 .f32) (r : Fin 128) (j : Fin 1024) :
    @Eq EReal (deltaOf p ww mm vv (ix3 0 r j)) (delta (total fun s => p (ix3 s r j)) (ww (ix3 0 r j)) (mm (ix3 0 r j)) (vv (ix3 0 r j))) := by
  pointwise [deltaOf, newMOf_at, newVOf_at]
  rfl

end Cert.Reference12Ideal.Value

namespace Cert.Proof

/-- Every index of a result has its first coordinate zero. -/
theorem ix_zero12 (i : Cert.Kernel12Ideal.S1x128x1024.Idx) : i = ix3 0 (i 1) (i 2) :=
  (eq_ix3 i).trans (congrArg (fun a => ix3 a (i 1) (i 2)) (Subsingleton.elim (α := Fin 1) _ _))

/-- The four results of the call are the reference's. -/
theorem value12 : Cert.algebraic_Kernel12Ideal_Reference12Ideal := by
  intro m ρ m' ρ' _ hagree
  refine ⟨_, _, _, _, Cert.Kernel12Ideal.Value.run_blocks (F := Ideal) m ρ, ?_⟩
  refine (θ_run Cert.Reference12Ideal.defs _ _).mono (fun _ h c => ?_) (Cert.Reference12Ideal.Value.run (F := Ideal) m' ρ')
  obtain ⟨a0, a1, a2, a3⟩ := hagree c
  obtain ⟨r0, r1, r2, r3, kept⟩ := h c
  refine ⟨r0.trans ?_, r1.trans ?_, r2.trans ?_, r3.trans ?_, kept⟩
  · funext i
    refine Eq.trans ?_ (Cert.Kernel12Ideal.Value.res4_at i).symm
    rw [ix_zero12 i]
    refine (Cert.Reference12Ideal.Value.gradOf_at _ _ _).trans ?_
    rw [a0]
    rfl
  · funext i
    refine Eq.trans ?_ (Cert.Kernel12Ideal.Value.res5_at i).symm
    rw [ix_zero12 i]
    refine (Cert.Reference12Ideal.Value.deltaOf_at _ _ _ _ _ _).trans ?_
    rw [a0, a1, a2, a3]
    rfl
  · funext i
    refine Eq.trans ?_ (Cert.Kernel12Ideal.Value.res6_at i).symm
    rw [ix_zero12 i]
    refine (Cert.Reference12Ideal.Value.newMOf_at _ _ _ _).trans ?_
    rw [a0, a2]
    rfl
  · funext i
    refine Eq.trans ?_ (Cert.Kernel12Ideal.Value.res7_at i).symm
    rw [ix_zero12 i]
    refine (Cert.Reference12Ideal.Value.newVOf_at _ _ _ _).trans ?_
    rw [a0, a3]
    rfl

end Cert.Proof
-- ==== Proof.AdamWUp.lean ====
module

public import proofs.«01_k».proof.Defs
public import proofs.«01_k».proof.Proof.Gen.Kernel13Ideal.Value
public import proofs.«01_k».proof.Proof.Gen.Reference13Ideal.Run
public import proofs.«01_k».proof.Proof.AdamReals
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `adamw_w_up` computes one step of AdamW -/

noncomputable section

open Idealize.ShloMosaic Idealize.ShloMosaic.TcCoe Idealize.SL.Sem Idealize.ShloMosaic.StableHlo

namespace Cert.Kernel13Ideal.Value
open Cert.Kernel13Ideal Cert.Kernel13Ideal.Gen Cert.Adam

/-- The eight parts of an entry of the gradient. -/
def partsAt (p : FVec Ideal S8x704x1024 .bf16) (r : Fin 704) (j : Fin 1024) (s : Fin 8) : EReal := p (ix3 s r j)

/-- An entry of the body's sum of the eight parts. -/
theorem sum_at (u0 u1 u2 u3 u4 u5 u6 u7 : FVec Ideal S1x352x1024 .bf16) (r : Fin 352) (j : Fin 1024) :
    @Eq EReal (k0_pay3 (F := Ideal) u0 u1 u2 u3 u4 u5 u6 u7 (ix2 r j)) (u0 (ix3 0 r j) + u1 (ix3 0 r j) + u2 (ix3 0 r j) + u3 (ix3 0 r j) + u4 (ix3 0 r j) + u5 (ix3 0 r j) + u6 (ix3 0 r j) + u7 (ix3 0 r j)) := by
  pointwise [k0_pay3]

/-- An entry of the gradient as the body writes it. -/
theorem grad_at (u : FVec Ideal S352x1024 .f32) (r : Fin 352) (j : Fin 1024) :
    @Eq EReal (k0_pay6 (F := Ideal) u (ix3 0 r j)) (u (ix2 r j)) := by
  pointwise [k0_pay6]

/-- An entry of the new first moment. -/
theorem moment_at (u : FVec Ideal S352x1024 .f32) (mm : FVec Ideal S1x352x1024 .f32) (r : Fin 352) (j : Fin 1024) :
    @Eq EReal (k0_pay1 (F := Ideal) (k0_pay4 (F := Ideal) u mm) (ix3 0 r j)) (newM (u (ix2 r j)) (mm (ix3 0 r j))) := by
  pointwise [k0_pay1, k0_pay4]
  rfl

/-- An entry of the change of the weight. -/
theorem delta_at (u : FVec Ideal S352x1024 .f32) (mm vv ww : FVec Ideal S1x352x1024 .f32) (r : Fin 352) (j : Fin 1024) :
    @Eq EReal (k0_pay7 (F := Ideal) u mm vv ww (ix3 0 r j)) (delta (u (ix2 r j)) (ww (ix3 0 r j)) (mm (ix3 0 r j)) (vv (ix3 0 r j))) := by
  pointwise [k0_pay7, k0_pay4, k0_pay5]
  rfl

/-- An entry of the new second moment. -/
theorem square_at (u : FVec Ideal S352x1024 .f32) (vv : FVec Ideal S1x352x1024 .f32) (r : Fin 352) (j : Fin 1024) :
    @Eq EReal (k0_pay2 (F := Ideal) (k0_pay5 (F := Ideal) u vv) (ix3 0 r j)) (newV (u (ix2 r j)) (vv (ix3 0 r j))) := by
  pointwise [k0_pay2, k0_pay5]
  rfl

/-- Part 0 of the block of parts, read. -/
theorem ld_0 (x : FVec Ideal S8x352x1024 .bf16) (r : Fin 352) (j : Fin 1024) : @Eq EReal (View.ld (Val := Elt Ideal) (e' := .bf16) x r0_0 (ix3 0 r j)) (x (ix3 0 r j)) :=
  View.ld_unit_apply_of (Val := Elt Ideal) (e := .bf16) x _ _ inb_S8x352x1024_S1x352x1024_0_0_0 (ix3 0 r j) (ix3 0 r j) (fun a => by fin_cases a <;> simp [ix3])

/-- Part 1 of the block of parts, read. -/
theorem ld_1 (x : FVec Ideal S8x352x1024 .bf16) (r : Fin 352) (j : Fin 1024) : @Eq EReal (View.ld (Val := Elt Ideal) (e' := .bf16) x r0_1 (ix3 0 r j)) (x (ix3 1 r j)) :=
  View.ld_unit_apply_of (Val := Elt Ideal) (e := .bf16) x _ _ inb_S8x352x1024_S1x352x1024_1_0_0 (ix3 0 r j) (ix3 1 r j) (fun a => by fin_cases a <;> simp [ix3])

/-- Part 2 of the block of parts, read. -/
theorem ld_2 (x : FVec Ideal S8x352x1024 .bf16) (r : Fin 352) (j : Fin 1024) : @Eq EReal (View.ld (Val := Elt Ideal) (e' := .bf16) x r0_2 (ix3 0 r j)) (x (ix3 2 r j)) :=
  View.ld_unit_apply_of (Val := Elt Ideal) (e := .bf16) x _ _ inb_S8x352x1024_S1x352x1024_2_0_0 (ix3 0 r j) (ix3 2 r j) (fun a => by fin_cases a <;> simp [ix3])

/-- Part 3 of the block of parts, read. -/
theorem ld_3 (x : FVec Ideal S8x352x1024 .bf16) (r : Fin 352) (j : Fin 1024) : @Eq EReal (View.ld (Val := Elt Ideal) (e' := .bf16) x r0_3 (ix3 0 r j)) (x (ix3 3 r j)) :=
  View.ld_unit_apply_of (Val := Elt Ideal) (e := .bf16) x _ _ inb_S8x352x1024_S1x352x1024_3_0_0 (ix3 0 r j) (ix3 3 r j) (fun a => by fin_cases a <;> simp [ix3])

/-- Part 4 of the block of parts, read. -/
theorem ld_4 (x : FVec Ideal S8x352x1024 .bf16) (r : Fin 352) (j : Fin 1024) : @Eq EReal (View.ld (Val := Elt Ideal) (e' := .bf16) x r0_4 (ix3 0 r j)) (x (ix3 4 r j)) :=
  View.ld_unit_apply_of (Val := Elt Ideal) (e := .bf16) x _ _ inb_S8x352x1024_S1x352x1024_4_0_0 (ix3 0 r j) (ix3 4 r j) (fun a => by fin_cases a <;> simp [ix3])

/-- Part 5 of the block of parts, read. -/
theorem ld_5 (x : FVec Ideal S8x352x1024 .bf16) (r : Fin 352) (j : Fin 1024) : @Eq EReal (View.ld (Val := Elt Ideal) (e' := .bf16) x r0_5 (ix3 0 r j)) (x (ix3 5 r j)) :=
  View.ld_unit_apply_of (Val := Elt Ideal) (e := .bf16) x _ _ inb_S8x352x1024_S1x352x1024_5_0_0 (ix3 0 r j) (ix3 5 r j) (fun a => by fin_cases a <;> simp [ix3])

/-- Part 6 of the block of parts, read. -/
theorem ld_6 (x : FVec Ideal S8x352x1024 .bf16) (r : Fin 352) (j : Fin 1024) : @Eq EReal (View.ld (Val := Elt Ideal) (e' := .bf16) x r0_6 (ix3 0 r j)) (x (ix3 6 r j)) :=
  View.ld_unit_apply_of (Val := Elt Ideal) (e := .bf16) x _ _ inb_S8x352x1024_S1x352x1024_6_0_0 (ix3 0 r j) (ix3 6 r j) (fun a => by fin_cases a <;> simp [ix3])

/-- Part 7 of the block of parts, read. -/
theorem ld_7 (x : FVec Ideal S8x352x1024 .bf16) (r : Fin 352) (j : Fin 1024) : @Eq EReal (View.ld (Val := Elt Ideal) (e' := .bf16) x r0_7 (ix3 0 r j)) (x (ix3 7 r j)) :=
  View.ld_unit_apply_of (Val := Elt Ideal) (e := .bf16) x _ _ inb_S8x352x1024_S1x352x1024_7_0_0 (ix3 0 r j) (ix3 7 r j) (fun a => by fin_cases a <;> simp [ix3])

/-- The body's sum of the parts in its block. -/
theorem total_at (x : FVec Ideal S8x352x1024 .bf16) (w mm vv : FVec Ideal S1x352x1024 .f32) (r : Fin 352) (j : Fin 1024) :
    @Eq EReal (k0_pay8 (F := Ideal) x w mm vv (ix2 r j)) (total fun s => x (ix3 s r j)) := by
  refine (sum_at _ _ _ _ _ _ _ _ r j).trans ?_
  rw [ld_0, ld_1, ld_2, ld_3, ld_4, ld_5, ld_6, ld_7]
  exact total_eq fun s => x (ix3 s r j)

variable {m : (ℓ : Loc nD τ sig) → Buf (Elt Ideal) ℓ} {c : Dev nD}

/-- The rows that a point works on. -/
def rowAt (t : ℕ) (r : Fin 352) : Fin 704 := ⟨t % 2 * 352 + r.val, by omega⟩

/-- Which block of each argument and of each result a point holds. -/
theorem idx : ∀ t : Fin cfg0.N, (win0_0.index t = ![0, t.val, 0] ∧ win0_1.index t = ![0, t.val, 0] ∧ win0_2.index t = ![0, t.val, 0] ∧ win0_3.index t = ![0, t.val, 0])
    ∧ (win0_4.index t = ![0, t.val, 0] ∧ win0_5.index t = ![0, t.val, 0] ∧ win0_6.index t = ![0, t.val, 0] ∧ win0_7.index t = ![0, t.val, 0]) ∧ t.val < 2 :=
  (by decide +kernel : ∀ t : Fin grid0.N, _)

/-- An entry of the parts block. -/
theorem iblk_parts (t : Fin cfg0.N) (s : Fin 8) (r : Fin 352) (j : Fin 1024) :
    @Eq EReal (iblk m c 0 t (ix3 s r j)) (m ((c.tc : Thread nD τ).loc main_arg0) (ix3 s (rowAt t r) j)) := by
  obtain ⟨⟨e0, e1, e2, e3⟩, -, hN⟩ := idx t
  blk_ext [iblk, V, e0, rowAt]

/-- An entry of the weight's block. -/
theorem iblk_w (t : Fin cfg0.N) (r : Fin 352) (j : Fin 1024) :
    @Eq EReal (iblk m c 1 t (ix3 0 r j)) (m ((c.tc : Thread nD τ).loc main_arg1) (ix3 0 (rowAt t r) j)) := by
  obtain ⟨⟨e0, e1, e2, e3⟩, -, hN⟩ := idx t
  blk_ext [iblk, V, e1, rowAt]

/-- An entry of the first moment's block. -/
theorem iblk_m (t : Fin cfg0.N) (r : Fin 352) (j : Fin 1024) :
    @Eq EReal (iblk m c 2 t (ix3 0 r j)) (m ((c.tc : Thread nD τ).loc main_arg2) (ix3 0 (rowAt t r) j)) := by
  obtain ⟨⟨e0, e1, e2, e3⟩, -, hN⟩ := idx t
  blk_ext [iblk, V, e2, rowAt]

/-- An entry of the second moment's block. -/
theorem iblk_v (t : Fin cfg0.N) (r : Fin 352) (j : Fin 1024) :
    @Eq EReal (iblk m c 3 t (ix3 0 r j)) (m ((c.tc : Thread nD τ).loc main_arg3) (ix3 0 (rowAt t r) j)) := by
  obtain ⟨⟨e0, e1, e2, e3⟩, -, hN⟩ := idx t
  blk_ext [iblk, V, e3, rowAt]

/-- The body's sum of the parts, at a point. -/
theorem total_pt (t : Fin cfg0.N) (r : Fin 352) (j : Fin 1024) :
    @Eq EReal (k0_pay8 (F := Ideal) (iblk m c 0 t) (iblk m c 1 t) (iblk m c 2 t) (iblk m c 3 t) (ix2 r j)) (total (partsAt (m ((c.tc : Thread nD τ).loc main_arg0)) (rowAt t r) j)) :=
  (total_at _ _ _ _ r j).trans (congrArg total (funext fun s => iblk_parts t s r j))

/-- What a point leaves of the gradient. -/
theorem out4_at (t : Fin cfg0.N) (r : Fin 352) (j : Fin 1024) :
    @Eq EReal (out0_4 (F := Ideal) (iblk m c 0 t) (iblk m c 1 t) (iblk m c 2 t) (iblk m c 3 t) (ix3 0 r j)) (total (partsAt (m ((c.tc : Thread nD τ).loc main_arg0)) (rowAt t r) j)) := by
  frame_out
  exact (grad_at _ r j).trans (total_pt t r j)

/-- What a point leaves of the change of the weight. -/
theorem out5_at (t : Fin cfg0.N) (r : Fin 352) (j : Fin 1024) :
    @Eq EReal (out0_5 (F := Ideal) (iblk m c 0 t) (iblk m c 1 t) (iblk m c 2 t) (iblk m c 3 t) (ix3 0 r j)) (delta (total (partsAt (m ((c.tc : Thread nD τ).loc main_arg0)) (rowAt t r) j)) (m ((c.tc : Thread nD τ).loc main_arg1) (ix3 0 (rowAt t r) j)) (m ((c.tc : Thread nD τ).loc main_arg2) (ix3 0 (rowAt t r) j)) (m ((c.tc : Thread nD τ).loc main_arg3) (ix3 0 (rowAt t r) j))) := by
  frame_out
  refine (delta_at _ _ _ _ r j).trans ?_
  exact congr (congr (congr (congrArg delta (total_pt t r j)) (iblk_w t r j)) (iblk_m t r j)) (iblk_v t r j)

/-- What a point leaves of the new first moment. -/
theorem out6_at (t : Fin cfg0.N) (r : Fin 352) (j : Fin 1024) :
    @Eq EReal (out0_6 (F := Ideal) (iblk m c 0 t) (iblk m c 1 t) (iblk m c 2 t) (iblk m c 3 t) (ix3 0 r j)) (newM (total (partsAt (m ((c.tc : Thread nD τ).loc main_arg0)) (rowAt t r) j)) (m ((c.tc : Thread nD τ).loc main_arg2) (ix3 0 (rowAt t r) j))) := by
  frame_out
  refine (moment_at _ _ r j).trans ?_
  exact congrArg₂ newM (total_pt t r j) (iblk_m t r j)

/-- What a point leaves of the new second moment. -/
theorem out7_at (t : Fin cfg0.N) (r : Fin 352) (j : Fin 1024) :
    @Eq EReal (out0_7 (F := Ideal) (iblk m c 0 t) (iblk m c 1 t) (iblk m c 2 t) (iblk m c 3 t) (ix3 0 r j)) (newV (total (partsAt (m ((c.tc : Thread nD τ).loc main_arg0)) (rowAt t r) j)) (m ((c.tc : Thread nD τ).loc main_arg3) (ix3 0 (rowAt t r) j))) := by
  frame_out
  refine (square_at _ _ r j).trans ?_
  exact congrArg₂ newV (total_pt t r j) (iblk_v t r j)

/-- The gradient, an entry of the result. -/
theorem res4_at (i : S1x704x1024.Idx) :
    @Eq EReal ((dats m 0 c).arrAt 4 cfg0.N i) (total (partsAt (m ((c.tc : Thread nD τ).loc main_arg0)) (i 1) (i 2))) := by
  refine (dats m 0 c).arrAt_forall_of_covers 4 (fun i v => @Eq EReal v (total (partsAt (m ((c.tc : Thread nD τ).loc main_arg0)) (i 1) (i 2))))
    (by decide +kernel) (fun t hf y => ?_) i
  obtain ⟨-, ⟨e4, e5, e6, e7⟩, hN⟩ := idx t
  blk_simp [e4]
  rw [after0_4]
  idx_vars y
  have e : ((View.whole main_v0_0).slice (win0_4.rect t)).emb (ix3 y0 y1 y2) = ix3 0 (rowAt t y1) y2 := by
    blk_ext [e4, rowAt]
  rw [e, Subsingleton.elim y0 0]
  exact out4_at t y1 y2

/-- The change of the weight, an entry of the result. -/
theorem res5_at (i : S1x704x1024.Idx) :
    @Eq EReal ((dats m 0 c).arrAt 5 cfg0.N i) (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))) := by
  refine (dats m 0 c).arrAt_forall_of_covers 5 (fun i v => @Eq EReal v (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e5]
  rw [after0_5]
  idx_vars y
  have e : ((View.whole main_v0_1).slice (win0_5.rect t)).emb (ix3 y0 y1 y2) = ix3 0 (rowAt t y1) y2 := by
    blk_ext [e5, rowAt]
  rw [e, Subsingleton.elim y0 0]
  exact out5_at t y1 y2

/-- The new first moment, an entry of the result. -/
theorem res6_at (i : S1x704x1024.Idx) :
    @Eq EReal ((dats m 0 c).arrAt 6 cfg0.N i) (newM (total (partsAt (m ((c.tc : Thread nD τ).loc main_arg0)) (i 1) (i 2))) (m ((c.tc : Thread nD τ).loc main_arg2) (ix3 0 (i 1) (i 2)))) := by
  refine (dats m 0 c).arrAt_forall_of_covers 6 (fun i v => @Eq EReal v (newM (total (partsAt (m ((c.tc : Thread nD τ).loc main_arg0)) (i 1) (i 2))) (m ((c.tc : Thread nD τ).loc main_arg2) (ix3 0 (i 1) (i 2)))))
    (by decide +kernel) (fun t hf y => ?_) i
  obtain ⟨-, ⟨e4, e5, e6, e7⟩, hN⟩ := idx t
  blk_simp [e6]
  rw [after0_6]
  idx_vars y
  have e : ((View.whole main_v0_2).slice (win0_6.rect t)).emb (ix3 y0 y1 y2) = ix3 0 (rowAt t y1) y2 := by
    blk_ext [e6, rowAt]
  rw [e, Subsingleton.elim y0 0]
  exact out6_at t y1 y2

/-- The new second moment, an entry of the result. -/
theorem res7_at (i : S1x704x1024.Idx) :
    @Eq EReal ((dats m 0 c).arrAt 7 cfg0.N i) (newV (total (partsAt (m ((c.tc : Thread nD τ).loc main_arg0)) (i 1) (i 2))) (m ((c.tc : Thread nD τ).loc main_arg3) (ix3 0 (i 1) (i 2)))) := by
  refine (dats m 0 c).arrAt_forall_of_covers 7 (fun i v => @Eq EReal v (newV (total (partsAt (m ((c.tc : Thread nD τ).loc main_arg0)) (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e7]
  rw [after0_7]
  idx_vars y
  have e : ((View.whole main_v0_3).slice (win0_7.rect t)).emb (ix3 y0 y1 y2) = ix3 0 (rowAt t y1) y2 := by
    blk_ext [e7, rowAt]
  rw [e, Subsingleton.elim y0 0]
  exact out7_at t y1 y2

end Cert.Kernel13Ideal.Value

namespace Cert.Reference13Ideal.Value
open Cert.Reference13Ideal Cert.Reference13Ideal.Gen Cert.Adam

/-- The reference's gradient. -/
def gradOf (p : FVec Ideal S8x704x1024 .bf16) : FVec Ideal S1x704x1024 .f32 :=
  broadcastInDim S1x704x1024 ![1, 2] bcast_S704x1024_S1x704x1024_1_2 (Host.reduceAdd (extf .f32 p bitsLt_bf16_f32) (constant S_ .f32 0x00000000#32) reducesTo_S8x704x1024_S704x1024_d0 h_S_)

/-- The reference's new first moment. -/
def newMOf (p : FVec Ideal S8x704x1024 .bf16) (mm : FVec Ideal S1x704x1024 .f32) : FVec Ideal S1x704x1024 .f32 :=
  addf (mulf (broadcastInDim S1x704x1024 ![] bcast_S_S1x704x1024 (constant S_ .f32 0x3F666666#32)) mm) (mulf (broadcastInDim S1x704x1024 ![] bcast_S_S1x704x1024 (constant S_ .f32 0x3DCCCCCD#32)) (gradOf p))

/-- The reference's new second moment. -/
def newVOf (p : FVec Ideal S8x704x1024 .bf16) (vv : FVec Ideal S1x704x1024 .f32) : FVec Ideal S1x704x1024 .f32 :=
  addf (mulf (broadcastInDim S1x704x1024 ![] bcast_S_S1x704x1024 (constant S_ .f32 0x3F7FBE77#32)) vv) (mulf (broadcastInDim S1x704x1024 ![] bcast_S_S1x704x1024 (constant S_ .f32 0x3A83126F#32)) (mulf (gradOf p) (gradOf p)))

/-- The reference's change of the weight. -/
def deltaOf (p : FVec Ideal S8x704x1024 .bf16) (ww mm vv : FVec Ideal S1x704x1024 .f32) : FVec Ideal S1x704x1024 .f32 :=
  mulf (broadcastInDim S1x704x1024 ![] bcast_S_S1x704x1024 (constant S_ .f32 0xBA83126F#32)) (addf (Host.divf (Host.divf (newMOf p mm) (broadcastInDim S1x704x1024 ![] bcast_S_S1x704x1024 (constant S_ .f32 0x3F26BD02#32))) (addf (Host.sqrt (Host.divf (newVOf p vv) (broadcastInDim S1x704x1024 ![] bcast_S_S1x704x1024 (constant S_ .f32 0x3C231ACC#32)))) (broadcastInDim S1x704x1024 ![] bcast_S_S1x704x1024 (constant S_ .f32 0x322BCC77#32)))) (mulf (broadcastInDim S1x704x1024 ![] bcast_S_S1x704x1024 (constant S_ .f32 0x3C23D70A#32)) ww))

/-- An entry of the reference's gradient. -/
theorem gradOf_at (p : FVec Ideal S8x704x1024 .bf16) (r : Fin 704) (j : Fin 1024) : @Eq EReal (gradOf p (ix3 0 r j)) (total fun s => p (ix3 s r j)) := by
  pointwise [gradOf]
  rfl

/-- An entry of the reference's new first moment. -/
theorem newMOf_at (p : FVec Ideal S8x704x1024 .bf16) (mm : FVec Ideal S1x704x1024 .f32) (r : Fin 704) (j : Fin 1024) :
    @Eq EReal (newMOf p mm (ix3 0 r j)) (newM (total fun s => p (ix3 s r j)) (mm (ix3 0 r j))) := by
  pointwise [newMOf, gradOf_at]
  rfl

/-- An entry of the reference's new second moment. -/
theorem newVOf_at (p : FVec Ideal S8x704x1024 .bf16) (vv : FVec Ideal S1x704x1024 .f32) (r : Fin 704) (j : Fin 1024) :
    @Eq EReal (newVOf p vv (ix3 0 r j)) (newV (total fun s => p (ix3 s r j)) (vv (ix3 0 r j))) := by
  pointwise [newVOf, gradOf_at]
  rfl

/-- An entry of the reference's change of the weight. -/
theorem deltaOf_at (p : FVec Ideal S8x704x1024 .bf16) (ww mm vv : FVec Ideal S1x704x1024 .f32) (r : Fin 704) (j : Fin 1024) :
    @Eq EReal (deltaOf p ww mm vv (ix3 0 r j)) (delta (total fun s => p (ix3 s r j)) (ww (ix3 0 r j)) (mm (ix3 0 r j)) (vv (ix3 0 r j))) := by
  pointwise [deltaOf, newMOf_at, newVOf_at]
  rfl

end Cert.Reference13Ideal.Value

namespace Cert.Proof

/-- Every index of a result has its first coordinate zero. -/
theorem ix_zero13 (i : Cert.Kernel13Ideal.S1x704x1024.Idx) : i = ix3 0 (i 1) (i 2) :=
  (eq_ix3 i).trans (congrArg (fun a => ix3 a (i 1) (i 2)) (Subsingleton.elim (α := Fin 1) _ _))

/-- The four results of the call are the reference's. -/
theorem value13 : Cert.algebraic_Kernel13Ideal_Reference13Ideal := by
  intro m ρ m' ρ' _ hagree
  refine ⟨_, _, _, _, Cert.Kernel13Ideal.Value.run_blocks (F := Ideal) m ρ, ?_⟩
  refine (θ_run Cert.Reference13Ideal.defs _ _).mono (fun _ h c => ?_) (Cert.Reference13Ideal.Value.run (F := Ideal) m' ρ')
  obtain ⟨a0, a1, a2, a3⟩ := hagree c
  obtain ⟨r0, r1, r2, r3, kept⟩ := h c
  refine ⟨r0.trans ?_, r1.trans ?_, r2.trans ?_, r3.trans ?_, kept⟩
  · funext i
    refine Eq.trans ?_ (Cert.Kernel13Ideal.Value.res4_at i).symm
    rw [ix_zero13 i]
    refine (Cert.Reference13Ideal.Value.gradOf_at _ _ _).trans ?_
    rw [a0]
    rfl
  · funext i
    refine Eq.trans ?_ (Cert.Kernel13Ideal.Value.res5_at i).symm
    rw [ix_zero13 i]
    refine (Cert.Reference13Ideal.Value.deltaOf_at _ _ _ _ _ _).trans ?_
    rw [a0, a1, a2, a3]
    rfl
  · funext i
    refine Eq.trans ?_ (Cert.Kernel13Ideal.Value.res6_at i).symm
    rw [ix_zero13 i]
    refine (Cert.Reference13Ideal.Value.newMOf_at _ _ _ _).trans ?_
    rw [a0, a2]
    rfl
  · funext i
    refine Eq.trans ?_ (Cert.Kernel13Ideal.Value.res7_at i).symm
    rw [ix_zero13 i]
    refine (Cert.Reference13Ideal.Value.newVOf_at _ _ _ _).trans ?_
    rw [a0, a3]
    rfl

end Cert.Proof
-- ==== Proof.AdamWDown.lean ====
module

public import proofs.«01_k».proof.Defs
public import proofs.«01_k».proof.Proof.Gen.Kernel14Ideal.Value
public import proofs.«01_k».proof.Proof.Gen.Reference14Ideal.Run
public import proofs.«01_k».proof.Proof.AdamReals
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `adamw_w_down` computes one step of AdamW -/

noncomputable section

open Idealize.ShloMosaic Idealize.ShloMosaic.TcCoe Idealize.SL.Sem Idealize.ShloMosaic.StableHlo

namespace Cert.Kernel14Ideal.Value
open Cert.Kernel14Ideal Cert.Kernel14Ideal.Gen Cert.Adam

/-- The eight parts of an entry of the gradient. -/
def partsAt (p : FVec Ideal S8x352x1024 .bf16) (r : Fin 352) (j : Fin 1024) (s : Fin 8) : EReal := p (ix3 s r j)

/-- An entry of the body's sum of the eight parts. -/
theorem sum_at (u0 u1 u2 u3 u4 u5 u6 u7 : FVec Ideal S1x352x1024 .bf16) (r : Fin 352) (j : Fin 1024) :
    @Eq EReal (k0_pay3 (F := Ideal) u0 u1 u2 u3 u4 u5 u6 u7 (ix2 r j)) (u0 (ix3 0 r j) + u1 (ix3 0 r j) + u2 (ix3 0 r j) + u3 (ix3 0 r j) + u4 (ix3 0 r j) + u5 (ix3 0 r j) + u6 (ix3 0 r j) + u7 (ix3 0 r j)) := by
  pointwise [k0_pay3]

/-- An entry of the gradient as the body writes it. -/
theorem grad_at (u : FVec Ideal S352x1024 .f32) (r : Fin 352) (j : Fin 1024) :
    @Eq EReal (k0_pay6 (F := Ideal) u (ix3 0 r j)) (u (ix2 r j)) := by
  pointwise [k0_pay6]

/-- An entry of the new first moment. -/
theorem moment_at (u : FVec Ideal S352x1024 .f32) (mm : FVec Ideal S1x352x1024 .f32) (r : Fin 352) (j : Fin 1024) :
    @Eq EReal (k0_pay1 (F := Ideal) (k0_pay4 (F := Ideal) u mm) (ix3 0 r j)) (newM (u (ix2 r j)) (mm (ix3 0 r j))) := by
  pointwise [k0_pay1, k0_pay4]
  rfl

/-- An entry of the change of the weight. -/
theorem delta_at (u : FVec Ideal S352x1024 .f32) (mm vv ww : FVec Ideal S1x352x1024 .f32) (r : Fin 352) (j : Fin 1024) :
    @Eq EReal (k0_pay7 (F := Ideal) u mm vv ww (ix3 0 r j)) (delta (u (ix2 r j)) (ww (ix3 0 r j)) (mm (ix3 0 r j)) (vv (ix3 0 r j))) := by
  pointwise [k0_pay7, k0_pay4, k0_pay5]
  rfl

/-- An entry of the new second moment. -/
theorem square_at (u : FVec Ideal S352x1024 .f32) (vv : FVec Ideal S1x352x1024 .f32) (r : Fin 352) (j : Fin 1024) :
    @Eq EReal (k0_pay2 (F := Ideal) (k0_pay5 (F := Ideal) u vv) (ix3 0 r j)) (newV (u (ix2 r j)) (vv (ix3 0 r j))) := by
  pointwise [k0_pay2, k0_pay5]
  rfl

/-- Part 0 of the block of parts, read. -/
theorem ld_0 (x : FVec Ideal S8x352x1024 .bf16) (r : Fin 352) (j : Fin 1024) : @Eq EReal (View.ld (Val := Elt Ideal) (e' := .bf16) x r0_0 (ix3 0 r j)) (x (ix3 0 r j)) :=
  View.ld_unit_apply_of (Val := Elt Ideal) (e := .bf16) x _ _ inb_S8x352x1024_S1x352x1024_0_0_0 (ix3 0 r j) (ix3 0 r j) (fun a => by fin_cases a <;> simp [ix3])

/-- Part 1 of the block of parts, read. -/
theorem ld_1 (x : FVec Ideal S8x352x1024 .bf16) (r : Fin 352) (j : Fin 1024) : @Eq EReal (View.ld (Val := Elt Ideal) (e' := .bf16) x r0_1 (ix3 0 r j)) (x (ix3 1 r j)) :=
  View.ld_unit_apply_of (Val := Elt Ideal) (e := .bf16) x _ _ inb_S8x352x1024_S1x352x1024_1_0_0 (ix3 0 r j) (ix3 1 r j) (fun a => by fin_cases a <;> simp [ix3])

/-- Part 2 of the block of parts, read. -/
theorem ld_2 (x : FVec Ideal S8x352x1024 .bf16) (r : Fin 352) (j : Fin 1024) : @Eq EReal (View.ld (Val := Elt Ideal) (e' := .bf16) x r0_2 (ix3 0 r j)) (x (ix3 2 r j)) :=
  View.ld_unit_apply_of (Val := Elt Ideal) (e := .bf16) x _ _ inb_S8x352x1024_S1x352x1024_2_0_0 (ix3 0 r j) (ix3 2 r j) (fun a => by fin_cases a <;> simp [ix3])

/-- Part 3 of the block of parts, read. -/
theorem ld_3 (x : FVec Ideal S8x352x1024 .bf16) (r : Fin 352) (j : Fin 1024) : @Eq EReal (View.ld (Val := Elt Ideal) (e' := .bf16) x r0_3 (ix3 0 r j)) (x (ix3 3 r j)) :=
  View.ld_unit_apply_of (Val := Elt Ideal) (e := .bf16) x _ _ inb_S8x352x1024_S1x352x1024_3_0_0 (ix3 0 r j) (ix3 3 r j) (fun a => by fin_cases a <;> simp [ix3])

/-- Part 4 of the block of parts, read. -/
theorem ld_4 (x : FVec Ideal S8x352x1024 .bf16) (r : Fin 352) (j : Fin 1024) : @Eq EReal (View.ld (Val := Elt Ideal) (e' := .bf16) x r0_4 (ix3 0 r j)) (x (ix3 4 r j)) :=
  View.ld_unit_apply_of (Val := Elt Ideal) (e := .bf16) x _ _ inb_S8x352x1024_S1x352x1024_4_0_0 (ix3 0 r j) (ix3 4 r j) (fun a => by fin_cases a <;> simp [ix3])

/-- Part 5 of the block of parts, read. -/
theorem ld_5 (x : FVec Ideal S8x352x1024 .bf16) (r : Fin 352) (j : Fin 1024) : @Eq EReal (View.ld (Val := Elt Ideal) (e' := .bf16) x r0_5 (ix3 0 r j)) (x (ix3 5 r j)) :=
  View.ld_unit_apply_of (Val := Elt Ideal) (e := .bf16) x _ _ inb_S8x352x1024_S1x352x1024_5_0_0 (ix3 0 r j) (ix3 5 r j) (fun a => by fin_cases a <;> simp [ix3])

/-- Part 6 of the block of parts, read. -/
theorem ld_6 (x : FVec Ideal S8x352x1024 .bf16) (r : Fin 352) (j : Fin 1024) : @Eq EReal (View.ld (Val := Elt Ideal) (e' := .bf16) x r0_6 (ix3 0 r j)) (x (ix3 6 r j)) :=
  View.ld_unit_apply_of (Val := Elt Ideal) (e := .bf16) x _ _ inb_S8x352x1024_S1x352x1024_6_0_0 (ix3 0 r j) (ix3 6 r j) (fun a => by fin_cases a <;> simp [ix3])

/-- Part 7 of the block of parts, read. -/
theorem ld_7 (x : FVec Ideal S8x352x1024 .bf16) (r : Fin 352) (j : Fin 1024) : @Eq EReal (View.ld (Val := Elt Ideal) (e' := .bf16) x r0_7 (ix3 0 r j)) (x (ix3 7 r j)) :=
  View.ld_unit_apply_of (Val := Elt Ideal) (e := .bf16) x _ _ inb_S8x352x1024_S1x352x1024_7_0_0 (ix3 0 r j) (ix3 7 r j) (fun a => by fin_cases a <;> simp [ix3])

/-- The body's sum of the parts in its block. -/
theorem total_at (x : FVec Ideal S8x352x1024 .bf16) (w mm vv : FVec Ideal S1x352x1024 .f32) (r : Fin 352) (j : Fin 1024) :
    @Eq EReal (k0_pay8 (F := Ideal) x w mm vv (ix2 r j)) (total fun s => x (ix3 s r j)) := by
  refine (sum_at _ _ _ _ _ _ _ _ r j).trans ?_
  rw [ld_0, ld_1, ld_2, ld_3, ld_4, ld_5, ld_6, ld_7]
  exact total_eq fun s => x (ix3 s r j)

variable {m : (ℓ : Loc nD τ sig) → Buf (Elt Ideal) ℓ} {c : Dev nD}

/-- Each argument and each result is one block. -/
theorem idx : ∀ t : Fin cfg0.N, (win0_0.index t = ![0, 0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0, 0]) ∧ t.val < 1 :=
  (by decide +kernel : ∀ t : Fin grid0.N, _)

/-- An entry of the parts block. -/
theorem iblk_parts (t : Fin cfg0.N) (s : Fin 8) (r : Fin 352) (j : Fin 1024) :
    @Eq EReal (iblk m c 0 t (ix3 s r j)) (m ((c.tc : Thread nD τ).loc main_arg0) (ix3 s r j)) := by
  obtain ⟨⟨e0, e1, e2, e3⟩, -, hN⟩ := idx t
  blk_ext [iblk, V, e0]

/-- An entry of the weight's block. -/
theorem iblk_w (t : Fin cfg0.N) (r : Fin 352) (j : Fin 1024) :
    @Eq EReal (iblk m c 1 t (ix3 0 r j)) (m ((c.tc : Thread nD τ).loc main_arg1) (ix3 0 r j)) := by
  obtain ⟨⟨e0, e1, e2, e3⟩, -, hN⟩ := idx t
  blk_ext [iblk, V, e1]

/-- An entry of the first moment's block. -/
theorem iblk_m (t : Fin cfg0.N) (r : Fin 352) (j : Fin 1024) :
    @Eq EReal (iblk m c 2 t (ix3 0 r j)) (m ((c.tc : Thread nD τ).loc main_arg2) (ix3 0 r j)) := by
  obtain ⟨⟨e0, e1, e2, e3⟩, -, hN⟩ := idx t
  blk_ext [iblk, V, e2]

/-- An entry of the second moment's block. -/
theorem iblk_v (t : Fin cfg0.N) (r : Fin 352) (j : Fin 1024) :
    @Eq EReal (iblk m c 3 t (ix3 0 r j)) (m ((c.tc : Thread nD τ).loc main_arg3) (ix3 0 r j)) := by
  obtain ⟨⟨e0, e1, e2, e3⟩, -, hN⟩ := idx t
  blk_ext [iblk, V, e3]

/-- The body's sum of the parts, at a point. -/
theorem total_pt (t : Fin cfg0.N) (r : Fin 352) (j : Fin 1024) :
    @Eq EReal (k0_pay8 (F := Ideal) (iblk m c 0 t) (iblk m c 1 t) (iblk m c 2 t) (iblk m c 3 t) (ix2 r j)) (total (partsAt (m ((c.tc : Thread nD τ).loc main_arg0)) r j)) :=
  (total_at _ _ _ _ r j).trans (congrArg total (funext fun s => iblk_parts t s r j))

/-- What a point leaves of the gradient. -/
theorem out4_at (t : Fin cfg0.N) (r : Fin 352) (j : Fin 1024) :
    @Eq EReal (out0_4 (F := Ideal) (iblk m c 0 t) (iblk m c 1 t) (iblk m c 2 t) (iblk m c 3 t) (ix3 0 r j)) (total (partsAt (m ((c.tc : Thread nD τ).loc main_arg0)) r j)) := by
  frame_out
  exact (grad_at _ r j).trans (total_pt t r j)

/-- What a point leaves of the change of the weight. -/
theorem out5_at (t : Fin cfg0.N) (r : Fin 352) (j : Fin 1024) :
    @Eq EReal (out0_5 (F := Ideal) (iblk m c 0 t) (iblk m c 1 t) (iblk m c 2 t) (iblk m c 3 t) (ix3 0 r j)) (delta (total (partsAt (m ((c.tc : Thread nD τ).loc main_arg0)) r j)) (m ((c.tc : Thread nD τ).loc main_arg1) (ix3 0 r j)) (m ((c.tc : Thread nD τ).loc main_arg2) (ix3 0 r j)) (m ((c.tc : Thread nD τ).loc main_arg3) (ix3 0 r j))) := by
  frame_out
  refine (delta_at _ _ _ _ r j).trans ?_
  exact congr (congr (congr (congrArg delta (total_pt t r j)) (iblk_w t r j)) (iblk_m t r j)) (iblk_v t r j)

/-- What a point leaves of the new first moment. -/
theorem out6_at (t : Fin cfg0.N) (r : Fin 352) (j : Fin 1024) :
    @Eq EReal (out0_6 (F := Ideal) (iblk m c 0 t) (iblk m c 1 t) (iblk m c 2 t) (iblk m c 3 t) (ix3 0 r j)) (newM (total (partsAt (m ((c.tc : Thread nD τ).loc main_arg0)) r j)) (m ((c.tc : Thread nD τ).loc main_arg2) (ix3 0 r j))) := by
  frame_out
  refine (moment_at _ _ r j).trans ?_
  exact congrArg₂ newM (total_pt t r j) (iblk_m t r j)

/-- What a point leaves of the new second moment. -/
theorem out7_at (t : Fin cfg0.N) (r : Fin 352) (j : Fin 1024) :
    @Eq EReal (out0_7 (F := Ideal) (iblk m c 0 t) (iblk m c 1 t) (iblk m c 2 t) (iblk m c 3 t) (ix3 0 r j)) (newV (total (partsAt (m ((c.tc : Thread nD τ).loc main_arg0)) r j)) (m ((c.tc : Thread nD τ).loc main_arg3) (ix3 0 r j))) := by
  frame_out
  refine (square_at _ _ r j).trans ?_
  exact congrArg₂ newV (total_pt t r j) (iblk_v t r j)

/-- The gradient, an entry of the result. -/
theorem res4_at (i : S1x352x1024.Idx) :
    @Eq EReal ((dats m 0 c).arrAt 4 cfg0.N i) (total (partsAt (m ((c.tc : Thread nD τ).loc main_arg0)) (i 1) (i 2))) := by
  refine (dats m 0 c).arrAt_forall_of_covers 4 (fun i v => @Eq EReal v (total (partsAt (m ((c.tc : Thread nD τ).loc main_arg0)) (i 1) (i 2))))
    (by decide +kernel) (fun t hf y => ?_) i
  obtain ⟨-, ⟨e4, e5, e6, e7⟩, hN⟩ := idx t
  blk_simp [e4]
  rw [after0_4]
  idx_vars y
  have e : ((View.whole main_v0_0).slice (win0_4.rect t)).emb (ix3 y0 y1 y2) = ix3 0 y1 y2 := by
    blk_ext [e4]
  rw [e, Subsingleton.elim y0 0]
  exact out4_at t y1 y2

/-- The change of the weight, an entry of the result. -/
theorem res5_at (i : S1x352x1024.Idx) :
    @Eq EReal ((dats m 0 c).arrAt 5 cfg0.N i) (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))) := by
  refine (dats m 0 c).arrAt_forall_of_covers 5 (fun i v => @Eq EReal v (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e5]
  rw [after0_5]
  idx_vars y
  have e : ((View.whole main_v0_1).slice (win0_5.rect t)).emb (ix3 y0 y1 y2) = ix3 0 y1 y2 := by
    blk_ext [e5]
  rw [e, Subsingleton.elim y0 0]
  exact out5_at t y1 y2

/-- The new first moment, an entry of the result. -/
theorem res6_at (i : S1x352x1024.Idx) :
    @Eq EReal ((dats m 0 c).arrAt 6 cfg0.N i) (newM (total (partsAt (m ((c.tc : Thread nD τ).loc main_arg0)) (i 1) (i 2))) (m ((c.tc : Thread nD τ).loc main_arg2) (ix3 0 (i 1) (i 2)))) := by
  refine (dats m 0 c).arrAt_forall_of_covers 6 (fun i v => @Eq EReal v (newM (total (partsAt (m ((c.tc : Thread nD τ).loc main_arg0)) (i 1) (i 2))) (m ((c.tc : Thread nD τ).loc main_arg2) (ix3 0 (i 1) (i 2)))))
    (by decide +kernel) (fun t hf y => ?_) i
  obtain ⟨-, ⟨e4, e5, e6, e7⟩, hN⟩ := idx t
  blk_simp [e6]
  rw [after0_6]
  idx_vars y
  have e : ((View.whole main_v0_2).slice (win0_6.rect t)).emb (ix3 y0 y1 y2) = ix3 0 y1 y2 := by
    blk_ext [e6]
  rw [e, Subsingleton.elim y0 0]
  exact out6_at t y1 y2

/-- The new second moment, an entry of the result. -/
theorem res7_at (i : S1x352x1024.Idx) :
    @Eq EReal ((dats m 0 c).arrAt 7 cfg0.N i) (newV (total (partsAt (m ((c.tc : Thread nD τ).loc main_arg0)) (i 1) (i 2))) (m ((c.tc : Thread nD τ).loc main_arg3) (ix3 0 (i 1) (i 2)))) := by
  refine (dats m 0 c).arrAt_forall_of_covers 7 (fun i v => @Eq EReal v (newV (total (partsAt (m ((c.tc : Thread nD τ).loc main_arg0)) (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e7]
  rw [after0_7]
  idx_vars y
  have e : ((View.whole main_v0_3).slice (win0_7.rect t)).emb (ix3 y0 y1 y2) = ix3 0 y1 y2 := by
    blk_ext [e7]
  rw [e, Subsingleton.elim y0 0]
  exact out7_at t y1 y2

end Cert.Kernel14Ideal.Value

namespace Cert.Reference14Ideal.Value
open Cert.Reference14Ideal Cert.Reference14Ideal.Gen Cert.Adam

/-- The reference's gradient. -/
def gradOf (p : FVec Ideal S8x352x1024 .bf16) : FVec Ideal S1x352x1024 .f32 :=
  broadcastInDim S1x352x1024 ![1, 2] bcast_S352x1024_S1x352x1024_1_2 (Host.reduceAdd (extf .f32 p bitsLt_bf16_f32) (constant S_ .f32 0x00000000#32) reducesTo_S8x352x1024_S352x1024_d0 h_S_)

/-- The reference's new first moment. -/
def newMOf (p : FVec Ideal S8x352x1024 .bf16) (mm : FVec Ideal S1x352x1024 .f32) : FVec Ideal S1x352x1024 .f32 :=
  addf (mulf (broadcastInDim S1x352x1024 ![] bcast_S_S1x352x1024 (constant S_ .f32 0x3F666666#32)) mm) (mulf (broadcastInDim S1x352x1024 ![] bcast_S_S1x352x1024 (constant S_ .f32 0x3DCCCCCD#32)) (gradOf p))

/-- The reference's new second moment. -/
def newVOf (p : FVec Ideal S8x352x1024 .bf16) (vv : FVec Ideal S1x352x1024 .f32) : FVec Ideal S1x352x1024 .f32 :=
  addf (mulf (broadcastInDim S1x352x1024 ![] bcast_S_S1x352x1024 (constant S_ .f32 0x3F7FBE77#32)) vv) (mulf (broadcastInDim S1x352x1024 ![] bcast_S_S1x352x1024 (constant S_ .f32 0x3A83126F#32)) (mulf (gradOf p) (gradOf p)))

/-- The reference's change of the weight. -/
def deltaOf (p : FVec Ideal S8x352x1024 .bf16) (ww mm vv : FVec Ideal S1x352x1024 .f32) : FVec Ideal S1x352x1024 .f32 :=
  mulf (broadcastInDim S1x352x1024 ![] bcast_S_S1x352x1024 (constant S_ .f32 0xBA83126F#32)) (addf (Host.divf (Host.divf (newMOf p mm) (broadcastInDim S1x352x1024 ![] bcast_S_S1x352x1024 (constant S_ .f32 0x3F26BD02#32))) (addf (Host.sqrt (Host.divf (newVOf p vv) (broadcastInDim S1x352x1024 ![] bcast_S_S1x352x1024 (constant S_ .f32 0x3C231ACC#32)))) (broadcastInDim S1x352x1024 ![] bcast_S_S1x352x1024 (constant S_ .f32 0x322BCC77#32)))) (mulf (broadcastInDim S1x352x1024 ![] bcast_S_S1x352x1024 (constant S_ .f32 0x3C23D70A#32)) ww))

/-- An entry of the reference's gradient. -/
theorem gradOf_at (p : FVec Ideal S8x352x1024 .bf16) (r : Fin 352) (j : Fin 1024) : @Eq EReal (gradOf p (ix3 0 r j)) (total fun s => p (ix3 s r j)) := by
  pointwise [gradOf]
  rfl

/-- An entry of the reference's new first moment. -/
theorem newMOf_at (p : FVec Ideal S8x352x1024 .bf16) (mm : FVec Ideal S1x352x1024 .f32) (r : Fin 352) (j : Fin 1024) :
    @Eq EReal (newMOf p mm (ix3 0 r j)) (newM (total fun s => p (ix3 s r j)) (mm (ix3 0 r j))) := by
  pointwise [newMOf, gradOf_at]
  rfl

/-- An entry of the reference's new second moment. -/
theorem newVOf_at (p : FVec Ideal S8x352x1024 .bf16) (vv : FVec Ideal S1x352x1024 .f32) (r : Fin 352) (j : Fin 1024) :
    @Eq EReal (newVOf p vv (ix3 0 r j)) (newV (total fun s => p (ix3 s r j)) (vv (ix3 0 r j))) := by
  pointwise [newVOf, gradOf_at]
  rfl

/-- An entry of the reference's change of the weight. -/
theorem deltaOf_at (p : FVec Ideal S8x352x1024 .bf16) (ww mm vv : FVec Ideal S1x352x1024 .f32) (r : Fin 352) (j : Fin 1024) :
    @Eq EReal (deltaOf p ww mm vv (ix3 0 r j)) (delta (total fun s => p (ix3 s r j)) (ww (ix3 0 r j)) (mm (ix3 0 r j)) (vv (ix3 0 r j))) := by
  pointwise [deltaOf, newMOf_at, newVOf_at]
  rfl

end Cert.Reference14Ideal.Value

namespace Cert.Proof

/-- Every index of a result has its first coordinate zero. -/
theorem ix_zero14 (i : Cert.Kernel14Ideal.S1x352x1024.Idx) : i = ix3 0 (i 1) (i 2) :=
  (eq_ix3 i).trans (congrArg (fun a => ix3 a (i 1) (i 2)) (Subsingleton.elim (α := Fin 1) _ _))

/-- The four results of the call are the reference's. -/
theorem value14 : Cert.algebraic_Kernel14Ideal_Reference14Ideal := by
  intro m ρ m' ρ' _ hagree
  refine ⟨_, _, _, _, Cert.Kernel14Ideal.Value.run_blocks (F := Ideal) m ρ, ?_⟩
  refine (θ_run Cert.Reference14Ideal.defs _ _).mono (fun _ h c => ?_) (Cert.Reference14Ideal.Value.run (F := Ideal) m' ρ')
  obtain ⟨a0, a1, a2, a3⟩ := hagree c
  obtain ⟨r0, r1, r2, r3, kept⟩ := h c
  refine ⟨r0.trans ?_, r1.trans ?_, r2.trans ?_, r3.trans ?_, kept⟩
  · funext i
    refine Eq.trans ?_ (Cert.Kernel14Ideal.Value.res4_at i).symm
    rw [ix_zero14 i]
    refine (Cert.Reference14Ideal.Value.gradOf_at _ _ _).trans ?_
    rw [a0]
    rfl
  · funext i
    refine Eq.trans ?_ (Cert.Kernel14Ideal.Value.res5_at i).symm
    rw [ix_zero14 i]
    refine (Cert.Reference14Ideal.Value.deltaOf_at _ _ _ _ _ _).trans ?_
    rw [a0, a1, a2, a3]
    rfl
  · funext i
    refine Eq.trans ?_ (Cert.Kernel14Ideal.Value.res6_at i).symm
    rw [ix_zero14 i]
    refine (Cert.Reference14Ideal.Value.newMOf_at _ _ _ _).trans ?_
    rw [a0, a2]
    rfl
  · funext i
    refine Eq.trans ?_ (Cert.Kernel14Ideal.Value.res7_at i).symm
    rw [ix_zero14 i]
    refine (Cert.Reference14Ideal.Value.newVOf_at _ _ _ _).trans ?_
    rw [a0, a3]
    rfl

end Cert.Proof
-- ==== Proof.AdamConvW.lean ====
module

public import proofs.«01_k».proof.Defs
public import proofs.«01_k».proof.Proof.Gen.Kernel15Ideal.Value
public import proofs.«01_k».proof.Proof.Gen.Reference15Ideal.Run
public import proofs.«01_k».proof.Proof.AdamReals
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `adamw_conv_w` computes one step of AdamW -/

noncomputable section

open Idealize.ShloMosaic Idealize.ShloMosaic.TcCoe Idealize.SL.Sem Idealize.ShloMosaic.StableHlo

namespace Cert.Kernel15Ideal.Value
open Cert.Kernel15Ideal Cert.Kernel15Ideal.Gen Cert.Adam

/-- The eight parts of an entry of the gradient. -/
def partsAt (p : FVec Ideal S8x3x704 .f32) (r : Fin 3) (j : Fin 704) (s : Fin 8) : EReal := p (ix3 s r j)

/-- An entry of the body's sum of the eight parts. -/
theorem sum_at (u0 u1 u2 u3 u4 u5 u6 u7 : FVec Ideal S1x3x704 .f32) (r : Fin 3) (j : Fin 704) :
    @Eq EReal (k0_pay2 (F := Ideal) u0 u1 u2 u3 u4 u5 u6 u7 (ix2 r j)) (u0 (ix3 0 r j) + u1 (ix3 0 r j) + u2 (ix3 0 r j) + u3 (ix3 0 r j) + u4 (ix3 0 r j) + u5 (ix3 0 r j) + u6 (ix3 0 r j) + u7 (ix3 0 r j)) := by
  pointwise [k0_pay2]

/-- An entry of the gradient as the body writes it. -/
theorem grad_at (u : FVec Ideal S3x704 .f32) (r : Fin 3) (j : Fin 704) :
    @Eq EReal (k0_pay5 (F := Ideal) u (ix3 0 r j)) (u (ix2 r j)) := by
  pointwise [k0_pay5]

/-- An entry of the new first moment. -/
theorem moment_at (u0 u1 u2 u3 u4 u5 u6 u7 mm : FVec Ideal S1x3x704 .f32) (r : Fin 3) (j : Fin 704) :
    @Eq EReal (k0_pay7 (F := Ideal) (k0_pay3 (F := Ideal) u0 u1 u2 u3 u4 u5 u6 u7 mm) (ix3 0 r j)) (newM (k0_pay2 (F := Ideal) u0 u1 u2 u3 u4 u5 u6 u7 (ix2 r j)) (mm (ix3 0 r j))) := by
  pointwise [k0_pay7, k0_pay3]
  rfl

/-- An entry of the change of the weight. -/
theorem delta_at (u0 u1 u2 u3 u4 u5 u6 u7 mm vv ww : FVec Ideal S1x3x704 .f32) (r : Fin 3) (j : Fin 704) :
    @Eq EReal (k0_pay6 (F := Ideal) (k0_pay2 (F := Ideal) u0 u1 u2 u3 u4 u5 u6 u7) (k0_pay3 (F := Ideal) u0 u1 u2 u3 u4 u5 u6 u7 mm) vv ww (ix3 0 r j))
      (delta (k0_pay2 (F := Ideal) u0 u1 u2 u3 u4 u5 u6 u7 (ix2 r j)) (ww (ix3 0 r j)) (mm (ix3 0 r j)) (vv (ix3 0 r j))) := by
  pointwise [k0_pay6, k0_pay3, k0_pay4]
  rfl

/-- An entry of the new second moment. -/
theorem square_at (u : FVec Ideal S3x704 .f32) (vv : FVec Ideal S1x3x704 .f32) (r : Fin 3) (j : Fin 704) :
    @Eq EReal (k0_pay1 (F := Ideal) (k0_pay4 (F := Ideal) u vv) (ix3 0 r j)) (newV (u (ix2 r j)) (vv (ix3 0 r j))) := by
  pointwise [k0_pay1, k0_pay4]
  rfl

/-- The whole of a block, read. -/
theorem ld_whole (x : FVec Ideal S1x3x704 .f32) (r : Fin 3) (j : Fin 704) : @Eq EReal (View.ld (Val := Elt Ideal) (e' := .f32) x r0_8 (ix3 0 r j)) (x (ix3 0 r j)) :=
  View.ld_unit_apply_of (Val := Elt Ideal) (e := .f32) x _ _ inb_S1x3x704_S1x3x704_0_0_0 (ix3 0 r j) (ix3 0 r j) (fun a => by fin_cases a <;> simp [ix3])

/-- Part 0 of the block of parts, read. -/
theorem ld_0 (x : FVec Ideal S8x3x704 .f32) (r : Fin 3) (j : Fin 704) : @Eq EReal (View.ld (Val := Elt Ideal) (e' := .f32) x r0_0 (ix3 0 r j)) (x (ix3 0 r j)) :=
  View.ld_unit_apply_of (Val := Elt Ideal) (e := .f32) x _ _ inb_S8x3x704_S1x3x704_0_0_0 (ix3 0 r j) (ix3 0 r j) (fun a => by fin_cases a <;> simp [ix3])

/-- Part 1 of the block of parts, read. -/
theorem ld_1 (x : FVec Ideal S8x3x704 .f32) (r : Fin 3) (j : Fin 704) : @Eq EReal (View.ld (Val := Elt Ideal) (e' := .f32) x r0_1 (ix3 0 r j)) (x (ix3 1 r j)) :=
  View.ld_unit_apply_of (Val := Elt Ideal) (e := .f32) x _ _ inb_S8x3x704_S1x3x704_1_0_0 (ix3 0 r j) (ix3 1 r j) (fun a => by fin_cases a <;> simp [ix3])

/-- Part 2 of the block of parts, read. -/
theorem ld_2 (x : FVec Ideal S8x3x704 .f32) (r : Fin 3) (j : Fin 704) : @Eq EReal (View.ld (Val := Elt Ideal) (e' := .f32) x r0_2 (ix3 0 r j)) (x (ix3 2 r j)) :=
  View.ld_unit_apply_of (Val := Elt Ideal) (e := .f32) x _ _ inb_S8x3x704_S1x3x704_2_0_0 (ix3 0 r j) (ix3 2 r j) (fun a => by fin_cases a <;> simp [ix3])

/-- Part 3 of the block of parts, read. -/
theorem ld_3 (x : FVec Ideal S8x3x704 .f32) (r : Fin 3) (j : Fin 704) : @Eq EReal (View.ld (Val := Elt Ideal) (e' := .f32) x r0_3 (ix3 0 r j)) (x (ix3 3 r j)) :=
  View.ld_unit_apply_of (Val := Elt Ideal) (e := .f32) x _ _ inb_S8x3x704_S1x3x704_3_0_0 (ix3 0 r j) (ix3 3 r j) (fun a => by fin_cases a <;> simp [ix3])

/-- Part 4 of the block of parts, read. -/
theorem ld_4 (x : FVec Ideal S8x3x704 .f32) (r : Fin 3) (j : Fin 704) : @Eq EReal (View.ld (Val := Elt Ideal) (e' := .f32) x r0_4 (ix3 0 r j)) (x (ix3 4 r j)) :=
  View.ld_unit_apply_of (Val := Elt Ideal) (e := .f32) x _ _ inb_S8x3x704_S1x3x704_4_0_0 (ix3 0 r j) (ix3 4 r j) (fun a => by fin_cases a <;> simp [ix3])

/-- Part 5 of the block of parts, read. -/
theorem ld_5 (x : FVec Ideal S8x3x704 .f32) (r : Fin 3) (j : Fin 704) : @Eq EReal (View.ld (Val := Elt Ideal) (e' := .f32) x r0_5 (ix3 0 r j)) (x (ix3 5 r j)) :=
  View.ld_unit_apply_of (Val := Elt Ideal) (e := .f32) x _ _ inb_S8x3x704_S1x3x704_5_0_0 (ix3 0 r j) (ix3 5 r j) (fun a => by fin_cases a <;> simp [ix3])

/-- Part 6 of the block of parts, read. -/
theorem ld_6 (x : FVec Ideal S8x3x704 .f32) (r : Fin 3) (j : Fin 704) : @Eq EReal (View.ld (Val := Elt Ideal) (e' := .f32) x r0_6 (ix3 0 r j)) (x (ix3 6 r j)) :=
  View.ld_unit_apply_of (Val := Elt Ideal) (e := .f32) x _ _ inb_S8x3x704_S1x3x704_6_0_0 (ix3 0 r j) (ix3 6 r j) (fun a => by fin_cases a <;> simp [ix3])

/-- Part 7 of the block of parts, read. -/
theorem ld_7 (x : FVec Ideal S8x3x704 .f32) (r : Fin 3) (j : Fin 704) : @Eq EReal (View.ld (Val := Elt Ideal) (e' := .f32) x r0_7 (ix3 0 r j)) (x (ix3 7 r j)) :=
  View.ld_unit_apply_of (Val := Elt Ideal) (e := .f32) x _ _ inb_S8x3x704_S1x3x704_7_0_0 (ix3 0 r j) (ix3 7 r j) (fun a => by fin_cases a <;> simp [ix3])

/-- The body's sum of the parts in its block. -/
theorem total_at (x : FVec Ideal S8x3x704 .f32) (w mm vv : FVec Ideal S1x3x704 .f32) (r : Fin 3) (j : Fin 704) :
    @Eq EReal (k0_pay8 (F := Ideal) x w mm vv (ix2 r j)) (total fun s => x (ix3 s r j)) := by
  refine (sum_at _ _ _ _ _ _ _ _ r j).trans ?_
  rw [ld_0, ld_1, ld_2, ld_3, ld_4, ld_5, ld_6, ld_7]
  exact total_eq fun s => x (ix3 s r j)

variable {m : (ℓ : Loc nD τ sig) → Buf (Elt Ideal) ℓ} {c : Dev nD}

/-- Each argument and each result is one block. -/
theorem idx : ∀ t : Fin cfg0.N, (win0_0.index t = ![0, 0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0, 0]) ∧ t.val < 1 :=
  (by decide +kernel : ∀ t : Fin grid0.N, _)

/-- An entry of the parts block. -/
theorem iblk_parts (t : Fin cfg0.N) (s : Fin 8) (r : Fin 3) (j : Fin 704) :
    @Eq EReal (iblk m c 0 t (ix3 s r j)) (m ((c.tc : Thread nD τ).loc main_arg0) (ix3 s r j)) := by
  obtain ⟨⟨e0, e1, e2, e3⟩, -, hN⟩ := idx t
  blk_ext [iblk, V, e0]

/-- An entry of the weight's block. -/
theorem iblk_w (t : Fin cfg0.N) (r : Fin 3) (j : Fin 704) :
    @Eq EReal (iblk m c 1 t (ix3 0 r j)) (m ((c.tc : Thread nD τ).loc main_arg1) (ix3 0 r j)) := by
  obtain ⟨⟨e0, e1, e2, e3⟩, -, hN⟩ := idx t
  blk_ext [iblk, V, e1]

/-- An entry of the first moment's block. -/
theorem iblk_m (t : Fin cfg0.N) (r : Fin 3) (j : Fin 704) :
    @Eq EReal (iblk m c 2 t (ix3 0 r j)) (m ((c.tc : Thread nD τ).loc main_arg2) (ix3 0 r j)) := by
  obtain ⟨⟨e0, e1, e2, e3⟩, -, hN⟩ := idx t
  blk_ext [iblk, V, e2]

/-- An entry of the second moment's block. -/
theorem iblk_v (t : Fin cfg0.N) (r : Fin 3) (j : Fin 704) :
    @Eq EReal (iblk m c 3 t (ix3 0 r j)) (m ((c.tc : Thread nD τ).loc main_arg3) (ix3 0 r j)) := by
  obtain ⟨⟨e0, e1, e2, e3⟩, -, hN⟩ := idx t
  blk_ext [iblk, V, e3]

/-- The body's sum of the parts, at a point. -/
theorem total_pt (t : Fin cfg0.N) (r : Fin 3) (j : Fin 704) :
    @Eq EReal (k0_pay8 (F := Ideal) (iblk m c 0 t) (iblk m c 1 t) (iblk m c 2 t) (iblk m c 3 t) (ix2 r j)) (total (partsAt (m ((c.tc : Thread nD τ).loc main_arg0)) r j)) :=
  (total_at _ _ _ _ r j).trans (congrArg total (funext fun s => iblk_parts t s r j))

/-- What a point leaves of the gradient. -/
theorem out4_at (t : Fin cfg0.N) (r : Fin 3) (j : Fin 704) :
    @Eq EReal (out0_4 (F := Ideal) (iblk m c 0 t) (iblk m c 1 t) (iblk m c 2 t) (iblk m c 3 t) (ix3 0 r j)) (total (partsAt (m ((c.tc : Thread nD τ).loc main_arg0)) r j)) := by
  frame_out
  exact (grad_at _ r j).trans (total_pt t r j)

/-- What a point leaves of the change of the weight. -/
theorem out5_at (t : Fin cfg0.N) (r : Fin 3) (j : Fin 704) :
    @Eq EReal (out0_5 (F := Ideal) (iblk m c 0 t) (iblk m c 1 t) (iblk m c 2 t) (iblk m c 3 t) (ix3 0 r j)) (delta (total (partsAt (m ((c.tc : Thread nD τ).loc main_arg0)) r j)) (m ((c.tc : Thread nD τ).loc main_arg1) (ix3 0 r j)) (m ((c.tc : Thread nD τ).loc main_arg2) (ix3 0 r j)) (m ((c.tc : Thread nD τ).loc main_arg3) (ix3 0 r j))) := by
  frame_out
  refine (delta_at _ _ _ _ _ _ _ _ _ _ _ r j).trans ?_
  exact congr (congr (congr (congrArg delta (total_pt t r j)) (iblk_w t r j)) ((ld_whole _ r j).trans (iblk_m t r j))) (iblk_v t r j)

/-- What a point leaves of the new first moment. -/
theorem out6_at (t : Fin cfg0.N) (r : Fin 3) (j : Fin 704) :
    @Eq EReal (out0_6 (F := Ideal) (iblk m c 0 t) (iblk m c 1 t) (iblk m c 2 t) (iblk m c 3 t) (ix3 0 r j)) (newM (total (partsAt (m ((c.tc : Thread nD τ).loc main_arg0)) r j)) (m ((c.tc : Thread nD τ).loc main_arg2) (ix3 0 r j))) := by
  frame_out
  refine (moment_at _ _ _ _ _ _ _ _ _ r j).trans ?_
  exact congrArg₂ newM (total_pt t r j) ((ld_whole _ r j).trans (iblk_m t r j))

/-- What a point leaves of the new second moment. -/
theorem out7_at (t : Fin cfg0.N) (r : Fin 3) (j : Fin 704) :
    @Eq EReal (out0_7 (F := Ideal) (iblk m c 0 t) (iblk m c 1 t) (iblk m c 2 t) (iblk m c 3 t) (ix3 0 r j)) (newV (total (partsAt (m ((c.tc : Thread nD τ).loc main_arg0)) r j)) (m ((c.tc : Thread nD τ).loc main_arg3) (ix3 0 r j))) := by
  frame_out
  refine (square_at _ _ r j).trans ?_
  exact congrArg₂ newV (total_pt t r j) (iblk_v t r j)

/-- The gradient, an entry of the result. -/
theorem res4_at (i : S1x3x704.Idx) :
    @Eq EReal ((dats m 0 c).arrAt 4 cfg0.N i) (total (partsAt (m ((c.tc : Thread nD τ).loc main_arg0)) (i 1) (i 2))) := by
  refine (dats m 0 c).arrAt_forall_of_covers 4 (fun i v => @Eq EReal v (total (partsAt (m ((c.tc : Thread nD τ).loc main_arg0)) (i 1) (i 2))))
    (by decide +kernel) (fun t hf y => ?_) i
  obtain ⟨-, ⟨e4, e5, e6, e7⟩, hN⟩ := idx t
  blk_simp [e4]
  rw [after0_4]
  idx_vars y
  have e : ((View.whole main_v0_0).slice (win0_4.rect t)).emb (ix3 y0 y1 y2) = ix3 0 y1 y2 := by
    blk_ext [e4]
  rw [e, Subsingleton.elim y0 0]
  exact out4_at t y1 y2

/-- The change of the weight, an entry of the result. -/
theorem res5_at (i : S1x3x704.Idx) :
    @Eq EReal ((dats m 0 c).arrAt 5 cfg0.N i) (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))) := by
  refine (dats m 0 c).arrAt_forall_of_covers 5 (fun i v => @Eq EReal v (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e5]
  rw [after0_5]
  idx_vars y
  have e : ((View.whole main_v0_1).slice (win0_5.rect t)).emb (ix3 y0 y1 y2) = ix3 0 y1 y2 := by
    blk_ext [e5]
  rw [e, Subsingleton.elim y0 0]
  exact out5_at t y1 y2

/-- The new first moment, an entry of the result. -/
theorem res6_at (i : S1x3x704.Idx) :
    @Eq EReal ((dats m 0 c).arrAt 6 cfg0.N i) (newM (total (partsAt (m ((c.tc : Thread nD τ).loc main_arg0)) (i 1) (i 2))) (m ((c.tc : Thread nD τ).loc main_arg2) (ix3 0 (i 1) (i 2)))) := by
  refine (dats m 0 c).arrAt_forall_of_covers 6 (fun i v => @Eq EReal v (newM (total (partsAt (m ((c.tc : Thread nD τ).loc main_arg0)) (i 1) (i 2))) (m ((c.tc : Thread nD τ).loc main_arg2) (ix3 0 (i 1) (i 2)))))
    (by decide +kernel) (fun t hf y => ?_) i
  obtain ⟨-, ⟨e4, e5, e6, e7⟩, hN⟩ := idx t
  blk_simp [e6]
  rw [after0_6]
  idx_vars y
  have e : ((View.whole main_v0_2).slice (win0_6.rect t)).emb (ix3 y0 y1 y2) = ix3 0 y1 y2 := by
    blk_ext [e6]
  rw [e, Subsingleton.elim y0 0]
  exact out6_at t y1 y2

/-- The new second moment, an entry of the result. -/
theorem res7_at (i : S1x3x704.Idx) :
    @Eq EReal ((dats m 0 c).arrAt 7 cfg0.N i) (newV (total (partsAt (m ((c.tc : Thread nD τ).loc main_arg0)) (i 1) (i 2))) (m ((c.tc : Thread nD τ).loc main_arg3) (ix3 0 (i 1) (i 2)))) := by
  refine (dats m 0 c).arrAt_forall_of_covers 7 (fun i v => @Eq EReal v (newV (total (partsAt (m ((c.tc : Thread nD τ).loc main_arg0)) (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e7]
  rw [after0_7]
  idx_vars y
  have e : ((View.whole main_v0_3).slice (win0_7.rect t)).emb (ix3 y0 y1 y2) = ix3 0 y1 y2 := by
    blk_ext [e7]
  rw [e, Subsingleton.elim y0 0]
  exact out7_at t y1 y2

end Cert.Kernel15Ideal.Value

namespace Cert.Reference15Ideal.Value
open Cert.Reference15Ideal Cert.Reference15Ideal.Gen Cert.Adam

/-- The reference's gradient. -/
def gradOf (p : FVec Ideal S8x3x704 .f32) : FVec Ideal S1x3x704 .f32 :=
  broadcastInDim S1x3x704 ![1, 2] bcast_S3x704_S1x3x704_1_2 (Host.reduceAdd p (constant S_ .f32 0x00000000#32) reducesTo_S8x3x704_S3x704_d0 h_S_)

/-- The reference's new first moment. -/
def newMOf (p : FVec Ideal S8x3x704 .f32) (mm : FVec Ideal S1x3x704 .f32) : FVec Ideal S1x3x704 .f32 :=
  addf (mulf (broadcastInDim S1x3x704 ![] bcast_S_S1x3x704 (constant S_ .f32 0x3F666666#32)) mm) (mulf (broadcastInDim S1x3x704 ![] bcast_S_S1x3x704 (constant S_ .f32 0x3DCCCCCD#32)) (gradOf p))

/-- The reference's new second moment. -/
def newVOf (p : FVec Ideal S8x3x704 .f32) (vv : FVec Ideal S1x3x704 .f32) : FVec Ideal S1x3x704 .f32 :=
  addf (mulf (broadcastInDim S1x3x704 ![] bcast_S_S1x3x704 (constant S_ .f32 0x3F7FBE77#32)) vv) (mulf (broadcastInDim S1x3x704 ![] bcast_S_S1x3x704 (constant S_ .f32 0x3A83126F#32)) (mulf (gradOf p) (gradOf p)))

/-- The reference's change of the weight. -/
def deltaOf (p : FVec Ideal S8x3x704 .f32) (ww mm vv : FVec Ideal S1x3x704 .f32) : FVec Ideal S1x3x704 .f32 :=
  mulf (broadcastInDim S1x3x704 ![] bcast_S_S1x3x704 (constant S_ .f32 0xBA83126F#32)) (addf (Host.divf (Host.divf (newMOf p mm) (broadcastInDim S1x3x704 ![] bcast_S_S1x3x704 (constant S_ .f32 0x3F26BD02#32))) (addf (Host.sqrt (Host.divf (newVOf p vv) (broadcastInDim S1x3x704 ![] bcast_S_S1x3x704 (constant S_ .f32 0x3C231ACC#32)))) (broadcastInDim S1x3x704 ![] bcast_S_S1x3x704 (constant S_ .f32 0x322BCC77#32)))) (mulf (broadcastInDim S1x3x704 ![] bcast_S_S1x3x704 (constant S_ .f32 0x3C23D70A#32)) ww))

/-- An entry of the reference's gradient. -/
theorem gradOf_at (p : FVec Ideal S8x3x704 .f32) (r : Fin 3) (j : Fin 704) : @Eq EReal (gradOf p (ix3 0 r j)) (total fun s => p (ix3 s r j)) := by
  pointwise [gradOf]
  rfl

/-- An entry of the reference's new first moment. -/
theorem newMOf_at (p : FVec Ideal S8x3x704 .f32) (mm : FVec Ideal S1x3x704 .f32) (r : Fin 3) (j : Fin 704) :
    @Eq EReal (newMOf p mm (ix3 0 r j)) (newM (total fun s => p (ix3 s r j)) (mm (ix3 0 r j))) := by
  pointwise [newMOf, gradOf_at]
  rfl

/-- An entry of the reference's new second moment. -/
theorem newVOf_at (p : FVec Ideal S8x3x704 .f32) (vv : FVec Ideal S1x3x704 .f32) (r : Fin 3) (j : Fin 704) :
    @Eq EReal (newVOf p vv (ix3 0 r j)) (newV (total fun s => p (ix3 s r j)) (vv (ix3 0 r j))) := by
  pointwise [newVOf, gradOf_at]
  rfl

/-- An entry of the reference's change of the weight. -/
theorem deltaOf_at (p : FVec Ideal S8x3x704 .f32) (ww mm vv : FVec Ideal S1x3x704 .f32) (r : Fin 3) (j : Fin 704) :
    @Eq EReal (deltaOf p ww mm vv (ix3 0 r j)) (delta (total fun s => p (ix3 s r j)) (ww (ix3 0 r j)) (mm (ix3 0 r j)) (vv (ix3 0 r j))) := by
  pointwise [deltaOf, newMOf_at, newVOf_at]
  rfl

end Cert.Reference15Ideal.Value

namespace Cert.Proof

/-- Every index of a result has its first coordinate zero. -/
theorem ix_zero15 (i : Cert.Kernel15Ideal.S1x3x704.Idx) : i = ix3 0 (i 1) (i 2) :=
  (eq_ix3 i).trans (congrArg (fun a => ix3 a (i 1) (i 2)) (Subsingleton.elim (α := Fin 1) _ _))

/-- The four results of the call are the reference's. -/
theorem value15 : Cert.algebraic_Kernel15Ideal_Reference15Ideal := by
  intro m ρ m' ρ' _ hagree
  refine ⟨_, _, _, _, Cert.Kernel15Ideal.Value.run_blocks (F := Ideal) m ρ, ?_⟩
  refine (θ_run Cert.Reference15Ideal.defs _ _).mono (fun _ h c => ?_) (Cert.Reference15Ideal.Value.run (F := Ideal) m' ρ')
  obtain ⟨a0, a1, a2, a3⟩ := hagree c
  obtain ⟨r0, r1, r2, r3, kept⟩ := h c
  refine ⟨r0.trans ?_, r1.trans ?_, r2.trans ?_, r3.trans ?_, kept⟩
  · funext i
    refine Eq.trans ?_ (Cert.Kernel15Ideal.Value.res4_at i).symm
    rw [ix_zero15 i]
    refine (Cert.Reference15Ideal.Value.gradOf_at _ _ _).trans ?_
    rw [a0]
    rfl
  · funext i
    refine Eq.trans ?_ (Cert.Kernel15Ideal.Value.res5_at i).symm
    rw [ix_zero15 i]
    refine (Cert.Reference15Ideal.Value.deltaOf_at _ _ _ _ _ _).trans ?_
    rw [a0, a1, a2, a3]
    rfl
  · funext i
    refine Eq.trans ?_ (Cert.Kernel15Ideal.Value.res6_at i).symm
    rw [ix_zero15 i]
    refine (Cert.Reference15Ideal.Value.newMOf_at _ _ _ _).trans ?_
    rw [a0, a2]
    rfl
  · funext i
    refine Eq.trans ?_ (Cert.Kernel15Ideal.Value.res7_at i).symm
    rw [ix_zero15 i]
    refine (Cert.Reference15Ideal.Value.newVOf_at _ _ _ _).trans ?_
    rw [a0, a3]
    rfl

end Cert.Proof
-- ==== Proof.AdamWIn.lean ====
module

public import proofs.«01_k».proof.Defs
public import proofs.«01_k».proof.Proof.Gen.Kernel16Ideal.Value
public import proofs.«01_k».proof.Proof.Gen.Reference16Ideal.Run
public import proofs.«01_k».proof.Proof.AdamReals
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `adamw_w_in` computes one step of AdamW -/

noncomputable section

open Idealize.ShloMosaic Idealize.ShloMosaic.TcCoe Idealize.SL.Sem Idealize.ShloMosaic.StableHlo

namespace Cert.Kernel16Ideal.Value
open Cert.Kernel16Ideal Cert.Kernel16Ideal.Gen Cert.Adam

/-- The eight parts of an entry of the gradient. -/
def partsAt (p : FVec Ideal S8x504x1024 .bf16) (r : Fin 504) (j : Fin 1024) (s : Fin 8) : EReal := p (ix3 s r j)

/-- An entry of the body's sum of the eight parts. -/
theorem sum_at (u0 u1 u2 u3 u4 u5 u6 u7 : FVec Ideal S1x504x1024 .bf16) (r : Fin 504) (j : Fin 1024) :
    @Eq EReal (k0_pay3 (F := Ideal) u0 u1 u2 u3 u4 u5 u6 u7 (ix2 r j)) (u0 (ix3 0 r j) + u1 (ix3 0 r j) + u2 (ix3 0 r j) + u3 (ix3 0 r j) + u4 (ix3 0 r j) + u5 (ix3 0 r j) + u6 (ix3 0 r j) + u7 (ix3 0 r j)) := by
  pointwise [k0_pay3]

/-- An entry of the gradient as the body writes it. -/
theorem grad_at (u : FVec Ideal S504x1024 .f32) (r : Fin 504) (j : Fin 1024) :
    @Eq EReal (k0_pay6 (F := Ideal) u (ix3 0 r j)) (u (ix2 r j)) := by
  pointwise [k0_pay6]

/-- An entry of the new first moment. -/
theorem moment_at (u : FVec Ideal S504x1024 .f32) (mm : FVec Ideal S1x504x1024 .f32) (r : Fin 504) (j : Fin 1024) :
    @Eq EReal (k0_pay1 (F := Ideal) (k0_pay4 (F := Ideal) u mm) (ix3 0 r j)) (newM (u (ix2 r j)) (mm (ix3 0 r j))) := by
  pointwise [k0_pay1, k0_pay4]
  rfl

/-- An entry of the change of the weight. -/
theorem delta_at (u : FVec Ideal S504x1024 .f32) (mm vv ww : FVec Ideal S1x504x1024 .f32) (r : Fin 504) (j : Fin 1024) :
    @Eq EReal (k0_pay7 (F := Ideal) u mm vv ww (ix3 0 r j)) (delta (u (ix2 r j)) (ww (ix3 0 r j)) (mm (ix3 0 r j)) (vv (ix3 0 r j))) := by
  pointwise [k0_pay7, k0_pay4, k0_pay5]
  rfl

/-- An entry of the new second moment. -/
theorem square_at (u : FVec Ideal S504x1024 .f32) (vv : FVec Ideal S1x504x1024 .f32) (r : Fin 504) (j : Fin 1024) :
    @Eq EReal (k0_pay2 (F := Ideal) (k0_pay5 (F := Ideal) u vv) (ix3 0 r j)) (newV (u (ix2 r j)) (vv (ix3 0 r j))) := by
  pointwise [k0_pay2, k0_pay5]
  rfl

/-- Part 0 of the block of parts, read. -/
theorem ld_0 (x : FVec Ideal S8x504x1024 .bf16) (r : Fin 504) (j : Fin 1024) : @Eq EReal (View.ld (Val := Elt Ideal) (e' := .bf16) x r0_0 (ix3 0 r j)) (x (ix3 0 r j)) :=
  View.ld_unit_apply_of (Val := Elt Ideal) (e := .bf16) x _ _ inb_S8x504x1024_S1x504x1024_0_0_0 (ix3 0 r j) (ix3 0 r j) (fun a => by fin_cases a <;> simp [ix3])

/-- Part 1 of the block of parts, read. -/
theorem ld_1 (x : FVec Ideal S8x504x1024 .bf16) (r : Fin 504) (j : Fin 1024) : @Eq EReal (View.ld (Val := Elt Ideal) (e' := .bf16) x r0_1 (ix3 0 r j)) (x (ix3 1 r j)) :=
  View.ld_unit_apply_of (Val := Elt Ideal) (e := .bf16) x _ _ inb_S8x504x1024_S1x504x1024_1_0_0 (ix3 0 r j) (ix3 1 r j) (fun a => by fin_cases a <;> simp [ix3])

/-- Part 2 of the block of parts, read. -/
theorem ld_2 (x : FVec Ideal S8x504x1024 .bf16) (r : Fin 504) (j : Fin 1024) : @Eq EReal (View.ld (Val := Elt Ideal) (e' := .bf16) x r0_2 (ix3 0 r j)) (x (ix3 2 r j)) :=
  View.ld_unit_apply_of (Val := Elt Ideal) (e := .bf16) x _ _ inb_S8x504x1024_S1x504x1024_2_0_0 (ix3 0 r j) (ix3 2 r j) (fun a => by fin_cases a <;> simp [ix3])

/-- Part 3 of the block of parts, read. -/
theorem ld_3 (x : FVec Ideal S8x504x1024 .bf16) (r : Fin 504) (j : Fin 1024) : @Eq EReal (View.ld (Val := Elt Ideal) (e' := .bf16) x r0_3 (ix3 0 r j)) (x (ix3 3 r j)) :=
  View.ld_unit_apply_of (Val := Elt Ideal) (e := .bf16) x _ _ inb_S8x504x1024_S1x504x1024_3_0_0 (ix3 0 r j) (ix3 3 r j) (fun a => by fin_cases a <;> simp [ix3])

/-- Part 4 of the block of parts, read. -/
theorem ld_4 (x : FVec Ideal S8x504x1024 .bf16) (r : Fin 504) (j : Fin 1024) : @Eq EReal (View.ld (Val := Elt Ideal) (e' := .bf16) x r0_4 (ix3 0 r j)) (x (ix3 4 r j)) :=
  View.ld_unit_apply_of (Val := Elt Ideal) (e := .bf16) x _ _ inb_S8x504x1024_S1x504x1024_4_0_0 (ix3 0 r j) (ix3 4 r j) (fun a => by fin_cases a <;> simp [ix3])

/-- Part 5 of the block of parts, read. -/
theorem ld_5 (x : FVec Ideal S8x504x1024 .bf16) (r : Fin 504) (j : Fin 1024) : @Eq EReal (View.ld (Val := Elt Ideal) (e' := .bf16) x r0_5 (ix3 0 r j)) (x (ix3 5 r j)) :=
  View.ld_unit_apply_of (Val := Elt Ideal) (e := .bf16) x _ _ inb_S8x504x1024_S1x504x1024_5_0_0 (ix3 0 r j) (ix3 5 r j) (fun a => by fin_cases a <;> simp [ix3])

/-- Part 6 of the block of parts, read. -/
theorem ld_6 (x : FVec Ideal S8x504x1024 .bf16) (r : Fin 504) (j : Fin 1024) : @Eq EReal (View.ld (Val := Elt Ideal) (e' := .bf16) x r0_6 (ix3 0 r j)) (x (ix3 6 r j)) :=
  View.ld_unit_apply_of (Val := Elt Ideal) (e := .bf16) x _ _ inb_S8x504x1024_S1x504x1024_6_0_0 (ix3 0 r j) (ix3 6 r j) (fun a => by fin_cases a <;> simp [ix3])

/-- Part 7 of the block of parts, read. -/
theorem ld_7 (x : FVec Ideal S8x504x1024 .bf16) (r : Fin 504) (j : Fin 1024) : @Eq EReal (View.ld (Val := Elt Ideal) (e' := .bf16) x r0_7 (ix3 0 r j)) (x (ix3 7 r j)) :=
  View.ld_unit_apply_of (Val := Elt Ideal) (e := .bf16) x _ _ inb_S8x504x1024_S1x504x1024_7_0_0 (ix3 0 r j) (ix3 7 r j) (fun a => by fin_cases a <;> simp [ix3])

/-- The body's sum of the parts in its block. -/
theorem total_at (x : FVec Ideal S8x504x1024 .bf16) (w mm vv : FVec Ideal S1x504x1024 .f32) (r : Fin 504) (j : Fin 1024) :
    @Eq EReal (k0_pay8 (F := Ideal) x w mm vv (ix2 r j)) (total fun s => x (ix3 s r j)) := by
  refine (sum_at _ _ _ _ _ _ _ _ r j).trans ?_
  rw [ld_0, ld_1, ld_2, ld_3, ld_4, ld_5, ld_6, ld_7]
  exact total_eq fun s => x (ix3 s r j)

variable {m : (ℓ : Loc nD τ sig) → Buf (Elt Ideal) ℓ} {c : Dev nD}

/-- Each argument and each result is one block. -/
theorem idx : ∀ t : Fin cfg0.N, (win0_0.index t = ![0, 0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0, 0]) ∧ t.val < 1 :=
  (by decide +kernel : ∀ t : Fin grid0.N, _)

/-- An entry of the parts block. -/
theorem iblk_parts (t : Fin cfg0.N) (s : Fin 8) (r : Fin 504) (j : Fin 1024) :
    @Eq EReal (iblk m c 0 t (ix3 s r j)) (m ((c.tc : Thread nD τ).loc main_arg0) (ix3 s r j)) := by
  obtain ⟨⟨e0, e1, e2, e3⟩, -, hN⟩ := idx t
  blk_ext [iblk, V, e0]

/-- An entry of the weight's block. -/
theorem iblk_w (t : Fin cfg0.N) (r : Fin 504) (j : Fin 1024) :
    @Eq EReal (iblk m c 1 t (ix3 0 r j)) (m ((c.tc : Thread nD τ).loc main_arg1) (ix3 0 r j)) := by
  obtain ⟨⟨e0, e1, e2, e3⟩, -, hN⟩ := idx t
  blk_ext [iblk, V, e1]

/-- An entry of the first moment's block. -/
theorem iblk_m (t : Fin cfg0.N) (r : Fin 504) (j : Fin 1024) :
    @Eq EReal (iblk m c 2 t (ix3 0 r j)) (m ((c.tc : Thread nD τ).loc main_arg2) (ix3 0 r j)) := by
  obtain ⟨⟨e0, e1, e2, e3⟩, -, hN⟩ := idx t
  blk_ext [iblk, V, e2]

/-- An entry of the second moment's block. -/
theorem iblk_v (t : Fin cfg0.N) (r : Fin 504) (j : Fin 1024) :
    @Eq EReal (iblk m c 3 t (ix3 0 r j)) (m ((c.tc : Thread nD τ).loc main_arg3) (ix3 0 r j)) := by
  obtain ⟨⟨e0, e1, e2, e3⟩, -, hN⟩ := idx t
  blk_ext [iblk, V, e3]

/-- The body's sum of the parts, at a point. -/
theorem total_pt (t : Fin cfg0.N) (r : Fin 504) (j : Fin 1024) :
    @Eq EReal (k0_pay8 (F := Ideal) (iblk m c 0 t) (iblk m c 1 t) (iblk m c 2 t) (iblk m c 3 t) (ix2 r j)) (total (partsAt (m ((c.tc : Thread nD τ).loc main_arg0)) r j)) :=
  (total_at _ _ _ _ r j).trans (congrArg total (funext fun s => iblk_parts t s r j))

/-- What a point leaves of the gradient. -/
theorem out4_at (t : Fin cfg0.N) (r : Fin 504) (j : Fin 1024) :
    @Eq EReal (out0_4 (F := Ideal) (iblk m c 0 t) (iblk m c 1 t) (iblk m c 2 t) (iblk m c 3 t) (ix3 0 r j)) (total (partsAt (m ((c.tc : Thread nD τ).loc main_arg0)) r j)) := by
  frame_out
  exact (grad_at _ r j).trans (total_pt t r j)

/-- What a point leaves of the change of the weight. -/
theorem out5_at (t : Fin cfg0.N) (r : Fin 504) (j : Fin 1024) :
    @Eq EReal (out0_5 (F := Ideal) (iblk m c 0 t) (iblk m c 1 t) (iblk m c 2 t) (iblk m c 3 t) (ix3 0 r j)) (delta (total (partsAt (m ((c.tc : Thread nD τ).loc main_arg0)) r j)) (m ((c.tc : Thread nD τ).loc main_arg1) (ix3 0 r j)) (m ((c.tc : Thread nD τ).loc main_arg2) (ix3 0 r j)) (m ((c.tc : Thread nD τ).loc main_arg3) (ix3 0 r j))) := by
  frame_out
  refine (delta_at _ _ _ _ r j).trans ?_
  exact congr (congr (congr (congrArg delta (total_pt t r j)) (iblk_w t r j)) (iblk_m t r j)) (iblk_v t r j)

/-- What a point leaves of the new first moment. -/
theorem out6_at (t : Fin cfg0.N) (r : Fin 504) (j : Fin 1024) :
    @Eq EReal (out0_6 (F := Ideal) (iblk m c 0 t) (iblk m c 1 t) (iblk m c 2 t) (iblk m c 3 t) (ix3 0 r j)) (newM (total (partsAt (m ((c.tc : Thread nD τ).loc main_arg0)) r j)) (m ((c.tc : Thread nD τ).loc main_arg2) (ix3 0 r j))) := by
  frame_out
  refine (moment_at _ _ r j).trans ?_
  exact congrArg₂ newM (total_pt t r j) (iblk_m t r j)

/-- What a point leaves of the new second moment. -/
theorem out7_at (t : Fin cfg0.N) (r : Fin 504) (j : Fin 1024) :
    @Eq EReal (out0_7 (F := Ideal) (iblk m c 0 t) (iblk m c 1 t) (iblk m c 2 t) (iblk m c 3 t) (ix3 0 r j)) (newV (total (partsAt (m ((c.tc : Thread nD τ).loc main_arg0)) r j)) (m ((c.tc : Thread nD τ).loc main_arg3) (ix3 0 r j))) := by
  frame_out
  refine (square_at _ _ r j).trans ?_
  exact congrArg₂ newV (total_pt t r j) (iblk_v t r j)

/-- The gradient, an entry of the result. -/
theorem res4_at (i : S1x504x1024.Idx) :
    @Eq EReal ((dats m 0 c).arrAt 4 cfg0.N i) (total (partsAt (m ((c.tc : Thread nD τ).loc main_arg0)) (i 1) (i 2))) := by
  refine (dats m 0 c).arrAt_forall_of_covers 4 (fun i v => @Eq EReal v (total (partsAt (m ((c.tc : Thread nD τ).loc main_arg0)) (i 1) (i 2))))
    (by decide +kernel) (fun t hf y => ?_) i
  obtain ⟨-, ⟨e4, e5, e6, e7⟩, hN⟩ := idx t
  blk_simp [e4]
  rw [after0_4]
  idx_vars y
  have e : ((View.whole main_v0_0).slice (win0_4.rect t)).emb (ix3 y0 y1 y2) = ix3 0 y1 y2 := by
    blk_ext [e4]
  rw [e, Subsingleton.elim y0 0]
  exact out4_at t y1 y2

/-- The change of the weight, an entry of the result. -/
theorem res5_at (i : S1x504x1024.Idx) :
    @Eq EReal ((dats m 0 c).arrAt 5 cfg0.N i) (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))) := by
  refine (dats m 0 c).arrAt_forall_of_covers 5 (fun i v => @Eq EReal v (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e5]
  rw [after0_5]
  idx_vars y
  have e : ((View.whole main_v0_1).slice (win0_5.rect t)).emb (ix3 y0 y1 y2) = ix3 0 y1 y2 := by
    blk_ext [e5]
  rw [e, Subsingleton.elim y0 0]
  exact out5_at t y1 y2

/-- The new first moment, an entry of the result. -/
theorem res6_at (i : S1x504x1024.Idx) :
    @Eq EReal ((dats m 0 c).arrAt 6 cfg0.N i) (newM (total (partsAt (m ((c.tc : Thread nD τ).loc main_arg0)) (i 1) (i 2))) (m ((c.tc : Thread nD τ).loc main_arg2) (ix3 0 (i 1) (i 2)))) := by
  refine (dats m 0 c).arrAt_forall_of_covers 6 (fun i v => @Eq EReal v (newM (total (partsAt (m ((c.tc : Thread nD τ).loc main_arg0)) (i 1) (i 2))) (m ((c.tc : Thread nD τ).loc main_arg2) (ix3 0 (i 1) (i 2)))))
    (by decide +kernel) (fun t hf y => ?_) i
  obtain ⟨-, ⟨e4, e5, e6, e7⟩, hN⟩ := idx t
  blk_simp [e6]
  rw [after0_6]
  idx_vars y
  have e : ((View.whole main_v0_2).slice (win0_6.rect t)).emb (ix3 y0 y1 y2) = ix3 0 y1 y2 := by
    blk_ext [e6]
  rw [e, Subsingleton.elim y0 0]
  exact out6_at t y1 y2

/-- The new second moment, an entry of the result. -/
theorem res7_at (i : S1x504x1024.Idx) :
    @Eq EReal ((dats m 0 c).arrAt 7 cfg0.N i) (newV (total (partsAt (m ((c.tc : Thread nD τ).loc main_arg0)) (i 1) (i 2))) (m ((c.tc : Thread nD τ).loc main_arg3) (ix3 0 (i 1) (i 2)))) := by
  refine (dats m 0 c).arrAt_forall_of_covers 7 (fun i v => @Eq EReal v (newV (total (partsAt (m ((c.tc : Thread nD τ).loc main_arg0)) (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e7]
  rw [after0_7]
  idx_vars y
  have e : ((View.whole main_v0_3).slice (win0_7.rect t)).emb (ix3 y0 y1 y2) = ix3 0 y1 y2 := by
    blk_ext [e7]
  rw [e, Subsingleton.elim y0 0]
  exact out7_at t y1 y2

end Cert.Kernel16Ideal.Value

namespace Cert.Reference16Ideal.Value
open Cert.Reference16Ideal Cert.Reference16Ideal.Gen Cert.Adam

/-- The reference's gradient. -/
def gradOf (p : FVec Ideal S8x504x1024 .bf16) : FVec Ideal S1x504x1024 .f32 :=
  broadcastInDim S1x504x1024 ![1, 2] bcast_S504x1024_S1x504x1024_1_2 (Host.reduceAdd (extf .f32 p bitsLt_bf16_f32) (constant S_ .f32 0x00000000#32) reducesTo_S8x504x1024_S504x1024_d0 h_S_)

/-- The reference's new first moment. -/
def newMOf (p : FVec Ideal S8x504x1024 .bf16) (mm : FVec Ideal S1x504x1024 .f32) : FVec Ideal S1x504x1024 .f32 :=
  addf (mulf (broadcastInDim S1x504x1024 ![] bcast_S_S1x504x1024 (constant S_ .f32 0x3F666666#32)) mm) (mulf (broadcastInDim S1x504x1024 ![] bcast_S_S1x504x1024 (constant S_ .f32 0x3DCCCCCD#32)) (gradOf p))

/-- The reference's new second moment. -/
def newVOf (p : FVec Ideal S8x504x1024 .bf16) (vv : FVec Ideal S1x504x1024 .f32) : FVec Ideal S1x504x1024 .f32 :=
  addf (mulf (broadcastInDim S1x504x1024 ![] bcast_S_S1x504x1024 (constant S_ .f32 0x3F7FBE77#32)) vv) (mulf (broadcastInDim S1x504x1024 ![] bcast_S_S1x504x1024 (constant S_ .f32 0x3A83126F#32)) (mulf (gradOf p) (gradOf p)))

/-- The reference's change of the weight. -/
def deltaOf (p : FVec Ideal S8x504x1024 .bf16) (ww mm vv : FVec Ideal S1x504x1024 .f32) : FVec Ideal S1x504x1024 .f32 :=
  mulf (broadcastInDim S1x504x1024 ![] bcast_S_S1x504x1024 (constant S_ .f32 0xBA83126F#32)) (addf (Host.divf (Host.divf (newMOf p mm) (broadcastInDim S1x504x1024 ![] bcast_S_S1x504x1024 (constant S_ .f32 0x3F26BD02#32))) (addf (Host.sqrt (Host.divf (newVOf p vv) (broadcastInDim S1x504x1024 ![] bcast_S_S1x504x1024 (constant S_ .f32 0x3C231ACC#32)))) (broadcastInDim S1x504x1024 ![] bcast_S_S1x504x1024 (constant S_ .f32 0x322BCC77#32)))) (mulf (broadcastInDim S1x504x1024 ![] bcast_S_S1x504x1024 (constant S_ .f32 0x3C23D70A#32)) ww))

/-- An entry of the reference's gradient. -/
theorem gradOf_at (p : FVec Ideal S8x504x1024 .bf16) (r : Fin 504) (j : Fin 1024) : @Eq EReal (gradOf p (ix3 0 r j)) (total fun s => p (ix3 s r j)) := by
  pointwise [gradOf]
  rfl

/-- An entry of the reference's new first moment. -/
theorem newMOf_at (p : FVec Ideal S8x504x1024 .bf16) (mm : FVec Ideal S1x504x1024 .f32) (r : Fin 504) (j : Fin 1024) :
    @Eq EReal (newMOf p mm (ix3 0 r j)) (newM (total fun s => p (ix3 s r j)) (mm (ix3 0 r j))) := by
  pointwise [newMOf, gradOf_at]
  rfl

/-- An entry of the reference's new second moment. -/
theorem newVOf_at (p : FVec Ideal S8x504x1024 .bf16) (vv : FVec Ideal S1x504x1024 .f32) (r : Fin 504) (j : Fin 1024) :
    @Eq EReal (newVOf p vv (ix3 0 r j)) (newV (total fun s => p (ix3 s r j)) (vv (ix3 0 r j))) := by
  pointwise [newVOf, gradOf_at]
  rfl

/-- An entry of the reference's change of the weight. -/
theorem deltaOf_at (p : FVec Ideal S8x504x1024 .bf16) (ww mm vv : FVec Ideal S1x504x1024 .f32) (r : Fin 504) (j : Fin 1024) :
    @Eq EReal (deltaOf p ww mm vv (ix3 0 r j)) (delta (total fun s => p (ix3 s r j)) (ww (ix3 0 r j)) (mm (ix3 0 r j)) (vv (ix3 0 r j))) := by
  pointwise [deltaOf, newMOf_at, newVOf_at]
  rfl

end Cert.Reference16Ideal.Value

namespace Cert.Proof

/-- Every index of a result has its first coordinate zero. -/
theorem ix_zero16 (i : Cert.Kernel16Ideal.S1x504x1024.Idx) : i = ix3 0 (i 1) (i 2) :=
  (eq_ix3 i).trans (congrArg (fun a => ix3 a (i 1) (i 2)) (Subsingleton.elim (α := Fin 1) _ _))

/-- The four results of the call are the reference's. -/
theorem value16 : Cert.algebraic_Kernel16Ideal_Reference16Ideal := by
  intro m ρ m' ρ' _ hagree
  refine ⟨_, _, _, _, Cert.Kernel16Ideal.Value.run_blocks (F := Ideal) m ρ, ?_⟩
  refine (θ_run Cert.Reference16Ideal.defs _ _).mono (fun _ h c => ?_) (Cert.Reference16Ideal.Value.run (F := Ideal) m' ρ')
  obtain ⟨a0, a1, a2, a3⟩ := hagree c
  obtain ⟨r0, r1, r2, r3, kept⟩ := h c
  refine ⟨r0.trans ?_, r1.trans ?_, r2.trans ?_, r3.trans ?_, kept⟩
  · funext i
    refine Eq.trans ?_ (Cert.Kernel16Ideal.Value.res4_at i).symm
    rw [ix_zero16 i]
    refine (Cert.Reference16Ideal.Value.gradOf_at _ _ _).trans ?_
    rw [a0]
    rfl
  · funext i
    refine Eq.trans ?_ (Cert.Kernel16Ideal.Value.res5_at i).symm
    rw [ix_zero16 i]
    refine (Cert.Reference16Ideal.Value.deltaOf_at _ _ _ _ _ _).trans ?_
    rw [a0, a1, a2, a3]
    rfl
  · funext i
    refine Eq.trans ?_ (Cert.Kernel16Ideal.Value.res6_at i).symm
    rw [ix_zero16 i]
    refine (Cert.Reference16Ideal.Value.newMOf_at _ _ _ _).trans ?_
    rw [a0, a2]
    rfl
  · funext i
    refine Eq.trans ?_ (Cert.Kernel16Ideal.Value.res7_at i).symm
    rw [ix_zero16 i]
    refine (Cert.Reference16Ideal.Value.newVOf_at _ _ _ _).trans ?_
    rw [a0, a3]
    rfl

end Cert.Proof
-- ==== Proof.AdamWQB.lean ====
module

public import proofs.«01_k».proof.Defs
public import proofs.«01_k».proof.Proof.Gen.Kernel17Ideal.Value
public import proofs.«01_k».proof.Proof.Gen.Reference17Ideal.Run
public import proofs.«01_k».proof.Proof.AdamReals
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `adamw_w_q_b` computes one step of AdamW -/

noncomputable section

open Idealize.ShloMosaic Idealize.ShloMosaic.TcCoe Idealize.SL.Sem Idealize.ShloMosaic.StableHlo

namespace Cert.Kernel17Ideal.Value
open Cert.Kernel17Ideal Cert.Kernel17Ideal.Gen Cert.Adam

/-- The eight parts of an entry of the gradient. -/
def partsAt (p : FVec Ideal S8x192x256 .bf16) (r : Fin 192) (j : Fin 256) (s : Fin 8) : EReal := p (ix3 s r j)

/-- An entry of the body's sum of the eight parts. -/
theorem sum_at (u0 u1 u2 u3 u4 u5 u6 u7 : FVec Ideal S1x192x256 .bf16) (r : Fin 192) (j : Fin 256) :
    @Eq EReal (k0_pay3 (F := Ideal) u0 u1 u2 u3 u4 u5 u6 u7 (ix2 r j)) (u0 (ix3 0 r j) + u1 (ix3 0 r j) + u2 (ix3 0 r j) + u3 (ix3 0 r j) + u4 (ix3 0 r j) + u5 (ix3 0 r j) + u6 (ix3 0 r j) + u7 (ix3 0 r j)) := by
  pointwise [k0_pay3]

/-- An entry of the gradient as the body writes it. -/
theorem grad_at (u : FVec Ideal S192x256 .f32) (r : Fin 192) (j : Fin 256) :
    @Eq EReal (k0_pay6 (F := Ideal) u (ix3 0 r j)) (u (ix2 r j)) := by
  pointwise [k0_pay6]

/-- An entry of the new first moment. -/
theorem moment_at (u : FVec Ideal S192x256 .f32) (mm : FVec Ideal S1x192x256 .f32) (r : Fin 192) (j : Fin 256) :
    @Eq EReal (k0_pay1 (F := Ideal) (k0_pay4 (F := Ideal) u mm) (ix3 0 r j)) (newM (u (ix2 r j)) (mm (ix3 0 r j))) := by
  pointwise [k0_pay1, k0_pay4]
  rfl

/-- An entry of the change of the weight. -/
theorem delta_at (u : FVec Ideal S192x256 .f32) (mm vv ww : FVec Ideal S1x192x256 .f32) (r : Fin 192) (j : Fin 256) :
    @Eq EReal (k0_pay7 (F := Ideal) u mm vv ww (ix3 0 r j)) (delta (u (ix2 r j)) (ww (ix3 0 r j)) (mm (ix3 0 r j)) (vv (ix3 0 r j))) := by
  pointwise [k0_pay7, k0_pay4, k0_pay5]
  rfl

/-- An entry of the new second moment. -/
theorem square_at (u : FVec Ideal S192x256 .f32) (vv : FVec Ideal S1x192x256 .f32) (r : Fin 192) (j : Fin 256) :
    @Eq EReal (k0_pay2 (F := Ideal) (k0_pay5 (F := Ideal) u vv) (ix3 0 r j)) (newV (u (ix2 r j)) (vv (ix3 0 r j))) := by
  pointwise [k0_pay2, k0_pay5]
  rfl

/-- Part 0 of the block of parts, read. -/
theorem ld_0 (x : FVec Ideal S8x192x256 .bf16) (r : Fin 192) (j : Fin 256) : @Eq EReal (View.ld (Val := Elt Ideal) (e' := .bf16) x r0_0 (ix3 0 r j)) (x (ix3 0 r j)) :=
  View.ld_unit_apply_of (Val := Elt Ideal) (e := .bf16) x _ _ inb_S8x192x256_S1x192x256_0_0_0 (ix3 0 r j) (ix3 0 r j) (fun a => by fin_cases a <;> simp [ix3])

/-- Part 1 of the block of parts, read. -/
theorem ld_1 (x : FVec Ideal S8x192x256 .bf16) (r : Fin 192) (j : Fin 256) : @Eq EReal (View.ld (Val := Elt Ideal) (e' := .bf16) x r0_1 (ix3 0 r j)) (x (ix3 1 r j)) :=
  View.ld_unit_apply_of (Val := Elt Ideal) (e := .bf16) x _ _ inb_S8x192x256_S1x192x256_1_0_0 (ix3 0 r j) (ix3 1 r j) (fun a => by fin_cases a <;> simp [ix3])

/-- Part 2 of the block of parts, read. -/
theorem ld_2 (x : FVec Ideal S8x192x256 .bf16) (r : Fin 192) (j : Fin 256) : @Eq EReal (View.ld (Val := Elt Ideal) (e' := .bf16) x r0_2 (ix3 0 r j)) (x (ix3 2 r j)) :=
  View.ld_unit_apply_of (Val := Elt Ideal) (e := .bf16) x _ _ inb_S8x192x256_S1x192x256_2_0_0 (ix3 0 r j) (ix3 2 r j) (fun a => by fin_cases a <;> simp [ix3])

/-- Part 3 of the block of parts, read. -/
theorem ld_3 (x : FVec Ideal S8x192x256 .bf16) (r : Fin 192) (j : Fin 256) : @Eq EReal (View.ld (Val := Elt Ideal) (e' := .bf16) x r0_3 (ix3 0 r j)) (x (ix3 3 r j)) :=
  View.ld_unit_apply_of (Val := Elt Ideal) (e := .bf16) x _ _ inb_S8x192x256_S1x192x256_3_0_0 (ix3 0 r j) (ix3 3 r j) (fun a => by fin_cases a <;> simp [ix3])

/-- Part 4 of the block of parts, read. -/
theorem ld_4 (x : FVec Ideal S8x192x256 .bf16) (r : Fin 192) (j : Fin 256) : @Eq EReal (View.ld (Val := Elt Ideal) (e' := .bf16) x r0_4 (ix3 0 r j)) (x (ix3 4 r j)) :=
  View.ld_unit_apply_of (Val := Elt Ideal) (e := .bf16) x _ _ inb_S8x192x256_S1x192x256_4_0_0 (ix3 0 r j) (ix3 4 r j) (fun a => by fin_cases a <;> simp [ix3])

/-- Part 5 of the block of parts, read. -/
theorem ld_5 (x : FVec Ideal S8x192x256 .bf16) (r : Fin 192) (j : Fin 256) : @Eq EReal (View.ld (Val := Elt Ideal) (e' := .bf16) x r0_5 (ix3 0 r j)) (x (ix3 5 r j)) :=
  View.ld_unit_apply_of (Val := Elt Ideal) (e := .bf16) x _ _ inb_S8x192x256_S1x192x256_5_0_0 (ix3 0 r j) (ix3 5 r j) (fun a => by fin_cases a <;> simp [ix3])

/-- Part 6 of the block of parts, read. -/
theorem ld_6 (x : FVec Ideal S8x192x256 .bf16) (r : Fin 192) (j : Fin 256) : @Eq EReal (View.ld (Val := Elt Ideal) (e' := .bf16) x r0_6 (ix3 0 r j)) (x (ix3 6 r j)) :=
  View.ld_unit_apply_of (Val := Elt Ideal) (e := .bf16) x _ _ inb_S8x192x256_S1x192x256_6_0_0 (ix3 0 r j) (ix3 6 r j) (fun a => by fin_cases a <;> simp [ix3])

/-- Part 7 of the block of parts, read. -/
theorem ld_7 (x : FVec Ideal S8x192x256 .bf16) (r : Fin 192) (j : Fin 256) : @Eq EReal (View.ld (Val := Elt Ideal) (e' := .bf16) x r0_7 (ix3 0 r j)) (x (ix3 7 r j)) :=
  View.ld_unit_apply_of (Val := Elt Ideal) (e := .bf16) x _ _ inb_S8x192x256_S1x192x256_7_0_0 (ix3 0 r j) (ix3 7 r j) (fun a => by fin_cases a <;> simp [ix3])

/-- The body's sum of the parts in its block. -/
theorem total_at (x : FVec Ideal S8x192x256 .bf16) (w mm vv : FVec Ideal S1x192x256 .f32) (r : Fin 192) (j : Fin 256) :
    @Eq EReal (k0_pay8 (F := Ideal) x w mm vv (ix2 r j)) (total fun s => x (ix3 s r j)) := by
  refine (sum_at _ _ _ _ _ _ _ _ r j).trans ?_
  rw [ld_0, ld_1, ld_2, ld_3, ld_4, ld_5, ld_6, ld_7]
  exact total_eq fun s => x (ix3 s r j)

variable {m : (ℓ : Loc nD τ sig) → Buf (Elt Ideal) ℓ} {c : Dev nD}

/-- Each argument and each result is one block. -/
theorem idx : ∀ t : Fin cfg0.N, (win0_0.index t = ![0, 0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0, 0]) ∧ t.val < 1 :=
  (by decide +kernel : ∀ t : Fin grid0.N, _)

/-- An entry of the parts block. -/
theorem iblk_parts (t : Fin cfg0.N) (s : Fin 8) (r : Fin 192) (j : Fin 256) :
    @Eq EReal (iblk m c 0 t (ix3 s r j)) (m ((c.tc : Thread nD τ).loc main_arg0) (ix3 s r j)) := by
  obtain ⟨⟨e0, e1, e2, e3⟩, -, hN⟩ := idx t
  blk_ext [iblk, V, e0]

/-- An entry of the weight's block. -/
theorem iblk_w (t : Fin cfg0.N) (r : Fin 192) (j : Fin 256) :
    @Eq EReal (iblk m c 1 t (ix3 0 r j)) (m ((c.tc : Thread nD τ).loc main_arg1) (ix3 0 r j)) := by
  obtain ⟨⟨e0, e1, e2, e3⟩, -, hN⟩ := idx t
  blk_ext [iblk, V, e1]

/-- An entry of the first moment's block. -/
theorem iblk_m (t : Fin cfg0.N) (r : Fin 192) (j : Fin 256) :
    @Eq EReal (iblk m c 2 t (ix3 0 r j)) (m ((c.tc : Thread nD τ).loc main_arg2) (ix3 0 r j)) := by
  obtain ⟨⟨e0, e1, e2, e3⟩, -, hN⟩ := idx t
  blk_ext [iblk, V, e2]

/-- An entry of the second moment's block. -/
theorem iblk_v (t : Fin cfg0.N) (r : Fin 192) (j : Fin 256) :
    @Eq EReal (iblk m c 3 t (ix3 0 r j)) (m ((c.tc : Thread nD τ).loc main_arg3) (ix3 0 r j)) := by
  obtain ⟨⟨e0, e1, e2, e3⟩, -, hN⟩ := idx t
  blk_ext [iblk, V, e3]

/-- The body's sum of the parts, at a point. -/
theorem total_pt (t : Fin cfg0.N) (r : Fin 192) (j : Fin 256) :
    @Eq EReal (k0_pay8 (F := Ideal) (iblk m c 0 t) (iblk m c 1 t) (iblk m c 2 t) (iblk m c 3 t) (ix2 r j)) (total (partsAt (m ((c.tc : Thread nD τ).loc main_arg0)) r j)) :=
  (total_at _ _ _ _ r j).trans (congrArg total (funext fun s => iblk_parts t s r j))

/-- What a point leaves of the gradient. -/
theorem out4_at (t : Fin cfg0.N) (r : Fin 192) (j : Fin 256) :
    @Eq EReal (out0_4 (F := Ideal) (iblk m c 0 t) (iblk m c 1 t) (iblk m c 2 t) (iblk m c 3 t) (ix3 0 r j)) (total (partsAt (m ((c.tc : Thread nD τ).loc main_arg0)) r j)) := by
  frame_out
  exact (grad_at _ r j).trans (total_pt t r j)

/-- What a point leaves of the change of the weight. -/
theorem out5_at (t : Fin cfg0.N) (r : Fin 192) (j : Fin 256) :
    @Eq EReal (out0_5 (F := Ideal) (iblk m c 0 t) (iblk m c 1 t) (iblk m c 2 t) (iblk m c 3 t) (ix3 0 r j)) (delta (total (partsAt (m ((c.tc : Thread nD τ).loc main_arg0)) r j)) (m ((c.tc : Thread nD τ).loc main_arg1) (ix3 0 r j)) (m ((c.tc : Thread nD τ).loc main_arg2) (ix3 0 r j)) (m ((c.tc : Thread nD τ).loc main_arg3) (ix3 0 r j))) := by
  frame_out
  refine (delta_at _ _ _ _ r j).trans ?_
  exact congr (congr (congr (congrArg delta (total_pt t r j)) (iblk_w t r j)) (iblk_m t r j)) (iblk_v t r j)

/-- What a point leaves of the new first moment. -/
theorem out6_at (t : Fin cfg0.N) (r : Fin 192) (j : Fin 256) :
    @Eq EReal (out0_6 (F := Ideal) (iblk m c 0 t) (iblk m c 1 t) (iblk m c 2 t) (iblk m c 3 t) (ix3 0 r j)) (newM (total (partsAt (m ((c.tc : Thread nD τ).loc main_arg0)) r j)) (m ((c.tc : Thread nD τ).loc main_arg2) (ix3 0 r j))) := by
  frame_out
  refine (moment_at _ _ r j).trans ?_
  exact congrArg₂ newM (total_pt t r j) (iblk_m t r j)

/-- What a point leaves of the new second moment. -/
theorem out7_at (t : Fin cfg0.N) (r : Fin 192) (j : Fin 256) :
    @Eq EReal (out0_7 (F := Ideal) (iblk m c 0 t) (iblk m c 1 t) (iblk m c 2 t) (iblk m c 3 t) (ix3 0 r j)) (newV (total (partsAt (m ((c.tc : Thread nD τ).loc main_arg0)) r j)) (m ((c.tc : Thread nD τ).loc main_arg3) (ix3 0 r j))) := by
  frame_out
  refine (square_at _ _ r j).trans ?_
  exact congrArg₂ newV (total_pt t r j) (iblk_v t r j)

/-- The gradient, an entry of the result. -/
theorem res4_at (i : S1x192x256.Idx) :
    @Eq EReal ((dats m 0 c).arrAt 4 cfg0.N i) (total (partsAt (m ((c.tc : Thread nD τ).loc main_arg0)) (i 1) (i 2))) := by
  refine (dats m 0 c).arrAt_forall_of_covers 4 (fun i v => @Eq EReal v (total (partsAt (m ((c.tc : Thread nD τ).loc main_arg0)) (i 1) (i 2))))
    (by decide +kernel) (fun t hf y => ?_) i
  obtain ⟨-, ⟨e4, e5, e6, e7⟩, hN⟩ := idx t
  blk_simp [e4]
  rw [after0_4]
  idx_vars y
  have e : ((View.whole main_v0_0).slice (win0_4.rect t)).emb (ix3 y0 y1 y2) = ix3 0 y1 y2 := by
    blk_ext [e4]
  rw [e, Subsingleton.elim y0 0]
  exact out4_at t y1 y2

/-- The change of the weight, an entry of the result. -/
theorem res5_at (i : S1x192x256.Idx) :
    @Eq EReal ((dats m 0 c).arrAt 5 cfg0.N i) (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))) := by
  refine (dats m 0 c).arrAt_forall_of_covers 5 (fun i v => @Eq EReal v (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e5]
  rw [after0_5]
  idx_vars y
  have e : ((View.whole main_v0_1).slice (win0_5.rect t)).emb (ix3 y0 y1 y2) = ix3 0 y1 y2 := by
    blk_ext [e5]
  rw [e, Subsingleton.elim y0 0]
  exact out5_at t y1 y2

/-- The new first moment, an entry of the result. -/
theorem res6_at (i : S1x192x256.Idx) :
    @Eq EReal ((dats m 0 c).arrAt 6 cfg0.N i) (newM (total (partsAt (m ((c.tc : Thread nD τ).loc main_arg0)) (i 1) (i 2))) (m ((c.tc : Thread nD τ).loc main_arg2) (ix3 0 (i 1) (i 2)))) := by
  refine (dats m 0 c).arrAt_forall_of_covers 6 (fun i v => @Eq EReal v (newM (total (partsAt (m ((c.tc : Thread nD τ).loc main_arg0)) (i 1) (i 2))) (m ((c.tc : Thread nD τ).loc main_arg2) (ix3 0 (i 1) (i 2)))))
    (by decide +kernel) (fun t hf y => ?_) i
  obtain ⟨-, ⟨e4, e5, e6, e7⟩, hN⟩ := idx t
  blk_simp [e6]
  rw [after0_6]
  idx_vars y
  have e : ((View.whole main_v0_2).slice (win0_6.rect t)).emb (ix3 y0 y1 y2) = ix3 0 y1 y2 := by
    blk_ext [e6]
  rw [e, Subsingleton.elim y0 0]
  exact out6_at t y1 y2

/-- The new second moment, an entry of the result. -/
theorem res7_at (i : S1x192x256.Idx) :
    @Eq EReal ((dats m 0 c).arrAt 7 cfg0.N i) (newV (total (partsAt (m ((c.tc : Thread nD τ).loc main_arg0)) (i 1) (i 2))) (m ((c.tc : Thread nD τ).loc main_arg3) (ix3 0 (i 1) (i 2)))) := by
  refine (dats m 0 c).arrAt_forall_of_covers 7 (fun i v => @Eq EReal v (newV (total (partsAt (m ((c.tc : Thread nD τ).loc main_arg0)) (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e7]
  rw [after0_7]
  idx_vars y
  have e : ((View.whole main_v0_3).slice (win0_7.rect t)).emb (ix3 y0 y1 y2) = ix3 0 y1 y2 := by
    blk_ext [e7]
  rw [e, Subsingleton.elim y0 0]
  exact out7_at t y1 y2

end Cert.Kernel17Ideal.Value

namespace Cert.Reference17Ideal.Value
open Cert.Reference17Ideal Cert.Reference17Ideal.Gen Cert.Adam

/-- The reference's gradient. -/
def gradOf (p : FVec Ideal S8x192x256 .bf16) : FVec Ideal S1x192x256 .f32 :=
  broadcastInDim S1x192x256 ![1, 2] bcast_S192x256_S1x192x256_1_2 (Host.reduceAdd (extf .f32 p bitsLt_bf16_f32) (constant S_ .f32 0x00000000#32) reducesTo_S8x192x256_S192x256_d0 h_S_)

/-- The reference's new first moment. -/
def newMOf (p : FVec Ideal S8x192x256 .bf16) (mm : FVec Ideal S1x192x256 .f32) : FVec Ideal S1x192x256 .f32 :=
  addf (mulf (broadcastInDim S1x192x256 ![] bcast_S_S1x192x256 (constant S_ .f32 0x3F666666#32)) mm) (mulf (broadcastInDim S1x192x256 ![] bcast_S_S1x192x256 (constant S_ .f32 0x3DCCCCCD#32)) (gradOf p))

/-- The reference's new second moment. -/
def newVOf (p : FVec Ideal S8x192x256 .bf16) (vv : FVec Ideal S1x192x256 .f32) : FVec Ideal S1x192x256 .f32 :=
  addf (mulf (broadcastInDim S1x192x256 ![] bcast_S_S1x192x256 (constant S_ .f32 0x3F7FBE77#32)) vv) (mulf (broadcastInDim S1x192x256 ![] bcast_S_S1x192x256 (constant S_ .f32 0x3A83126F#32)) (mulf (gradOf p) (gradOf p)))

/-- The reference's change of the weight. -/
def deltaOf (p : FVec Ideal S8x192x256 .bf16) (ww mm vv : FVec Ideal S1x192x256 .f32) : FVec Ideal S1x192x256 .f32 :=
  mulf (broadcastInDim S1x192x256 ![] bcast_S_S1x192x256 (constant S_ .f32 0xBA83126F#32)) (addf (Host.divf (Host.divf (newMOf p mm) (broadcastInDim S1x192x256 ![] bcast_S_S1x192x256 (constant S_ .f32 0x3F26BD02#32))) (addf (Host.sqrt (Host.divf (newVOf p vv) (broadcastInDim S1x192x256 ![] bcast_S_S1x192x256 (constant S_ .f32 0x3C231ACC#32)))) (broadcastInDim S1x192x256 ![] bcast_S_S1x192x256 (constant S_ .f32 0x322BCC77#32)))) (mulf (broadcastInDim S1x192x256 ![] bcast_S_S1x192x256 (constant S_ .f32 0x3C23D70A#32)) ww))

/-- An entry of the reference's gradient. -/
theorem gradOf_at (p : FVec Ideal S8x192x256 .bf16) (r : Fin 192) (j : Fin 256) : @Eq EReal (gradOf p (ix3 0 r j)) (total fun s => p (ix3 s r j)) := by
  pointwise [gradOf]
  rfl

/-- An entry of the reference's new first moment. -/
theorem newMOf_at (p : FVec Ideal S8x192x256 .bf16) (mm : FVec Ideal S1x192x256 .f32) (r : Fin 192) (j : Fin 256) :
    @Eq EReal (newMOf p mm (ix3 0 r j)) (newM (total fun s => p (ix3 s r j)) (mm (ix3 0 r j))) := by
  pointwise [newMOf, gradOf_at]
  rfl

/-- An entry of the reference's new second moment. -/
theorem newVOf_at (p : FVec Ideal S8x192x256 .bf16) (vv : FVec Ideal S1x192x256 .f32) (r : Fin 192) (j : Fin 256) :
    @Eq EReal (newVOf p vv (ix3 0 r j)) (newV (total fun s => p (ix3 s r j)) (vv (ix3 0 r j))) := by
  pointwise [newVOf, gradOf_at]
  rfl

/-- An entry of the reference's change of the weight. -/
theorem deltaOf_at (p : FVec Ideal S8x192x256 .bf16) (ww mm vv : FVec Ideal S1x192x256 .f32) (r : Fin 192) (j : Fin 256) :
    @Eq EReal (deltaOf p ww mm vv (ix3 0 r j)) (delta (total fun s => p (ix3 s r j)) (ww (ix3 0 r j)) (mm (ix3 0 r j)) (vv (ix3 0 r j))) := by
  pointwise [deltaOf, newMOf_at, newVOf_at]
  rfl

end Cert.Reference17Ideal.Value

namespace Cert.Proof

/-- Every index of a result has its first coordinate zero. -/
theorem ix_zero17 (i : Cert.Kernel17Ideal.S1x192x256.Idx) : i = ix3 0 (i 1) (i 2) :=
  (eq_ix3 i).trans (congrArg (fun a => ix3 a (i 1) (i 2)) (Subsingleton.elim (α := Fin 1) _ _))

/-- The four results of the call are the reference's. -/
theorem value17 : Cert.algebraic_Kernel17Ideal_Reference17Ideal := by
  intro m ρ m' ρ' _ hagree
  refine ⟨_, _, _, _, Cert.Kernel17Ideal.Value.run_blocks (F := Ideal) m ρ, ?_⟩
  refine (θ_run Cert.Reference17Ideal.defs _ _).mono (fun _ h c => ?_) (Cert.Reference17Ideal.Value.run (F := Ideal) m' ρ')
  obtain ⟨a0, a1, a2, a3⟩ := hagree c
  obtain ⟨r0, r1, r2, r3, kept⟩ := h c
  refine ⟨r0.trans ?_, r1.trans ?_, r2.trans ?_, r3.trans ?_, kept⟩
  · funext i
    refine Eq.trans ?_ (Cert.Kernel17Ideal.Value.res4_at i).symm
    rw [ix_zero17 i]
    refine (Cert.Reference17Ideal.Value.gradOf_at _ _ _).trans ?_
    rw [a0]
    rfl
  · funext i
    refine Eq.trans ?_ (Cert.Kernel17Ideal.Value.res5_at i).symm
    rw [ix_zero17 i]
    refine (Cert.Reference17Ideal.Value.deltaOf_at _ _ _ _ _ _).trans ?_
    rw [a0, a1, a2, a3]
    rfl
  · funext i
    refine Eq.trans ?_ (Cert.Kernel17Ideal.Value.res6_at i).symm
    rw [ix_zero17 i]
    refine (Cert.Reference17Ideal.Value.newMOf_at _ _ _ _).trans ?_
    rw [a0, a2]
    rfl
  · funext i
    refine Eq.trans ?_ (Cert.Kernel17Ideal.Value.res7_at i).symm
    rw [ix_zero17 i]
    refine (Cert.Reference17Ideal.Value.newVOf_at _ _ _ _).trans ?_
    rw [a0, a3]
    rfl

end Cert.Proof
-- ==== Proof.AdamWKvB.lean ====
module

public import proofs.«01_k».proof.Defs
public import proofs.«01_k».proof.Proof.Gen.Kernel18Ideal.Value
public import proofs.«01_k».proof.Proof.Gen.Reference18Ideal.Run
public import proofs.«01_k».proof.Proof.AdamReals
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `adamw_w_kv_b` computes one step of AdamW -/

noncomputable section

open Idealize.ShloMosaic Idealize.ShloMosaic.TcCoe Idealize.SL.Sem Idealize.ShloMosaic.StableHlo

namespace Cert.Kernel18Ideal.Value
open Cert.Kernel18Ideal Cert.Kernel18Ideal.Gen Cert.Adam

/-- The eight parts of an entry of the gradient. -/
def partsAt (p : FVec Ideal S8x128x256 .bf16) (r : Fin 128) (j : Fin 256) (s : Fin 8) : EReal := p (ix3 s r j)

/-- An entry of the body's sum of the eight parts. -/
theorem sum_at (u0 u1 u2 u3 u4 u5 u6 u7 : FVec Ideal S1x128x256 .bf16) (r : Fin 128) (j : Fin 256) :
    @Eq EReal (k0_pay3 (F := Ideal) u0 u1 u2 u3 u4 u5 u6 u7 (ix2 r j)) (u0 (ix3 0 r j) + u1 (ix3 0 r j) + u2 (ix3 0 r j) + u3 (ix3 0 r j) + u4 (ix3 0 r j) + u5 (ix3 0 r j) + u6 (ix3 0 r j) + u7 (ix3 0 r j)) := by
  pointwise [k0_pay3]

/-- An entry of the gradient as the body writes it. -/
theorem grad_at (u : FVec Ideal S128x256 .f32) (r : Fin 128) (j : Fin 256) :
    @Eq EReal (k0_pay6 (F := Ideal) u (ix3 0 r j)) (u (ix2 r j)) := by
  pointwise [k0_pay6]

/-- An entry of the new first moment. -/
theorem moment_at (u : FVec Ideal S128x256 .f32) (mm : FVec Ideal S1x128x256 .f32) (r : Fin 128) (j : Fin 256) :
    @Eq EReal (k0_pay1 (F := Ideal) (k0_pay4 (F := Ideal) u mm) (ix3 0 r j)) (newM (u (ix2 r j)) (mm (ix3 0 r j))) := by
  pointwise [k0_pay1, k0_pay4]
  rfl

/-- An entry of the change of the weight. -/
theorem delta_at (u : FVec Ideal S128x256 .f32) (mm vv ww : FVec Ideal S1x128x256 .f32) (r : Fin 128) (j : Fin 256) :
    @Eq EReal (k0_pay7 (F := Ideal) u mm vv ww (ix3 0 r j)) (delta (u (ix2 r j)) (ww (ix3 0 r j)) (mm (ix3 0 r j)) (vv (ix3 0 r j))) := by
  pointwise [k0_pay7, k0_pay4, k0_pay5]
  rfl

/-- An entry of the new second moment. -/
theorem square_at (u : FVec Ideal S128x256 .f32) (vv : FVec Ideal S1x128x256 .f32) (r : Fin 128) (j : Fin 256) :
    @Eq EReal (k0_pay2 (F := Ideal) (k0_pay5 (F := Ideal) u vv) (ix3 0 r j)) (newV (u (ix2 r j)) (vv (ix3 0 r j))) := by
  pointwise [k0_pay2, k0_pay5]
  rfl

/-- Part 0 of the block of parts, read. -/
theorem ld_0 (x : FVec Ideal S8x128x256 .bf16) (r : Fin 128) (j : Fin 256) : @Eq EReal (View.ld (Val := Elt Ideal) (e' := .bf16) x r0_0 (ix3 0 r j)) (x (ix3 0 r j)) :=
  View.ld_unit_apply_of (Val := Elt Ideal) (e := .bf16) x _ _ inb_S8x128x256_S1x128x256_0_0_0 (ix3 0 r j) (ix3 0 r j) (fun a => by fin_cases a <;> simp [ix3])

/-- Part 1 of the block of parts, read. -/
theorem ld_1 (x : FVec Ideal S8x128x256 .bf16) (r : Fin 128) (j : Fin 256) : @Eq EReal (View.ld (Val := Elt Ideal) (e' := .bf16) x r0_1 (ix3 0 r j)) (x (ix3 1 r j)) :=
  View.ld_unit_apply_of (Val := Elt Ideal) (e := .bf16) x _ _ inb_S8x128x256_S1x128x256_1_0_0 (ix3 0 r j) (ix3 1 r j) (fun a => by fin_cases a <;> simp [ix3])

/-- Part 2 of the block of parts, read. -/
theorem ld_2 (x : FVec Ideal S8x128x256 .bf16) (r : Fin 128) (j : Fin 256) : @Eq EReal (View.ld (Val := Elt Ideal) (e' := .bf16) x r0_2 (ix3 0 r j)) (x (ix3 2 r j)) :=
  View.ld_unit_apply_of (Val := Elt Ideal) (e := .bf16) x _ _ inb_S8x128x256_S1x128x256_2_0_0 (ix3 0 r j) (ix3 2 r j) (fun a => by fin_cases a <;> simp [ix3])

/-- Part 3 of the block of parts, read. -/
theorem ld_3 (x : FVec Ideal S8x128x256 .bf16) (r : Fin 128) (j : Fin 256) : @Eq EReal (View.ld (Val := Elt Ideal) (e' := .bf16) x r0_3 (ix3 0 r j)) (x (ix3 3 r j)) :=
  View.ld_unit_apply_of (Val := Elt Ideal) (e := .bf16) x _ _ inb_S8x128x256_S1x128x256_3_0_0 (ix3 0 r j) (ix3 3 r j) (fun a => by fin_cases a <;> simp [ix3])

/-- Part 4 of the block of parts, read. -/
theorem ld_4 (x : FVec Ideal S8x128x256 .bf16) (r : Fin 128) (j : Fin 256) : @Eq EReal (View.ld (Val := Elt Ideal) (e' := .bf16) x r0_4 (ix3 0 r j)) (x (ix3 4 r j)) :=
  View.ld_unit_apply_of (Val := Elt Ideal) (e := .bf16) x _ _ inb_S8x128x256_S1x128x256_4_0_0 (ix3 0 r j) (ix3 4 r j) (fun a => by fin_cases a <;> simp [ix3])

/-- Part 5 of the block of parts, read. -/
theorem ld_5 (x : FVec Ideal S8x128x256 .bf16) (r : Fin 128) (j : Fin 256) : @Eq EReal (View.ld (Val := Elt Ideal) (e' := .bf16) x r0_5 (ix3 0 r j)) (x (ix3 5 r j)) :=
  View.ld_unit_apply_of (Val := Elt Ideal) (e := .bf16) x _ _ inb_S8x128x256_S1x128x256_5_0_0 (ix3 0 r j) (ix3 5 r j) (fun a => by fin_cases a <;> simp [ix3])

/-- Part 6 of the block of parts, read. -/
theorem ld_6 (x : FVec Ideal S8x128x256 .bf16) (r : Fin 128) (j : Fin 256) : @Eq EReal (View.ld (Val := Elt Ideal) (e' := .bf16) x r0_6 (ix3 0 r j)) (x (ix3 6 r j)) :=
  View.ld_unit_apply_of (Val := Elt Ideal) (e := .bf16) x _ _ inb_S8x128x256_S1x128x256_6_0_0 (ix3 0 r j) (ix3 6 r j) (fun a => by fin_cases a <;> simp [ix3])

/-- Part 7 of the block of parts, read. -/
theorem ld_7 (x : FVec Ideal S8x128x256 .bf16) (r : Fin 128) (j : Fin 256) : @Eq EReal (View.ld (Val := Elt Ideal) (e' := .bf16) x r0_7 (ix3 0 r j)) (x (ix3 7 r j)) :=
  View.ld_unit_apply_of (Val := Elt Ideal) (e := .bf16) x _ _ inb_S8x128x256_S1x128x256_7_0_0 (ix3 0 r j) (ix3 7 r j) (fun a => by fin_cases a <;> simp [ix3])

/-- The body's sum of the parts in its block. -/
theorem total_at (x : FVec Ideal S8x128x256 .bf16) (w mm vv : FVec Ideal S1x128x256 .f32) (r : Fin 128) (j : Fin 256) :
    @Eq EReal (k0_pay8 (F := Ideal) x w mm vv (ix2 r j)) (total fun s => x (ix3 s r j)) := by
  refine (sum_at _ _ _ _ _ _ _ _ r j).trans ?_
  rw [ld_0, ld_1, ld_2, ld_3, ld_4, ld_5, ld_6, ld_7]
  exact total_eq fun s => x (ix3 s r j)

variable {m : (ℓ : Loc nD τ sig) → Buf (Elt Ideal) ℓ} {c : Dev nD}

/-- Each argument and each result is one block. -/
theorem idx : ∀ t : Fin cfg0.N, (win0_0.index t = ![0, 0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0, 0]) ∧ t.val < 1 :=
  (by decide +kernel : ∀ t : Fin grid0.N, _)

/-- An entry of the parts block. -/
theorem iblk_parts (t : Fin cfg0.N) (s : Fin 8) (r : Fin 128) (j : Fin 256) :
    @Eq EReal (iblk m c 0 t (ix3 s r j)) (m ((c.tc : Thread nD τ).loc main_arg0) (ix3 s r j)) := by
  obtain ⟨⟨e0, e1, e2, e3⟩, -, hN⟩ := idx t
  blk_ext [iblk, V, e0]

/-- An entry of the weight's block. -/
theorem iblk_w (t : Fin cfg0.N) (r : Fin 128) (j : Fin 256) :
    @Eq EReal (iblk m c 1 t (ix3 0 r j)) (m ((c.tc : Thread nD τ).loc main_arg1) (ix3 0 r j)) := by
  obtain ⟨⟨e0, e1, e2, e3⟩, -, hN⟩ := idx t
  blk_ext [iblk, V, e1]

/-- An entry of the first moment's block. -/
theorem iblk_m (t : Fin cfg0.N) (r : Fin 128) (j : Fin 256) :
    @Eq EReal (iblk m c 2 t (ix3 0 r j)) (m ((c.tc : Thread nD τ).loc main_arg2) (ix3 0 r j)) := by
  obtain ⟨⟨e0, e1, e2, e3⟩, -, hN⟩ := idx t
  blk_ext [iblk, V, e2]

/-- An entry of the second moment's block. -/
theorem iblk_v (t : Fin cfg0.N) (r : Fin 128) (j : Fin 256) :
    @Eq EReal (iblk m c 3 t (ix3 0 r j)) (m ((c.tc : Thread nD τ).loc main_arg3) (ix3 0 r j)) := by
  obtain ⟨⟨e0, e1, e2, e3⟩, -, hN⟩ := idx t
  blk_ext [iblk, V, e3]

/-- The body's sum of the parts, at a point. -/
theorem total_pt (t : Fin cfg0.N) (r : Fin 128) (j : Fin 256) :
    @Eq EReal (k0_pay8 (F := Ideal) (iblk m c 0 t) (iblk m c 1 t) (iblk m c 2 t) (iblk m c 3 t) (ix2 r j)) (total (partsAt (m ((c.tc : Thread nD τ).loc main_arg0)) r j)) :=
  (total_at _ _ _ _ r j).trans (congrArg total (funext fun s => iblk_parts t s r j))

/-- What a point leaves of the gradient. -/
theorem out4_at (t : Fin cfg0.N) (r : Fin 128) (j : Fin 256) :
    @Eq EReal (out0_4 (F := Ideal) (iblk m c 0 t) (iblk m c 1 t) (iblk m c 2 t) (iblk m c 3 t) (ix3 0 r j)) (total (partsAt (m ((c.tc : Thread nD τ).loc main_arg0)) r j)) := by
  frame_out
  exact (grad_at _ r j).trans (total_pt t r j)

/-- What a point leaves of the change of the weight. -/
theorem out5_at (t : Fin cfg0.N) (r : Fin 128) (j : Fin 256) :
    @Eq EReal (out0_5 (F := Ideal) (iblk m c 0 t) (iblk m c 1 t) (iblk m c 2 t) (iblk m c 3 t) (ix3 0 r j)) (delta (total (partsAt (m ((c.tc : Thread nD τ).loc main_arg0)) r j)) (m ((c.tc : Thread nD τ).loc main_arg1) (ix3 0 r j)) (m ((c.tc : Thread nD τ).loc main_arg2) (ix3 0 r j)) (m ((c.tc : Thread nD τ).loc main_arg3) (ix3 0 r j))) := by
  frame_out
  refine (delta_at _ _ _ _ r j).trans ?_
  exact congr (congr (congr (congrArg delta (total_pt t r j)) (iblk_w t r j)) (iblk_m t r j)) (iblk_v t r j)

/-- What a point leaves of the new first moment. -/
theorem out6_at (t : Fin cfg0.N) (r : Fin 128) (j : Fin 256) :
    @Eq EReal (out0_6 (F := Ideal) (iblk m c 0 t) (iblk m c 1 t) (iblk m c 2 t) (iblk m c 3 t) (ix3 0 r j)) (newM (total (partsAt (m ((c.tc : Thread nD τ).loc main_arg0)) r j)) (m ((c.tc : Thread nD τ).loc main_arg2) (ix3 0 r j))) := by
  frame_out
  refine (moment_at _ _ r j).trans ?_
  exact congrArg₂ newM (total_pt t r j) (iblk_m t r j)

/-- What a point leaves of the new second moment. -/
theorem out7_at (t : Fin cfg0.N) (r : Fin 128) (j : Fin 256) :
    @Eq EReal (out0_7 (F := Ideal) (iblk m c 0 t) (iblk m c 1 t) (iblk m c 2 t) (iblk m c 3 t) (ix3 0 r j)) (newV (total (partsAt (m ((c.tc : Thread nD τ).loc main_arg0)) r j)) (m ((c.tc : Thread nD τ).loc main_arg3) (ix3 0 r j))) := by
  frame_out
  refine (square_at _ _ r j).trans ?_
  exact congrArg₂ newV (total_pt t r j) (iblk_v t r j)

/-- The gradient, an entry of the result. -/
theorem res4_at (i : S1x128x256.Idx) :
    @Eq EReal ((dats m 0 c).arrAt 4 cfg0.N i) (total (partsAt (m ((c.tc : Thread nD τ).loc main_arg0)) (i 1) (i 2))) := by
  refine (dats m 0 c).arrAt_forall_of_covers 4 (fun i v => @Eq EReal v (total (partsAt (m ((c.tc : Thread nD τ).loc main_arg0)) (i 1) (i 2))))
    (by decide +kernel) (fun t hf y => ?_) i
  obtain ⟨-, ⟨e4, e5, e6, e7⟩, hN⟩ := idx t
  blk_simp [e4]
  rw [after0_4]
  idx_vars y
  have e : ((View.whole main_v0_0).slice (win0_4.rect t)).emb (ix3 y0 y1 y2) = ix3 0 y1 y2 := by
    blk_ext [e4]
  rw [e, Subsingleton.elim y0 0]
  exact out4_at t y1 y2

/-- The change of the weight, an entry of the result. -/
theorem res5_at (i : S1x128x256.Idx) :
    @Eq EReal ((dats m 0 c).arrAt 5 cfg0.N i) (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))) := by
  refine (dats m 0 c).arrAt_forall_of_covers 5 (fun i v => @Eq EReal v (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e5]
  rw [after0_5]
  idx_vars y
  have e : ((View.whole main_v0_1).slice (win0_5.rect t)).emb (ix3 y0 y1 y2) = ix3 0 y1 y2 := by
    blk_ext [e5]
  rw [e, Subsingleton.elim y0 0]
  exact out5_at t y1 y2

/-- The new first moment, an entry of the result. -/
theorem res6_at (i : S1x128x256.Idx) :
    @Eq EReal ((dats m 0 c).arrAt 6 cfg0.N i) (newM (total (partsAt (m ((c.tc : Thread nD τ).loc main_arg0)) (i 1) (i 2))) (m ((c.tc : Thread nD τ).loc main_arg2) (ix3 0 (i 1) (i 2)))) := by
  refine (dats m 0 c).arrAt_forall_of_covers 6 (fun i v => @Eq EReal v (newM (total (partsAt (m ((c.tc : Thread nD τ).loc main_arg0)) (i 1) (i 2))) (m ((c.tc : Thread nD τ).loc main_arg2) (ix3 0 (i 1) (i 2)))))
    (by decide +kernel) (fun t hf y => ?_) i
  obtain ⟨-, ⟨e4, e5, e6, e7⟩, hN⟩ := idx t
  blk_simp [e6]
  rw [after0_6]
  idx_vars y
  have e : ((View.whole main_v0_2).slice (win0_6.rect t)).emb (ix3 y0 y1 y2) = ix3 0 y1 y2 := by
    blk_ext [e6]
  rw [e, Subsingleton.elim y0 0]
  exact out6_at t y1 y2

/-- The new second moment, an entry of the result. -/
theorem res7_at (i : S1x128x256.Idx) :
    @Eq EReal ((dats m 0 c).arrAt 7 cfg0.N i) (newV (total (partsAt (m ((c.tc : Thread nD τ).loc main_arg0)) (i 1) (i 2))) (m ((c.tc : Thread nD τ).loc main_arg3) (ix3 0 (i 1) (i 2)))) := by
  refine (dats m 0 c).arrAt_forall_of_covers 7 (fun i v => @Eq EReal v (newV (total (partsAt (m ((c.tc : Thread nD τ).loc main_arg0)) (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e7]
  rw [after0_7]
  idx_vars y
  have e : ((View.whole main_v0_3).slice (win0_7.rect t)).emb (ix3 y0 y1 y2) = ix3 0 y1 y2 := by
    blk_ext [e7]
  rw [e, Subsingleton.elim y0 0]
  exact out7_at t y1 y2

end Cert.Kernel18Ideal.Value

namespace Cert.Reference18Ideal.Value
open Cert.Reference18Ideal Cert.Reference18Ideal.Gen Cert.Adam

/-- The reference's gradient. -/
def gradOf (p : FVec Ideal S8x128x256 .bf16) : FVec Ideal S1x128x256 .f32 :=
  broadcastInDim S1x128x256 ![1, 2] bcast_S128x256_S1x128x256_1_2 (Host.reduceAdd (extf .f32 p bitsLt_bf16_f32) (constant S_ .f32 0x00000000#32) reducesTo_S8x128x256_S128x256_d0 h_S_)

/-- The reference's new first moment. -/
def newMOf (p : FVec Ideal S8x128x256 .bf16) (mm : FVec Ideal S1x128x256 .f32) : FVec Ideal S1x128x256 .f32 :=
  addf (mulf (broadcastInDim S1x128x256 ![] bcast_S_S1x128x256 (constant S_ .f32 0x3F666666#32)) mm) (mulf (broadcastInDim S1x128x256 ![] bcast_S_S1x128x256 (constant S_ .f32 0x3DCCCCCD#32)) (gradOf p))

/-- The reference's new second moment. -/
def newVOf (p : FVec Ideal S8x128x256 .bf16) (vv : FVec Ideal S1x128x256 .f32) : FVec Ideal S1x128x256 .f32 :=
  addf (mulf (broadcastInDim S1x128x256 ![] bcast_S_S1x128x256 (constant S_ .f32 0x3F7FBE77#32)) vv) (mulf (broadcastInDim S1x128x256 ![] bcast_S_S1x128x256 (constant S_ .f32 0x3A83126F#32)) (mulf (gradOf p) (gradOf p)))

/-- The reference's change of the weight. -/
def deltaOf (p : FVec Ideal S8x128x256 .bf16) (ww mm vv : FVec Ideal S1x128x256 .f32) : FVec Ideal S1x128x256 .f32 :=
  mulf (broadcastInDim S1x128x256 ![] bcast_S_S1x128x256 (constant S_ .f32 0xBA83126F#32)) (addf (Host.divf (Host.divf (newMOf p mm) (broadcastInDim S1x128x256 ![] bcast_S_S1x128x256 (constant S_ .f32 0x3F26BD02#32))) (addf (Host.sqrt (Host.divf (newVOf p vv) (broadcastInDim S1x128x256 ![] bcast_S_S1x128x256 (constant S_ .f32 0x3C231ACC#32)))) (broadcastInDim S1x128x256 ![] bcast_S_S1x128x256 (constant S_ .f32 0x322BCC77#32)))) (mulf (broadcastInDim S1x128x256 ![] bcast_S_S1x128x256 (constant S_ .f32 0x3C23D70A#32)) ww))

/-- An entry of the reference's gradient. -/
theorem gradOf_at (p : FVec Ideal S8x128x256 .bf16) (r : Fin 128) (j : Fin 256) : @Eq EReal (gradOf p (ix3 0 r j)) (total fun s => p (ix3 s r j)) := by
  pointwise [gradOf]
  rfl

/-- An entry of the reference's new first moment. -/
theorem newMOf_at (p : FVec Ideal S8x128x256 .bf16) (mm : FVec Ideal S1x128x256 .f32) (r : Fin 128) (j : Fin 256) :
    @Eq EReal (newMOf p mm (ix3 0 r j)) (newM (total fun s => p (ix3 s r j)) (mm (ix3 0 r j))) := by
  pointwise [newMOf, gradOf_at]
  rfl

/-- An entry of the reference's new second moment. -/
theorem newVOf_at (p : FVec Ideal S8x128x256 .bf16) (vv : FVec Ideal S1x128x256 .f32) (r : Fin 128) (j : Fin 256) :
    @Eq EReal (newVOf p vv (ix3 0 r j)) (newV (total fun s => p (ix3 s r j)) (vv (ix3 0 r j))) := by
  pointwise [newVOf, gradOf_at]
  rfl

/-- An entry of the reference's change of the weight. -/
theorem deltaOf_at (p : FVec Ideal S8x128x256 .bf16) (ww mm vv : FVec Ideal S1x128x256 .f32) (r : Fin 128) (j : Fin 256) :
    @Eq EReal (deltaOf p ww mm vv (ix3 0 r j)) (delta (total fun s => p (ix3 s r j)) (ww (ix3 0 r j)) (mm (ix3 0 r j)) (vv (ix3 0 r j))) := by
  pointwise [deltaOf, newMOf_at, newVOf_at]
  rfl

end Cert.Reference18Ideal.Value

namespace Cert.Proof

/-- Every index of a result has its first coordinate zero. -/
theorem ix_zero18 (i : Cert.Kernel18Ideal.S1x128x256.Idx) : i = ix3 0 (i 1) (i 2) :=
  (eq_ix3 i).trans (congrArg (fun a => ix3 a (i 1) (i 2)) (Subsingleton.elim (α := Fin 1) _ _))

/-- The four results of the call are the reference's. -/
theorem value18 : Cert.algebraic_Kernel18Ideal_Reference18Ideal := by
  intro m ρ m' ρ' _ hagree
  refine ⟨_, _, _, _, Cert.Kernel18Ideal.Value.run_blocks (F := Ideal) m ρ, ?_⟩
  refine (θ_run Cert.Reference18Ideal.defs _ _).mono (fun _ h c => ?_) (Cert.Reference18Ideal.Value.run (F := Ideal) m' ρ')
  obtain ⟨a0, a1, a2, a3⟩ := hagree c
  obtain ⟨r0, r1, r2, r3, kept⟩ := h c
  refine ⟨r0.trans ?_, r1.trans ?_, r2.trans ?_, r3.trans ?_, kept⟩
  · funext i
    refine Eq.trans ?_ (Cert.Kernel18Ideal.Value.res4_at i).symm
    rw [ix_zero18 i]
    refine (Cert.Reference18Ideal.Value.gradOf_at _ _ _).trans ?_
    rw [a0]
    rfl
  · funext i
    refine Eq.trans ?_ (Cert.Kernel18Ideal.Value.res5_at i).symm
    rw [ix_zero18 i]
    refine (Cert.Reference18Ideal.Value.deltaOf_at _ _ _ _ _ _).trans ?_
    rw [a0, a1, a2, a3]
    rfl
  · funext i
    refine Eq.trans ?_ (Cert.Kernel18Ideal.Value.res6_at i).symm
    rw [ix_zero18 i]
    refine (Cert.Reference18Ideal.Value.newMOf_at _ _ _ _).trans ?_
    rw [a0, a2]
    rfl
  · funext i
    refine Eq.trans ?_ (Cert.Kernel18Ideal.Value.res7_at i).symm
    rw [ix_zero18 i]
    refine (Cert.Reference18Ideal.Value.newVOf_at _ _ _ _).trans ?_
    rw [a0, a3]
    rfl

end Cert.Proof
-- ==== Proof.AdamSmall.lean ====
module

public import proofs.«01_k».proof.Defs
public import proofs.«01_k».proof.Proof.Gen.Kernel19Ideal.Value
public import proofs.«01_k».proof.Proof.Gen.Reference19Ideal.Run
public import proofs.«01_k».proof.Proof.AdamReals
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

/-! # The call `adamw_small` computes one step of AdamW -/

noncomputable section

open Idealize.ShloMosaic Idealize.ShloMosaic.TcCoe Idealize.SL.Sem Idealize.ShloMosaic.StableHlo

namespace Cert.Kernel19Ideal.Value
open Cert.Kernel19Ideal Cert.Kernel19Ideal.Gen Cert.Adam

/-- The eight parts of an entry of the gradient. -/
def partsAt (p : FVec Ideal S8x1x9728 .f32) (r : Fin 1) (j : Fin 9728) (s : Fin 8) : EReal := p (ix3 s r j)

/-- An entry of the body's sum of the eight parts. -/
theorem sum_at (u0 u1 u2 u3 u4 u5 u6 u7 : FVec Ideal S1x1x9728 .f32) (r : Fin 1) (j : Fin 9728) :
    @Eq EReal (k0_pay2 (F := Ideal) u0 u1 u2 u3 u4 u5 u6 u7 (ix2 r j)) (u0 (ix3 0 r j) + u1 (ix3 0 r j) + u2 (ix3 0 r j) + u3 (ix3 0 r j) + u4 (ix3 0 r j) + u5 (ix3 0 r j) + u6 (ix3 0 r j) + u7 (ix3 0 r j)) := by
  obtain rfl : r = 0 := Subsingleton.elim r 0
  pointwise [k0_pay2]

/-- An entry of the gradient as the body writes it. -/
theorem grad_at (u : FVec Ideal S1x9728 .f32) (r : Fin 1) (j : Fin 9728) :
    @Eq EReal (k0_pay5 (F := Ideal) u (ix3 0 r j)) (u (ix2 r j)) := by
  obtain rfl : r = 0 := Subsingleton.elim r 0
  pointwise [k0_pay5]

/-- An entry of the new first moment. -/
theorem moment_at (u0 u1 u2 u3 u4 u5 u6 u7 mm : FVec Ideal S1x1x9728 .f32) (r : Fin 1) (j : Fin 9728) :
    @Eq EReal (k0_pay7 (F := Ideal) (k0_pay3 (F := Ideal) u0 u1 u2 u3 u4 u5 u6 u7 mm) (ix3 0 r j)) (newM (k0_pay2 (F := Ideal) u0 u1 u2 u3 u4 u5 u6 u7 (ix2 r j)) (mm (ix3 0 r j))) := by
  obtain rfl : r = 0 := Subsingleton.elim r 0
  pointwise [k0_pay7, k0_pay3]
  rfl

/-- An entry of the change of the weight. -/
theorem delta_at (u0 u1 u2 u3 u4 u5 u6 u7 mm vv ww : FVec Ideal S1x1x9728 .f32) (r : Fin 1) (j : Fin 9728) :
    @Eq EReal (k0_pay6 (F := Ideal) (k0_pay2 (F := Ideal) u0 u1 u2 u3 u4 u5 u6 u7) (k0_pay3 (F := Ideal) u0 u1 u2 u3 u4 u5 u6 u7 mm) vv ww (ix3 0 r j))
      (delta (k0_pay2 (F := Ideal) u0 u1 u2 u3 u4 u5 u6 u7 (ix2 r j)) (ww (ix3 0 r j)) (mm (ix3 0 r j)) (vv (ix3 0 r j))) := by
  obtain rfl : r = 0 := Subsingleton.elim r 0
  pointwise [k0_pay6, k0_pay3, k0_pay4]
  rfl

/-- An entry of the new second moment. -/
theorem square_at (u : FVec Ideal S1x9728 .f32) (vv : FVec Ideal S1x1x9728 .f32) (r : Fin 1) (j : Fin 9728) :
    @Eq EReal (k0_pay1 (F := Ideal) (k0_pay4 (F := Ideal) u vv) (ix3 0 r j)) (newV (u (ix2 r j)) (vv (ix3 0 r j))) := by
  obtain rfl : r = 0 := Subsingleton.elim r 0
  pointwise [k0_pay1, k0_pay4]
  rfl

/-- The whole of a block, read. -/
theorem ld_whole (x : FVec Ideal S1x1x9728 .f32) (r : Fin 1) (j : Fin 9728) : @Eq EReal (View.ld (Val := Elt Ideal) (e' := .f32) x r0_8 (ix3 0 r j)) (x (ix3 0 r j)) :=
  View.ld_unit_apply_of (Val := Elt Ideal) (e := .f32) x _ _ inb_S1x1x9728_S1x1x9728_0_0_0 (ix3 0 r j) (ix3 0 r j) (fun a => by fin_cases a <;> simp [ix3])

/-- Part 0 of the block of parts, read. -/
theorem ld_0 (x : FVec Ideal S8x1x9728 .f32) (r : Fin 1) (j : Fin 9728) : @Eq EReal (View.ld (Val := Elt Ideal) (e' := .f32) x r0_0 (ix3 0 r j)) (x (ix3 0 r j)) :=
  View.ld_unit_apply_of (Val := Elt Ideal) (e := .f32) x _ _ inb_S8x1x9728_S1x1x9728_0_0_0 (ix3 0 r j) (ix3 0 r j) (fun a => by fin_cases a <;> simp [ix3])

/-- Part 1 of the block of parts, read. -/
theorem ld_1 (x : FVec Ideal S8x1x9728 .f32) (r : Fin 1) (j : Fin 9728) : @Eq EReal (View.ld (Val := Elt Ideal) (e' := .f32) x r0_1 (ix3 0 r j)) (x (ix3 1 r j)) :=
  View.ld_unit_apply_of (Val := Elt Ideal) (e := .f32) x _ _ inb_S8x1x9728_S1x1x9728_1_0_0 (ix3 0 r j) (ix3 1 r j) (fun a => by fin_cases a <;> simp [ix3])

/-- Part 2 of the block of parts, read. -/
theorem ld_2 (x : FVec Ideal S8x1x9728 .f32) (r : Fin 1) (j : Fin 9728) : @Eq EReal (View.ld (Val := Elt Ideal) (e' := .f32) x r0_2 (ix3 0 r j)) (x (ix3 2 r j)) :=
  View.ld_unit_apply_of (Val := Elt Ideal) (e := .f32) x _ _ inb_S8x1x9728_S1x1x9728_2_0_0 (ix3 0 r j) (ix3 2 r j) (fun a => by fin_cases a <;> simp [ix3])

/-- Part 3 of the block of parts, read. -/
theorem ld_3 (x : FVec Ideal S8x1x9728 .f32) (r : Fin 1) (j : Fin 9728) : @Eq EReal (View.ld (Val := Elt Ideal) (e' := .f32) x r0_3 (ix3 0 r j)) (x (ix3 3 r j)) :=
  View.ld_unit_apply_of (Val := Elt Ideal) (e := .f32) x _ _ inb_S8x1x9728_S1x1x9728_3_0_0 (ix3 0 r j) (ix3 3 r j) (fun a => by fin_cases a <;> simp [ix3])

/-- Part 4 of the block of parts, read. -/
theorem ld_4 (x : FVec Ideal S8x1x9728 .f32) (r : Fin 1) (j : Fin 9728) : @Eq EReal (View.ld (Val := Elt Ideal) (e' := .f32) x r0_4 (ix3 0 r j)) (x (ix3 4 r j)) :=
  View.ld_unit_apply_of (Val := Elt Ideal) (e := .f32) x _ _ inb_S8x1x9728_S1x1x9728_4_0_0 (ix3 0 r j) (ix3 4 r j) (fun a => by fin_cases a <;> simp [ix3])

/-- Part 5 of the block of parts, read. -/
theorem ld_5 (x : FVec Ideal S8x1x9728 .f32) (r : Fin 1) (j : Fin 9728) : @Eq EReal (View.ld (Val := Elt Ideal) (e' := .f32) x r0_5 (ix3 0 r j)) (x (ix3 5 r j)) :=
  View.ld_unit_apply_of (Val := Elt Ideal) (e := .f32) x _ _ inb_S8x1x9728_S1x1x9728_5_0_0 (ix3 0 r j) (ix3 5 r j) (fun a => by fin_cases a <;> simp [ix3])

/-- Part 6 of the block of parts, read. -/
theorem ld_6 (x : FVec Ideal S8x1x9728 .f32) (r : Fin 1) (j : Fin 9728) : @Eq EReal (View.ld (Val := Elt Ideal) (e' := .f32) x r0_6 (ix3 0 r j)) (x (ix3 6 r j)) :=
  View.ld_unit_apply_of (Val := Elt Ideal) (e := .f32) x _ _ inb_S8x1x9728_S1x1x9728_6_0_0 (ix3 0 r j) (ix3 6 r j) (fun a => by fin_cases a <;> simp [ix3])

/-- Part 7 of the block of parts, read. -/
theorem ld_7 (x : FVec Ideal S8x1x9728 .f32) (r : Fin 1) (j : Fin 9728) : @Eq EReal (View.ld (Val := Elt Ideal) (e' := .f32) x r0_7 (ix3 0 r j)) (x (ix3 7 r j)) :=
  View.ld_unit_apply_of (Val := Elt Ideal) (e := .f32) x _ _ inb_S8x1x9728_S1x1x9728_7_0_0 (ix3 0 r j) (ix3 7 r j) (fun a => by fin_cases a <;> simp [ix3])

/-- The body's sum of the parts in its block. -/
theorem total_at (x : FVec Ideal S8x1x9728 .f32) (w mm vv : FVec Ideal S1x1x9728 .f32) (r : Fin 1) (j : Fin 9728) :
    @Eq EReal (k0_pay8 (F := Ideal) x w mm vv (ix2 r j)) (total fun s => x (ix3 s r j)) := by
  refine (sum_at _ _ _ _ _ _ _ _ r j).trans ?_
  rw [ld_0, ld_1, ld_2, ld_3, ld_4, ld_5, ld_6, ld_7]
  exact total_eq fun s => x (ix3 s r j)

variable {m : (ℓ : Loc nD τ sig) → Buf (Elt Ideal) ℓ} {c : Dev nD}

/-- Each argument and each result is one block. -/
theorem idx : ∀ t : Fin cfg0.N, (win0_0.index t = ![0, 0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0, 0]) ∧ t.val < 1 :=
  (by decide +kernel : ∀ t : Fin grid0.N, _)

/-- An entry of the parts block. -/
theorem iblk_parts (t : Fin cfg0.N) (s : Fin 8) (r : Fin 1) (j : Fin 9728) :
    @Eq EReal (iblk m c 0 t (ix3 s r j)) (m ((c.tc : Thread nD τ).loc main_arg0) (ix3 s r j)) := by
  obtain ⟨⟨e0, e1, e2, e3⟩, -, hN⟩ := idx t
  blk_ext [iblk, V, e0]

/-- An entry of the weight's block. -/
theorem iblk_w (t : Fin cfg0.N) (r : Fin 1) (j : Fin 9728) :
    @Eq EReal (iblk m c 1 t (ix3 0 r j)) (m ((c.tc : Thread nD τ).loc main_arg1) (ix3 0 r j)) := by
  obtain ⟨⟨e0, e1, e2, e3⟩, -, hN⟩ := idx t
  blk_ext [iblk, V, e1]

/-- An entry of the first moment's block. -/
theorem iblk_m (t : Fin cfg0.N) (r : Fin 1) (j : Fin 9728) :
    @Eq EReal (iblk m c 2 t (ix3 0 r j)) (m ((c.tc : Thread nD τ).loc main_arg2) (ix3 0 r j)) := by
  obtain ⟨⟨e0, e1, e2, e3⟩, -, hN⟩ := idx t
  blk_ext [iblk, V, e2]

/-- An entry of the second moment's block. -/
theorem iblk_v (t : Fin cfg0.N) (r : Fin 1) (j : Fin 9728) :
    @Eq EReal (iblk m c 3 t (ix3 0 r j)) (m ((c.tc : Thread nD τ).loc main_arg3) (ix3 0 r j)) := by
  obtain ⟨⟨e0, e1, e2, e3⟩, -, hN⟩ := idx t
  blk_ext [iblk, V, e3]

/-- The body's sum of the parts, at a point. -/
theorem total_pt (t : Fin cfg0.N) (r : Fin 1) (j : Fin 9728) :
    @Eq EReal (k0_pay8 (F := Ideal) (iblk m c 0 t) (iblk m c 1 t) (iblk m c 2 t) (iblk m c 3 t) (ix2 r j)) (total (partsAt (m ((c.tc : Thread nD τ).loc main_arg0)) r j)) :=
  (total_at _ _ _ _ r j).trans (congrArg total (funext fun s => iblk_parts t s r j))

/-- What a point leaves of the gradient. -/
theorem out4_at (t : Fin cfg0.N) (r : Fin 1) (j : Fin 9728) :
    @Eq EReal (out0_4 (F := Ideal) (iblk m c 0 t) (iblk m c 1 t) (iblk m c 2 t) (iblk m c 3 t) (ix3 0 r j)) (total (partsAt (m ((c.tc : Thread nD τ).loc main_arg0)) r j)) := by
  frame_out
  exact (grad_at _ r j).trans (total_pt t r j)

/-- What a point leaves of the change of the weight. -/
theorem out5_at (t : Fin cfg0.N) (r : Fin 1) (j : Fin 9728) :
    @Eq EReal (out0_5 (F := Ideal) (iblk m c 0 t) (iblk m c 1 t) (iblk m c 2 t) (iblk m c 3 t) (ix3 0 r j)) (delta (total (partsAt (m ((c.tc : Thread nD τ).loc main_arg0)) r j)) (m ((c.tc : Thread nD τ).loc main_arg1) (ix3 0 r j)) (m ((c.tc : Thread nD τ).loc main_arg2) (ix3 0 r j)) (m ((c.tc : Thread nD τ).loc main_arg3) (ix3 0 r j))) := by
  frame_out
  refine (delta_at _ _ _ _ _ _ _ _ _ _ _ r j).trans ?_
  exact congr (congr (congr (congrArg delta (total_pt t r j)) (iblk_w t r j)) ((ld_whole _ r j).trans (iblk_m t r j))) (iblk_v t r j)

/-- What a point leaves of the new first moment. -/
theorem out6_at (t : Fin cfg0.N) (r : Fin 1) (j : Fin 9728) :
    @Eq EReal (out0_6 (F := Ideal) (iblk m c 0 t) (iblk m c 1 t) (iblk m c 2 t) (iblk m c 3 t) (ix3 0 r j)) (newM (total (partsAt (m ((c.tc : Thread nD τ).loc main_arg0)) r j)) (m ((c.tc : Thread nD τ).loc main_arg2) (ix3 0 r j))) := by
  frame_out
  refine (moment_at _ _ _ _ _ _ _ _ _ r j).trans ?_
  exact congrArg₂ newM (total_pt t r j) ((ld_whole _ r j).trans (iblk_m t r j))

/-- What a point leaves of the new second moment. -/
theorem out7_at (t : Fin cfg0.N) (r : Fin 1) (j : Fin 9728) :
    @Eq EReal (out0_7 (F := Ideal) (iblk m c 0 t) (iblk m c 1 t) (iblk m c 2 t) (iblk m c 3 t) (ix3 0 r j)) (newV (total (partsAt (m ((c.tc : Thread nD τ).loc main_arg0)) r j)) (m ((c.tc : Thread nD τ).loc main_arg3) (ix3 0 r j))) := by
  frame_out
  refine (square_at _ _ r j).trans ?_
  exact congrArg₂ newV (total_pt t r j) (iblk_v t r j)

/-- The gradient, an entry of the result. -/
theorem res4_at (i : S1x1x9728.Idx) :
    @Eq EReal ((dats m 0 c).arrAt 4 cfg0.N i) (total (partsAt (m ((c.tc : Thread nD τ).loc main_arg0)) (i 1) (i 2))) := by
  refine (dats m 0 c).arrAt_forall_of_covers 4 (fun i v => @Eq EReal v (total (partsAt (m ((c.tc : Thread nD τ).loc main_arg0)) (i 1) (i 2))))
    (by decide +kernel) (fun t hf y => ?_) i
  obtain ⟨-, ⟨e4, e5, e6, e7⟩, hN⟩ := idx t
  blk_simp [e4]
  rw [after0_4]
  idx_vars y
  have e : ((View.whole main_v0_0).slice (win0_4.rect t)).emb (ix3 y0 y1 y2) = ix3 0 y1 y2 := by
    blk_ext [e4]
  rw [e, Subsingleton.elim y0 0]
  exact out4_at t y1 y2

/-- The change of the weight, an entry of the result. -/
theorem res5_at (i : S1x1x9728.Idx) :
    @Eq EReal ((dats m 0 c).arrAt 5 cfg0.N i) (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))) := by
  refine (dats m 0 c).arrAt_forall_of_covers 5 (fun i v => @Eq EReal v (delta (total (partsAt (m ((c.tc : Thread nD τ).loc main_arg0)) (i 1) (i 2))) (m ((c.tc : Thread nD τ).loc main_arg1) (ix3 0 (i 1) (i 2))) (m ((c.tc : Thread nD τ).loc main_arg2) (ix3 0 (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e5]
  rw [after0_5]
  idx_vars y
  have e : ((View.whole main_v0_1).slice (win0_5.rect t)).emb (ix3 y0 y1 y2) = ix3 0 y1 y2 := by
    blk_ext [e5]
  rw [e, Subsingleton.elim y0 0]
  exact out5_at t y1 y2

/-- The new first moment, an entry of the result. -/
theorem res6_at (i : S1x1x9728.Idx) :
    @Eq EReal ((dats m 0 c).arrAt 6 cfg0.N i) (newM (total (partsAt (m ((c.tc : Thread nD τ).loc main_arg0)) (i 1) (i 2))) (m ((c.tc : Thread nD τ).loc main_arg2) (ix3 0 (i 1) (i 2)))) := by
  refine (dats m 0 c).arrAt_forall_of_covers 6 (fun i v => @Eq EReal v (newM (total (partsAt (m ((c.tc : Thread nD τ).loc main_arg0)) (i 1) (i 2))) (m ((c.tc : Thread nD τ).loc main_arg2) (ix3 0 (i 1) (i 2)))))
    (by decide +kernel) (fun t hf y => ?_) i
  obtain ⟨-, ⟨e4, e5, e6, e7⟩, hN⟩ := idx t
  blk_simp [e6]
  rw [after0_6]
  idx_vars y
  have e : ((View.whole main_v0_2).slice (win0_6.rect t)).emb (ix3 y0 y1 y2) = ix3 0 y1 y2 := by
    blk_ext [e6]
  rw [e, Subsingleton.elim y0 0]
  exact out6_at t y1 y2

/-- The new second moment, an entry of the result. -/
theorem res7_at (i : S1x1x9728.Idx) :
    @Eq EReal ((dats m 0 c).arrAt 7 cfg0.N i) (newV (total (partsAt (m ((c.tc : Thread nD τ).loc main_arg0)) (i 1) (i 2))) (m ((c.tc : Thread nD τ).loc main_arg3) (ix3 0 (i 1) (i 2)))) := by
  refine (dats m 0 c).arrAt_forall_of_covers 7 (fun i v => @Eq EReal v (newV (total (partsAt (m ((c.tc : Thread nD τ).loc main_arg0)) (i 1) (i 2))) (m ((c.tc : Thread nD τ).loc main_arg3) (ix3 0 (i 1) (i 2)))))
    (by decide +kernel) (fun t hf y => ?_) i
  obtain ⟨-, ⟨e4, e5, e6, e7⟩, hN⟩ := idx t
  blk_simp [e7]
  rw [after0_7]
  idx_vars y
  have e : ((View.whole main_v0_3).slice (win0_7.rect t)).emb (ix3 y0 y1 y2) = ix3 0 y1 y2 := by
    blk_ext [e7]
  rw [e, Subsingleton.elim y0 0]
  exact out7_at t y1 y2

end Cert.Kernel19Ideal.Value

namespace Cert.Reference19Ideal.Value
open Cert.Reference19Ideal Cert.Reference19Ideal.Gen Cert.Adam

/-- The reference's gradient. -/
def gradOf (p : FVec Ideal S8x1x9728 .f32) : FVec Ideal S1x1x9728 .f32 :=
  broadcastInDim S1x1x9728 ![1, 2] bcast_S1x9728_S1x1x9728_1_2 (Host.reduceAdd p (constant S_ .f32 0x00000000#32) reducesTo_S8x1x9728_S1x9728_d0 h_S_)

/-- The reference's new first moment. -/
def newMOf (p : FVec Ideal S8x1x9728 .f32) (mm : FVec Ideal S1x1x9728 .f32) : FVec Ideal S1x1x9728 .f32 :=
  addf (mulf (broadcastInDim S1x1x9728 ![] bcast_S_S1x1x9728 (constant S_ .f32 0x3F666666#32)) mm) (mulf (broadcastInDim S1x1x9728 ![] bcast_S_S1x1x9728 (constant S_ .f32 0x3DCCCCCD#32)) (gradOf p))

/-- The reference's new second moment. -/
def newVOf (p : FVec Ideal S8x1x9728 .f32) (vv : FVec Ideal S1x1x9728 .f32) : FVec Ideal S1x1x9728 .f32 :=
  addf (mulf (broadcastInDim S1x1x9728 ![] bcast_S_S1x1x9728 (constant S_ .f32 0x3F7FBE77#32)) vv) (mulf (broadcastInDim S1x1x9728 ![] bcast_S_S1x1x9728 (constant S_ .f32 0x3A83126F#32)) (mulf (gradOf p) (gradOf p)))

/-- The reference's change of the weight. -/
def deltaOf (p : FVec Ideal S8x1x9728 .f32) (ww mm vv : FVec Ideal S1x1x9728 .f32) : FVec Ideal S1x1x9728 .f32 :=
  mulf (broadcastInDim S1x1x9728 ![] bcast_S_S1x1x9728 (constant S_ .f32 0xBA83126F#32)) (addf (Host.divf (Host.divf (newMOf p mm) (broadcastInDim S1x1x9728 ![] bcast_S_S1x1x9728 (constant S_ .f32 0x3F26BD02#32))) (addf (Host.sqrt (Host.divf (newVOf p vv) (broadcastInDim S1x1x9728 ![] bcast_S_S1x1x9728 (constant S_ .f32 0x3C231ACC#32)))) (broadcastInDim S1x1x9728 ![] bcast_S_S1x1x9728 (constant S_ .f32 0x322BCC77#32)))) (mulf (broadcastInDim S1x1x9728 ![] bcast_S_S1x1x9728 (constant S_ .f32 0x3C23D70A#32)) ww))

/-- An entry of the reference's gradient. -/
theorem gradOf_at (p : FVec Ideal S8x1x9728 .f32) (r : Fin 1) (j : Fin 9728) : @Eq EReal (gradOf p (ix3 0 r j)) (total fun s => p (ix3 s r j)) := by
  obtain rfl : r = 0 := Subsingleton.elim r 0
  pointwise [gradOf]
  rfl

/-- An entry of the reference's new first moment. -/
theorem newMOf_at (p : FVec Ideal S8x1x9728 .f32) (mm : FVec Ideal S1x1x9728 .f32) (r : Fin 1) (j : Fin 9728) :
    @Eq EReal (newMOf p mm (ix3 0 r j)) (newM (total fun s => p (ix3 s r j)) (mm (ix3 0 r j))) := by
  obtain rfl : r = 0 := Subsingleton.elim r 0
  pointwise [newMOf, gradOf_at]
  rfl

/-- An entry of the reference's new second moment. -/
theorem newVOf_at (p : FVec Ideal S8x1x9728 .f32) (vv : FVec Ideal S1x1x9728 .f32) (r : Fin 1) (j : Fin 9728) :
    @Eq EReal (newVOf p vv (ix3 0 r j)) (newV (total fun s => p (ix3 s r j)) (vv (ix3 0 r j))) := by
  obtain rfl : r = 0 := Subsingleton.elim r 0
  pointwise [newVOf, gradOf_at]
  rfl

/-- An entry of the reference's change of the weight. -/
theorem deltaOf_at (p : FVec Ideal S8x1x9728 .f32) (ww mm vv : FVec Ideal S1x1x9728 .f32) (r : Fin 1) (j : Fin 9728) :
    @Eq EReal (deltaOf p ww mm vv (ix3 0 r j)) (delta (total fun s => p (ix3 s r j)) (ww (ix3 0 r j)) (mm (ix3 0 r j)) (vv (ix3 0 r j))) := by
  obtain rfl : r = 0 := Subsingleton.elim r 0
  pointwise [deltaOf, newMOf_at, newVOf_at]
  rfl

end Cert.Reference19Ideal.Value

namespace Cert.Proof

/-- Every index of a result has its first coordinate zero. -/
theorem ix_zero19 (i : Cert.Kernel19Ideal.S1x1x9728.Idx) : i = ix3 0 (i 1) (i 2) :=
  (eq_ix3 i).trans (congrArg (fun a => ix3 a (i 1) (i 2)) (Subsingleton.elim (α := Fin 1) _ _))

/-- The four results of the call are the reference's. -/
theorem value19 : Cert.algebraic_Kernel19Ideal_Reference19Ideal := by
  intro m ρ m' ρ' _ hagree
  refine ⟨_, _, _, _, Cert.Kernel19Ideal.Value.run_blocks (F := Ideal) m ρ, ?_⟩
  refine (θ_run Cert.Reference19Ideal.defs _ _).mono (fun _ h c => ?_) (Cert.Reference19Ideal.Value.run (F := Ideal) m' ρ')
  obtain ⟨a0, a1, a2, a3⟩ := hagree c
  obtain ⟨r0, r1, r2, r3, kept⟩ := h c
  refine ⟨r0.trans ?_, r1.trans ?_, r2.trans ?_, r3.trans ?_, kept⟩
  · funext i
    refine Eq.trans ?_ (Cert.Kernel19Ideal.Value.res4_at i).symm
    rw [ix_zero19 i]
    refine (Cert.Reference19Ideal.Value.gradOf_at _ _ _).trans ?_
    rw [a0]
    rfl
  · funext i
    refine Eq.trans ?_ (Cert.Kernel19Ideal.Value.res5_at i).symm
    rw [ix_zero19 i]
    refine (Cert.Reference19Ideal.Value.deltaOf_at _ _ _ _ _ _).trans ?_
    rw [a0, a1, a2, a3]
    rfl
  · funext i
    refine Eq.trans ?_ (Cert.Kernel19Ideal.Value.res6_at i).symm
    rw [ix_zero19 i]
    refine (Cert.Reference19Ideal.Value.newMOf_at _ _ _ _).trans ?_
    rw [a0, a2]
    rfl
  · funext i
    refine Eq.trans ?_ (Cert.Kernel19Ideal.Value.res7_at i).symm
    rw [ix_zero19 i]
    refine (Cert.Reference19Ideal.Value.newVOf_at _ _ _ _).trans ?_
    rw [a0, a3]
    rfl

end Cert.Proof
-- ==== Proof.lean ====
module

public import proofs.«01_k».proof.Defs
public import proofs.«01_k».proof.Proof.Frames
public import proofs.«01_k».proof.Proof.Final
public import proofs.«01_k».proof.Proof.Frames2
public import proofs.«01_k».proof.Proof.Frames3
public import proofs.«01_k».proof.Proof.Frames11
public import proofs.«01_k».proof.Proof.FramesProducts
public import proofs.«01_k».proof.Proof.Gen.KernelIdeal.Value
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Kernel14Ideal.Value
public import proofs.«01_k».proof.Proof.Gen.Kernel14.Frame
public import proofs.«01_k».proof.Proof.Gen.Reference14Ideal.Run
public import proofs.«01_k».proof.Proof.Gen.Kernel15Ideal.Value
public import proofs.«01_k».proof.Proof.Gen.Kernel15.Frame
public import proofs.«01_k».proof.Proof.Gen.Reference15Ideal.Run
public import proofs.«01_k».proof.Proof.Gen.Kernel16Ideal.Value
public import proofs.«01_k».proof.Proof.Gen.Kernel16.Frame
public import proofs.«01_k».proof.Proof.Gen.Reference16Ideal.Run
public import proofs.«01_k».proof.Proof.Gen.Kernel17Ideal.Value
public import proofs.«01_k».proof.Proof.Gen.Kernel17.Frame
public import proofs.«01_k».proof.Proof.Gen.Reference17Ideal.Run
public import proofs.«01_k».proof.Proof.Gen.Kernel18Ideal.Value
public import proofs.«01_k».proof.Proof.Gen.Kernel18.Frame
public import proofs.«01_k».proof.Proof.Gen.Reference18Ideal.Run
public import proofs.«01_k».proof.Proof.Gen.Kernel19Ideal.Value
public import proofs.«01_k».proof.Proof.Gen.Kernel19.Frame
public import proofs.«01_k».proof.Proof.Gen.Reference19Ideal.Run
public import proofs.«01_k».proof.Proof.Gen.Reference10Ideal.Run
public import Idealize.ShloMosaic.Adequacy
public import Idealize.ShloMosaic.Init
public import proofs.«01_k».proof.Proof.FwdFinal
public import proofs.«01_k».proof.Proof.NormFinal
public import proofs.«01_k».proof.Proof.ProdUp
public import proofs.«01_k».proof.Proof.ProdUpDw
public import proofs.«01_k».proof.Proof.ProdDownDx
public import proofs.«01_k».proof.Proof.ProdDownDw
public import proofs.«01_k».proof.Proof.ProdProj
public import proofs.«01_k».proof.Proof.ProdProjDw
public import proofs.«01_k».proof.Proof.ProdOutProjDw
public import proofs.«01_k».proof.Proof.FirstNormFinal
public import proofs.«01_k».proof.Proof.FramesAdam
public import proofs.«01_k».proof.Proof.AdamWOut
public import proofs.«01_k».proof.Proof.AdamWUp
public import proofs.«01_k».proof.Proof.AdamWDown
public import proofs.«01_k».proof.Proof.AdamConvW
public import proofs.«01_k».proof.Proof.AdamWIn
public import proofs.«01_k».proof.Proof.AdamWQB
public import proofs.«01_k».proof.Proof.AdamWKvB
public import proofs.«01_k».proof.Proof.AdamSmall

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts, Cert.Kernel6.Gen.facts, Cert.Kernel6Ideal.Gen.facts,
    Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts, Cert.Kernel10Ideal.Gen.facts,
    Cert.Reference10Ideal.Gen.facts, Cert.Kernel11.Gen.facts, Cert.Kernel11Ideal.Gen.facts, Cert.Reference11Ideal.Gen.facts,
    Cert.Kernel12.Gen.facts, Cert.Kernel12Ideal.Gen.facts, Cert.Reference12Ideal.Gen.facts, Cert.Kernel13.Gen.facts,
    Cert.Kernel13Ideal.Gen.facts, Cert.Reference13Ideal.Gen.facts, Cert.Kernel14.Gen.facts, Cert.Kernel14Ideal.Gen.facts,
    Cert.Reference14Ideal.Gen.facts, Cert.Kernel15.Gen.facts, Cert.Kernel15Ideal.Gen.facts, Cert.Reference15Ideal.Gen.facts,
    Cert.Kernel16.Gen.facts, Cert.Kernel16Ideal.Gen.facts, Cert.Reference16Ideal.Gen.facts, Cert.Kernel17.Gen.facts,
    Cert.Kernel17Ideal.Gen.facts, Cert.Reference17Ideal.Gen.facts, Cert.Kernel18.Gen.facts, Cert.Kernel18Ideal.Gen.facts,
    Cert.Reference18Ideal.Gen.facts, Cert.Kernel19.Gen.facts, Cert.Kernel19Ideal.Gen.facts, Cert.Reference19Ideal.Gen.facts, finite_facts,
    finite2_facts, frame_p, frame_pi, fun m ρ _ => frame_pi m ρ ⟨⟩, frame_ri, fun m ρ _ => frame_ri m ρ ⟨⟩, frame_p2, frame_pi2,
    fun m ρ _ => frame_pi2 m ρ ⟨⟩, frame_ri2, fun m ρ _ => frame_ri2 m ρ ⟨⟩, frame_p3, frame_pi3, frame_ri3, frame_p4, frame_pi4, frame_ri4,
    frame_p5, frame_pi5, frame_ri5, frame_p6, frame_pi6, frame_ri6, frame_p7, frame_pi7, frame_ri7, frame_p8, frame_pi8, frame_ri8,
    frame_p9, frame_pi9, frame_ri9, frame_p10, frame_pi10, frame_ri10, frame_p11, frame_pi11, frame_ri11, frame_p12, frame_pi12, frame_ri12,
    frame_p13, frame_pi13, frame_ri13, frame_p14, frame_pi14, frame_ri14, frame_p15, frame_pi15, frame_ri15, frame_p16, frame_pi16,
    frame_ri16, frame_p17, frame_pi17, frame_ri17, frame_p18, frame_pi18, frame_ri18, frame_p19, frame_pi19, frame_ri19, preserves, value,
    preserves2, value2, preserves3, value3, preserves4, value4, preserves5, value5, preserves6, value6, preserves7, value7, preserves8,
    value8, preserves9, value9, preserves10, value10, preserves11, value11, preserves12, value12, preserves13, value13, preserves14,
    value14, preserves15, value15, preserves16, value16, preserves17, value17, preserves18, value18, preserves19, value19⟩

end Cert.Proof

end
